-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_v47) = v1 c
          ∧ r.2.mem ((c.tc : Thread Cert.Reference3Ideal.nD Cert.Reference3Ideal.τ).loc Cert.Reference3Ideal.main_v51) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "inv_log_2" .f32 0x3FB8AA3B#32 (((Real.log 2)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)) (v4 : (c : Dev Cert.Kernel5Ideal.nD) → Buf (Elt Ideal) ((c.tc : Thread Cert.Kernel5Ideal.nD Cert.Kernel5Ideal.τ).loc Cert.Kernel5Ideal.main_v3_4)) (v5 : (c : Dev Cert.Kernel5Ideal.nD) → Buf (Elt Ideal) ((c.tc : Thread Cert.Kernel5Ideal.nD Cert.Kernel5Ideal.τ).loc Cert.Kernel5Ideal.main_v3_5)) (v6 : (c : Dev Cert.Kernel5Ideal.nD) → Buf (Elt Ideal) ((c.tc : Thread Cert.Kernel5Ideal.nD Cert.Kernel5Ideal.τ).loc Cert.Kernel5Ideal.main_v3_6)) (v7 : (c : Dev Cert.Kernel5Ideal.nD) → Buf (Elt Ideal) ((c.tc : Thread Cert.Kernel5Ideal.nD Cert.Kernel5Ideal.τ).loc Cert.Kernel5Ideal.main_v3_7)) (v8 : (c : Dev Cert.Kernel5Ideal.nD) → Buf (Elt Ideal) ((c.tc : Thread Cert.Kernel5Ideal.nD Cert.Kernel5Ideal.τ).loc Cert.Kernel5Ideal.main_v3_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_v3_4) = v4 c
          ∧ r.2.mem ((c.tc : Thread Cert.Kernel5Ideal.nD Cert.Kernel5Ideal.τ).loc Cert.Kernel5Ideal.main_v3_5) = v5 c
          ∧ r.2.mem ((c.tc : Thread Cert.Kernel5Ideal.nD Cert.Kernel5Ideal.τ).loc Cert.Kernel5Ideal.main_v3_6) = v6 c
          ∧ r.2.mem ((c.tc : Thread Cert.Kernel5Ideal.nD Cert.Kernel5Ideal.τ).loc Cert.Kernel5Ideal.main_v3_7) = v7 c
          ∧ r.2.mem ((c.tc : Thread Cert.Kernel5Ideal.nD Cert.Kernel5Ideal.τ).loc Cert.Kernel5Ideal.main_v3_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v59) = v0 c
          ∧ r.2.mem ((c.tc : Thread Cert.Reference5Ideal.nD Cert.Reference5Ideal.τ).loc Cert.Reference5Ideal.main_v65) = v1 c
          ∧ r.2.mem ((c.tc : Thread Cert.Reference5Ideal.nD Cert.Reference5Ideal.τ).loc Cert.Reference5Ideal.main_v68) = v2 c
          ∧ r.2.mem ((c.tc : Thread Cert.Reference5Ideal.nD Cert.Reference5Ideal.τ).loc Cert.Reference5Ideal.main_v71) = v3 c
          ∧ r.2.mem ((c.tc : Thread Cert.Reference5Ideal.nD Cert.Reference5Ideal.τ).loc Cert.Reference5Ideal.main_v77) = v4 c
          ∧ r.2.mem ((c.tc : Thread Cert.Reference5Ideal.nD Cert.Reference5Ideal.τ).loc Cert.Reference5Ideal.main_v80) = v5 c
          ∧ r.2.mem ((c.tc : Thread Cert.Reference5Ideal.nD Cert.Reference5Ideal.τ).loc Cert.Reference5Ideal.main_v83) = v6 c
          ∧ r.2.mem ((c.tc : Thread Cert.Reference5Ideal.nD Cert.Reference5Ideal.τ).loc Cert.Reference5Ideal.main_v87) = v7 c
          ∧ r.2.mem ((c.tc : Thread Cert.Reference5Ideal.nD Cert.Reference5Ideal.τ).loc Cert.Reference5Ideal.main_v91) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S2x4096x2048 : Shape := ⟨3, ![2, 4096, 2048]⟩
abbrev S2048 : Shape := ⟨1, ![2048]⟩
abbrev S2048x11264 : Shape := ⟨2, ![2048, 11264]⟩
abbrev S3x11264 : Shape := ⟨2, ![3, 11264]⟩
abbrev S5632x2048 : Shape := ⟨2, ![5632, 2048]⟩
abbrev S8192x2048 : Shape := ⟨2, ![8192, 2048]⟩
abbrev S1x2048 : Shape := ⟨2, ![1, 2048]⟩
abbrev S2048x512 : Shape := ⟨2, ![2048, 512]⟩
abbrev S3x512 : Shape := ⟨2, ![3, 512]⟩
abbrev S512x2048 : Shape := ⟨2, ![512, 2048]⟩
abbrev S1024x2048 : Shape := ⟨2, ![1024, 2048]⟩
abbrev S_ : Shape := ⟨0, ![]⟩
abbrev S11x8x512 : Shape := ⟨3, ![11, 8, 512]⟩
abbrev S8x512 : Shape := ⟨2, ![8, 512]⟩
abbrev S1x8x512 : Shape := ⟨3, ![1, 8, 512]⟩
abbrev S512 : Shape := ⟨1, ![512]⟩
abbrev S512x1 : Shape := ⟨2, ![512, 1]⟩
abbrev S512x512 : Shape := ⟨2, ![512, 512]⟩
abbrev S520x512 : Shape := ⟨2, ![520, 512]⟩
abbrev S1x512 : Shape := ⟨2, ![1, 512]⟩
abbrev S1024 : Shape := ⟨1, ![1024]⟩
abbrev S1024x1 : Shape := ⟨2, ![1024, 1]⟩

abbrev nBuf : Space → Nat
  | .hbm => 12
  | .vmem => 18
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x11264, .f32⟩
  | .hbm, ⟨3, _⟩ => ⟨S3x11264, .f32⟩
  | .hbm, ⟨4, _⟩ => ⟨S5632x2048, .f32⟩
  | .hbm, ⟨5, _⟩ => ⟨S2048, .f32⟩
  | .hbm, ⟨6, _⟩ => ⟨S8192x2048, .f32⟩
  | .hbm, ⟨7, _⟩ => ⟨S1x2048, .f32⟩
  | .hbm, ⟨8, _⟩ => ⟨S1x2048, .f32⟩
  | .hbm, ⟨9, _⟩ => ⟨S2048x11264, .bf16⟩
  | .hbm, ⟨10, _⟩ => ⟨S5632x2048, .bf16⟩
  | .hbm, ⟨11, _⟩ => ⟨S8192x2048, .f32⟩
  | .local _ .vmem, ⟨0, _⟩ => ⟨S1x2048, .f32⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S3x512, .f32⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S1024x2048, .f32⟩
  | .local _ .vmem, ⟨13, _⟩ => ⟨S1024x2048, .f32⟩
  | .local _ .vmem, ⟨14, _⟩ => ⟨S1024x2048, .bf16⟩
  | .local _ .vmem, ⟨15, _⟩ => ⟨S1024x2048, .f32⟩
  | .local _ .vmem, ⟨16, _⟩ => ⟨S11x8x512, .f32⟩
  | .local _ .vmem, ⟨17, _⟩ => ⟨S11x8x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 (i : grid0.Coords) : BitVec 32 :=
  let arg0 : BitVec 32 := BitVec.ofNat 32 (i 0).val
  let c1024_i32 : BitVec 32 := 1024#32
  let v33 : BitVec 32 := Scalar.muli arg0 c1024_i32
  v33
def k0_off1 (i : grid0.Coords) : Fin 2 → Nat :=
  let arg0 : BitVec 32 := BitVec.ofNat 32 (i 0).val
  let c1024_i32 : BitVec 32 := 1024#32
  let v33 : BitVec 32 := Scalar.muli arg0 c1024_i32
  let v34 : BitVec 32 := v33
  let c0_i32_16 : BitVec 32 := 0#32
  ![v34.toNat, 0]
def k0_cond2 (i : grid0.Coords) : BitVec 1 :=
  let arg1 : BitVec 32 := BitVec.ofNat 32 (i 1).val
  let c1_i32 : BitVec 32 := 1#32
  let v5 : BitVec 1 := Scalar.cmpi .eq arg1 c1_i32
  let arg0 : BitVec 32 := BitVec.ofNat 32 (i 0).val
  let c1_i32_2 : BitVec 32 := 1#32
  let v6 : BitVec 32 := Scalar.addi arg0 c1_i32_2
  let c8_i32 : BitVec 32 := 8#32
  let v7 : BitVec 1 := Scalar.cmpi .slt v6 c8_i32
  let v8 : BitVec 1 := Scalar.andi v5 v7
  let v9 : BitVec 32 := Scalar.extui v8
  let c0_i32_3 : BitVec 32 := 0#32
  let v10 : BitVec 1 := Scalar.cmpi .ne v9 c0_i32_3
  v10

def k0_mult2 (i : grid0.Coords) : BitVec 32 :=
  let arg0 : BitVec 32 := BitVec.ofNat 32 (i 0).val
  let c1_i32_16 : BitVec 32 := 1#32
  let v33 : BitVec 32 := Scalar.addi arg0 c1_i32_16
  let c1024_i32 : BitVec 32 := 1024#32
  let v34 : BitVec 32 := Scalar.muli v33 c1024_i32
  v34
def k0_off2 (i : grid0.Coords) : Fin 2 → Nat :=
  let arg0 : BitVec 32 := BitVec.ofNat 32 (i 0).val
  let c1_i32_16 : BitVec 32 := 1#32
  let v33 : BitVec 32 := Scalar.addi arg0 c1_i32_16
  let c1024_i32 : BitVec 32 := 1024#32
  let v34 : BitVec 32 := Scalar.muli v33 c1024_i32
  let v35 : BitVec 32 := v34
  let c0_i32_17 : BitVec 32 := 0#32
  ![v35.toNat, 0]
def k0_cond3 (i : grid0.Coords) : BitVec 1 :=
  let arg0 : BitVec 32 := BitVec.ofNat 32 (i 0).val
  let c4_i32 : BitVec 32 := 4#32
  let c0_i32_4 : BitVec 32 := 0#32
  let v11 : BitVec 1 := Scalar.cmpi .eq c4_i32 c0_i32_4
  let c1_i32_5 : BitVec 32 := 1#32
  let v12 : BitVec 32 := Scalar.select v11 c1_i32_5 c4_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c0_i32_9 : BitVec 32 := 0#32
  let v21 : BitVec 1 := Scalar.cmpi .eq v20 c0_i32_9
  let v22 : BitVec 32 := Scalar.extui v21
  let c0_i32_10 : BitVec 32 := 0#32
  let v23 : BitVec 1 := Scalar.cmpi .ne v22 c0_i32_10
  v23

def k0_off3 (i : grid0.Coords) : Fin 3 → Nat :=
  let arg1 : BitVec 32 := BitVec.ofNat 32 (i 1).val
  let v34 : Index := Scalar.indexCast arg1
  let c0 : Index := 0#32
  let c0_16 : Index := 0#32
  ![v34.toNat, 0, 0]
def k0_cond4 (i : grid0.Coords) : BitVec 1 :=
  let arg1 : BitVec 32 := BitVec.ofNat 32 (i 1).val
  let c0_i32_11 : BitVec 32 := 0#32
  let v24 : BitVec 1 := Scalar.cmpi .eq arg1 c0_i32_11
  let v25 : BitVec 32 := Scalar.extui v24
  let c0_i32_12 : BitVec 32 := 0#32
  let v26 : BitVec 1 := Scalar.cmpi .ne v25 c0_i32_12
  v26

def k0_mult3 (i : grid0.Coords) : BitVec 32 :=
  let arg0 : BitVec 32 := BitVec.ofNat 32 (i 0).val
  let c1024_i32 : BitVec 32 := 1024#32
  let v33 : BitVec 32 := Scalar.muli arg0 c1024_i32
  v33
def k0_off4 (i : grid0.Coords) : Fin 2 → Nat :=
  let arg0 : BitVec 32 := BitVec.ofNat 32 (i 0).val
  let c1024_i32 : BitVec 32 := 1024#32
  let v33 : BitVec 32 := Scalar.muli arg0 c1024_i32
  let v34 : BitVec 32 := v33
  let c0_i32_16 : BitVec 32 := 0#32
  ![v34.toNat, 0]
def k0_off5 (i : grid0.Coords) : Fin 3 → Nat :=
  let arg1 : BitVec 32 := BitVec.ofNat 32 (i 1).val
  let v88 : Index := Scalar.indexCast arg1
  let c0_48 : Index := 0#32
  let c0_49 : Index := 0#32
  ![v88.toNat, 0, 0]
def k0_cond5 (i : grid0.Coords) : BitVec 1 :=
  let arg1 : BitVec 32 := BitVec.ofNat 32 (i 1).val
  let c0_i32_13 : BitVec 32 := 0#32
  let v27 : BitVec 1 := Scalar.cmpi .sgt arg1 c0_i32_13
  let v28 : BitVec 32 := Scalar.extui v27
  let c0_i32_14 : BitVec 32 := 0#32
  let v29 : BitVec 1 := Scalar.cmpi .ne v28 c0_i32_14
  v29

def k0_off6 (i : grid0.Coords) : Fin 3 → Nat :=
  let arg1 : BitVec 32 := BitVec.ofNat 32 (i 1).val
  let v47 : Index := Scalar.indexCast arg1
  let c0_29 : Index := 0#32
  let c0_30 : Index := 0#32
  ![v47.toNat, 0, 0]
def k0_cond6 (i : grid0.Coords) : BitVec 1 :=
  let arg1 : BitVec 32 := BitVec.ofNat 32 (i 1).val
  let c10_i32 : BitVec 32 := 10#32
  let v30 : BitVec 1 := Scalar.cmpi .eq arg1 c10_i32
  let v31 : BitVec 32 := Scalar.extui v30
  let c0_i32_15 : BitVec 32 := 0#32
  let v32 : BitVec 1 := Scalar.cmpi .ne v31 c0_i32_15
  v32

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2x4096x2048 : Shape := ⟨3, ![2, 4096, 2048]⟩
abbrev S2048 : Shape := ⟨1, ![2048]⟩
abbrev S2048x11264 : Shape := ⟨2, ![2048, 11264]⟩
abbrev S3x11264 : Shape := ⟨2, ![3, 11264]⟩
abbrev S5632x2048 : Shape := ⟨2, ![5632, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x11264 : Shape := ⟨3, ![2, 4096, 11264]⟩
abbrev S2x4098x11264 : Shape := ⟨3, ![2, 4098, 11264]⟩
abbrev S1x11264 : Shape := ⟨2, ![1, 11264]⟩
abbrev S11264 : Shape := ⟨1, ![11264]⟩
abbrev S1x1x11264 : Shape := ⟨3, ![1, 1, 11264]⟩
abbrev S2x4096x5632 : Shape := ⟨3, ![2, 4096, 5632]⟩
abbrev S8192x2048 : Shape := ⟨2, ![8192, 2048]⟩

abbrev nBuf : Space → Nat
  | .hbm => 80
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x11264, .f32⟩
  | .hbm, ⟨3, _⟩ => ⟨S3x11264, .f32⟩
  | .hbm, ⟨4, _⟩ => ⟨S5632x2048, .f32⟩
  | .hbm, ⟨5, _⟩ => ⟨S2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S2x4096x11264, .f32⟩
  | .hbm, ⟨23, _⟩ => ⟨S_, .i32⟩
  | .hbm, ⟨24, _⟩ => ⟨S_, .f32⟩
  | .hbm, ⟨25, _⟩ => ⟨S2x4098x11264, .f32⟩
  | .hbm, ⟨26, _⟩ => ⟨S2x4096x11264, .f32⟩
  | .hbm, ⟨27, _⟩ => ⟨S1x11264, .f32⟩
  | .hbm, ⟨28, _⟩ => ⟨S11264, .f32⟩
  | .hbm, ⟨29, _⟩ => ⟨S1x1x11264, .f32⟩
  | .hbm, ⟨30, _⟩ => ⟨S2x4096x11264, .f32⟩
  | .hbm, ⟨31, _⟩ => ⟨S2x4096x11264, .f32⟩
  | .hbm, ⟨32, _⟩ => ⟨S_, .f32⟩
  | .hbm, ⟨33, _⟩ => ⟨S2x4096x11264, .f32⟩
  | .hbm, ⟨34, _⟩ => ⟨S2x4096x11264, .f32⟩
  | .hbm, ⟨35, _⟩ => ⟨S2x4096x11264, .f32⟩
  | .hbm, ⟨36, _⟩ => ⟨S1x11264, .f32⟩
  | .hbm, ⟨37, _⟩ => ⟨S11264, .f32⟩
  | .hbm, ⟨38, _⟩ => ⟨S1x1x11264, .f32⟩
  | .hbm, ⟨39, _⟩ => ⟨S2x4096x11264, .f32⟩
  | .hbm, ⟨40, _⟩ => ⟨S2x4096x11264, .f32⟩
  | .hbm, ⟨41, _⟩ => ⟨S2x4096x11264, .f32⟩
  | .hbm, ⟨42, _⟩ => ⟨S2x4096x11264, .f32⟩
  | .hbm, ⟨43, _⟩ => ⟨S1x11264, .f32⟩
  | .hbm, ⟨44, _⟩ => ⟨S11264, .f32⟩
  | .hbm, ⟨45, _⟩ => ⟨S1x1x11264, .f32⟩
  | .hbm, ⟨46, _⟩ => ⟨S2x4096x11264, .f32⟩
  | .hbm, ⟨47, _⟩ => ⟨S2x4096x11264, .f32⟩
  | .hbm, ⟨48, _⟩ => ⟨S2x4096x11264, .f32⟩
  | .hbm, ⟨49, _⟩ => ⟨S2x4096x5632, .f32⟩
  | .hbm, ⟨50, _⟩ => ⟨S2x4096x5632, .f32⟩
  | .hbm, ⟨51, _⟩ => ⟨S2x4096x5632, .f32⟩
  | .hbm, ⟨52, _⟩ => ⟨S2x4096x5632, .f32⟩
  | .hbm, ⟨53, _⟩ => ⟨S_, .f32⟩
  | .hbm, ⟨54, _⟩ => ⟨S2x4096x5632, .f32⟩
  | .hbm, ⟨55, _⟩ => ⟨S2x4096x5632, .f32⟩
  | .hbm, ⟨56, _⟩ => ⟨S_, .f32⟩
  | .hbm, ⟨57, _⟩ => ⟨S2x4096x5632, .f32⟩
  | .hbm, ⟨58, _⟩ => ⟨S2x4096x5632, .f32⟩
  | .hbm, ⟨59, _⟩ => ⟨S2x4096x5632, .f32⟩
  | .hbm, ⟨60, _⟩ => ⟨S2x4096x5632, .f32⟩
  | .hbm, ⟨61, _⟩ => ⟨S2x4096x2048, .f32⟩
  | .hbm, ⟨62, _⟩ => ⟨S2x4096x2048, .f32⟩
  | .hbm, ⟨63, _⟩ => ⟨S2x4096x2048, .f32⟩
  | .hbm, ⟨64, _⟩ => ⟨S_, .f32⟩
  | .hbm, ⟨65, _⟩ => ⟨S2x4096, .f32⟩
  | .hbm, ⟨66, _⟩ => ⟨S2x4096x1, .f32⟩
  | .hbm, ⟨67, _⟩ => ⟨S_, .f32⟩
  | .hbm, ⟨68, _⟩ => ⟨S2x4096x1, .f32⟩
  | .hbm, ⟨69, _⟩ => ⟨S2x4096x1, .f32⟩
  | .hbm, ⟨70, _⟩ => ⟨S_, .f32⟩
  | .hbm, ⟨71, _⟩ => ⟨S2x4096x1, .f32⟩
  | .hbm, ⟨72, _⟩ => ⟨S2x4096x1, .f32⟩
  | .hbm, ⟨73, _⟩ => ⟨S2x4096x1, .f32⟩
  | .hbm, ⟨74, _⟩ => ⟨S2x4096x2048, .f32⟩
  | .hbm, ⟨75, _⟩ => ⟨S2x4096x2048, .f32⟩
  | .hbm, ⟨76, _⟩ => ⟨S1x1x2048, .f32⟩
  | .hbm, ⟨77, _⟩ => ⟨S2x4096x2048, .f32⟩
  | .hbm, ⟨78, _⟩ => ⟨S2x4096x2048, .f32⟩
  | .hbm, ⟨79, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_3 : Ref sig .tc := ⟨.hbm, 64, rfl⟩
abbrev main_v44 : Ref sig .tc := ⟨.hbm, 65, rfl⟩
abbrev main_v45 : Ref sig .tc := ⟨.hbm, 66, rfl⟩
abbrev main_cst_4 : Ref sig .tc := ⟨.hbm, 67, rfl⟩
abbrev main_v46 : Ref sig .tc := ⟨.hbm, 68, rfl⟩
abbrev main_v47 : Ref sig .tc := ⟨.hbm, 69, rfl⟩
abbrev main_cst_5 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== Kernel2.lean ====
abbrev S2x4096x2048 : Shape := ⟨3, ![2, 4096, 2048]⟩
abbrev S2048 : Shape := ⟨1, ![2048]⟩
abbrev S2048x6144 : Shape := ⟨2, ![2048, 6144]⟩
abbrev S3x2048 : Shape := ⟨2, ![3, 2048]⟩
abbrev S2048x2048 : Shape := ⟨2, ![2048, 2048]⟩
abbrev S8192x2048 : Shape := ⟨2, ![8192, 2048]⟩
abbrev S1x2048 : Shape := ⟨2, ![1, 2048]⟩
abbrev S2048x512 : Shape := ⟨2, ![2048, 512]⟩
abbrev S3x512 : Shape := ⟨2, ![3, 512]⟩
abbrev S512x2048 : Shape := ⟨2, ![512, 2048]⟩
abbrev S1024x2048 : Shape := ⟨2, ![1024, 2048]⟩
abbrev S_ : Shape := ⟨0, ![]⟩
abbrev S4x8x512 : Shape := ⟨3, ![4, 8, 512]⟩
abbrev S8x512 : Shape := ⟨2, ![8, 512]⟩
abbrev S1x8x512 : Shape := ⟨3, ![1, 8, 512]⟩
abbrev S512 : Shape := ⟨1, ![512]⟩
abbrev S512x1 : Shape := ⟨2, ![512, 1]⟩
abbrev S512x512 : Shape := ⟨2, ![512, 512]⟩
abbrev S520x512 : Shape := ⟨2, ![520, 512]⟩
abbrev S1x512 : Shape := ⟨2, ![1, 512]⟩

abbrev nBuf : Space → Nat
  | .hbm => 10
  | .vmem => 16
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x6144, .f32⟩
  | .hbm, ⟨3, _⟩ => ⟨S3x2048, .f32⟩
  | .hbm, ⟨4, _⟩ => ⟨S2048x2048, .f32⟩
  | .hbm, ⟨5, _⟩ => ⟨S8192x2048, .f32⟩
  | .hbm, ⟨6, _⟩ => ⟨S1x2048, .f32⟩
  | .hbm, ⟨7, _⟩ => ⟨S2048x6144, .bf16⟩
  | .hbm, ⟨8, _⟩ => ⟨S2048x2048, .bf16⟩
  | .hbm, ⟨9, _⟩ => ⟨S8192x2048, .f32⟩
  | .local _ .vmem, ⟨0, _⟩ => ⟨S1x2048, .f32⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S3x512, .f32⟩
  | .local _ .vmem, ⟨8, _⟩ => ⟨S3x512, .f32⟩
  | .local _ .vmem, ⟨9, _⟩ => ⟨S512x2048, .bf16⟩
  | .local _ .vmem, ⟨10, _⟩ => ⟨S512x2048, .bf16⟩
  | .local _ .vmem, ⟨11, _⟩ => ⟨S1024x2048, .f32⟩
  | .local _ .vmem, ⟨12, _⟩ => ⟨S1024x2048, .f32⟩
  | .local _ .vmem, ⟨13, _⟩ => ⟨S1024x2048, .bf16⟩
  | .local _ .vmem, ⟨14, _⟩ => ⟨S1024x2048, .f32⟩
  | .local _ .vmem, ⟨15, _⟩ => ⟨S4x8x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch3 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 (i : grid0.Coords) : BitVec 32 :=
  let arg0 : BitVec 32 := BitVec.ofNat 32 (i 0).val
  let c1024_i32 : BitVec 32 := 1024#32
  let v30 : BitVec 32 := Scalar.muli arg0 c1024_i32
  v30
def k0_off1 (i : grid0.Coords) : Fin 2 → Nat :=
  let arg0 : BitVec 32 := BitVec.ofNat 32 (i 0).val
  let c1024_i32 : BitVec 32 := 1024#32
  let v30 : BitVec 32 := Scalar.muli arg0 c1024_i32
  let v31 : BitVec 32 := v30
  let c0_i32_15 : BitVec 32 := 0#32
  ![v31.toNat, 0]
def k0_cond2 (i : grid0.Coords) : BitVec 1 :=
  let arg1 : BitVec 32 := BitVec.ofNat 32 (i 1).val
  let c1_i32 : BitVec 32 := 1#32
  let v5 : BitVec 1 := Scalar.cmpi .eq arg1 c1_i32
  let arg0 : BitVec 32 := BitVec.ofNat 32 (i 0).val
  let c1_i32_2 : BitVec 32 := 1#32
  let v6 : BitVec 32 := Scalar.addi arg0 c1_i32_2
  let c8_i32 : BitVec 32 := 8#32
  let v7 : BitVec 1 := Scalar.cmpi .slt v6 c8_i32
  let v8 : BitVec 1 := Scalar.andi v5 v7
  let v9 : BitVec 32 := Scalar.extui v8
  let c0_i32_3 : BitVec 32 := 0#32
  let v10 : BitVec 1 := Scalar.cmpi .ne v9 c0_i32_3
  v10

def k0_mult2 (i : grid0.Coords) : BitVec 32 :=
  let arg0 : BitVec 32 := BitVec.ofNat 32 (i 0).val
  let c1_i32_15 : BitVec 32 := 1#32
  let v30 : BitVec 32 := Scalar.addi arg0 c1_i32_15
  let c1024_i32 : BitVec 32 := 1024#32
  let v31 : BitVec 32 := Scalar.muli v30 c1024_i32
  v31
def k0_off2 (i : grid0.Coords) : Fin 2 → Nat :=
  let arg0 : BitVec 32 := BitVec.ofNat 32 (i 0).val
  let c1_i32_15 : BitVec 32 := 1#32
  let v30 : BitVec 32 := Scalar.addi arg0 c1_i32_15
  let c1024_i32 : BitVec 32 := 1024#32
  let v31 : BitVec 32 := Scalar.muli v30 c1024_i32
  let v32 : BitVec 32 := v31
  let c0_i32_16 : BitVec 32 := 0#32
  ![v32.toNat, 0]
def k0_cond3 (i : grid0.Coords) : BitVec 1 :=
  let arg0 : BitVec 32 := BitVec.ofNat 32 (i 0).val
  let c4_i32 : BitVec 32 := 4#32
  let c0_i32_4 : BitVec 32 := 0#32
  let v11 : BitVec 1 := Scalar.cmpi .eq c4_i32 c0_i32_4
  let c1_i32_5 : BitVec 32 := 1#32
  let v12 : BitVec 32 := Scalar.select v11 c1_i32_5 c4_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c0_i32_9 : BitVec 32 := 0#32
  let v21 : BitVec 1 := Scalar.cmpi .eq v20 c0_i32_9
  let v22 : BitVec 32 := Scalar.extui v21
  let c0_i32_10 : BitVec 32 := 0#32
  let v23 : BitVec 1 := Scalar.cmpi .ne v22 c0_i32_10
  v23

def k0_off3 (i : grid0.Coords) : Fin 3 → Nat :=
  let arg1 : BitVec 32 := BitVec.ofNat 32 (i 1).val
  let v31 : Index := Scalar.indexCast arg1
  let c0 : Index := 0#32
  let c0_15 : Index := 0#32
  ![v31.toNat, 0, 0]
def k0_cond4 (i : grid0.Coords) : BitVec 1 :=
  let arg1 : BitVec 32 := BitVec.ofNat 32 (i 1).val
  let c0_i32_11 : BitVec 32 := 0#32
  let v24 : BitVec 1 := Scalar.cmpi .eq arg1 c0_i32_11
  let v25 : BitVec 32 := Scalar.extui v24
  let c0_i32_12 : BitVec 32 := 0#32
  let v26 : BitVec 1 := Scalar.cmpi .ne v25 c0_i32_12
  v26

def k0_mult3 (i : grid0.Coords) : BitVec 32 :=
  let arg0 : BitVec 32 := BitVec.ofNat 32 (i 0).val
  let c1024_i32 : BitVec 32 := 1024#32
  let v30 : BitVec 32 := Scalar.muli arg0 c1024_i32
  v30
def k0_off4 (i : grid0.Coords) : Fin 2 → Nat :=
  let arg0 : BitVec 32 := BitVec.ofNat 32 (i 0).val
  let c1024_i32 : BitVec 32 := 1024#32
  let v30 : BitVec 32 := Scalar.muli arg0 c1024_i32
  let v31 : BitVec 32 := v30
  let c0_i32_15 : BitVec 32 := 0#32
  ![v31.toNat, 0]
def k0_off5 (i : grid0.Coords) : Fin 3 → Nat :=
  let arg1 : BitVec 32 := BitVec.ofNat 32 (i 1).val
  let v91 : Index := Scalar.indexCast arg1
  let c0_53 : Index := 0#32
  let c0_54 : Index := 0#32
  ![v91.toNat, 0, 0]
def k0_cond5 (i : grid0.Coords) : BitVec 1 :=
  let arg1 : BitVec 32 := BitVec.ofNat 32 (i 1).val
  let c0_i32_13 : BitVec 32 := 0#32
  let v27 : BitVec 1 := Scalar.cmpi .sgt arg1 c0_i32_13
  let v28 : BitVec 32 := Scalar.extui v27
  let c0_i32_14 : BitVec 32 := 0#32
  let v29 : BitVec 1 := Scalar.cmpi .ne v28 c0_i32_14
  v29

def k0_off6 (i : grid0.Coords) : Fin 3 → Nat :=
  let arg1 : BitVec 32 := BitVec.ofNat 32 (i 1).val
  let v50 : Index := Scalar.indexCast arg1
  let c0_34 : Index := 0#32
  let c0_35 : Index := 0#32
  ![v50.toNat, 0, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S2x4096x2048 : Shape := ⟨3, ![2, 4096, 2048]⟩
abbrev S2048 : Shape := ⟨1, ![2048]⟩
abbrev S2048x6144 : Shape := ⟨2, ![2048, 6144]⟩
abbrev S3x2048 : Shape := ⟨2, ![3, 2048]⟩
abbrev S2048x2048 : Shape := ⟨2, ![2048, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x6144 : Shape := ⟨3, ![2, 4096, 6144]⟩
abbrev S2x4098x2048 : Shape := ⟨3, ![2, 4098, 2048]⟩
abbrev S1x2048 : Shape := ⟨2, ![1, 2048]⟩
abbrev S8192x2048 : Shape := ⟨2, ![8192, 2048]⟩

abbrev nBuf : Space → Nat
  | .hbm => 56
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x6144, .f32⟩
  | .hbm, ⟨3, _⟩ => ⟨S3x2048, .f32⟩
  | .hbm, ⟨4, _⟩ => ⟨S2048x2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S2x4096x6144, .f32⟩
  | .hbm, ⟨22, _⟩ => ⟨S2x4096x2048, .f32⟩
  | .hbm, ⟨23, _⟩ => ⟨S2x4096x2048, .f32⟩
  | .hbm, ⟨24, _⟩ => ⟨S2x4096x2048, .f32⟩
  | .hbm, ⟨25, _⟩ => ⟨S2x4096x2048, .f32⟩
  | .hbm, ⟨26, _⟩ => ⟨S_, .i32⟩
  | .hbm, ⟨27, _⟩ => ⟨S_, .f32⟩
  | .hbm, ⟨28, _⟩ => ⟨S2x4098x2048, .f32⟩
  | .hbm, ⟨29, _⟩ => ⟨S2x4096x2048, .f32⟩
  | .hbm, ⟨30, _⟩ => ⟨S1x2048, .f32⟩
  | .hbm, ⟨31, _⟩ => ⟨S2048, .f32⟩
  | .hbm, ⟨32, _⟩ => ⟨S1x1x2048, .f32⟩
  | .hbm, ⟨33, _⟩ => ⟨S2x4096x2048, .f32⟩
  | .hbm, ⟨34, _⟩ => ⟨S2x4096x2048, .f32⟩
  | .hbm, ⟨35, _⟩ => ⟨S_, .f32⟩
  | .hbm, ⟨36, _⟩ => ⟨S2x4096x2048, .f32⟩
  | .hbm, ⟨37, _⟩ => ⟨S2x4096x2048, .f32⟩
  | .hbm, ⟨38, _⟩ => ⟨S2x4096x2048, .f32⟩
  | .hbm, ⟨39, _⟩ => ⟨S1x2048, .f32⟩
  | .hbm, ⟨40, _⟩ => ⟨S2048, .f32⟩
  | .hbm, ⟨41, _⟩ => ⟨S1x1x2048, .f32⟩
  | .hbm, ⟨42, _⟩ => ⟨S2x4096x2048, .f32⟩
  | .hbm, ⟨43, _⟩ => ⟨S2x4096x2048, .f32⟩
  | .hbm, ⟨44, _⟩ => ⟨S2x4096x2048, .f32⟩
  | .hbm, ⟨45, _⟩ => ⟨S2x4096x2048, .f32⟩
  | .hbm, ⟨46, _⟩ => ⟨S1x2048, .f32⟩
  | .hbm, ⟨47, _⟩ => ⟨S2048, .f32⟩
  | .hbm, ⟨48, _⟩ => ⟨S1x1x2048, .f32⟩
  | .hbm, ⟨49, _⟩ => ⟨S2x4096x2048, .f32⟩
  | .hbm, ⟨50, _⟩ => ⟨S2x4096x2048, .f32⟩
  | .hbm, ⟨51, _⟩ => ⟨S2x4096x2048, .f32⟩
  | .hbm, ⟨52, _⟩ => ⟨S2x4096x2048, .f32⟩
  | .hbm, ⟨53, _⟩ => ⟨S2x4096x2048, .f32⟩
  | .hbm, ⟨54, _⟩ => ⟨S2x4096x2048, .f32⟩
  | .hbm, ⟨55, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Kernel3.lean ====
abbrev S2x4096x2048 : Shape := ⟨3, ![2, 4096, 2048]⟩
abbrev S2048 : Shape := ⟨1, ![2048]⟩
abbrev S2048x11264 : Shape := ⟨2, ![2048, 11264]⟩
abbrev S3x11264 : Shape := ⟨2, ![3, 11264]⟩
abbrev S5632x2048 : Shape := ⟨2, ![5632, 2048]⟩
abbrev S2x2048x11264 : Shape := ⟨3, ![2, 2048, 11264]⟩
abbrev S2x5632x2048 : Shape := ⟨3, ![2, 5632, 2048]⟩
abbrev S8192x2048 : Shape := ⟨2, ![8192, 2048]⟩
abbrev S1x2048 : Shape := ⟨2, ![1, 2048]⟩
abbrev S128x32x11264 : Shape := ⟨3, ![128, 32, 11264]⟩
abbrev S176x64x2048 : Shape := ⟨3, ![176, 64, 2048]⟩
abbrev S64x32x11264 : Shape := ⟨3, ![64, 32, 11264]⟩
abbrev S88x64x2048 : Shape := ⟨3, ![88, 64, 2048]⟩
abbrev S2048x512 : Shape := ⟨2, ![2048, 512]⟩
abbrev S3x512 : Shape := ⟨2, ![3, 512]⟩
abbrev S512x2048 : Shape := ⟨2, ![512, 2048]⟩
abbrev S1x32x11264 : Shape := ⟨3, ![1, 32, 11264]⟩
abbrev S1x64x2048 : Shape := ⟨3, ![1, 64, 2048]⟩
abbrev S1024x2048 : Shape := ⟨2, ![1024, 2048]⟩
abbrev S_ : Shape := ⟨0, ![]⟩
abbrev S11x8x512 : Shape := ⟨3, ![11, 8, 512]⟩
abbrev S32x11264 : Shape := ⟨2, ![32, 11264]⟩
abbrev S64x2048 : Shape := ⟨2, ![64, 2048]⟩
abbrev S8x512 : Shape := ⟨2, ![8, 512]⟩
abbrev S1x8x512 : Shape := ⟨3, ![1, 8, 512]⟩
abbrev S512 : Shape := ⟨1, ![512]⟩
abbrev S512x1 : Shape := ⟨2, ![512, 1]⟩
abbrev S512x512 : Shape := ⟨2, ![512, 512]⟩
abbrev S520x512 : Shape := ⟨2, ![520, 512]⟩
abbrev S1x512 : Shape := ⟨2, ![1, 512]⟩

abbrev nBuf : Space → Nat
  | .hbm => 18
  | .vmem => 26
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x11264, .f32⟩
  | .hbm, ⟨3, _⟩ => ⟨S3x11264, .f32⟩
  | .hbm, ⟨4, _⟩ => ⟨S5632x2048, .f32⟩
  | .hbm, ⟨5, _⟩ => ⟨S2048, .f32⟩
  | .hbm, ⟨6, _⟩ => ⟨S2x2048x11264, .f32⟩
  | .hbm, ⟨7, _⟩ => ⟨S2x5632x2048, .f32⟩
  | .hbm, ⟨8, _⟩ => ⟨S8192x2048, .f32⟩
  | .hbm, ⟨9, _⟩ => ⟨S1x2048, .f32⟩
  | .hbm, ⟨10, _⟩ => ⟨S1x2048, .f32⟩
  | .hbm, ⟨11, _⟩ => ⟨S128x32x11264, .f32⟩
  | .hbm, ⟨12, _⟩ => ⟨S176x64x2048, .f32⟩
  | .hbm, ⟨13, _⟩ => ⟨S2048x11264, .bf16⟩
  | .hbm, ⟨14, _⟩ => ⟨S5632x2048, .bf16⟩
  | .hbm, ⟨15, _⟩ => ⟨S8192x2048, .f32⟩
  | .hbm, ⟨16, _⟩ => ⟨S64x32x11264, .bf16⟩
  | .hbm, ⟨17, _⟩ => ⟨S88x64x2048, .bf16⟩
  | .local _ .vmem, ⟨0, _⟩ => ⟨S1x2048, .f32⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S3x512, .f32⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S1x32x11264, .f32⟩
  | .local _ .vmem, ⟨13, _⟩ => ⟨S1x32x11264, .f32⟩
  | .local _ .vmem, ⟨14, _⟩ => ⟨S1x64x2048, .f32⟩
  | .local _ .vmem, ⟨15, _⟩ => ⟨S1x64x2048, .f32⟩
  | .local _ .vmem, ⟨16, _⟩ => ⟨S1024x2048, .f32⟩
  | .local _ .vmem, ⟨17, _⟩ => ⟨S1024x2048, .f32⟩
  | .local _ .vmem, ⟨18, _⟩ => ⟨S1x32x11264, .bf16⟩
  | .local _ .vmem, ⟨19, _⟩ => ⟨S1x32x11264, .bf16⟩
  | .local _ .vmem, ⟨20, _⟩ => ⟨S1x64x2048, .bf16⟩
  | .local _ .vmem, ⟨21, _⟩ => ⟨S1x64x2048, .bf16⟩
  | .local _ .vmem, ⟨22, _⟩ => ⟨S1024x2048, .bf16⟩
  | .local _ .vmem, ⟨23, _⟩ => ⟨S1024x2048, .f32⟩
  | .local _ .vmem, ⟨24, _⟩ => ⟨S11x8x512, .f32⟩
  | .local _ .vmem, ⟨25, _⟩ => ⟨S11x8x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let arg1 : BitVec 32 := BitVec.ofNat 32 (i 1).val
  let c0_i32_11 : BitVec 32 := 0#32
  let v13 : BitVec 1 := Scalar.cmpi .eq arg1 c0_i32_11
  let v14 : BitVec 1 := Scalar.andi v12 v13
  let v15 : BitVec 32 := Scalar.extui v14
  let c0_i32_12 : BitVec 32 := 0#32
  let v16 : BitVec 1 := Scalar.cmpi .ne v15 c0_i32_12
  v16

def k0_mult1 (i : grid0.Coords) : BitVec 32 :=
  let arg0 : BitVec 32 := BitVec.ofNat 32 (i 0).val
  let c1024_i32 : BitVec 32 := 1024#32
  let v42 : BitVec 32 := Scalar.muli arg0 c1024_i32
  v42
def k0_off1 (i : grid0.Coords) : Fin 2 → Nat :=
  let arg0 : BitVec 32 := BitVec.ofNat 32 (i 0).val
  let c1024_i32 : BitVec 32 := 1024#32
  let v42 : BitVec 32 := Scalar.muli arg0 c1024_i32
  let v43 : BitVec 32 := v42
  let c0_i32_26 : BitVec 32 := 0#32
  ![v43.toNat, 0]
def k0_cond2 (i : grid0.Coords) : BitVec 1 :=
  let arg1 : BitVec 32 := BitVec.ofNat 32 (i 1).val
  let c1_i32 : BitVec 32 := 1#32
  let v17 : BitVec 1 := Scalar.cmpi .eq arg1 c1_i32
  let arg0 : BitVec 32 := BitVec.ofNat 32 (i 0).val
  let c1_i32_13 : BitVec 32 := 1#32
  let v18 : BitVec 32 := Scalar.addi arg0 c1_i32_13
  let c8_i32 : BitVec 32 := 8#32
  let v19 : BitVec 1 := Scalar.cmpi .slt v18 c8_i32
  let v20 : BitVec 1 := Scalar.andi v17 v19
  let v21 : BitVec 32 := Scalar.extui v20
  let c0_i32_14 : BitVec 32 := 0#32
  let v22 : BitVec 1 := Scalar.cmpi .ne v21 c0_i32_14
  v22

def k0_mult2 (i : grid0.Coords) : BitVec 32 :=
  let arg0 : BitVec 32 := BitVec.ofNat 32 (i 0).val
  let c1_i32_26 : BitVec 32 := 1#32
  let v42 : BitVec 32 := Scalar.addi arg0 c1_i32_26
  let c1024_i32 : BitVec 32 := 1024#32
  let v43 : BitVec 32 := Scalar.muli v42 c1024_i32
  v43
def k0_off2 (i : grid0.Coords) : Fin 2 → Nat :=
  let arg0 : BitVec 32 := BitVec.ofNat 32 (i 0).val
  let c1_i32_26 : BitVec 32 := 1#32
  let v42 : BitVec 32 := Scalar.addi arg0 c1_i32_26
  let c1024_i32 : BitVec 32 := 1024#32
  let v43 : BitVec 32 := Scalar.muli v42 c1024_i32
  let v44 : BitVec 32 := v43
  let c0_i32_27 : BitVec 32 := 0#32
  ![v44.toNat, 0]
def k0_cond3 (i : grid0.Coords) : BitVec 1 :=
  let arg0 : BitVec 32 := BitVec.ofNat 32 (i 0).val
  let c4_i32 : BitVec 32 := 4#32
  let c0_i32_15 : BitVec 32 := 0#32
  let v23 : BitVec 1 := Scalar.cmpi .eq c4_i32 c0_i32_15
  let c1_i32_16 : BitVec 32 := 1#32
  let v24 : BitVec 32 := Scalar.select v23 c1_i32_16 c4_i32
  let v25 : BitVec 32 := Scalar.remsi arg0 v24
  let c0_i32_18 : BitVec 32 := 0#32
  let v27 : BitVec 1 := Scalar.cmpi .slt v25 c0_i32_18
  let c0_i32_19 : BitVec 32 := 0#32
  let v28 : BitVec 1 := Scalar.cmpi .slt v24 c0_i32_19
  let v29 : BitVec 1 := Scalar.xori v27 v28
  let c0_i32_17 : BitVec 32 := 0#32
  let v26 : BitVec 1 := Scalar.cmpi .ne v25 c0_i32_17
  let v30 : BitVec 1 := Scalar.andi v29 v26
  let v31 : BitVec 32 := Scalar.addi v25 v24
  let v32 : BitVec 32 := Scalar.select v30 v31 v25
  let c0_i32_20 : BitVec 32 := 0#32
  let v33 : BitVec 1 := Scalar.cmpi .eq v32 c0_i32_20
  let v34 : BitVec 32 := Scalar.extui v33
  let c0_i32_21 : BitVec 32 := 0#32
  let v35 : BitVec 1 := Scalar.cmpi .ne v34 c0_i32_21
  v35

def k0_off3 (i : grid0.Coords) : Fin 3 → Nat :=
  let arg1 : BitVec 32 := BitVec.ofNat 32 (i 1).val
  let v43 : Index := Scalar.indexCast arg1
  let c0_26 : Index := 0#32
  let c0_27 : Index := 0#32
  ![v43.toNat, 0, 0]
def k0_cond4 (i : grid0.Coords) : BitVec 1 :=
  let arg1 : BitVec 32 := BitVec.ofNat 32 (i 1).val
  let c0_i32_22 : BitVec 32 := 0#32
  let v36 : BitVec 1 := Scalar.cmpi .eq arg1 c0_i32_22
  let v37 : BitVec 32 := Scalar.extui v36
  let c0_i32_23 : BitVec 32 := 0#32
  let v38 : BitVec 1 := Scalar.cmpi .ne v37 c0_i32_23
  v38

def k0_mult3 (i : grid0.Coords) : BitVec 32 :=
  let arg0 : BitVec 32 := BitVec.ofNat 32 (i 0).val
  let c1024_i32 : BitVec 32 := 1024#32
  let v42 : BitVec 32 := Scalar.muli arg0 c1024_i32
  v42
def k0_off4 (i : grid0.Coords) : Fin 2 → Nat :=
  let arg0 : BitVec 32 := BitVec.ofNat 32 (i 0).val
  let c1024_i32 : BitVec 32 := 1024#32
  let v42 : BitVec 32 := Scalar.muli arg0 c1024_i32
  let v43 : BitVec 32 := v42
  let c0_i32_26 : BitVec 32 := 0#32
  ![v43.toNat, 0]
def k0_off5 (i : grid0.Coords) : Fin 3 → Nat :=
  let arg1 : BitVec 32 := BitVec.ofNat 32 (i 1).val
  let v97 : Index := Scalar.indexCast arg1
  let c0_59 : Index := 0#32
  let c0_60 : Index := 0#32
  ![v97.toNat, 0, 0]
def k0_cond5 (i : grid0.Coords) : BitVec 1 :=
  let arg1 : BitVec 32 := BitVec.ofNat 32 (i 1).val
  let c0_i32_24 : BitVec 32 := 0#32
  let v39 : BitVec 1 := Scalar.cmpi .sgt arg1 c0_i32_24
  let v40 : BitVec 32 := Scalar.extui v39
  let c0_i32_25 : BitVec 32 := 0#32
  let v41 : BitVec 1 := Scalar.cmpi .ne v40 c0_i32_25
  v41

def k0_off6 (i : grid0.Coords) : Fin 3 → Nat :=
  let arg1 : BitVec 32 := BitVec.ofNat 32 (i 1).val
  let v56 : Index := Scalar.indexCast arg1
  let c0_40 : Index := 0#32
  let c0_41 : Index := 0#32
  ![v56.toNat, 0, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c63_i32 : BitVec 32 := 63#32
  let v4 : BitVec 32 := Scalar.minsi v3 c63_i32
  let c64_i32 : BitVec 32 := 64#32
  let v5 : BitVec 32 := Scalar.addi c64_i32 v4
  let c0_i32_0 : BitVec 32 := 0#32
  let c0_i32_1 : BitVec 32 := 0#32
  let c0_i32_2 : BitVec 32 := 0#32
  ![v5.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c87_i32 : BitVec 32 := 87#32
  let v4 : BitVec 32 := Scalar.minsi v3 c87_i32
  let c88_i32 : BitVec 32 := 88#32
  let v5 : BitVec 32 := Scalar.addi c88_i32 v4
  let c0_i32_0 : BitVec 32 := 0#32
  let c0_i32_1 : BitVec 32 := 0#32
  let c0_i32_2 : BitVec 32 := 0#32
  ![v5.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c63_i32 : BitVec 32 := 63#32
  let v4 : BitVec 32 := Scalar.minsi v3 c63_i32
  let c0_i32_0 : BitVec 32 := 0#32
  let c0_i32_1 : BitVec 32 := 0#32
  let c0_i32_2 : BitVec 32 := 0#32
  ![v4.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c87_i32 : BitVec 32 := 87#32
  let v4 : BitVec 32 := Scalar.minsi v3 c87_i32
  let c0_i32_0 : BitVec 32 := 0#32
  let c0_i32_1 : BitVec 32 := 0#32
  let c0_i32_2 : BitVec 32 := 0#32
  ![v4.toNat, c0_i32_0.toNat, c0_i32_1.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x32x11264 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x32x11264 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S2x4096x2048 : Shape := ⟨3, ![2, 4096, 2048]⟩
abbrev S2048 : Shape := ⟨1, ![2048]⟩
abbrev S2048x11264 : Shape := ⟨2, ![2048, 11264]⟩
abbrev S3x11264 : Shape := ⟨2, ![3, 11264]⟩
abbrev S5632x2048 : Shape := ⟨2, ![5632, 2048]⟩
abbrev S2x2048x11264 : Shape := ⟨3, ![2, 2048, 11264]⟩
abbrev S2x5632x2048 : Shape := ⟨3, ![2, 5632, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x11264 : Shape := ⟨3, ![2, 4096, 11264]⟩
abbrev S2x4098x11264 : Shape := ⟨3, ![2, 4098, 11264]⟩
abbrev S1x11264 : Shape := ⟨2, ![1, 11264]⟩
abbrev S11264 : Shape := ⟨1, ![11264]⟩
abbrev S1x1x11264 : Shape := ⟨3, ![1, 1, 11264]⟩
abbrev S2x4096x5632 : Shape := ⟨3, ![2, 4096, 5632]⟩
abbrev S8192x2048 : Shape := ⟨2, ![8192, 2048]⟩
abbrev S1x2048x11264 : Shape := ⟨3, ![1, 2048, 11264]⟩
abbrev S64x32x11264 : Shape := ⟨3, ![64, 32, 11264]⟩
abbrev S1x5632x2048 : Shape := ⟨3, ![1, 5632, 2048]⟩
abbrev S88x64x2048 : Shape := ⟨3, ![88, 64, 2048]⟩

abbrev nBuf : Space → Nat
  | .hbm => 74
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x11264, .f32⟩
  | .hbm, ⟨3, _⟩ => ⟨S3x11264, .f32⟩
  | .hbm, ⟨4, _⟩ => ⟨S5632x2048, .f32⟩
  | .hbm, ⟨5, _⟩ => ⟨S2048, .f32⟩
  | .hbm, ⟨6, _⟩ => ⟨S2x2048x11264, .f32⟩
  | .hbm, ⟨7, _⟩ => ⟨S2x5632x2048, .f32⟩
  | .hbm, ⟨8, _⟩ => ⟨S2x4096x2048, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x2048, .f32⟩
  | .hbm, ⟨20, _⟩ => ⟨S2x4096x2048, .f32⟩
  | .hbm, ⟨21, _⟩ => ⟨S1x1x2048, .f32⟩
  | .hbm, ⟨22, _⟩ => ⟨S2x4096x2048, .f32⟩
  | .hbm, ⟨23, _⟩ => ⟨S2x4096x2048, .f32⟩
  | .hbm, ⟨24, _⟩ => ⟨S2x4096x11264, .f32⟩
  | .hbm, ⟨25, _⟩ => ⟨S_, .i32⟩
  | .hbm, ⟨26, _⟩ => ⟨S_, .f32⟩
  | .hbm, ⟨27, _⟩ => ⟨S2x4098x11264, .f32⟩
  | .hbm, ⟨28, _⟩ => ⟨S2x4096x11264, .f32⟩
  | .hbm, ⟨29, _⟩ => ⟨S1x11264, .f32⟩
  | .hbm, ⟨30, _⟩ => ⟨S11264, .f32⟩
  | .hbm, ⟨31, _⟩ => ⟨S1x1x11264, .f32⟩
  | .hbm, ⟨32, _⟩ => ⟨S2x4096x11264, .f32⟩
  | .hbm, ⟨33, _⟩ => ⟨S2x4096x11264, .f32⟩
  | .hbm, ⟨34, _⟩ => ⟨S_, .f32⟩
  | .hbm, ⟨35, _⟩ => ⟨S2x4096x11264, .f32⟩
  | .hbm, ⟨36, _⟩ => ⟨S2x4096x11264, .f32⟩
  | .hbm, ⟨37, _⟩ => ⟨S2x4096x11264, .f32⟩
  | .hbm, ⟨38, _⟩ => ⟨S1x11264, .f32⟩
  | .hbm, ⟨39, _⟩ => ⟨S11264, .f32⟩
  | .hbm, ⟨40, _⟩ => ⟨S1x1x11264, .f32⟩
  | .hbm, ⟨41, _⟩ => ⟨S2x4096x11264, .f32⟩
  | .hbm, ⟨42, _⟩ => ⟨S2x4096x11264, .f32⟩
  | .hbm, ⟨43, _⟩ => ⟨S2x4096x11264, .f32⟩
  | .hbm, ⟨44, _⟩ => ⟨S2x4096x11264, .f32⟩
  | .hbm, ⟨45, _⟩ => ⟨S1x11264, .f32⟩
  | .hbm, ⟨46, _⟩ => ⟨S11264, .f32⟩
  | .hbm, ⟨47, _⟩ => ⟨S1x1x11264, .f32⟩
  | .hbm, ⟨48, _⟩ => ⟨S2x4096x11264, .f32⟩
  | .hbm, ⟨49, _⟩ => ⟨S2x4096x11264, .f32⟩
  | .hbm, ⟨50, _⟩ => ⟨S2x4096x11264, .f32⟩
  | .hbm, ⟨51, _⟩ => ⟨S2x4096x5632, .f32⟩
  | .hbm, ⟨52, _⟩ => ⟨S2x4096x5632, .f32⟩
  | .hbm, ⟨53, _⟩ => ⟨S2x4096x5632, .f32⟩
  | .hbm, ⟨54, _⟩ => ⟨S2x4096x5632, .f32⟩
  | .hbm, ⟨55, _⟩ => ⟨S_, .f32⟩
  | .hbm, ⟨56, _⟩ => ⟨S2x4096x5632, .f32⟩
  | .hbm, ⟨57, _⟩ => ⟨S2x4096x5632, .f32⟩
  | .hbm, ⟨58, _⟩ => ⟨S_, .f32⟩
  | .hbm, ⟨59, _⟩ => ⟨S2x4096x5632, .f32⟩
  | .hbm, ⟨60, _⟩ => ⟨S2x4096x5632, .f32⟩
  | .hbm, ⟨61, _⟩ => ⟨S2x4096x5632, .f32⟩
  | .hbm, ⟨62, _⟩ => ⟨S2x4096x5632, .f32⟩
  | .hbm, ⟨63, _⟩ => ⟨S2x4096x2048, .f32⟩
  | .hbm, ⟨64, _⟩ => ⟨S2x4096x2048, .f32⟩
  | .hbm, ⟨65, _⟩ => ⟨S8192x2048, .f32⟩
  | .hbm, ⟨66, _⟩ => ⟨S1x2048x11264, .f32⟩
  | .hbm, ⟨67, _⟩ => ⟨S2048x11264, .f32⟩
  | .hbm, ⟨68, _⟩ => ⟨S2048x11264, .bf16⟩
  | .hbm, ⟨69, _⟩ => ⟨S64x32x11264, .bf16⟩
  | .hbm, ⟨70, _⟩ => ⟨S1x5632x2048, .f32⟩
  | .hbm, ⟨71, _⟩ => ⟨S5632x2048, .f32⟩
  | .hbm, ⟨72, _⟩ => ⟨S5632x2048, .bf16⟩
  | .hbm, ⟨73, _⟩ => ⟨S88x64x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_call0_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]
-- ==== Kernel4.lean ====
abbrev S2x4096x2048 : Shape := ⟨3, ![2, 4096, 2048]⟩
abbrev S8192x2048 : Shape := ⟨2, ![8192, 2048]⟩
abbrev S2048 : Shape := ⟨1, ![2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S2x4096x2048, .bf16⟩
  | .hbm, ⟨1, _⟩ => ⟨S8192x2048, .bf16⟩
  | .hbm, ⟨2, _⟩ => ⟨S2x4096x2048, .f32⟩
  | .hbm, ⟨3, _⟩ => ⟨S2048, .f32⟩
  | .hbm, ⟨4, _⟩ => ⟨S2048x2048, .f32⟩
  | .hbm, ⟨5, _⟩ => ⟨S8192x2048, .bf16⟩
  | .hbm, ⟨6, _⟩ => ⟨S8192x2048, .f32⟩
  | .hbm, ⟨7, _⟩ => ⟨S1x2048, .f32⟩
  | .hbm, ⟨8, _⟩ => ⟨S2048x2048, .bf16⟩
  | .hbm, ⟨9, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S2048x2048, .bf16⟩
  | .local _ .vmem, ⟨8, _⟩ => ⟨S512x2048, .f32⟩
  | .local _ .vmem, ⟨9, _⟩ => ⟨S512x2048, .f32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S2x4096x2048 : Shape := ⟨3, ![2, 4096, 2048]⟩
abbrev S8192x2048 : Shape := ⟨2, ![8192, 2048]⟩
abbrev S2048 : Shape := ⟨1, ![2048]⟩
abbrev S2048x2048 : Shape := ⟨2, ![2048, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S8192x2048, .bf16⟩
  | .hbm, ⟨2, _⟩ => ⟨S2x4096x2048, .f32⟩
  | .hbm, ⟨3, _⟩ => ⟨S2048, .f32⟩
  | .hbm, ⟨4, _⟩ => ⟨S2048x2048, .f32⟩
  | .hbm, ⟨5, _⟩ => ⟨S2x4096x2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S2x4096x2048, .bf16⟩
  | .hbm, ⟨23, _⟩ => ⟨S2x4096x2048, .f32⟩
  | .hbm, ⟨24, _⟩ => ⟨S2x4096x2048, .f32⟩
  | .hbm, ⟨25, _⟩ => ⟨S2x4096x2048, .f32⟩
  | .hbm, ⟨26, _⟩ => ⟨S2x4096x2048, .f32⟩
  | .hbm, ⟨27, _⟩ => ⟨S8192x2048, .f32⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel5.lean ====
abbrev S8192x2048 : Shape := ⟨2, ![8192, 2048]⟩
abbrev S3x2048 : Shape := ⟨2, ![3, 2048]⟩
abbrev S2048x8192 : Shape := ⟨2, ![2048, 8192]⟩
abbrev S1x2048x2048 : Shape := ⟨3, ![1, 2048, 2048]⟩
abbrev S2x2048x11264 : Shape := ⟨3, ![2, 2048, 11264]⟩
abbrev S2x5632x2048 : Shape := ⟨3, ![2, 5632, 2048]⟩
abbrev S2x16x4096x128 : Shape := ⟨4, ![2, 16, 4096, 128]⟩
abbrev S2x16x4x8x128 : Shape := ⟨5, ![2, 16, 4, 8, 128]⟩
abbrev S32x64x2048 : Shape := ⟨3, ![32, 64, 2048]⟩
abbrev S64x64x11264 : Shape := ⟨3, ![64, 64, 11264]⟩
abbrev S88x128x2048 : Shape := ⟨3, ![88, 128, 2048]⟩
abbrev S32x64x11264 : Shape := ⟨3, ![32, 64, 11264]⟩
abbrev S44x128x2048 : Shape := ⟨3, ![44, 128, 2048]⟩
abbrev S1024x2048 : Shape := ⟨2, ![1024, 2048]⟩
abbrev S3x256 : Shape := ⟨2, ![3, 256]⟩
abbrev S2048x256 : Shape := ⟨2, ![2048, 256]⟩
abbrev S1x64x2048 : Shape := ⟨3, ![1, 64, 2048]⟩
abbrev S1x64x11264 : Shape := ⟨3, ![1, 64, 11264]⟩
abbrev S1x128x2048 : Shape := ⟨3, ![1, 128, 2048]⟩
abbrev S1x2x1024x128 : Shape := ⟨4, ![1, 2, 1024, 128]⟩
abbrev S1x2x1x8x128 : Shape := ⟨5, ![1, 2, 1, 8, 128]⟩
abbrev S1024x256 : Shape := ⟨2, ![1024, 256]⟩
abbrev S4x2048x256 : Shape := ⟨3, ![4, 2048, 256]⟩
abbrev S64x2048 : Shape := ⟨2, ![64, 2048]⟩
abbrev S64x11264 : Shape := ⟨2, ![64, 11264]⟩
abbrev S128x2048 : Shape := ⟨2, ![128, 2048]⟩
abbrev S1x2048x256 : Shape := ⟨3, ![1, 2048, 256]⟩
abbrev S1x256 : Shape := ⟨2, ![1, 256]⟩
abbrev S512x2048 : Shape := ⟨2, ![512, 2048]⟩
abbrev S512x256 : Shape := ⟨2, ![512, 256]⟩
abbrev S8x256 : Shape := ⟨2, ![8, 256]⟩
abbrev S520x256 : Shape := ⟨2, ![520, 256]⟩
abbrev S16x256 : Shape := ⟨2, ![16, 256]⟩
abbrev S528x256 : Shape := ⟨2, ![528, 256]⟩
abbrev S32x256 : Shape := ⟨2, ![32, 256]⟩
abbrev S544x256 : Shape := ⟨2, ![544, 256]⟩
abbrev S512x128 : Shape := ⟨2, ![512, 128]⟩
abbrev S1x1x512x128 : Shape := ⟨4, ![1, 1, 512, 128]⟩
abbrev S64x8x128 : Shape := ⟨3, ![64, 8, 128]⟩
abbrev S8x128 : Shape := ⟨2, ![8, 128]⟩
abbrev S1x1x1x8x128 : Shape := ⟨5, ![1, 1, 1, 8, 128]⟩

abbrev nBuf : Space → Nat
  | .hbm => 24
  | .vmem => 37
  | .smem => 0
  | _ => 0

abbrev bufTy : (tb : Table) → Fin (tcTables nBuf tb) → BufTy
  | .hbm, ⟨0, _⟩ => ⟨S8192x2048, .bf16⟩
  | .hbm, ⟨1, _⟩ => ⟨S3x2048, .f32⟩
  | .hbm, ⟨2, _⟩ => ⟨S2048x8192, .f32⟩
  | .hbm, ⟨3, _⟩ => ⟨S1x2048x2048, .f32⟩
  | .hbm, ⟨4, _⟩ => ⟨S2x2048x11264, .f32⟩
  | .hbm, ⟨5, _⟩ => ⟨S2x5632x2048, .f32⟩
  | .hbm, ⟨6, _⟩ => ⟨S2x16x4096x128, .bf16⟩
  | .hbm, ⟨7, _⟩ => ⟨S2x16x4096x128, .bf16⟩
  | .hbm, ⟨8, _⟩ => ⟨S2x16x4096x128, .f32⟩
  | .hbm, ⟨9, _⟩ => ⟨S2x16x4x8x128, .f32⟩
  | .hbm, ⟨10, _⟩ => ⟨S2x16x4096x128, .bf16⟩
  | .hbm, ⟨11, _⟩ => ⟨S8192x2048, .bf16⟩
  | .hbm, ⟨12, _⟩ => ⟨S32x64x2048, .f32⟩
  | .hbm, ⟨13, _⟩ => ⟨S64x64x11264, .f32⟩
  | .hbm, ⟨14, _⟩ => ⟨S88x128x2048, .f32⟩
  | .hbm, ⟨15, _⟩ => ⟨S2x16x4096x128, .bf16⟩
  | .hbm, ⟨16, _⟩ => ⟨S2x16x4096x128, .bf16⟩
  | .hbm, ⟨17, _⟩ => ⟨S2x16x4096x128, .f32⟩
  | .hbm, ⟨18, _⟩ => ⟨S2x16x4x8x128, .f32⟩
  | .hbm, ⟨19, _⟩ => ⟨S2x16x4096x128, .bf16⟩
  | .hbm, ⟨20, _⟩ => ⟨S8192x2048, .bf16⟩
  | .hbm, ⟨21, _⟩ => ⟨S32x64x2048, .bf16⟩
  | .hbm, ⟨22, _⟩ => ⟨S32x64x11264, .bf16⟩
  | .hbm, ⟨23, _⟩ => ⟨S44x128x2048, .bf16⟩
  | .local _ .vmem, ⟨0, _⟩ => ⟨S1024x2048, .bf16⟩
  | .local _ .vmem, ⟨1, _⟩ => ⟨S1024x2048, .bf16⟩
  | .local _ .vmem, ⟨2, _⟩ => ⟨S3x256, .f32⟩
  | .local _ .vmem, ⟨3, _⟩ => ⟨S3x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S1x64x2048, .f32⟩
  | .local _ .vmem, ⟨13, _⟩ => ⟨S1x64x2048, .f32⟩
  | .local _ .vmem, ⟨14, _⟩ => ⟨S1x64x11264, .f32⟩
  | .local _ .vmem, ⟨15, _⟩ => ⟨S1x64x11264, .f32⟩
  | .local _ .vmem, ⟨16, _⟩ => ⟨S1x128x2048, .f32⟩
  | .local _ .vmem, ⟨17, _⟩ => ⟨S1x128x2048, .f32⟩
  | .local _ .vmem, ⟨18, _⟩ => ⟨S1x2x1024x128, .bf16⟩
  | .local _ .vmem, ⟨19, _⟩ => ⟨S1x2x1024x128, .bf16⟩
  | .local _ .vmem, ⟨20, _⟩ => ⟨S1x2x1024x128, .bf16⟩
  | .local _ .vmem, ⟨21, _⟩ => ⟨S1x2x1024x128, .bf16⟩
  | .local _ .vmem, ⟨22, _⟩ => ⟨S1x2x1024x128, .f32⟩
  | .local _ .vmem, ⟨23, _⟩ => ⟨S1x2x1024x128, .f32⟩
  | .local _ .vmem, ⟨24, _⟩ => ⟨S1x2x1x8x128, .f32⟩
  | .local _ .vmem, ⟨25, _⟩ => ⟨S1x2x1x8x128, .f32⟩
  | .local _ .vmem, ⟨26, _⟩ => ⟨S1x2x1024x128, .bf16⟩
  | .local _ .vmem, ⟨27, _⟩ => ⟨S1x2x1024x128, .bf16⟩
  | .local _ .vmem, ⟨28, _⟩ => ⟨S1024x256, .bf16⟩
  | .local _ .vmem, ⟨29, _⟩ => ⟨S1024x256, .bf16⟩
  | .local _ .vmem, ⟨30, _⟩ => ⟨S1x64x2048, .bf16⟩
  | .local _ .vmem, ⟨31, _⟩ => ⟨S1x64x2048, .bf16⟩
  | .local _ .vmem, ⟨32, _⟩ => ⟨S1x64x11264, .bf16⟩
  | .local _ .vmem, ⟨33, _⟩ => ⟨S1x64x11264, .bf16⟩
  | .local _ .vmem, ⟨34, _⟩ => ⟨S1x128x2048, .bf16⟩
  | .local _ .vmem, ⟨35, _⟩ => ⟨S1x128x2048, .bf16⟩
  | .local _ .vmem, ⟨36, _⟩ => ⟨S4x2048x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev main_v3_4 : Ref sig .tc := ⟨.hbm, 19, rfl⟩
abbrev main_v3_5 : Ref sig .tc := ⟨.hbm, 20, rfl⟩
abbrev main_v3_6 : Ref sig .tc := ⟨.hbm, 21, rfl⟩
abbrev main_v3_7 : Ref sig .tc := ⟨.hbm, 22, rfl⟩
abbrev main_v3_8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨3, ![7, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.addi c9_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.addi c17_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c25_i32 : BitVec 32 := 25#32
  let v0 : BitVec 32 := Scalar.addi c25_i32 arg0
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.addi c0_i32 v0
  let c4_i32 : BitVec 32 := 4#32
  let v2 : BitVec 32 := Scalar.muli arg1 c4_i32
  let v3 : BitVec 32 := Scalar.addi v1 v2
  let c1_i32 : BitVec 32 := 1#32
  let v4 : BitVec 32 := Scalar.muli arg2 c1_i32
  let v5 : BitVec 32 := Scalar.addi v3 v4
  let c31_i32 : BitVec 32 := 31#32
  let v6 : BitVec 32 := Scalar.minsi v5 c31_i32
  let c0_i32_0 : BitVec 32 := 0#32
  let v7 : BitVec 32 := Scalar.addi c0_i32_0 v6
  let c0_i32_1 : BitVec 32 := 0#32
  let c0_i32_2 : BitVec 32 := 0#32
  let c0_i32_3 : BitVec 32 := 0#32
  ![v7.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.addi c0_i32 v0
  let c4_i32 : BitVec 32 := 4#32
  let v2 : BitVec 32 := Scalar.muli arg1 c4_i32
  let v3 : BitVec 32 := Scalar.addi v1 v2
  let c1_i32 : BitVec 32 := 1#32
  let v4 : BitVec 32 := Scalar.muli arg2 c1_i32
  let v5 : BitVec 32 := Scalar.addi v3 v4
  let c31_i32 : BitVec 32 := 31#32
  let v6 : BitVec 32 := Scalar.minsi v5 c31_i32
  let c0_i32_0 : BitVec 32 := 0#32
  let v7 : BitVec 32 := Scalar.addi c0_i32_0 v6
  let c0_i32_1 : BitVec 32 := 0#32
  let c0_i32_2 : BitVec 32 := 0#32
  let c0_i32_3 : BitVec 32 := 0#32
  ![v7.toNat, c0_i32_1.toNat, c0_i32_2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.addi c0_i32 v0
  let c4_i32 : BitVec 32 := 4#32
  let v2 : BitVec 32 := Scalar.muli arg1 c4_i32
  let v3 : BitVec 32 := Scalar.addi v1 v2
  let c1_i32 : BitVec 32 := 1#32
  let v4 : BitVec 32 := Scalar.muli arg2 c1_i32
  let v5 : BitVec 32 := Scalar.addi v3 v4
  let c43_i32 : BitVec 32 := 43#32
  let v6 : BitVec 32 := Scalar.minsi v5 c43_i32
  let c0_i32_0 : BitVec 32 := 0#32
  let v7 : BitVec 32 := Scalar.addi c0_i32_0 v6
  let c0_i32_1 : BitVec 32 := 0#32
  let c0_i32_2 : BitVec 32 := 0#32
  let c0_i32_3 : BitVec 32 := 0#32
  ![v7.toNat, c0_i32_1.toNat, c0_i32_2.toNat]

def cc0_transform_15 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  let c0_i32_0 : BitVec 32 := 0#32
  ![arg1.toNat, v0.toNat, arg2.toNat, c0_i32.toNat]

def cc0_transform_16 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  let c0_i32_0 : BitVec 32 := 0#32
  ![arg1.toNat, v0.toNat, arg2.toNat, c0_i32.toNat]

def cc0_transform_17 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  let c0_i32_0 : BitVec 32 := 0#32
  ![arg1.toNat, v0.toNat, arg2.toNat, c0_i32.toNat]

def cc0_transform_18 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  let c0_i32_0 : BitVec 32 := 0#32
  let c0_i32_1 : BitVec 32 := 0#32
  ![arg1.toNat, v0.toNat, arg2.toNat, c0_i32.toNat, c0_i32_0.toNat]

def cc0_transform_19 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c0_i32 : BitVec 32 := 0#32
  let c0_i32_0 : BitVec 32 := 0#32
  ![arg1.toNat, v0.toNat, arg2.toNat, c0_i32.toNat]

def cc0_transform_20 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c1_i32 : BitVec 32 := 1#32
  let v2 : BitVec 32 := Scalar.addi c1_i32 arg0
  let c0_i32 : BitVec 32 := 0#32
  ![v1.toNat, v2.toNat]

def cc0_transform_21 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.addi c0_i32 v0
  let c4_i32 : BitVec 32 := 4#32
  let v2 : BitVec 32 := Scalar.muli arg1 c4_i32
  let v3 : BitVec 32 := Scalar.addi v1 v2
  let c1_i32 : BitVec 32 := 1#32
  let v4 : BitVec 32 := Scalar.muli arg2 c1_i32
  let v5 : BitVec 32 := Scalar.addi v3 v4
  let c31_i32 : BitVec 32 := 31#32
  let v6 : BitVec 32 := Scalar.minsi v5 c31_i32
  let c0_i32_0 : BitVec 32 := 0#32
  let c0_i32_1 : BitVec 32 := 0#32
  let c0_i32_2 : BitVec 32 := 0#32
  ![v6.toNat, c0_i32_0.toNat, c0_i32_1.toNat]

def cc0_transform_22 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.addi c0_i32 v0
  let c4_i32 : BitVec 32 := 4#32
  let v2 : BitVec 32 := Scalar.muli arg1 c4_i32
  let v3 : BitVec 32 := Scalar.addi v1 v2
  let c1_i32 : BitVec 32 := 1#32
  let v4 : BitVec 32 := Scalar.muli arg2 c1_i32
  let v5 : BitVec 32 := Scalar.addi v3 v4
  let c31_i32 : BitVec 32 := 31#32
  let v6 : BitVec 32 := Scalar.minsi v5 c31_i32
  let c0_i32_0 : BitVec 32 := 0#32
  let c0_i32_1 : BitVec 32 := 0#32
  let c0_i32_2 : BitVec 32 := 0#32
  ![v6.toNat, c0_i32_0.toNat, c0_i32_1.toNat]

def cc0_transform_23 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.addi c0_i32 v0
  let c4_i32 : BitVec 32 := 4#32
  let v2 : BitVec 32 := Scalar.muli arg1 c4_i32
  let v3 : BitVec 32 := Scalar.addi v1 v2
  let c1_i32 : BitVec 32 := 1#32
  let v4 : BitVec 32 := Scalar.muli arg2 c1_i32
  let v5 : BitVec 32 := Scalar.addi v3 v4
  let c43_i32 : BitVec 32 := 43#32
  let v6 : BitVec 32 := Scalar.minsi v5 c43_i32
  let c0_i32_0 : BitVec 32 := 0#32
  let c0_i32_1 : BitVec 32 := 0#32
  let c0_i32_2 : BitVec 32 := 0#32
  ![v6.toNat, c0_i32_0.toNat, c0_i32_1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x64x11264 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x2x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x2x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x2x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x2x1x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x2x1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x64x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S1x64x11264 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S1x128x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]
-- ==== Kernel5Ideal.lean ====
variable {F : FTy → Type} [FloatOps F] [Named F]
def κ : String → Option EReal := fun
  | "inv_log_2" => some (((Real.log 2)⁻¹ : ℝ) : EReal)
  | _ => none
-- ==== Reference5Ideal.lean ====
abbrev S8192x2048 : Shape := ⟨2, ![8192, 2048]⟩
abbrev S3x2048 : Shape := ⟨2, ![3, 2048]⟩
abbrev S2048x8192 : Shape := ⟨2, ![2048, 8192]⟩
abbrev S1x2048x2048 : Shape := ⟨3, ![1, 2048, 2048]⟩
abbrev S2x2048x11264 : Shape := ⟨3, ![2, 2048, 11264]⟩
abbrev S2x5632x2048 : Shape := ⟨3, ![2, 5632, 2048]⟩
abbrev S2x16x4096x128 : Shape := ⟨4, ![2, 16, 4096, 128]⟩
abbrev S2x16x4x8x128 : Shape := ⟨5, ![2, 16, 4, 8, 128]⟩
abbrev S_ : Shape := ⟨0, ![]⟩
abbrev S2048 : Shape := ⟨1, ![2048]⟩
abbrev S1x2048 : Shape := ⟨2, ![1, 2048]⟩
abbrev S2x4096x2048 : Shape := ⟨3, ![2, 4096, 2048]⟩
abbrev S2x4096x8192 : Shape := ⟨3, ![2, 4096, 8192]⟩
abbrev S1x1x2048 : Shape := ⟨3, ![1, 1, 2048]⟩
abbrev S2x4096x16x128 : Shape := ⟨4, ![2, 4096, 16, 128]⟩
abbrev S2x16x64x64x128 : Shape := ⟨5, ![2, 16, 64, 64, 128]⟩
abbrev S2x16x4x128x8x128 : Shape := ⟨6, ![2, 16, 4, 128, 8, 128]⟩
abbrev S2x2x4096x128 : Shape := ⟨4, ![2, 2, 4096, 128]⟩
abbrev S2x14x4096x128 : Shape := ⟨4, ![2, 14, 4096, 128]⟩
abbrev S2x2x4x8x128 : Shape := ⟨5, ![2, 2, 4, 8, 128]⟩
abbrev S2x14x4x8x128 : Shape := ⟨5, ![2, 14, 4, 8, 128]⟩
abbrev S8192x256 : Shape := ⟨2, ![8192, 256]⟩
abbrev S8192x1792 : Shape := ⟨2, ![8192, 1792]⟩
abbrev S2048x2048 : Shape := ⟨2, ![2048, 2048]⟩
abbrev S32x64x2048 : Shape := ⟨3, ![32, 64, 2048]⟩
abbrev S1x2048x11264 : Shape := ⟨3, ![1, 2048, 11264]⟩
abbrev S2048x11264 : Shape := ⟨2, ![2048, 11264]⟩
abbrev S32x64x11264 : Shape := ⟨3, ![32, 64, 11264]⟩
abbrev S1x5632x2048 : Shape := ⟨3, ![1, 5632, 2048]⟩
abbrev S5632x2048 : Shape := ⟨2, ![5632, 2048]⟩
abbrev S44x128x2048 : Shape := ⟨3, ![44, 128, 2048]⟩

abbrev nBuf : Space → Nat
  | .hbm => 134
  | .vmem => 0
  | .smem => 0
  | _ => 0

abbrev hbmTy0_0 (i : Nat) : BufTy := match i % 128 with
  | 0 => ⟨S8192x2048, .bf16⟩
  | 1 => ⟨S3x2048, .f32⟩
  | 2 => ⟨S2048x8192, .f32⟩
  | 3 => ⟨S1x2048x2048, .f32⟩
  | 4 => ⟨S2x2048x11264, .f32⟩
  | 5 => ⟨S2x5632x2048, .f32⟩
  | 6 => ⟨S2x16x4096x128, .bf16⟩
  | 7 => ⟨S2x16x4096x128, .bf16⟩
  | 8 => ⟨S2x16x4096x128, .f32⟩
  | 9 => ⟨S2x16x4x8x128, .f32⟩
  | 10 => ⟨S2x16x4096x128, .bf16⟩
  | 11 => ⟨S8192x2048, .bf16⟩
  | 12 => ⟨S_, .f32⟩
  | 13 => ⟨S2048, .f32⟩
  | 14 => ⟨S_, .f32⟩
  | 15 => ⟨S2048, .f32⟩
  | 16 => ⟨S2048, .f32⟩
  | 17 => ⟨S1x2048, .f32⟩
  | 18 => ⟨S3x2048, .f32⟩
  | 19 => ⟨S3x2048, .f32⟩
  | 20 => ⟨S3x2048, .f32⟩
  | 21 => ⟨S_, .f32⟩
  | 22 => ⟨S2048, .f32⟩
  | 23 => ⟨S1x2048, .f32⟩
  | 24 => ⟨S3x2048, .f32⟩
  | 25 => ⟨S3x2048, .f32⟩
  | 26 => ⟨S_, .f32⟩
  | 27 => ⟨S_, .f32⟩
  | 28 => ⟨S3x2048, .f32⟩
  | 29 => ⟨S1x2048, .f32⟩
  | 30 => ⟨S2048, .f32⟩
  | 31 => ⟨S2x4096x2048, .bf16⟩
  | 32 => ⟨S2x4096x2048, .f32⟩
  | 33 => ⟨S2x4096x8192, .f32⟩
  | 34 => ⟨S2x4096x2048, .f32⟩
  | 35 => ⟨S2x4096x2048, .f32⟩
  | 36 => ⟨S2x4096x2048, .f32⟩
  | 37 => ⟨S2x4096x2048, .f32⟩
  | 38 => ⟨S2x4096x2048, .f32⟩
  | 39 => ⟨S2x4096x2048, .f32⟩
  | 40 => ⟨S_, .f32⟩
  | 41 => ⟨S2x4096x2048, .f32⟩
  | 42 => ⟨S2x4096x2048, .f32⟩
  | 43 => ⟨S_, .f32⟩
  | 44 => ⟨S2x4096x2048, .f32⟩
  | 45 => ⟨S2x4096x2048, .f32⟩
  | 46 => ⟨S2x4096x2048, .f32⟩
  | 47 => ⟨S_, .f32⟩
  | 48 => ⟨S2x4096x2048, .f32⟩
  | 49 => ⟨S2x4096x2048, .f32⟩
  | 50 => ⟨S_, .f32⟩
  | 51 => ⟨S2048, .f32⟩
  | 52 => ⟨S2048, .f32⟩
  | 53 => ⟨S2x4096x2048, .f32⟩
  | 54 => ⟨S2x4096x2048, .f32⟩
  | 55 => ⟨S_, .f32⟩
  | 56 => ⟨S2x4096x2048, .f32⟩
  | 57 => ⟨S2x4096x2048, .f32⟩
  | 58 => ⟨S_, .f32⟩
  | 59 => ⟨S2x4096x2048, .f32⟩
  | 60 => ⟨S2x4096x2048, .f32⟩
  | 61 => ⟨S1x1x2048, .f32⟩
  | 62 => ⟨S2x4096x2048, .f32⟩
  | 63 => ⟨S2x4096x2048, .f32⟩
  | 64 => ⟨S1x1x2048, .f32⟩
  | 65 => ⟨S2x4096x2048, .f32⟩
  | 66 => ⟨S2x4096x2048, .f32⟩
  | 67 => ⟨S_, .f32⟩
  | 68 => ⟨S2x4096x2048, .f32⟩
  | 69 => ⟨S2x4096x2048, .f32⟩
  | 70 => ⟨S2x4096x2048, .f32⟩
  | 71 => ⟨S_, .f32⟩
  | 72 => ⟨S_, .f32⟩
  | 73 => ⟨S2x4096x2048, .f32⟩
  | 74 => ⟨S2x4096x2048, .f32⟩
  | 75 => ⟨S2x4096x16x128, .f32⟩
  | 76 => ⟨S2x16x4096x128, .f32⟩
  | 77 => ⟨S2x16x64x64x128, .f32⟩
  | 78 => ⟨S_, .f32⟩
  | 79 => ⟨S_, .f32⟩
  | 80 => ⟨S2x16x64x64x128, .f32⟩
  | 81 => ⟨S2x16x4096x128, .f32⟩
  | 82 => ⟨S2x16x4x128x8x128, .f32⟩
  | 83 => ⟨S_, .f32⟩
  | 84 => ⟨S2x16x4x8x128, .f32⟩
  | 85 => ⟨S2x4096x2048, .f32⟩
  | 86 => ⟨S2x4096x2048, .f32⟩
  | 87 => ⟨S_, .f32⟩
  | 88 => ⟨S2x4096x2048, .f32⟩
  | 89 => ⟨S2x4096x2048, .f32⟩
  | 90 => ⟨S_, .f32⟩
  | 91 => ⟨S2x4096x2048, .f32⟩
  | 92 => ⟨S2x4096x2048, .f32⟩
  | 93 => ⟨S2x4096x2048, .f32⟩
  | 94 => ⟨S8192x2048, .f32⟩
  | 95 => ⟨S8192x2048, .bf16⟩
  | 96 => ⟨S2x4096x16x128, .f32⟩
  | 97 => ⟨S2x16x4096x128, .f32⟩
  | 98 => ⟨S2x16x4096x128, .bf16⟩
  | 99 => ⟨S2x2x4096x128, .bf16⟩
  | 100 => ⟨S2x14x4096x128, .bf16⟩
  | 101 => ⟨S2x16x4096x128, .bf16⟩
  | 102 => ⟨S2x4096x16x128, .f32⟩
  | 103 => ⟨S2x16x4096x128, .f32⟩
  | 104 => ⟨S2x16x4096x128, .bf16⟩
  | 105 => ⟨S2x2x4096x128, .bf16⟩
  | 106 => ⟨S2x14x4096x128, .bf16⟩
  | 107 => ⟨S2x16x4096x128, .bf16⟩
  | 108 => ⟨S2x2x4096x128, .f32⟩
  | 109 => ⟨S2x14x4096x128, .f32⟩
  | 110 => ⟨S2x16x4096x128, .f32⟩
  | 111 => ⟨S2x2x4x8x128, .f32⟩
  | 112 => ⟨S2x14x4x8x128, .f32⟩
  | 113 => ⟨S2x16x4x8x128, .f32⟩
  | 114 => ⟨S2x4096x16x128, .f32⟩
  | 115 => ⟨S2x16x4096x128, .f32⟩
  | 116 => ⟨S2x16x4096x128, .bf16⟩
  | 117 => ⟨S2x2x4096x128, .bf16⟩
  | 118 => ⟨S2x14x4096x128, .bf16⟩
  | 119 => ⟨S2x16x4096x128, .bf16⟩
  | 120 => ⟨S8192x256, .bf16⟩
  | 121 => ⟨S8192x1792, .bf16⟩
  | 122 => ⟨S8192x2048, .bf16⟩
  | 123 => ⟨S2048x2048, .f32⟩
  | 124 => ⟨S2048x2048, .bf16⟩
  | 125 => ⟨S32x64x2048, .bf16⟩
  | 126 => ⟨S1x2048x11264, .f32⟩
  | 127 => ⟨S2048x11264, .f32⟩
  | _ => ⟨S8192x2048, .bf16⟩

abbrev hbmTy0_1 (i : Nat) : BufTy := match i % 128 with
  | 0 => ⟨S2048x11264, .bf16⟩
  | 1 => ⟨S32x64x11264, .bf16⟩
  | 2 => ⟨S1x5632x2048, .f32⟩
  | 3 => ⟨S5632x2048, .f32⟩
  | 4 => ⟨S5632x2048, .bf16⟩
  | 5 => ⟨S44x128x2048, .bf16⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call0_call0_cst : Ref sig .tc := ⟨.hbm, 26, rfl⟩
abbrev main_call0_call0_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v21 : Ref sig .tc := ⟨.hbm, 46, rfl⟩
abbrev main_cst_2 : Ref sig .tc := ⟨.hbm, 47, rfl⟩
abbrev main_v22 : Ref sig .tc := ⟨.hbm, 48, rfl⟩
abbrev main_v23 : Ref sig .tc := ⟨.hbm, 49, rfl⟩
abbrev main_cst_3 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_4 : Ref sig .tc := ⟨.hbm, 55, rfl⟩
abbrev main_v28 : Ref sig .tc := ⟨.hbm, 56, rfl⟩
abbrev main_v29 : Ref sig .tc := ⟨.hbm, 57, rfl⟩
abbrev main_cst_5 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_6 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_7 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_call2_call0_cst : Ref sig .tc := ⟨.hbm, 78, rfl⟩
abbrev main_call2_call0_v0 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_8 : Ref sig .tc := ⟨.hbm, 83, rfl⟩
abbrev main_v50 : Ref sig .tc := ⟨.hbm, 84, rfl⟩
abbrev main_call3_v0 : Ref sig .tc := ⟨.hbm, 85, rfl⟩
abbrev main_call3_v1 : Ref sig .tc := ⟨.hbm, 86, rfl⟩
abbrev main_call3_cst : Ref sig .tc := ⟨.hbm, 87, rfl⟩
abbrev main_call3_v2 : Ref sig .tc := ⟨.hbm, 88, rfl⟩
abbrev main_call3_v3 : Ref sig .tc := ⟨.hbm, 89, rfl⟩
abbrev main_call3_cst_0 : Ref sig .tc := ⟨.hbm, 90, rfl⟩
abbrev main_call3_v4 : Ref sig .tc := ⟨.hbm, 91, rfl⟩
abbrev main_call3_v5 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩

abbrev nD : Nat := 1
abbrev τ : Topo := Topo.v7x

variable {F : FTy → Type} [FloatOps F]
-- ==== Proof.Halves.lean ====
module

public import Idealize.ShloMosaic.Lib.VecWindow
public import Idealize.ShloMosaic.Lib.Tactic

/-! A tile of 1024 rows seen as its upper and its lower 512 rows. -/

@[expose] public section

namespace Cert.Halves

open Idealize.ShloMosaic

variable {α : Type}

/-- A tile of 1024 rows. -/
abbrev Tile : Shape := ⟨2, ![1024, 2048]⟩
/-- Half a tile. -/
abbrev Half : Shape := ⟨2, ![512, 2048]⟩

theorem inLo : ∀ a, (![0, 0] : Fin 2 → ℕ) a + Half.size a ≤ Tile.size a := by decide
theorem inHi : ∀ a, (![512, 0] : Fin 2 → ℕ) a + Half.size a ≤ Tile.size a := by decide

/-- The first 512 rows. -/
def lo (x : Tile.Idx → α) : Half.Idx → α := VecWindow.window x ![0, 0] Half.size inLo
/-- The last 512 rows. -/
def hi (x : Tile.Idx → α) : Half.Idx → α := VecWindow.window x ![512, 0] Half.size inHi
/-- The tile of two halves. -/
def two (a b : Half.Idx → α) : Tile.Idx → α := VecWindow.put (fun y => a fun k => k.cases ⟨(y 0).val % 512, Nat.mod_lt _ (by decide)⟩ fun k => k.cases (y 1) (fun k => k.elim0)) ![512, 0] Half.size b

theorem hi_two (a b : Half.Idx → α) : hi (two a b) = b := VecWindow.window_put_same _ _ _ _ _

theorem lo_two (a b : Half.Idx → α) : lo (two a b) = a := by
  refine (VecWindow.window_put_of_disjoint _ _ _ _ _ inLo _ 0 (Or.inl (by decide))).trans ?_
  funext y
  refine congrArg a (funext fun k => ?_)
  have h0 : (y 0).val < 512 := (y 0).isLt
  match k with
  | 0 => exact Fin.ext (by show (0 + 1 * (y 0).val) % 512 = (y 0).val; omega)
  | 1 => exact Fin.ext (by show 0 + 1 * (y 1).val = (y 1).val; omega)

/-- Both halves put over anything. -/
theorem put_put (x : Tile.Idx → α) (a b : Half.Idx → α) :
    VecWindow.put (VecWindow.put x ![0, 0] Half.size a) ![512, 0] Half.size b = two a b := by
  funext y
  show (if h : _ then _ else _) = (if h : _ then _ else _)
  by_cases h : ∀ k, (![512, 0] : Fin 2 → ℕ) k ≤ (y k).val ∧ (y k).val < (![512, 0] : Fin 2 → ℕ) k + Half.size k
  · rw [dif_pos h, dif_pos h]
  · rw [dif_neg h, dif_neg h]
    have h0 : (y 0).val < 1024 := (y 0).isLt
    have h1 : (y 1).val < 2048 := (y 1).isLt
    have hl : (y 0).val < 512 := by
      by_contra hc
      exact h fun k => match k with
        | 0 => ⟨by show 512 ≤ (y 0).val; omega, by show (y 0).val < 512 + 512; omega⟩
        | 1 => ⟨by show 0 ≤ (y 1).val; omega, by show (y 1).val < 0 + 2048; omega⟩
    have hb : ∀ k, (![0, 0] : Fin 2 → ℕ) k ≤ (y k).val ∧ (y k).val < (![0, 0] : Fin 2 → ℕ) k + Half.size k := fun k => match k with
      | 0 => ⟨by show 0 ≤ (y 0).val; omega, by show (y 0).val < 0 + 512; omega⟩
      | 1 => ⟨by show 0 ≤ (y 1).val; omega, by show (y 1).val < 0 + 2048; omega⟩
    refine (dif_pos hb).trans (congrArg a (funext fun k => ?_))
    match k with
    | 0 => exact Fin.ext (by show (y 0).val - 0 = (y 0).val % 512; omega)
    | 1 => exact Fin.ext (by show (y 1).val - 0 = (y 1).val; omega)

theorem two_lo_hi (x : Tile.Idx → α) : two (lo x) (hi x) = x := by
  rw [← put_put x]
  funext y
  unfold VecWindow.put
  split
  · rename_i h
    refine congrArg x (funext fun k => Fin.ext ?_)
    show (![512, 0] : Fin 2 → ℕ) k + 1 * ((y k).val - (![512, 0] : Fin 2 → ℕ) k) = (y k).val
    have := (h k).1; omega
  · split
    · rename_i h
      refine congrArg x (funext fun k => Fin.ext ?_)
      show (![0, 0] : Fin 2 → ℕ) k + 1 * ((y k).val - (![0, 0] : Fin 2 → ℕ) k) = (y k).val
      have := (h k).1; omega
    · rfl

/-- An entry of the tile of two halves. -/
theorem two_apply (a b : Half.Idx → α) (y : Tile.Idx) (z : Half.Idx) (h1 : (z 1).val = (y 1).val) :
    ((y 0).val = (z 0).val → two a b y = a z) ∧ ((y 0).val = 512 + (z 0).val → two a b y = b z) := by
  have hz : (z 0).val < 512 := (z 0).isLt
  constructor <;> intro h0
  · have e : y = (Rect.unit (s := Tile) ![0, 0] Half.size inLo).emb z := funext fun k => Fin.ext (match k with
      | 0 => by show (y 0).val = 0 + 1 * (z 0).val; omega
      | 1 => by show (y 1).val = 0 + 1 * (z 1).val; omega)
    rw [e]; exact congrFun (lo_two a b) z
  · have e : y = (Rect.unit (s := Tile) ![512, 0] Half.size inHi).emb z := funext fun k => Fin.ext (match k with
      | 0 => by show (y 0).val = 512 + 1 * (z 0).val; omega
      | 1 => by show (y 1).val = 0 + 1 * (z 1).val; omega)
    rw [e]; exact congrFun (hi_two a b) z

section Reads

variable {sig : RefSig} {κ : Kind} {sp : Space} {e : EltTy} {Val : EltTy → Type} (v : View sig κ sp Tile e) (f : v.ty.Contents Val)
  (inb : ∀ a, (![512, 0] : Fin 2 → ℕ) a + Half.size a ≤ Tile.size a) (inb' : ∀ a, (![0, 0] : Fin 2 → ℕ) a + Half.size a ≤ Tile.size a)
  (a b : Half.Idx → Val e) (L : List (View.Piece Val Tile e))

/-- A buffer both of whose halves were stored. -/
theorem read_two : v.read Val (v.writes Val f (⟨Rect.unit (s := Tile) ![512, 0] Half.size inb, b⟩ :: ⟨Rect.unit (s := Tile) ![0, 0] Half.size inb', a⟩ :: L)) = two a b := by
  rw [View.read_writes_cons_put v f inb b _ rfl, View.read_writes_cons_put v f inb' a L rfl]
  exact put_put _ a b

theorem readAt_lo (inb'') (g : v.ty.Contents Val) : v.readAt Val (Rect.unit (s := Tile) ![0, 0] Half.size inb'').toLoadRect g = lo (v.read Val g) := rfl
theorem readAt_hi (inb'') (g : v.ty.Contents Val) : v.readAt Val (Rect.unit (s := Tile) ![512, 0] Half.size inb'').toLoadRect g = hi (v.read Val g) := rfl

variable [∀ e, Nonempty (Val e)]

theorem readCov_lo (inb'') : v.readCov (⟨Rect.unit (s := Tile) ![512, 0] Half.size inb, b⟩ :: ⟨Rect.unit (s := Tile) ![0, 0] Half.size inb', a⟩ :: L)
    (Rect.unit (s := Tile) ![0, 0] Half.size inb'').toLoadRect = a := (congrArg lo (read_two v _ inb inb' a b L)).trans (lo_two a b)
theorem readCov_hi (inb'') : v.readCov (⟨Rect.unit (s := Tile) ![512, 0] Half.size inb, b⟩ :: ⟨Rect.unit (s := Tile) ![0, 0] Half.size inb', a⟩ :: L)
    (Rect.unit (s := Tile) ![512, 0] Half.size inb'').toLoadRect = b := (congrArg hi (read_two v _ inb inb' a b L)).trans (hi_two a b)
/-- A tile stored in halves, then loaded whole. -/
theorem readCov_tile (inb'' : ∀ a, (![0, 0] : Fin 2 → ℕ) a + Tile.size a ≤ Tile.size a) :
    v.readCov (⟨Rect.unit (s := Tile) ![512, 0] Half.size inb, b⟩ :: ⟨Rect.unit (s := Tile) ![0, 0] Half.size inb', a⟩ :: L)
      (Rect.unit (s := Tile) ![0, 0] Tile.size inb'').toLoadRect = two a b := (View.readAt_full v _ inb'').trans (read_two v _ inb inb' a b L)
theorem readCov_whole_lo (x : Tile.Idx → Val e) (inb'') :
    v.readCov [⟨Rect.whole Tile, x⟩] (Rect.unit (s := Tile) ![0, 0] Half.size inb'').toLoadRect = lo x := congrArg lo (View.read_writes_whole v _ x)
theorem readCov_whole_hi (x : Tile.Idx → Val e) (inb'') :
    v.readCov [⟨Rect.whole Tile, x⟩] (Rect.unit (s := Tile) ![512, 0] Half.size inb'').toLoadRect = hi x := congrArg hi (View.read_writes_whole v _ x)

theorem readCov_hi_under (inb'') (x : Half.Idx → Val e) :
    v.readCov (⟨Rect.unit (s := Tile) ![0, 0] Half.size inb', x⟩ :: ⟨Rect.unit (s := Tile) ![512, 0] Half.size inb, b⟩ :: L)
      (Rect.unit (s := Tile) ![512, 0] Half.size inb'').toLoadRect = b := by
  show hi (v.read Val (v.writes Val v.junk _)) = b
  rw [View.read_writes_cons_put v _ inb' x _ rfl]
  refine (VecWindow.window_put_of_disjoint _ _ _ _ _ inHi _ 0 (Or.inr (by decide))).trans ?_
  rw [View.read_writes_cons_put v _ inb b L rfl]
  exact VecWindow.window_put_same _ _ _ _ _

end Reads

end Cert.Halves
-- ==== Proof.ScStep.lean ====
module

public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Kernel2Ideal.Frame
public import proofs.«01_k».proof.Proof.Halves
public import Idealize.ShloMosaic.Lib.Pipeline.FrameBody
public import Idealize.ShloMosaic.Lib.Ring
public import Idealize.ShloMosaic.Lib.Pipeline.Value
public import Idealize.ShloMosaic.Lib.Tactic
public import Idealize.ShloMosaic.Lib.WordCmp

/-! One grid step of the short convolution: what it computes, and what its body leaves in the buffers. -/

@[expose] public section

set_option maxRecDepth 16384

noncomputable section

namespace Cert.Kernel2Ideal.Hand

open Cert.Kernel2Ideal Cert.Kernel2Ideal.Gen Cert.Halves
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- What one half tile of rows leaves for the next: the last eight gated inputs. -/
def nextTail (xh : Vec F S512x2048 .bf16) (wc wh : Vec F S2048x512 .bf16) : Vec F S1x8x512 .f32 :=
  k0_pay32 (k0_pay23 xh wc) (k0_pay24 xh wh)

/-- One block of channels added to the upper half of the result, `p` being what the rows before left. -/
def stepLo (xl : Vec F S512x2048 .bf16) (p : Vec F S1x8x512 .f32) (wb wc wh : Vec F S2048x512 .bf16) (cw : Vec F S3x512 .f32)
    (wd : Vec F S512x2048 .bf16) (ol : Vec F S512x2048 .f32) : Vec F S512x2048 .f32 :=
  k0_pay33 (k0_pay22 xl wb) (k0_pay26 xl wc wh) cw (k0_pay28 xl wc wh p cw) (k0_pay29 xl wc wh p cw) ol wd

/-- One block of channels added to the lower half of the result. -/
def stepHi (xl xh : Vec F S512x2048 .bf16) (wb wc wh : Vec F S2048x512 .bf16) (cw : Vec F S3x512 .f32)
    (wd : Vec F S512x2048 .bf16) (oh : Vec F S512x2048 .f32) : Vec F S512x2048 .f32 :=
  k0_pay3 (k0_pay31 (k0_pay23 xh wc) (k0_pay24 xh wh) (k0_pay25 xh wb) (k0_pay26 xl wc wh) cw) (k0_pay34 oh) (k0_pay35 wd)
    (constant S512x2048 .f32 0x00000000#32)

/-- One block of channels added to a tile of the result. -/
def stepOut (xn : Vec F S1024x2048 .bf16) (p : Vec F S1x8x512 .f32) (wb wc wh : Vec F S2048x512 .bf16) (cw : Vec F S3x512 .f32)
    (wd : Vec F S512x2048 .bf16) (o : Vec F S1024x2048 .f32) : Vec F S1024x2048 .f32 :=
  two (stepLo (lo xn) p wb wc wh cw wd (lo o)) (stepHi (lo xn) (hi xn) wb wc wh cw wd (hi o))

/-- A tile normalised. -/
def normed (h : Vec F S1024x2048 .f32) (nw : Vec F S1x2048 .f32) : Vec F S1024x2048 .bf16 :=
  two (k0_pay4 (lo h) nw) (k0_pay4 (hi h) nw)

theorem tailInb (i : grid0.Coords) : ∀ a, (![(i 1).val, 0, 0] : Fin 3 → ℕ) a + S1x8x512.size a ≤ S4x8x512.size a := fun a => by
  have h : (i 1).val < 4 := (i 1).isLt
  match a with
  | 0 => show (i 1).val + 1 ≤ 4; omega
  | 1 => show 0 + 8 ≤ 8; omega
  | 2 => show 0 + 512 ≤ 512; omega

/-- The slot of the block of channels at hand. -/
def slotOf (i : grid0.Coords) (tz : Vec F S4x8x512 .f32) : Vec F S1x8x512 .f32 := VecWindow.window tz ![(i 1).val, 0, 0] S1x8x512.size (tailInb i)

/-- What the rows before left in that slot: zeros where a sequence starts. -/
def prevTail (i : grid0.Coords) (tz : Vec F S4x8x512 .f32) : Vec F S1x8x512 .f32 := if k0_cond3 i = 1#1 then k0_pay1 else slotOf i tz

/-- The slot written. -/
def putTail (i : grid0.Coords) (tz : Vec F S4x8x512 .f32) (w : Vec F S1x8x512 .f32) : Vec F S4x8x512 .f32 := VecWindow.put tz ![(i 1).val, 0, 0] S1x8x512.size w

/-- The rows of the residual stream from `r` on. -/
def rowsAt (g : Vec F S8192x2048 .f32) (off : Fin 2 → ℕ) (inb : ∀ a, off a + S1024x2048.size a ≤ S8192x2048.size a) : Vec F S1024x2048 .f32 :=
  VecWindow.window g off S1024x2048.size inb

variable (v : View sig .tc .vmem S4x8x512 .f32) (f : v.ty.Contents (Elt F)) (i : grid0.Coords)

/-- The load of the slot, after it was cleared where a sequence starts. -/
theorem readAt_prev {off off' : Fin 3 → ℕ} (h : off = ![(i 1).val, 0, 0]) (h' : off' = ![(i 1).val, 0, 0]) (inb : ∀ a, off a + S1x8x512.size a ≤ S4x8x512.size a)
    (inb' : k0_cond3 i = 1#1 → ∀ a, off' a + S1x8x512.size a ≤ S4x8x512.size a) :
    v.readAt (Elt F) (Rect.unit (s := S4x8x512) off S1x8x512.size inb).toLoadRect
      (if hc : k0_cond3 i = 1#1 then v.writes (Elt F) f [⟨Rect.unit (s := S4x8x512) off' S1x8x512.size (inb' hc), k0_pay1⟩] else f) = prevTail i (v.read (Elt F) f) := by
  subst h h'
  unfold prevTail
  split
  · refine (View.readAt_unit v _ inb rfl (tailInb i)).trans ?_
    rw [View.read_writes_cons_put v f (inb' ‹_›) _ [] rfl]
    exact VecWindow.window_put_same _ _ _ _ _
  · exact View.readAt_unit v _ inb rfl (tailInb i)

/-- The slots after this block's tail is stored. -/
theorem read_put {off off' : Fin 3 → ℕ} (h : off = ![(i 1).val, 0, 0]) (h' : off' = ![(i 1).val, 0, 0]) (inb : ∀ a, off a + S1x8x512.size a ≤ S4x8x512.size a)
    (inb' : k0_cond3 i = 1#1 → ∀ a, off' a + S1x8x512.size a ≤ S4x8x512.size a) (w : Vec F S1x8x512 .f32) :
    v.read (Elt F) (v.writes (Elt F) (if hc : k0_cond3 i = 1#1 then v.writes (Elt F) f [⟨Rect.unit (s := S4x8x512) off' S1x8x512.size (inb' hc), k0_pay1⟩] else f)
      [⟨Rect.unit (s := S4x8x512) off S1x8x512.size inb, w⟩]) = putTail i (v.read (Elt F) f) w := by
  subst h h'
  refine (View.read_writes_cons_put v _ inb w [] rfl).trans ?_
  rw [View.writes_nil]
  unfold putTail
  split
  · rw [View.read_writes_cons_put v f (inb' ‹_›) _ [] rfl]
    exact VecWindow.put_put_same _ _ _ _ _
  · rfl

end Cert.Kernel2Ideal.Hand
-- ==== Proof.ScRun.lean ====
module

public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Kernel2Ideal.Frame
public import proofs.«01_k».proof.Proof.ScStep
public import Idealize.ShloMosaic.Lib.Pipeline.FrameBody
public import Idealize.ShloMosaic.Lib.Ring
public import Idealize.ShloMosaic.Lib.Pipeline.Value
public import Idealize.ShloMosaic.Lib.Tactic
public import Idealize.ShloMosaic.Lib.WordCmp

/-! The body of one grid step of the short convolution, run once for each of the four ways its tests come out. -/

@[expose] public section

set_option maxRecDepth 16384

noncomputable section

namespace Cert.Kernel2Ideal.Hand

open Cert.Kernel2Ideal Cert.Kernel2Ideal.Gen Cert.Halves
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

abbrev hM : Memref sig .tc .hbm S8192x2048 .f32 := Memref.whole main_v0
abbrev bufM : Memref sig .tc .vmem S1024x2048 .f32 := Memref.whole cc0_scratch1
abbrev xnM : Memref sig .tc .vmem S1024x2048 .bf16 := Memref.whole cc0_scratch0
abbrev tailM : Memref sig .tc .vmem S4x8x512 .f32 := Memref.whole cc0_scratch3

/-- A buffer held outright. -/
abbrev ptAll (c : Dev nD) {sp : Space} {S : Shape} {e : EltTy} (M : Memref sig .tc sp S e) (f : Buf (Elt F) (M.view.loc (c : Thread nD τ))) : sProp 𝕄 :=
  M.view.loc (c : Thread nD τ) ↦{fullShare} f
/-- A buffer's elements `s` held. -/
abbrev ptOn (c : Dev nD) {sp : Space} {S : Shape} {e : EltTy} (M : Memref sig .tc sp S e) (s : Finset M.view.ty.Idx)
    (f : Buf (Elt F) (M.view.loc (c : Thread nD τ))) : sProp 𝕄 :=
  M.view.loc (c : Thread nD τ) ↦[s]{fullShare} f
/-- The copy of a tile of rows into the tile buffer, under way: what it hands over is the buffer with `f` in it and the rows it reads. -/
abbrev copying (c : Dev nD) (f : Buf (Elt F) (bufM.view.loc (c : Thread nD τ))) (s : Finset hM.view.ty.Idx) (g : Vec F S8192x2048 .f32) : sProp 𝕄 :=
  Transfers.Flight (countersEmb (U := Pipeline.UD sig nD τ)) (c : Thread nD τ) (.dma 13) () 262144
    iprop(ptOn c bufM bufM.view.set f ∗ ptOn c hM s g)

section Runs

variable (c : Dev nD) (i : grid0.Coords)
  (arg3 : Memref sig .tc .vmem S1x2048 .f32) (harg3 : arg3.IsWhole) (arg4 : Memref sig .tc .vmem S2048x512 .bf16) (harg4 : arg4.IsWhole)
  (arg5 : Memref sig .tc .vmem S2048x512 .bf16) (harg5 : arg5.IsWhole) (arg6 : Memref sig .tc .vmem S2048x512 .bf16) (harg6 : arg6.IsWhole)
  (arg7 : Memref sig .tc .vmem S3x512 .f32) (harg7 : arg7.IsWhole) (arg8 : Memref sig .tc .vmem S512x2048 .bf16) (harg8 : arg8.IsWhole)
  (arg9 : Memref sig .tc .vmem S1024x2048 .f32) (harg9 : arg9.IsWhole)
  (x3 : Vec F S1x2048 .f32) (x4 x5 x6 : Vec F S2048x512 .bf16) (x7 : Vec F S3x512 .f32) (x8 : Vec F S512x2048 .bf16)
  (o : Vec F S1024x2048 .f32) (xn : Vec F S1024x2048 .bf16) (tz : Vec F S4x8x512 .f32) (g : Vec F S8192x2048 .f32)

/-- The buffers every grid step touches: six inputs, the result's tile, the normalised tile and the tails. -/
abbrev held (o : Vec F S1024x2048 .f32) (xn : Vec F S1024x2048 .bf16) (tz : Vec F S4x8x512 .f32) : sProp 𝕄 :=
  iprop(owns (c : Thread nD τ) arg3 fullShare x3 ∗ owns (c : Thread nD τ) arg4 fullShare x4 ∗ owns (c : Thread nD τ) arg5 fullShare x5
    ∗ owns (c : Thread nD τ) arg6 fullShare x6 ∗ owns (c : Thread nD τ) arg7 fullShare x7 ∗ owns (c : Thread nD τ) arg8 fullShare x8
    ∗ owns (c : Thread nD τ) arg9 fullShare o ∗ owns (c : Thread nD τ) xnM fullShare xn ∗ owns (c : Thread nD τ) tailM fullShare tz)

/--  A later block of channels, with no copy started. -/
theorem run_later
    (hc1 : ¬ k0_cond1 i = 1#1) (hc2 : ¬ k0_cond2 i = 1#1) (hc4 : ¬ k0_cond4 i = 1#1) (hc5 : k0_cond5 i = 1#1)
    (W : Waits sig Unit) (K : PUnit → sProp 𝕄) :
    iprop(held c arg3 arg4 arg5 arg6 arg7 arg8 arg9 x3 x4 x5 x6 x7 x8 o xn tz
        ∗ owes (c : Thread nD τ) 0 W
        ∗ (held c arg3 arg4 arg5 arg6 arg7 arg8 arg9 x3 x4 x5 x6 x7 x8
              (stepOut xn (prevTail i tz) x4 x5 x6 x7 x8 o)
              xn (putTail i tz (nextTail (hi xn) x5 x6))
            ∗ (∃ W', owes (c : Thread nD τ) 0 W') -∗ K ⟨⟩))
      ⊢ wp frame (wpE (defs₀ (F := F)) Variants.none c none) Set.univ
          (cc0_short_conv i hM (Memref.isWhole_whole _) arg3 harg3 arg4 harg4 arg5 harg5 arg6 harg6 arg7 harg7
            arg8 harg8 arg9 harg9 xnM (Memref.isWhole_whole _) bufM (Memref.isWhole_whole _)
            cc0_scratch2 tailM (Memref.isWhole_whole _)) K := by
  simp only [cc0_short_conv_eq_skeleton]; unfold cc0_short_conv_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f13, %hf13, H13⟩⟩, HW, Hk⟩
  sl_exec
  sl_step
  iapply Hk
  isplitl [H3 H4 H5 H6 H7 H8 H9 H10 H13]
  · isplitl [H3]; · iexists f3; isplitr; · ipureintro; exact hf3
                    iexact H3
    isplitl [H4]; · iexists f4; isplitr; · ipureintro; exact hf4
                    iexact H4
    isplitl [H5]; · iexists f5; isplitr; · ipureintro; exact hf5
                    iexact H5
    isplitl [H6]; · iexists f6; isplitr; · ipureintro; exact hf6
                    iexact H6
    isplitl [H7]; · iexists f7; isplitr; · ipureintro; exact hf7
                    iexact H7
    isplitl [H8]; · iexists f8; isplitr; · ipureintro; exact hf8
                    iexact H8
    have e3 := View.readAt_full arg3.view f3 inb_S1x2048_S1x2048_0_0
    have e4 := View.readAt_full arg4.view f4 inb_S2048x512_S2048x512_0_0
    have e5 := View.readAt_full arg5.view f5 inb_S2048x512_S2048x512_0_0
    have e6 := View.readAt_full arg6.view f6 inb_S2048x512_S2048x512_0_0
    have e7 := View.readAt_full arg7.view f7 inb_S3x512_S3x512_0_0
    have e8 := View.readAt_full arg8.view f8 inb_S512x2048_S512x2048_0_0
    rw [hf3] at e3; rw [hf4] at e4; rw [hf5] at e5; rw [hf6] at e6; rw [hf7] at e7; rw [hf8] at e8
    subst hf9 hf10 hf13 e3 e4 e5 e6 e7 e8
    clear hf3 hf4 hf5 hf6 hf7 hf8
    isplitl [H9]
    · iexists _; isplitr; swap; · iexact H9
      ipureintro
      refine (read_two arg9.view f9 _ _ _ _ _).trans ?_
      have ep := readAt_prev tailM.view f13 i (k0_off6_eq i) (k0_off3_eq i) (k0_off6_inb i hc5) (fun hc => k0_off3_inb i hc)
      unfold stepOut
      rw [← ep]
      rfl
    isplitl [H10]
    · iexists _; isplitr; swap; · iexact H10
      ipureintro
      rfl
    · iexists _; isplitr; swap; · iexact H13
      ipureintro
      exact read_put tailM.view f13 i (k0_off6_eq i) (k0_off3_eq i) (k0_off6_inb i hc5) (fun hc => k0_off3_inb i hc) _
  iexists _; iexact HW

/-- A later block of channels that starts the copy of the next tile of rows. -/
theorem run_issue
    (hc1 : ¬ k0_cond1 i = 1#1) (hc2 : k0_cond2 i = 1#1) (hc4 : ¬ k0_cond4 i = 1#1) (hc5 : k0_cond5 i = 1#1)
    (W : Waits sig Unit) (K : PUnit → sProp 𝕄) :
    iprop(held c arg3 arg4 arg5 arg6 arg7 arg8 arg9 x3 x4 x5 x6 x7 x8 o xn tz
        ∗ (∃ d, owns (c : Thread nD τ) bufM fullShare d) ∗ ptAll c hM g ∗ semVal ((c : Thread nD τ), SemLoc.dma 13) 0 ∗ owes (c : Thread nD τ) 0 W
        ∗ (held c arg3 arg4 arg5 arg6 arg7 arg8 arg9 x3 x4 x5 x6 x7 x8
              (stepOut xn (prevTail i tz) x4 x5 x6 x7 x8 o)
              xn (putTail i tz (nextTail (hi xn) x5 x6))
            ∗ (∃ f s, ⌜bufM.view.read (Elt F) f = rowsAt g (k0_off2 i) (k0_off2_inb i hc2)⌝ ∗ copying c f s g ∗ ptOn c hM (Finset.univ \ s) g) ∗ (∃ W', owes (c : Thread nD τ) 0 W') -∗ K ⟨⟩))
      ⊢ wp frame (wpE (defs₀ (F := F)) Variants.none c none) Set.univ
          (cc0_short_conv i hM (Memref.isWhole_whole _) arg3 harg3 arg4 harg4 arg5 harg5 arg6 harg6 arg7 harg7
            arg8 harg8 arg9 harg9 xnM (Memref.isWhole_whole _) bufM (Memref.isWhole_whole _)
            cc0_scratch2 tailM (Memref.isWhole_whole _)) K := by
  simp only [cc0_short_conv_eq_skeleton]; unfold cc0_short_conv_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f13, %hf13, H13⟩⟩, ⟨%db, %fb, %hfb, Hb⟩, Hh, HS, HW, Hk⟩
  sl_exec
  sl_step
  iapply Hk
  isplitl [H3 H4 H5 H6 H7 H8 H9 H10 H13]
  · isplitl [H3]; · iexists f3; isplitr; · ipureintro; exact hf3
                    iexact H3
    isplitl [H4]; · iexists f4; isplitr; · ipureintro; exact hf4
                    iexact H4
    isplitl [H5]; · iexists f5; isplitr; · ipureintro; exact hf5
                    iexact H5
    isplitl [H6]; · iexists f6; isplitr; · ipureintro; exact hf6
                    iexact H6
    isplitl [H7]; · iexists f7; isplitr; · ipureintro; exact hf7
                    iexact H7
    isplitl [H8]; · iexists f8; isplitr; · ipureintro; exact hf8
                    iexact H8
    have e3 := View.readAt_full arg3.view f3 inb_S1x2048_S1x2048_0_0
    have e4 := View.readAt_full arg4.view f4 inb_S2048x512_S2048x512_0_0
    have e5 := View.readAt_full arg5.view f5 inb_S2048x512_S2048x512_0_0
    have e6 := View.readAt_full arg6.view f6 inb_S2048x512_S2048x512_0_0
    have e7 := View.readAt_full arg7.view f7 inb_S3x512_S3x512_0_0
    have e8 := View.readAt_full arg8.view f8 inb_S512x2048_S512x2048_0_0
    rw [hf3] at e3; rw [hf4] at e4; rw [hf5] at e5; rw [hf6] at e6; rw [hf7] at e7; rw [hf8] at e8
    subst hf9 hf10 hf13 e3 e4 e5 e6 e7 e8
    clear hf3 hf4 hf5 hf6 hf7 hf8
    isplitl [H9]
    · iexists _; isplitr; swap; · iexact H9
      ipureintro
      refine (read_two arg9.view f9 _ _ _ _ _).trans ?_
      have ep := readAt_prev tailM.view f13 i (k0_off6_eq i) (k0_off3_eq i) (k0_off6_inb i hc5) (fun hc => k0_off3_inb i hc)
      unfold stepOut
      rw [← ep]
      rfl
    isplitl [H10]
    · iexists _; isplitr; swap; · iexact H10
      ipureintro
      rfl
    · iexists _; isplitr; swap; · iexact H13
      ipureintro
      exact read_put tailM.view f13 i (k0_off6_eq i) (k0_off3_eq i) (k0_off6_inb i hc5) (fun hc => k0_off3_inb i hc) _
  isplitl [HS Hh]
  · iexists _, _; isplitr; swap
    · isplitl [HS]; · iexact HS
      iexact Hh
    ipureintro
    exact View.read_writes_whole _ _ _
  iexists _; iexact HW

/-- The first block of channels of the first tile: it copies the tile in and waits for it. -/
theorem run_first
    (hc1 : k0_cond1 i = 1#1) (hc2 : ¬ k0_cond2 i = 1#1) (hc4 : k0_cond4 i = 1#1) (hc5 : ¬ k0_cond5 i = 1#1)
    (W : Waits sig Unit) (K : PUnit → sProp 𝕄) :
    iprop(held c arg3 arg4 arg5 arg6 arg7 arg8 arg9 x3 x4 x5 x6 x7 x8 o xn tz
        ∗ (∃ d, owns (c : Thread nD τ) bufM fullShare d) ∗ ptAll c hM g ∗ semVal ((c : Thread nD τ), SemLoc.dma 13) 0 ∗ owes (c : Thread nD τ) 0 W
        ∗ (held c arg3 arg4 arg5 arg6 arg7 arg8 arg9 x3 x4 x5 x6 x7 x8
              (stepOut (normed (rowsAt g (k0_off1 i) (k0_off1_inb i hc1)) x3) (prevTail i tz) x4 x5 x6 x7 x8 (rowsAt g (k0_off1 i) (k0_off1_inb i hc1)))
              (normed (rowsAt g (k0_off1 i) (k0_off1_inb i hc1)) x3) (putTail i tz (nextTail (hi (normed (rowsAt g (k0_off1 i) (k0_off1_inb i hc1)) x3)) x5 x6))
            ∗ (∃ d, owns (c : Thread nD τ) bufM fullShare d) ∗ ptAll c hM g ∗ semVal ((c : Thread nD τ), SemLoc.dma 13) 0 ∗ (∃ W', owes (c : Thread nD τ) 0 W') -∗ K ⟨⟩))
      ⊢ wp frame (wpE (defs₀ (F := F)) Variants.none c none) Set.univ
          (cc0_short_conv i hM (Memref.isWhole_whole _) arg3 harg3 arg4 harg4 arg5 harg5 arg6 harg6 arg7 harg7
            arg8 harg8 arg9 harg9 xnM (Memref.isWhole_whole _) bufM (Memref.isWhole_whole _)
            cc0_scratch2 tailM (Memref.isWhole_whole _)) K := by
  simp only [cc0_short_conv_eq_skeleton]; unfold cc0_short_conv_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f13, %hf13, H13⟩⟩, ⟨%db, %fb, %hfb, Hb⟩, Hh, HS, HW, Hk⟩
  sl_exec
  sl_step
  iapply Hk
  isplitl [H3 H4 H5 H6 H7 H8 H9 H10 H13]
  · isplitl [H3]; · iexists f3; isplitr; · ipureintro; exact hf3
                    iexact H3
    isplitl [H4]; · iexists f4; isplitr; · ipureintro; exact hf4
                    iexact H4
    isplitl [H5]; · iexists f5; isplitr; · ipureintro; exact hf5
                    iexact H5
    isplitl [H6]; · iexists f6; isplitr; · ipureintro; exact hf6
                    iexact H6
    isplitl [H7]; · iexists f7; isplitr; · ipureintro; exact hf7
                    iexact H7
    isplitl [H8]; · iexists f8; isplitr; · ipureintro; exact hf8
                    iexact H8
    have e3 := View.readAt_full arg3.view f3 inb_S1x2048_S1x2048_0_0
    have e4 := View.readAt_full arg4.view f4 inb_S2048x512_S2048x512_0_0
    have e5 := View.readAt_full arg5.view f5 inb_S2048x512_S2048x512_0_0
    have e6 := View.readAt_full arg6.view f6 inb_S2048x512_S2048x512_0_0
    have e7 := View.readAt_full arg7.view f7 inb_S3x512_S3x512_0_0
    have e8 := View.readAt_full arg8.view f8 inb_S512x2048_S512x2048_0_0
    rw [hf3] at e3; rw [hf4] at e4; rw [hf5] at e5; rw [hf6] at e6; rw [hf7] at e7; rw [hf8] at e8
    subst hf9 hf10 hf13 e3 e4 e5 e6 e7 e8
    clear hf3 hf4 hf5 hf6 hf7 hf8
    isplitl [H9]
    · iexists _; isplitr; swap; · iexact H9
      ipureintro
      refine (read_two arg9.view f9 _ _ _ _ _).trans ?_
      have ep := readAt_prev tailM.view f13 i (k0_off5_eq i) (k0_off3_eq i) (k0_off5_inb i hc4) (fun hc => k0_off3_inb i hc)
      have el : run_first.sl.v33 c i g hc1 = lo (rowsAt g (k0_off1 i) (k0_off1_inb i hc1)) := readCov_whole_lo _ _ _
      have eh : run_first.sl.v53 c i g hc1 = hi (rowsAt g (k0_off1 i) (k0_off1_inb i hc1)) := readCov_whole_hi _ _ _
      have e136 : run_first.sl.v136 c i arg9 g hc1 = lo (rowsAt g (k0_off1 i) (k0_off1_inb i hc1)) := (readCov_lo arg9.view inb_S1024x2048_S512x2048_512_0 inb_S1024x2048_S512x2048_0_0 _ _ [] _).trans el
      have e143 : run_first.sl.v143 c i arg3 arg4 arg5 arg6 arg7 arg8 arg9 g hc1 hc4 f3 f4 f5 f6 f7 f8 f13 = hi (rowsAt g (k0_off1 i) (k0_off1_inb i hc1)) := (readCov_hi_under arg9.view inb_S1024x2048_S512x2048_512_0 inb_S1024x2048_S512x2048_0_0 _ _ _ _).trans eh
      unfold stepOut normed
      rw [← ep, lo_two, hi_two, e136, e143, ← el, ← eh]
      rfl
    isplitl [H10]
    · iexists _; isplitr; swap; · iexact H10
      ipureintro
      have el : run_first.sl.v33 c i g hc1 = lo (rowsAt g (k0_off1 i) (k0_off1_inb i hc1)) := readCov_whole_lo _ _ _
      have eh : run_first.sl.v53 c i g hc1 = hi (rowsAt g (k0_off1 i) (k0_off1_inb i hc1)) := readCov_whole_hi _ _ _
      refine (read_two xnM.view f10 _ _ _ _ _).trans ?_
      simp only [k0_pay5, k0_pay9, shapeCast_self]
      unfold normed
      rw [← el, ← eh]
      rfl
    · iexists _; isplitr; swap; · iexact H13
      ipureintro
      have el : run_first.sl.v33 c i g hc1 = lo (rowsAt g (k0_off1 i) (k0_off1_inb i hc1)) := readCov_whole_lo _ _ _
      have eh : run_first.sl.v53 c i g hc1 = hi (rowsAt g (k0_off1 i) (k0_off1_inb i hc1)) := readCov_whole_hi _ _ _
      refine (read_put tailM.view f13 i (k0_off5_eq i) (k0_off3_eq i) (k0_off5_inb i hc4) (fun hc => k0_off3_inb i hc) _).trans ?_
      unfold nextTail normed
      rw [hi_two, ← eh]
      rfl
  isplitl [Hb]
  · iexists _, _; isplitr; swap; · iexact Hb
    ipureintro; rfl
  isplitl [Hh]; · iexact Hh
  isplitl [HS]; · iexact HS
  iexists _; iexact HW

/-- The first block of channels of a later tile: it waits for the tile whose copy was started before. -/
theorem run_arrive (f : Buf (Elt F) (bufM.view.loc (c : Thread nD τ))) (s : Finset hM.view.ty.Idx) (h : Vec F S1024x2048 .f32) (hx : bufM.view.read (Elt F) f = h)
    (hc1 : ¬ k0_cond1 i = 1#1) (hc2 : ¬ k0_cond2 i = 1#1) (hc4 : k0_cond4 i = 1#1) (hc5 : ¬ k0_cond5 i = 1#1)
    (W : Waits sig Unit) (K : PUnit → sProp 𝕄) :
    iprop(held c arg3 arg4 arg5 arg6 arg7 arg8 arg9 x3 x4 x5 x6 x7 x8 o xn tz
        ∗ copying c f s g ∗ ptOn c hM (Finset.univ \ s) g ∗ owes (c : Thread nD τ) 0 W
        ∗ (held c arg3 arg4 arg5 arg6 arg7 arg8 arg9 x3 x4 x5 x6 x7 x8
              (stepOut (normed (h) x3) (prevTail i tz) x4 x5 x6 x7 x8 (h))
              (normed (h) x3) (putTail i tz (nextTail (hi (normed (h) x3)) x5 x6))
            ∗ (∃ d, owns (c : Thread nD τ) bufM fullShare d) ∗ ptAll c hM g ∗ semVal ((c : Thread nD τ), SemLoc.dma 13) 0 ∗ (∃ W', owes (c : Thread nD τ) 0 W') -∗ K ⟨⟩))
      ⊢ wp frame (wpE (defs₀ (F := F)) Variants.none c none) Set.univ
          (cc0_short_conv i hM (Memref.isWhole_whole _) arg3 harg3 arg4 harg4 arg5 harg5 arg6 harg6 arg7 harg7
            arg8 harg8 arg9 harg9 xnM (Memref.isWhole_whole _) bufM (Memref.isWhole_whole _)
            cc0_scratch2 tailM (Memref.isWhole_whole _)) K := by
  simp only [cc0_short_conv_eq_skeleton]; unfold cc0_short_conv_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f13, %hf13, H13⟩⟩, HF, Hh, HW, Hk⟩
  sl_exec
  sl_step
  iapply Hk
  isplitl [H3 H4 H5 H6 H7 H8 H9 H10 H13]
  · isplitl [H3]; · iexists f3; isplitr; · ipureintro; exact hf3
                    iexact H3
    isplitl [H4]; · iexists f4; isplitr; · ipureintro; exact hf4
                    iexact H4
    isplitl [H5]; · iexists f5; isplitr; · ipureintro; exact hf5
                    iexact H5
    isplitl [H6]; · iexists f6; isplitr; · ipureintro; exact hf6
                    iexact H6
    isplitl [H7]; · iexists f7; isplitr; · ipureintro; exact hf7
                    iexact H7
    isplitl [H8]; · iexists f8; isplitr; · ipureintro; exact hf8
                    iexact H8
    have e3 := View.readAt_full arg3.view f3 inb_S1x2048_S1x2048_0_0
    have e4 := View.readAt_full arg4.view f4 inb_S2048x512_S2048x512_0_0
    have e5 := View.readAt_full arg5.view f5 inb_S2048x512_S2048x512_0_0
    have e6 := View.readAt_full arg6.view f6 inb_S2048x512_S2048x512_0_0
    have e7 := View.readAt_full arg7.view f7 inb_S3x512_S3x512_0_0
    have e8 := View.readAt_full arg8.view f8 inb_S512x2048_S512x2048_0_0
    rw [hf3] at e3; rw [hf4] at e4; rw [hf5] at e5; rw [hf6] at e6; rw [hf7] at e7; rw [hf8] at e8
    subst hx; subst hf9 hf10 hf13 e3 e4 e5 e6 e7 e8
    clear hf3 hf4 hf5 hf6 hf7 hf8
    isplitl [H9]
    · iexists _; isplitr; swap; · iexact H9
      ipureintro
      refine (read_two arg9.view f9 _ _ _ _ _).trans ?_
      have ep := readAt_prev tailM.view f13 i (k0_off5_eq i) (k0_off3_eq i) (k0_off5_inb i hc4) (fun hc => k0_off3_inb i hc)
      have e136 : run_arrive.sl.v136 c arg9 f = lo (bufM.view.read (Elt F) f) := (readCov_lo arg9.view inb_S1024x2048_S512x2048_512_0 inb_S1024x2048_S512x2048_0_0 _ _ [] _)
      have e143 : run_arrive.sl.v143 c i arg3 arg4 arg5 arg6 arg7 arg8 arg9 f hc4 f3 f4 f5 f6 f7 f8 f13 = hi (bufM.view.read (Elt F) f) := (readCov_hi_under arg9.view inb_S1024x2048_S512x2048_512_0 inb_S1024x2048_S512x2048_0_0 _ _ _ _)
      unfold stepOut normed
      rw [← ep, lo_two, hi_two, e136, e143]
      rfl
    isplitl [H10]
    · iexists _; isplitr; swap; · iexact H10
      ipureintro
      refine (read_two xnM.view f10 _ _ _ _ _).trans ?_
      simp only [k0_pay5, k0_pay9, shapeCast_self]
      unfold normed
      rfl
    · iexists _; isplitr; swap; · iexact H13
      ipureintro
      refine (read_put tailM.view f13 i (k0_off5_eq i) (k0_off3_eq i) (k0_off5_inb i hc4) (fun hc => k0_off3_inb i hc) _).trans ?_
      unfold nextTail normed
      rw [hi_two]
      rfl
  isplitl [HF_dst]
  · iexists _, _; isplitr; swap; · iexact HF_dst
    ipureintro; rfl
  isplitl [Hh]; · iexact Hh
  isplitl [HF]; · iexact HF
  iexists _; iexact HW

end Runs

end Cert.Kernel2Ideal.Hand
-- ==== Proof.ScData.lean ====
module

public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Kernel2Ideal.Frame
public import proofs.«01_k».proof.Proof.ScRun
public import Idealize.ShloMosaic.Lib.Pipeline.FrameBody
public import Idealize.ShloMosaic.Lib.Ring
public import Idealize.ShloMosaic.Lib.Pipeline.Value
public import Idealize.ShloMosaic.Lib.Tactic
public import Idealize.ShloMosaic.Lib.WordCmp

/-! What the short convolution holds at each grid point: the tiles of rows, the tails kept between tiles, and the running result. -/

@[expose] public section

set_option maxRecDepth 16384

noncomputable section

namespace Cert.Kernel2Ideal.Hand

open Cert.Kernel2Ideal Cert.Kernel2Ideal.Gen Cert.Halves
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

/-! ## The grid -/

/-- Point `n` of the grid. -/
def pt (n : ℕ) : Fin cfg0.N := ⟨n % 32, Nat.mod_lt _ (by decide)⟩
theorem pt_val (t : Fin cfg0.N) : pt t.val = t := Fin.ext (Nat.mod_eq_of_lt t.isLt)

theorem row_eq : ∀ t : Fin grid0.N, (grid0.coords t 0).val = t.val / 4 := by decide +kernel
theorem col_eq : ∀ t : Fin grid0.N, (grid0.coords t 1).val = t.val % 4 := by decide +kernel
theorem cond1_iff : ∀ t : Fin grid0.N, k0_cond1 (grid0.coords t) = 1#1 ↔ t.val = 0 := by decide +kernel
theorem cond2_iff : ∀ t : Fin grid0.N, k0_cond2 (grid0.coords t) = 1#1 ↔ t.val % 4 = 1 ∧ t.val / 4 < 7 := by decide +kernel
theorem cond3_iff : ∀ t : Fin grid0.N, k0_cond3 (grid0.coords t) = 1#1 ↔ t.val / 4 % 4 = 0 := by decide +kernel
theorem cond4_iff : ∀ t : Fin grid0.N, k0_cond4 (grid0.coords t) = 1#1 ↔ t.val % 4 = 0 := by decide +kernel
theorem cond5_iff : ∀ t : Fin grid0.N, k0_cond5 (grid0.coords t) = 1#1 ↔ t.val % 4 ≠ 0 := by decide +kernel

/-! ## What is where -/

theorem tileInb (k : ℕ) : ∀ a, (![1024 * (k % 8), 0] : Fin 2 → ℕ) a + S1024x2048.size a ≤ S8192x2048.size a := fun a => by
  have := Nat.mod_lt k (show 0 < 8 by decide)
  match a with
  | 0 => show 1024 * (k % 8) + 1024 ≤ 8192; omega
  | 1 => show 0 + 2048 ≤ 2048; omega

/-- Tile `k` of the rows. -/
def tileAt (k : ℕ) : Vec F S1024x2048 .f32 := rowsAt (V m c main_v0) ![1024 * (k % 8), 0] (tileInb k)
/-- The normalising weights. -/
def nwAt (n : ℕ) : Vec F S1x2048 .f32 := iblk m c 0 (pt n)
/-- The blocks of the three weight matrices into the hidden channels, of the taps, and of the weights back. -/
def wbAt (n : ℕ) : Vec F S2048x512 .bf16 := iblk m c 1 (pt n)
def wcAt (n : ℕ) : Vec F S2048x512 .bf16 := iblk m c 2 (pt n)
def whAt (n : ℕ) : Vec F S2048x512 .bf16 := iblk m c 3 (pt n)
def cwAt (n : ℕ) : Vec F S3x512 .f32 := iblk m c 4 (pt n)
def wdAt (n : ℕ) : Vec F S512x2048 .bf16 := iblk m c 5 (pt n)

/-- Tile `k`, normalised. -/
def xnAt (k : ℕ) : Vec F S1024x2048 .bf16 := normed (tileAt m c k) (nwAt m c (4 * k))
/-- The tail point `n` leaves. -/
def tailAt (n : ℕ) : Vec F S1x8x512 .f32 := nextTail (hi (xnAt m c (n / 4))) (wcAt m c n) (whAt m c n)
/-- The tail point `n` finds. -/
def prevAt (n : ℕ) : Vec F S1x8x512 .f32 := if n / 4 % 4 = 0 then k0_pay1 else tailAt m c (n - 4)
/-- Point `n`'s step from `o`. -/
def stepAt (n : ℕ) (o : Vec F S1024x2048 .f32) : Vec F S1024x2048 .f32 :=
  stepOut (xnAt m c (n / 4)) (prevAt m c n) (wbAt m c n) (wcAt m c n) (whAt m c n) (cwAt m c n) (wdAt m c n) o
/-- The tile of the result after point `n`. -/
def outAt : ℕ → Vec F S1024x2048 .f32
  | 0 => stepAt m c 0 (tileAt m c 0)
  | n + 1 => stepAt m c (n + 1) (if (n + 1) % 4 = 0 then tileAt m c ((n + 1) / 4) else outAt n)

theorem outAt_first (n : ℕ) (h : n % 4 = 0) : outAt m c n = stepAt m c n (tileAt m c (n / 4)) := by
  cases n with
  | zero => rfl
  | succ n => show stepAt m c (n + 1) (if (n + 1) % 4 = 0 then _ else _) = _; rw [if_pos h]
theorem outAt_later (n : ℕ) (h : n % 4 ≠ 0) : outAt m c n = stepAt m c n (outAt m c (n - 1)) := by
  cases n with
  | zero => exact absurd rfl h
  | succ n => show stepAt m c (n + 1) (if (n + 1) % 4 = 0 then _ else _) = _; rw [if_neg h]; rfl

theorem slotInb (n : ℕ) : ∀ a, (![n % 4, 0, 0] : Fin 3 → ℕ) a + S1x8x512.size a ≤ S4x8x512.size a := fun a => by
  have h := Nat.mod_lt n (show 0 < 4 by decide)
  match a with
  | 0 => show n % 4 + 1 ≤ 4; omega
  | 1 => show 0 + 8 ≤ 8; omega
  | 2 => show 0 + 512 ≤ 512; omega

theorem window_congr (d : Vec F S4x8x512 .f32) {o o' : Fin 3 → ℕ} (e : o = o') (inb : ∀ a, o a + S1x8x512.size a ≤ S4x8x512.size a)
    (inb' : ∀ a, o' a + S1x8x512.size a ≤ S4x8x512.size a) : VecWindow.window d o S1x8x512.size inb = VecWindow.window d o' S1x8x512.size inb' := by
  subst e; rfl

/-- The slots before point `n`: each of the last four points' tails in its own. -/
def TailsOk (n : ℕ) (d : Vec F S4x8x512 .f32) : Prop :=
  ∀ k, k < n → n ≤ k + 4 → VecWindow.window d ![k % 4, 0, 0] S1x8x512.size (slotInb k) = tailAt m c k

theorem tailsOk_step (t : Fin grid0.N) (d : Vec F S4x8x512 .f32) (h : TailsOk m c t.val d) :
    TailsOk m c (t.val + 1) (putTail (grid0.coords t) d (tailAt m c t.val)) := fun k hk hk' => by
  have e : (![(grid0.coords t 1).val, 0, 0] : Fin 3 → ℕ) = ![t.val % 4, 0, 0] := by rw [col_eq]
  unfold putTail
  rw [e]
  by_cases hn : k = t.val
  · subst hn; exact VecWindow.window_put_same _ _ _ _ _
  · refine (VecWindow.window_put_of_disjoint _ _ _ _ _ (slotInb k) _ 0 ?_).trans (h k (by omega) (by omega))
    show k % 4 + 1 ≤ t.val % 4 ∨ t.val % 4 + 1 ≤ k % 4
    omega

theorem prevTail_eq (t : Fin grid0.N) (d : Vec F S4x8x512 .f32) (h : TailsOk m c t.val d) : prevTail (grid0.coords t) d = prevAt m c t.val := by
  have e : (![(grid0.coords t 1).val, 0, 0] : Fin 3 → ℕ) = ![(t.val - 4) % 4, 0, 0] ∨ t.val < 4 := by
    rw [col_eq]
    rcases Nat.lt_or_ge t.val 4 with h4 | h4
    · exact .inr h4
    · left; congr 1; omega
  unfold prevTail prevAt
  by_cases h3 : t.val / 4 % 4 = 0
  · rw [if_pos ((cond3_iff t).mpr h3), if_pos h3]
  · rw [if_neg (fun hc => h3 ((cond3_iff t).mp hc)), if_neg h3]
    rcases e with e | e
    · exact (window_congr d e _ _).trans (h (t.val - 4) (by omega) (by omega))
    · omega

/-! ## What holds before each point -/

/-- The copy of the next tile: idle, or under way. -/
def copySt (n : ℕ) : sProp 𝕄 :=
  if n ≠ 0 ∧ n % 4 ≠ 1 ∧ (n + 2) / 4 < 8 then
    iprop(∃ f s, ⌜bufM.view.read (Elt F) f = tileAt m c ((n + 2) / 4)⌝ ∗ copying c f s (V m c main_v0) ∗ ptOn c hM (Finset.univ \ s) (V m c main_v0))
  else iprop((∃ d, owns (c : Thread nD τ) bufM fullShare d) ∗ ptAll c hM (V m c main_v0) ∗ semVal ((c : Thread nD τ), SemLoc.dma 13) 0)

theorem copySt_idle (n : ℕ) (h : ¬ (n ≠ 0 ∧ n % 4 ≠ 1 ∧ (n + 2) / 4 < 8)) : copySt m c n
    = iprop((∃ d, owns (c : Thread nD τ) bufM fullShare d) ∗ ptAll c hM (V m c main_v0) ∗ semVal ((c : Thread nD τ), SemLoc.dma 13) 0) := if_neg h
theorem copySt_busy (n : ℕ) (h : n ≠ 0 ∧ n % 4 ≠ 1 ∧ (n + 2) / 4 < 8) : copySt m c n
    = iprop(∃ f s, ⌜bufM.view.read (Elt F) f = tileAt m c ((n + 2) / 4)⌝ ∗ copying c f s (V m c main_v0) ∗ ptOn c hM (Finset.univ \ s) (V m c main_v0)) := if_pos h
/-- A point that neither starts nor awaits a copy keeps its state. -/
theorem copySt_keep (n : ℕ) (hn : n < 32) (h : n % 4 ≠ 0) (h' : ¬ (n % 4 = 1 ∧ n / 4 < 7)) : copySt m c (n + 1) = copySt m c n := by
  by_cases hb : n ≠ 0 ∧ n % 4 ≠ 1 ∧ (n + 2) / 4 < 8
  · have e : (n + 1 + 2) / 4 = (n + 2) / 4 := by omega
    rw [copySt_busy m c n hb, copySt_busy m c (n + 1) (by omega), e]
  · rw [copySt_idle m c n hb, copySt_idle m c (n + 1) (by omega)]

/-- Before point `n`: the normalised tile, the tails, the generator register, the copy. -/
def Phi (n : ℕ) : sProp 𝕄 :=
  iprop((∃ d, ⌜n % 4 ≠ 0 → d = xnAt m c (n / 4)⌝ ∗ owns (c : Thread nD τ) xnM fullShare d)
    ∗ (∃ d, ⌜TailsOk m c n d⌝ ∗ owns (c : Thread nD τ) tailM fullShare d)
    ∗ (∃ r, prngReg c r) ∗ copySt m c n)

/-- The proof data of the one pipeline. -/
def dats (_ : Fin 1) (c : Dev nD) : Pipeline.Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t.val
  Φ t := Phi m c t.val
  q w := Pipeline.shareOf spec0 w
  owed _ := 0

theorem A_eq (w : Fin cfg0.W) : (dats m 0 c).A w = V m c (Pipeline.arrRef spec0 w) := by dsimp only [dats]
theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = iblk m c 5 t := by dsimp only [dats]
theorem after0_6 (t : Fin cfg0.N) : (dats m 0 c).after 6 t = outAt m c t.val := by dsimp only [dats]

theorem before0_0 (t : Fin cfg0.N) (d) : (dats m 0 c).before 0 t d = iblk m c 0 t :=
  ((dats m 0 c).before_in_eq_fetched 0 rfl (fun _ => rfl) (fun _ _ _ => rfl) (fun t => by rw [after0_0]; unfold Pipeline.Dat.blockOf iblk; rw [A_eq]; try rfl) t d).trans (by unfold Pipeline.Dat.fetched Pipeline.Dat.blockOf iblk; rw [A_eq]; try rfl)
theorem before0_1 (t : Fin cfg0.N) (d) : (dats m 0 c).before 1 t d = iblk m c 1 t :=
  ((dats m 0 c).before_in_eq_fetched 1 rfl (fun _ => rfl) (fun _ _ _ => rfl) (fun t => by rw [after0_1]; unfold Pipeline.Dat.blockOf iblk; rw [A_eq]; try rfl) t d).trans (by unfold Pipeline.Dat.fetched Pipeline.Dat.blockOf iblk; rw [A_eq]; try rfl)
theorem before0_2 (t : Fin cfg0.N) (d) : (dats m 0 c).before 2 t d = iblk m c 2 t :=
  ((dats m 0 c).before_in_eq_fetched 2 rfl (fun _ => rfl) (fun _ _ _ => rfl) (fun t => by rw [after0_2]; unfold Pipeline.Dat.blockOf iblk; rw [A_eq]; try rfl) t d).trans (by unfold Pipeline.Dat.fetched Pipeline.Dat.blockOf iblk; rw [A_eq]; try rfl)
theorem before0_3 (t : Fin cfg0.N) (d) : (dats m 0 c).before 3 t d = iblk m c 3 t :=
  ((dats m 0 c).before_in_eq_fetched 3 rfl (fun _ => rfl) (fun _ _ _ => rfl) (fun t => by rw [after0_3]; unfold Pipeline.Dat.blockOf iblk; rw [A_eq]; try rfl) t d).trans (by unfold Pipeline.Dat.fetched Pipeline.Dat.blockOf iblk; rw [A_eq]; try rfl)
theorem before0_4 (t : Fin cfg0.N) (d) : (dats m 0 c).before 4 t d = iblk m c 4 t :=
  ((dats m 0 c).before_in_eq_fetched 4 rfl (fun _ => rfl) (fun _ _ _ => rfl) (fun t => by rw [after0_4]; unfold Pipeline.Dat.blockOf iblk; rw [A_eq]; try rfl) t d).trans (by unfold Pipeline.Dat.fetched Pipeline.Dat.blockOf iblk; rw [A_eq]; try rfl)
theorem before0_5 (t : Fin cfg0.N) (d) : (dats m 0 c).before 5 t d = iblk m c 5 t :=
  ((dats m 0 c).before_in_eq_fetched 5 rfl (fun _ => rfl) (fun _ _ _ => rfl) (fun t => by rw [after0_5]; unfold Pipeline.Dat.blockOf iblk; rw [A_eq]; try rfl) t d).trans (by unfold Pipeline.Dat.fetched Pipeline.Dat.blockOf iblk; rw [A_eq]; try rfl)

end Cert.Kernel2Ideal.Hand
-- ==== Proof.ScFrame.lean ====
module

public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Kernel2Ideal.Frame
public import proofs.«01_k».proof.Proof.ScData
public import Idealize.ShloMosaic.Lib.Pipeline.Frame
public import Idealize.ShloMosaic.Lib.Pipeline.FrameBody
public import Idealize.ShloMosaic.Lib.Ring
public import Idealize.ShloMosaic.Lib.Pipeline.Value
public import Idealize.ShloMosaic.Lib.Tactic
public import Idealize.ShloMosaic.Lib.WordCmp

/-! The short convolution at every grid point, the run of the whole program, and what it leaves unchanged. -/

@[expose] public section

set_option maxRecDepth 16384

noncomputable section

namespace Cert.Kernel2Ideal.Hand

open Cert.Kernel2Ideal Cert.Kernel2Ideal.Gen Cert.Halves
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

/-! ## The equations of a point -/

theorem step_eq (t : Fin cfg0.N) (d : Vec F S4x8x512 .f32) (hd : TailsOk m c t.val d) (o : Vec F S1024x2048 .f32) :
    stepOut (xnAt m c (t.val / 4)) (prevTail (grid0.coords t) d) (iblk m c 1 t) (iblk m c 2 t) (iblk m c 3 t) (iblk m c 4 t) (iblk m c 5 t) o
      = stepAt m c t.val o := by
  rw [prevTail_eq m c t d hd]
  unfold stepAt wbAt wcAt whAt cwAt wdAt
  rw [pt_val]

theorem tail_eq (t : Fin cfg0.N) (d : Vec F S4x8x512 .f32) (hd : TailsOk m c t.val d) :
    TailsOk m c (t.val + 1) (putTail (grid0.coords t) d (nextTail (hi (xnAt m c (t.val / 4))) (iblk m c 2 t) (iblk m c 3 t))) := by
  have := tailsOk_step m c t d hd
  unfold tailAt wcAt whAt at this
  rwa [pt_val] at this

theorem xn_eq (t : Fin cfg0.N) (h : t.val % 4 = 0) : normed (tileAt m c (t.val / 4)) (iblk m c 0 t) = xnAt m c (t.val / 4) := by
  unfold xnAt nwAt
  rw [show 4 * (t.val / 4) = t.val by omega, pt_val]

theorem rowsAt_eq (k : ℕ) {o : Fin 2 → ℕ} (inb) (e : o = ![1024 * (k % 8), 0]) : rowsAt (V m c main_v0) o inb = tileAt m c k := by
  subst e; rfl

theorem off1_tile (t : Fin cfg0.N) (h : t.val = 0) (hc) : rowsAt (V m c main_v0) (k0_off1 (grid0.coords t)) (k0_off1_inb (grid0.coords t) hc) = tileAt m c (t.val / 4) :=
  rowsAt_eq m c _ _ (by rw [k0_off1_eq, row_eq, h])

theorem off2_tile (t : Fin cfg0.N) (h : t.val % 4 = 1 ∧ t.val / 4 < 7) (hc) :
    rowsAt (V m c main_v0) (k0_off2 (grid0.coords t)) (k0_off2_inb (grid0.coords t) hc) = tileAt m c ((t.val + 1 + 2) / 4) :=
  rowsAt_eq m c _ _ (by rw [k0_off2_eq, row_eq, show (t.val + 1 + 2) / 4 % 8 = t.val / 4 + 1 by omega, Nat.mul_add])

theorem idle6 : ∀ i : cfg0.grid.Coords, cfg0.idle 6 i = false := by decide +kernel

theorem before0_6 (t : Fin cfg0.N) (h : t.val % 4 ≠ 0) (d) : (dats m 0 c).before 6 t d = outAt m c (t.val - 1) := by
  refine ((dats m 0 c).before_out_kept 6 rfl t (by omega) ?_ idle6 (fun _ _ => rfl) d).trans (after0_6 m c _)
  rw [Bool.eq_false_iff]
  intro hf
  have := (flush0_6 _).mp hf
  simp only at this
  omega

/-! ## The body -/

abbrev bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))
abbrev bodyPost (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t))

/-- The pipeline's buffers, the tile and the tails, and how a point ends. -/
theorem finish (t : Fin cfg0.N) (o : Vec F S1024x2048 .f32) (xn : Vec F S1024x2048 .bf16) (tz : Vec F S4x8x512 .f32)
    (ho : o = outAt m c t.val) (hx : xn = xnAt m c (t.val / 4)) (ht : TailsOk m c (t.val + 1) tz) :
    iprop(held c (st0_0 t) (st0_1 t) (st0_2 t) (st0_3 t) (st0_4 t) (st0_5 t) (st0_6 t) (iblk m c 0 t) (iblk m c 1 t) (iblk m c 2 t) (iblk m c 3 t) (iblk m c 4 t) (iblk m c 5 t) o xn tz ∗ (∃ r, prngReg c r) ∗ copySt m c (t.val + 1) ∗ (∃ W', owes (c : Thread nD τ) 0 W')) ⊢ bodyPost m c t := by
  unfold bodyPost Dat.owesAt Pipeline.owesWithin
  rw [show (dats m 0 c).Φ t.succ = Phi m c (t.val + 1) from rfl, show (dats m 0 c).owed t.succ = 0 from rfl]
  simp only [after0_0, after0_1, after0_2, after0_3, after0_4, after0_5, after0_6]
  unfold Phi held
  iintro ⟨⟨H0, H1, H2, H3, H4, H5, H6, Hx, Ht⟩, Hr, Hc, ⟨%W', HW⟩⟩
  subst ho
  isplitl [Hx Ht Hr Hc]
  · isplitl [Hx]
    · iexists xn; isplitr
      · ipureintro; intro h; rw [hx, show (t.val + 1) / 4 = t.val / 4 by omega]
      iexact Hx
    isplitl [Ht]
    · iexists tz; isplitr
      · ipureintro; exact ht
      iexact Ht
    isplitl [Hr]; · iexact Hr
    iexact Hc
  isplitl [HW]
  · iexists W'; isplitr
    · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iexact H6

/-- How a tile's first point ends. -/
theorem finish_tile (t : Fin cfg0.N) (h4 : t.val % 4 = 0) (h : Vec F S1024x2048 .f32) (hh : h = tileAt m c (t.val / 4))
    (tz : Vec F S4x8x512 .f32) (ht : TailsOk m c t.val tz) :
    iprop(held c (st0_0 t) (st0_1 t) (st0_2 t) (st0_3 t) (st0_4 t) (st0_5 t) (st0_6 t) (iblk m c 0 t) (iblk m c 1 t) (iblk m c 2 t) (iblk m c 3 t) (iblk m c 4 t) (iblk m c 5 t)
        (stepOut (normed h (iblk m c 0 t)) (prevTail (grid0.coords t) tz) (iblk m c 1 t) (iblk m c 2 t) (iblk m c 3 t) (iblk m c 4 t) (iblk m c 5 t) h)
        (normed h (iblk m c 0 t)) (putTail (grid0.coords t) tz (nextTail (hi (normed h (iblk m c 0 t))) (iblk m c 2 t) (iblk m c 3 t)))
      ∗ (∃ r, prngReg c r) ∗ copySt m c (t.val + 1) ∗ (∃ W', owes (c : Thread nD τ) 0 W')) ⊢ bodyPost m c t := by
  subst hh
  refine finish m c t _ _ _ ?_ (xn_eq m c t h4) ?_
  · rw [xn_eq m c t h4]; exact (step_eq m c t tz ht _).trans (outAt_first m c t.val h4).symm
  · rw [xn_eq m c t h4]; exact tail_eq m c t tz ht

/-- A point in the middle of a tile, the copy left as it is. -/
theorem body_later (t : Fin cfg0.N) (h : t.val % 4 ≠ 0) (h2 : ¬ (t.val % 4 = 1 ∧ t.val / 4 < 7)) :
    bodyPre m c t ⊢ wp frame (wpE (defs₀ (F := F)) Variants.none c none) Set.univ (bodyAt0 t) (fun _ => bodyPost m c t) := by
  unfold bodyPre Dat.owesAt Pipeline.owesWithin
  rw [show (dats m 0 c).Φ t.castSucc = Phi m c t.val from rfl, show (dats m 0 c).owed t.castSucc = 0 from rfl]
  simp only [before0_0, before0_1, before0_2, before0_3, before0_4, before0_5]
  unfold Phi
  iintro ⟨⟨⟨%xd, %hx, Hx⟩, ⟨%td, %ht, Ht⟩, Hr, Hc⟩, ⟨%W, -, HW⟩, ⟨%d0, H0⟩, ⟨%d1, H1⟩, ⟨%d2, H2⟩, ⟨%d3, H3⟩, ⟨%d4, H4⟩, ⟨%d5, H5⟩, ⟨%d6, H6⟩⟩
  obtain rfl := hx h
  iapply (run_later c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (iblk m c 0 t) (iblk m c 1 t) (iblk m c 2 t) (iblk m c 3 t) (iblk m c 4 t) (iblk m c 5 t) ((dats m 0 c).before 6 t d6) (xnAt m c (t.val / 4)) td
    (fun e => h (by rw [(cond1_iff t).mp e])) (fun e => h2 ((cond2_iff t).mp e)) (fun e => h ((cond4_iff t).mp e)) ((cond5_iff t).mpr h) W _)
  isplitl [H0 H1 H2 H3 H4 H5 H6 Hx Ht]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hx]; · iexact Hx
    iexact Ht
  isplitl [HW]; · iexact HW
  iintro ⟨HH, HW⟩
  iapply (finish m c t _ _ _ ((step_eq m c t td ht _).trans ((congrArg _ (before0_6 m c t h d6)).trans (outAt_later m c t.val h).symm)) rfl (tail_eq m c t td ht))
  isplitl [HH]; · iexact HH
  isplitl [Hr]; · iexact Hr
  isplitl [Hc]; · rw [copySt_keep m c t.val t.isLt h h2]; iexact Hc
  iexact HW

/-- The second point of a tile that has a next one: its copy is started. -/
theorem body_issue (t : Fin cfg0.N) (h2 : t.val % 4 = 1 ∧ t.val / 4 < 7) :
    bodyPre m c t ⊢ wp frame (wpE (defs₀ (F := F)) Variants.none c none) Set.univ (bodyAt0 t) (fun _ => bodyPost m c t) := by
  unfold bodyPre Dat.owesAt Pipeline.owesWithin
  rw [show (dats m 0 c).Φ t.castSucc = Phi m c t.val from rfl, show (dats m 0 c).owed t.castSucc = 0 from rfl]
  simp only [before0_0, before0_1, before0_2, before0_3, before0_4, before0_5]
  unfold Phi
  rw [copySt_idle m c t.val (by omega)]
  iintro ⟨⟨⟨%xd, %hx, Hx⟩, ⟨%td, %ht, Ht⟩, Hr, Hc⟩, ⟨%W, -, HW⟩, ⟨%d0, H0⟩, ⟨%d1, H1⟩, ⟨%d2, H2⟩, ⟨%d3, H3⟩, ⟨%d4, H4⟩, ⟨%d5, H5⟩, ⟨%d6, H6⟩⟩
  have h : t.val % 4 ≠ 0 := by omega
  obtain rfl := hx h
  icases Hc with ⟨Hb, Hh, HS⟩
  iapply (run_issue c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (iblk m c 0 t) (iblk m c 1 t) (iblk m c 2 t) (iblk m c 3 t) (iblk m c 4 t) (iblk m c 5 t) ((dats m 0 c).before 6 t d6) (xnAt m c (t.val / 4)) td (V m c main_v0)
    (fun e => h (by rw [(cond1_iff t).mp e])) ((cond2_iff t).mpr h2) (fun e => h ((cond4_iff t).mp e)) ((cond5_iff t).mpr h) W _)
  isplitl [H0 H1 H2 H3 H4 H5 H6 Hx Ht]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hx]; · iexact Hx
    iexact Ht
  isplitl [Hb]; · iexact Hb
  isplitl [Hh]; · iexact Hh
  isplitl [HS]; · iexact HS
  isplitl [HW]; · iexact HW
  iintro ⟨HH, ⟨%f, %s, %hf, HF, Hh⟩, HW⟩
  iapply (finish m c t _ _ _ ((step_eq m c t td ht _).trans ((congrArg _ (before0_6 m c t h d6)).trans (outAt_later m c t.val h).symm)) rfl (tail_eq m c t td ht))
  isplitl [HH]; · iexact HH
  isplitl [Hr]; · iexact Hr
  isplitl [HF Hh]
  · rw [copySt_busy m c (t.val + 1) (by omega)]
    iexists f; iexists s
    isplitr
    · ipureintro; exact hf.trans (off2_tile m c t h2 ((cond2_iff t).mpr h2))
    isplitl [HF]; · iexact HF
    iexact Hh
  iexact HW

/-- The first point of all: its tile is copied and awaited. -/
theorem body_first (t : Fin cfg0.N) (h : t.val = 0) :
    bodyPre m c t ⊢ wp frame (wpE (defs₀ (F := F)) Variants.none c none) Set.univ (bodyAt0 t) (fun _ => bodyPost m c t) := by
  unfold bodyPre Dat.owesAt Pipeline.owesWithin
  rw [show (dats m 0 c).Φ t.castSucc = Phi m c t.val from rfl, show (dats m 0 c).owed t.castSucc = 0 from rfl]
  simp only [before0_0, before0_1, before0_2, before0_3, before0_4, before0_5]
  unfold Phi
  rw [copySt_idle m c t.val (by omega)]
  iintro ⟨⟨⟨%xd, %hx, Hx⟩, ⟨%td, %ht, Ht⟩, Hr, Hc⟩, ⟨%W, -, HW⟩, ⟨%d0, H0⟩, ⟨%d1, H1⟩, ⟨%d2, H2⟩, ⟨%d3, H3⟩, ⟨%d4, H4⟩, ⟨%d5, H5⟩, ⟨%d6, H6⟩⟩
  icases Hc with ⟨Hb, Hh, HS⟩
  iapply (run_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (iblk m c 0 t) (iblk m c 1 t) (iblk m c 2 t) (iblk m c 3 t) (iblk m c 4 t) (iblk m c 5 t) ((dats m 0 c).before 6 t d6) xd td (V m c main_v0)
    ((cond1_iff t).mpr h) (fun e => by have := (cond2_iff t).mp e; omega) ((cond4_iff t).mpr (by omega)) (fun e => (cond5_iff t).mp e (by omega)) W _)
  isplitl [H0 H1 H2 H3 H4 H5 H6 Hx Ht]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hx]; · iexact Hx
    iexact Ht
  isplitl [Hb]; · iexact Hb
  isplitl [Hh]; · iexact Hh
  isplitl [HS]; · iexact HS
  isplitl [HW]; · iexact HW
  iintro ⟨HH, Hb, Hh, HS, HW⟩
  iapply (finish_tile m c t (by omega) (rowsAt (V m c main_v0) (k0_off1 (grid0.coords t)) (k0_off1_inb (grid0.coords t) ((cond1_iff t).mpr h))) (off1_tile m c t h ((cond1_iff t).mpr h)) td ht)
  isplitl [HH]; · iexact HH
  isplitl [Hr]; · iexact Hr
  isplitl [Hb Hh HS]
  · rw [copySt_idle m c (t.val + 1) (by omega)]
    isplitl [Hb]; · iexact Hb
    isplitl [Hh]; · iexact Hh
    iexact HS
  iexact HW

/-- The first point of a later tile: the copy is awaited. -/
theorem body_arrive (t : Fin cfg0.N) (h : t.val % 4 = 0) (h0 : t.val ≠ 0) :
    bodyPre m c t ⊢ wp frame (wpE (defs₀ (F := F)) Variants.none c none) Set.univ (bodyAt0 t) (fun _ => bodyPost m c t) := by
  unfold bodyPre Dat.owesAt Pipeline.owesWithin
  rw [show (dats m 0 c).Φ t.castSucc = Phi m c t.val from rfl, show (dats m 0 c).owed t.castSucc = 0 from rfl]
  simp only [before0_0, before0_1, before0_2, before0_3, before0_4, before0_5]
  unfold Phi
  have hlt : t.val < 32 := t.isLt
  rw [copySt_busy m c t.val (by omega)]
  iintro ⟨⟨⟨%xd, %hx, Hx⟩, ⟨%td, %ht, Ht⟩, Hr, Hc⟩, ⟨%W, -, HW⟩, ⟨%d0, H0⟩, ⟨%d1, H1⟩, ⟨%d2, H2⟩, ⟨%d3, H3⟩, ⟨%d4, H4⟩, ⟨%d5, H5⟩, ⟨%d6, H6⟩⟩
  icases Hc with ⟨%f, %s, %hf, HF, Hh⟩
  rw [show (t.val + 2) / 4 = t.val / 4 by omega] at hf
  iapply (run_arrive c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (iblk m c 0 t) (iblk m c 1 t) (iblk m c 2 t) (iblk m c 3 t) (iblk m c 4 t) (iblk m c 5 t) ((dats m 0 c).before 6 t d6) xd td (V m c main_v0) f s (tileAt m c (t.val / 4)) hf
    (fun e => h0 ((cond1_iff t).mp e)) (fun e => by have := (cond2_iff t).mp e; omega) ((cond4_iff t).mpr h) (fun e => (cond5_iff t).mp e h) W _)
  isplitl [H0 H1 H2 H3 H4 H5 H6 Hx Ht]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hx]; · iexact Hx
    iexact Ht
  isplitl [HF]; · iexact HF
  isplitl [Hh]; · iexact Hh
  isplitl [HW]; · iexact HW
  iintro ⟨HH, Hb, Hh, HS, HW⟩
  iapply (finish_tile m c t h (tileAt m c (t.val / 4)) rfl td ht)
  isplitl [HH]; · iexact HH
  isplitl [Hr]; · iexact Hr
  isplitl [Hb Hh HS]
  · rw [copySt_idle m c (t.val + 1) (by omega)]
    isplitl [Hb]; · iexact Hb
    isplitl [Hh]; · iexact Hh
    iexact HS
  iexact HW

theorem sound_body (t : Fin cfg0.N) :
    bodyPre m c t ⊢ wp frame (wpE (defs₀ (F := F)) Variants.none c none) Set.univ (bodyAt0 t) (fun _ => bodyPost m c t) := by
  by_cases h : t.val % 4 = 0
  · by_cases h0 : t.val = 0
    · exact body_first m c t h0
    · exact body_arrive m c t h h0
  · by_cases h2 : t.val % 4 = 1 ∧ t.val / 4 < 7
    · exact body_issue m c t h2
    · exact body_later m c t h h2

theorem defs₀_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  refine triple_restated (sound_body m c t) rfl .rfl fun _ => ?_
  rw [idle6]

/-! ## The run -/

/-- The body's one semaphore, and the one array it copies from. -/
abbrev osem0 : Fin 1 → SemLoc sig := fun j => (![SemLoc.dma 13] : Fin 1 → SemLoc sig) j
theorem ownSemFacts0 : Pipeline.OwnSemFacts spec0 osem0 := by decide
def H0 : Finset (Ref sig .tc) := {main_v0}
theorem H0_sub : H0 ⊆ Pipeline.restRefs sig spec0 := by decide

theorem PhiD_eq : (Pipeline.ΦD osem0 spec0 H0 (V m) c : sProp 𝕄)
    = iprop(((∃ f, (c : Thread nD τ).loc cc0_scratch0 ↦{fullShare} f) ∗ (∃ f, (c : Thread nD τ).loc cc0_scratch1 ↦{fullShare} f) ∗ (∃ f, (c : Thread nD τ).loc cc0_scratch3 ↦{fullShare} f))
      ∗ (∃ r, prngReg c r) ∗ semVal ((c : Thread nD τ), SemLoc.dma 13) 0 ∗ ptAll c hM (V m c main_v0)) := by
  rw [Pipeline.ΦD_eq, scopedRest0_eq, Pipeline.ownSems0_eq_of_list c osem0 [0] (by decide) (by decide), BI.bigSep_eq_bigSepL_of_eq (S := H0) [main_v0] (by decide) (by decide)]
  rfl

theorem hin : (Pipeline.ΦD osem0 spec0 H0 (V m) c : sProp 𝕄) ⊢ (dats m 0 c).Φ 0 := by
  rw [PhiD_eq, show (dats m 0 c).Φ 0 = Phi m c 0 from rfl]
  unfold Phi
  rw [copySt_idle m c 0 (by omega)]
  iintro ⟨⟨⟨%f0, G0⟩, ⟨%f1, G1⟩, ⟨%f3, G3⟩⟩, Hr, HS, Hh⟩
  isplitl [G0]
  · iexists f0; isplitr; · ipureintro; intro h; exact absurd rfl h
    simp only [xnM, owns_whole]; iexact G0
  isplitl [G3]
  · iexists f3; isplitr; · ipureintro; exact fun k hk => absurd hk (Nat.not_lt_zero _)
    simp only [tailM, owns_whole]; iexact G3
  isplitl [Hr]; · iexact Hr
  isplitl [G1]
  · iexists f1; simp only [bufM, owns_whole]; iexact G1
  isplitl [Hh]; · iexact Hh
  iexact HS

theorem hout : (dats m 0 c).Φ (Fin.last cfg0.N) ⊢ (Pipeline.ΦD osem0 spec0 H0 (V m) c : sProp 𝕄) := by
  rw [PhiD_eq, show (dats m 0 c).Φ (Fin.last cfg0.N) = Phi m c 32 from rfl]
  unfold Phi
  rw [copySt_idle m c 32 (by omega)]
  simp only [xnM, tailM, bufM, owns_whole]
  iintro ⟨⟨%d0, -, G0⟩, ⟨%d3, -, G3⟩, Hr, ⟨%d1, G1⟩, Hh, HS⟩
  isplitl [G0 G1 G3]
  · isplitl [G0]; · iexists d0; iexact G0
    isplitl [G1]; · iexists d1; iexact G1
    iexists d3; iexact G3
  isplitl [Hr]; · iexact Hr
  isplitl [HS]; · iexact HS
  iexact Hh

set_option maxHeartbeats 800000 in
theorem hmain : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- The run: the written array holds what the points wrote, everything else is as it was found, no semaphore is left up. -/
theorem run_main : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmain m) (hA := A_eq m)
    (hin := hin m) (hout := hout m)

/-- The arguments end as they began, and no semaphore is left up. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).1 4).trans (((dats m 0 c).arrAt_in 4 rfl _).trans ((A_eq m c 4).trans (V_main_arg3 m c))),
    ((h.1 c).2 main_arg4 (Pipeline.mem_restRefs_of main_arg4 (by decide) (by decide))).trans (V_main_arg4 m c)⟩, h.2⟩) (run_main m ρ)

end Cert.Kernel2Ideal.Hand
-- ==== Proof.HalvesAt.lean ====
module

public import proofs.«01_k».proof.Proof.Halves
public import Idealize.ShloMosaic.Lib.Pipeline.ValueKit

/-! A tile and its halves read at a row and a column. -/

@[expose] public section

set_option maxRecDepth 16384

namespace Cert.Halves

open Idealize.ShloMosaic

variable {α : Type} {P : ℕ → ℕ → α}

theorem lo_at {x : Tile.Idx → α} (hx : ∀ (r : Fin 1024) (d : Fin 2048), x (ix2 r d) = P r d) (p : Fin 512) (d : Fin 2048) : lo x (ix2 p d) = P p d := by
  refine Eq.trans (congrArg x (funext fun k => ?_)) (hx ⟨p, by omega⟩ d)
  match k with
  | 0 => exact Fin.ext (by show 0 + 1 * p.val = p.val; omega)
  | 1 => exact Fin.ext (by show 0 + 1 * d.val = d.val; omega)

theorem hi_at {x : Tile.Idx → α} (hx : ∀ (r : Fin 1024) (d : Fin 2048), x (ix2 r d) = P r d) (p : Fin 512) (d : Fin 2048) : hi x (ix2 p d) = P (512 + p) d := by
  refine Eq.trans (congrArg x (funext fun k => ?_)) (hx ⟨512 + p, by omega⟩ d)
  match k with
  | 0 => exact Fin.ext (by show 512 + 1 * p.val = 512 + p.val; omega)
  | 1 => exact Fin.ext (by show 0 + 1 * d.val = d.val; omega)

theorem two_at {a b : Half.Idx → α} (ha : ∀ (p : Fin 512) (d : Fin 2048), a (ix2 p d) = P p d) (hb : ∀ (p : Fin 512) (d : Fin 2048), b (ix2 p d) = P (512 + p) d)
    (r : Fin 1024) (d : Fin 2048) : two a b (ix2 r d) = P r d := by
  by_cases h : r.val < 512
  · have e : two a b (ix2 r d) = lo (two a b) (ix2 ⟨r, h⟩ d) := by
      refine congrArg (two a b) (funext fun k => ?_)
      match k with
      | 0 => exact Fin.ext (by show r.val = 0 + 1 * r.val; omega)
      | 1 => exact Fin.ext (by show d.val = 0 + 1 * d.val; omega)
    rw [e, lo_two]; exact ha _ _
  · have e : two a b (ix2 r d) = hi (two a b) (ix2 ⟨r - 512, by omega⟩ d) := by
      refine congrArg (two a b) (funext fun k => ?_)
      match k with
      | 0 => exact Fin.ext (by show r.val = 512 + 1 * (r.val - 512); omega)
      | 1 => exact Fin.ext (by show d.val = 0 + 1 * d.val; omega)
    rw [e, hi_two]; refine (hb _ _).trans ?_
    congr 1; show 512 + (r.val - 512) = r.val; omega

end Cert.Halves
-- ==== Proof.Spec.lean ====
module

public import Idealize.ShloMosaic.Lib.Pipeline.ValueKit

/-! The mathematics of the two layers, on rows numbered through both sequences: normalised rows, projections, the
    three-tap causal convolution, and what each layer adds to the residual stream. Entries are functions of natural
    numbers; sums run over ranges. -/

@[expose] public section

noncomputable section

namespace Cert.Spec

open Idealize.ShloMosaic

/-- A table of numbers read at natural numbers. -/
def at2 {a b : ℕ} (f : Fin a → Fin b → EReal) (r k : ℕ) : EReal := if h : r < a ∧ k < b then f ⟨r, h.1⟩ ⟨k, h.2⟩ else 0
def at1 {a : ℕ} (f : Fin a → EReal) (k : ℕ) : EReal := if h : k < a then f ⟨k, h⟩ else 0

theorem at2_of {a b : ℕ} (f : Fin a → Fin b → EReal) {r k : ℕ} (hr : r < a) (hk : k < b) : at2 f r k = f ⟨r, hr⟩ ⟨k, hk⟩ := dif_pos ⟨hr, hk⟩
theorem at1_of {a : ℕ} (f : Fin a → EReal) {k : ℕ} (hk : k < a) : at1 f k = f ⟨k, hk⟩ := dif_pos hk
theorem at2_fin {a b : ℕ} (f : Fin a → Fin b → EReal) (r : Fin a) (k : Fin b) : at2 f r k = f r k := at2_of f r.isLt k.isLt
theorem at1_fin {a : ℕ} (f : Fin a → EReal) (k : Fin a) : at1 f k = f k := at1_of f k.isLt

/-- Rows normalised by their root mean square, then weighted. -/
def rms (H : ℕ → ℕ → EReal) (nw : ℕ → EReal) (r k : ℕ) : EReal :=
  H r k * Ideal.rsqrt (Ideal.div (∑ x ∈ Finset.range 2048, H r x * H r x) (Ideal.ofBits FTy.f32 1157627904#32) + Ideal.ofBits FTy.f32 897988541#32) * nw k

/-- A projection of the 2048 features. -/
def proj (N W : ℕ → ℕ → EReal) (r c : ℕ) : EReal := ∑ x ∈ Finset.range 2048, N r x * W x c

/-- The row `e` before row `r` of the same sequence: zero before its start. -/
def back (z : ℕ → ℕ → EReal) (e r c : ℕ) : EReal := if r % 4096 < e then 0 else z (r - e) c

/-- The causal convolution over three rows. -/
def conv (cw z : ℕ → ℕ → EReal) (r c : ℕ) : EReal := cw 0 c * back z 2 r c + cw 1 c * back z 1 r c + cw 2 c * z r c

/-- The gated input of the short convolution. -/
def gated (N W : ℕ → ℕ → EReal) (r c : ℕ) : EReal := proj N W r (2048 + c) * proj N W r (4096 + c)

/-- One channel of the short convolution. -/
def mixed (N W cw : ℕ → ℕ → EReal) (r c : ℕ) : EReal := proj N W r c * conv cw (gated N W) r c

/-- The short convolution's result, added to the residual stream. -/
def scOut (H : ℕ → ℕ → EReal) (nw : ℕ → EReal) (W cw Wo : ℕ → ℕ → EReal) (r d : ℕ) : EReal :=
  H r d + ∑ c ∈ Finset.range 2048, mixed (rms H nw) W cw r c * Wo c d

/-- A gate's value. -/
def swish (g : EReal) : EReal := g * Ideal.div 1 (1 + Ideal.exp (-g))

/-- One channel of the feed-forward layer: the gate's channel, and the value channel 5632 further on. -/
def act (N W cw : ℕ → ℕ → EReal) (r c : ℕ) : EReal := swish (conv cw (proj N W) r c) * conv cw (proj N W) r (5632 + c)

/-- The feed-forward layer's result, added to the residual stream. -/
def ffOut (H : ℕ → ℕ → EReal) (nw : ℕ → EReal) (W cw Wo : ℕ → ℕ → EReal) (r d : ℕ) : EReal :=
  H r d + ∑ c ∈ Finset.range 5632, act (rms H nw) W cw r c * Wo c d

/-- A row read off a half tile starting at row `r0`, the eight rows before it put in front: its own sequence's rows only. -/
theorem back_tile (z : ℕ → ℕ → EReal) {r0 p e q c : ℕ} (h0 : r0 % 512 = 0) (hp : p < 512) (he : e ≤ 2) (hq : q + e = 8) {x : q + p < 8 → EReal} {y : ¬ q + p < 8 → EReal}
    (hx : ∀ h, x h = if r0 % 4096 = 0 then 0 else z (r0 - 8 + (q + p)) c) (hy : ∀ h, y h = z (r0 + (q + p - 8)) c) :
    (if h : q + p < 8 then x h else y h) = back z e (r0 + p) c := by
  unfold back
  split
  · rename_i h
    rw [hx h]
    by_cases hz : r0 % 4096 = 0
    · rw [if_pos hz, if_pos (by omega)]
    · rw [if_neg hz, if_neg (by omega)]
      congr 1; omega
  · rename_i h
    rw [hy h, if_neg (by omega)]
    congr 1; omega

theorem proj_fin (N W : ℕ → ℕ → EReal) (r c : ℕ) : proj N W r c = ∑ x : Fin 2048, N r x * W x c := Finset.sum_range _

/-- A sum over the first `b` blocks of `n` channels, and one block more. -/
theorem sum_block (f : ℕ → EReal) (n b : ℕ) :
    ∑ c ∈ Finset.range (n * (b + 1)), f c = ∑ c ∈ Finset.range (n * b), f c + ∑ c : Fin n, f (n * b + c) := by
  rw [Nat.mul_succ, Finset.sum_range_add, Finset.sum_range (fun x => f (n * b + x))]

end Cert.Spec
-- ==== Proof.ScPoint.lean ====
module

public import proofs.«01_k».proof.Proof.ScStep
public import proofs.«01_k».proof.Proof.HalvesAt
public import proofs.«01_k».proof.Proof.Spec

/-! What one grid step of the short convolution computes, over exact numbers: each payload read at a row and a column. -/

@[expose] public section

set_option maxRecDepth 16384

noncomputable section

namespace Cert.Kernel2Ideal.Hand

open Cert.Kernel2Ideal Cert.Kernel2Ideal.Gen Cert.Halves Cert.Spec
open Idealize.ShloMosaic Idealize.ShloMosaic.TcCoe

theorem pay4_at {H : ℕ → ℕ → EReal} {nw : ℕ → EReal} {r0 : ℕ} {v : Vec Ideal S512x2048 .f32} {w : Vec Ideal S1x2048 .f32}
    (hv : ∀ (p : Fin 512) (k : Fin 2048), v (ix2 p k) = H (r0 + p) k) (hw : ∀ k : Fin 2048, w (ix2 0 k) = nw k) (p : Fin 512) (k : Fin 2048) :
    k0_pay4 (F := Ideal) v w (ix2 p k) = rms H nw (r0 + p) k := by
  pointwise [k0_pay4]
  simp only [hv, hw]
  unfold rms
  rw [Finset.sum_range]

theorem normed_at {H : ℕ → ℕ → EReal} {nw : ℕ → EReal} {r0 : ℕ} {h : Vec Ideal S1024x2048 .f32} {w : Vec Ideal S1x2048 .f32}
    (hh : ∀ (p : Fin 1024) (k : Fin 2048), h (ix2 p k) = H (r0 + p) k) (hw : ∀ k : Fin 2048, w (ix2 0 k) = nw k) (p : Fin 1024) (k : Fin 2048) :
    normed (F := Ideal) h w (ix2 p k) = rms H nw (r0 + p) k :=
  two_at (P := fun p k => rms H nw (r0 + p) k)
    (fun p k => pay4_at (r0 := r0) (lo_at (P := fun p k => H (r0 + p) k) hh) hw p k)
    (fun p k => (pay4_at (H := H) (r0 := r0 + 512) (fun p k => (hi_at (P := fun p k => H (r0 + p) k) hh p k).trans (by rw [Nat.add_assoc])) hw p k).trans (by rw [Nat.add_assoc])) p k

theorem pay1_at (s : Fin 8) (x : Fin 512) : k0_pay1 (F := Ideal) (ix3 0 s x) = 0 := by
  pointwise [k0_pay1]

section Step

variable {N W C O : ℕ → ℕ → EReal} {r0 c0 : ℕ} (h0 : r0 % 512 = 0) (h1 : r0 % 1024 = 0)
  {v v' : Vec Ideal S512x2048 .bf16} (hv : ∀ (p : Fin 512) (k : Fin 2048), v (ix2 p k) = N (r0 + p) k) (hv' : ∀ (p : Fin 512) (k : Fin 2048), v' (ix2 p k) = N (r0 + 512 + p) k)
  {wb wc wh : Vec Ideal S2048x512 .bf16} (hb : ∀ (k : Fin 2048) (x : Fin 512), wb (ix2 k x) = W k (c0 + x))
  (hc : ∀ (k : Fin 2048) (x : Fin 512), wc (ix2 k x) = W k (2048 + (c0 + x))) (hh : ∀ (k : Fin 2048) (x : Fin 512), wh (ix2 k x) = W k (4096 + (c0 + x)))
  {cw : Vec Ideal S3x512 .f32} (hw : ∀ (e : Fin 3) (x : Fin 512), cw (ix2 e x) = C e (c0 + x))
  {wd : Vec Ideal S512x2048 .bf16} (hd : ∀ (x : Fin 512) (d : Fin 2048), wd (ix2 x d) = O (c0 + x) d)

include hv hc hh in
theorem nextTail_at (s : Fin 8) (x : Fin 512) : nextTail (F := Ideal) v wc wh (ix3 0 s x) = gated N W (r0 + 504 + s) (c0 + x) := by
  pointwise [nextTail, k0_pay32, k0_pay23, k0_pay24, k0_pay30]
  simp only [hv, hc, hh]
  unfold gated
  rw [proj_fin, proj_fin]
  simp only [Nat.add_assoc]

include h0 hv hb hc hh hw hd in
theorem stepLo_at {t : Vec Ideal S1x8x512 .f32} (ht : ∀ (s : Fin 8) (x : Fin 512), t (ix3 0 s x) = if r0 % 4096 = 0 then 0 else gated N W (r0 - 8 + s) (c0 + x))
    (o : Vec Ideal S512x2048 .f32) (p : Fin 512) (d : Fin 2048) :
    stepLo (F := Ideal) v t wb wc wh cw wd o (ix2 p d) = o (ix2 p d) + ∑ x : Fin 512, mixed N W C (r0 + p) (c0 + x) * O (c0 + x) d := by
  pointwise [stepLo, k0_pay33, k0_pay22, k0_pay26, k0_pay27, k0_pay28, k0_pay29]
  simp only [hv, hb, hc, hh, hw, hd]
  refine congrArg _ (Finset.sum_congr rfl fun x _ => ?_)
  unfold mixed conv
  rw [← back_tile (gated N W) h0 p.isLt (le_refl 2) rfl (fun h => ht ⟨6 + p, h⟩ x) (fun h => rfl),
    ← back_tile (gated N W) h0 p.isLt (show 1 ≤ 2 by decide) rfl (fun h => ht ⟨7 + p, h⟩ x) (fun h => rfl)]
  simp only [gated, proj_fin]
  rfl

include h1 hv hv' hb hc hh hw hd in
theorem stepHi_at (o : Vec Ideal S512x2048 .f32) (p : Fin 512) (d : Fin 2048) :
    stepHi (F := Ideal) v v' wb wc wh cw wd o (ix2 p d) = o (ix2 p d) + ∑ x : Fin 512, mixed N W C (r0 + 512 + p) (c0 + x) * O (c0 + x) d := by
  pointwise [stepHi, k0_pay3, k0_pay31, k0_pay30, k0_pay23, k0_pay24, k0_pay25, k0_pay26, k0_pay34, k0_pay35]
  simp only [hv, hv', hb, hc, hh, hw, hd]
  refine congrArg _ (Finset.sum_congr rfl fun x _ => ?_)
  have hs : ¬ (r0 + 512) % 4096 = 0 := by omega
  unfold mixed conv
  rw [← back_tile (gated N W) (r0 := r0 + 512) (by omega) p.isLt (le_refl 2) rfl (fun h => ((if_neg hs).trans (congrArg (fun r => gated N W r (c0 + x)) (show r0 + 512 - 8 + (6 + p) = r0 + (504 + (6 + p)) by omega))).symm) (fun h => rfl),
    ← back_tile (gated N W) (r0 := r0 + 512) (by omega) p.isLt (show 1 ≤ 2 by decide) rfl (fun h => ((if_neg hs).trans (congrArg (fun r => gated N W r (c0 + x)) (show r0 + 512 - 8 + (7 + p) = r0 + (504 + (7 + p)) by omega))).symm) (fun h => rfl)]
  simp only [gated, proj_fin]
  rfl

include h1 hb hc hh hw hd in
theorem stepOut_at {xn : Vec Ideal S1024x2048 .bf16} (hx : ∀ (p : Fin 1024) (k : Fin 2048), xn (ix2 p k) = N (r0 + p) k)
    {t : Vec Ideal S1x8x512 .f32} (ht : ∀ (s : Fin 8) (x : Fin 512), t (ix3 0 s x) = if r0 % 4096 = 0 then 0 else gated N W (r0 - 8 + s) (c0 + x))
    {o : Vec Ideal S1024x2048 .f32} {G : ℕ → ℕ → EReal} (ho : ∀ (p : Fin 1024) (k : Fin 2048), o (ix2 p k) = G p k) (p : Fin 1024) (d : Fin 2048) :
    stepOut (F := Ideal) xn t wb wc wh cw wd o (ix2 p d) = G p d + ∑ x : Fin 512, mixed N W C (r0 + p) (c0 + x) * O (c0 + x) d := by
  have hl := lo_at (P := fun p k => N (r0 + p) k) hx
  have hr : ∀ (p : Fin 512) (k : Fin 2048), hi xn (ix2 p k) = N (r0 + 512 + p) k := fun p k => (hi_at (P := fun p k => N (r0 + p) k) hx p k).trans (by rw [Nat.add_assoc])
  refine two_at (P := fun p d => G p d + ∑ x : Fin 512, mixed N W C (r0 + p) (c0 + x) * O (c0 + x) d) (fun p d => ?_) (fun p d => ?_) p d
  · rw [stepLo_at (by omega) hl hb hc hh hw hd ht, lo_at ho]
  · rw [stepHi_at h1 hl hr hb hc hh hw hd, hi_at ho]
    simp only [Nat.add_assoc]

end Step

end Cert.Kernel2Ideal.Hand
-- ==== Proof.ScValue.lean ====
module

public import proofs.«01_k».proof.Proof.ScData
public import proofs.«01_k».proof.Proof.ScPoint
public import Idealize.ShloMosaic.Lib.Pipeline.ValueKit
public import Idealize.ShloMosaic.Lib.Claim

/-! The result the short convolution writes: its tiles hold the specification's rows. -/

@[expose] public section
set_option maxRecDepth 16384
noncomputable section

namespace Cert.Kernel2Ideal.Hand
open Cert.Kernel2Ideal Cert.Kernel2Ideal.Gen Cert.Halves Cert.Spec
open Idealize.ShloMosaic Idealize.ShloMosaic.TcCoe Idealize.SL.Sem
variable (m : (ℓ : Loc nD τ sig) → Buf (Elt Ideal) ℓ) (c : Dev nD)

theorem idx : ∀ t : Fin cfg0.N, win0_0.index t = ![0, 0] ∧ win0_1.index t = ![0, t.val % 4] ∧ win0_2.index t = ![0, 4 + t.val % 4]
    ∧ win0_3.index t = ![0, 8 + t.val % 4] ∧ win0_4.index t = ![0, t.val % 4] ∧ win0_5.index t = ![t.val % 4, 0] ∧ win0_6.index t = ![t.val / 4, 0] ∧ t.val / 4 < 8 :=
  (by decide +kernel : ∀ t : Fin grid0.N, _)

abbrev argH : Vec Ideal S2x4096x2048 .f32 := m ((c : Thread nD τ).loc main_arg0)
abbrev argN : Vec Ideal S2048 .f32 := m ((c : Thread nD τ).loc main_arg1)
abbrev argW : Vec Ideal S2048x6144 .f32 := m ((c : Thread nD τ).loc main_arg2)
abbrev argC : Vec Ideal S3x2048 .f32 := m ((c : Thread nD τ).loc main_arg3)
abbrev argO : Vec Ideal S2048x2048 .f32 := m ((c : Thread nD τ).loc main_arg4)

/-- The arguments read at natural numbers. -/
def hN : ℕ → ℕ → EReal := at2 (a := 8192) (b := 2048) fun r k => argH m c (ix3 ⟨r.val / 4096, by omega⟩ ⟨r.val % 4096, by omega⟩ k)
def nN : ℕ → EReal := at1 (a := 2048) fun k => argN m c (ix1 k)
def wN : ℕ → ℕ → EReal := at2 (a := 2048) (b := 6144) fun r k => argW m c (ix2 r k)
def cN : ℕ → ℕ → EReal := at2 (a := 3) (b := 2048) fun r k => argC m c (ix2 r k)
def oN : ℕ → ℕ → EReal := at2 (a := 2048) (b := 2048) fun r k => argO m c (ix2 r k)

theorem blk0 (t : Fin cfg0.N) (k : Fin 2048) : (iblk m c 0 t : Vec Ideal S1x2048 .f32) (ix2 0 k) = nN m c k := by
  refine Eq.trans ?_ (at1_fin _ k).symm
  blk_point [iblk, V, idx t]
theorem blk1 (t : Fin cfg0.N) (r : Fin 2048) (k : Fin 512) : (iblk m c 1 t : Vec Ideal S2048x512 .bf16) (ix2 r k) = wN m c r (512 * (t.val % 4) + k) := by
  refine Eq.trans ?_ (at2_of _ r.isLt (show 512 * (t.val % 4) + k.val < 6144 by omega)).symm
  blk_point [iblk, V, idx t]
theorem blk2 (t : Fin cfg0.N) (r : Fin 2048) (k : Fin 512) : (iblk m c 2 t : Vec Ideal S2048x512 .bf16) (ix2 r k) = wN m c r (2048 + (512 * (t.val % 4) + k)) := by
  refine Eq.trans ?_ (at2_of _ r.isLt (show 2048 + (512 * (t.val % 4) + k.val) < 6144 by omega)).symm
  blk_point [iblk, V, idx t]
theorem blk3 (t : Fin cfg0.N) (r : Fin 2048) (k : Fin 512) : (iblk m c 3 t : Vec Ideal S2048x512 .bf16) (ix2 r k) = wN m c r (4096 + (512 * (t.val % 4) + k)) := by
  refine Eq.trans ?_ (at2_of _ r.isLt (show 4096 + (512 * (t.val % 4) + k.val) < 6144 by omega)).symm
  blk_point [iblk, V, idx t]
theorem blk4 (t : Fin cfg0.N) (r : Fin 3) (k : Fin 512) : (iblk m c 4 t : Vec Ideal S3x512 .f32) (ix2 r k) = cN m c r (512 * (t.val % 4) + k) := by
  refine Eq.trans ?_ (at2_of _ r.isLt (show 512 * (t.val % 4) + k.val < 2048 by omega)).symm
  blk_point [iblk, V, idx t]
theorem blk5 (t : Fin cfg0.N) (r : Fin 512) (k : Fin 2048) : (iblk m c 5 t : Vec Ideal S512x2048 .bf16) (ix2 r k) = oN m c (512 * (t.val % 4) + r) k := by
  refine Eq.trans ?_ (at2_of _ (show 512 * (t.val % 4) + r.val < 2048 by omega) k.isLt).symm
  blk_point [iblk, V, idx t]
theorem row_read (r : Fin 8192) (k : Fin 2048) : (V m c main_v0 : Vec Ideal S8192x2048 .f32) (ix2 r k) = hN m c r k := by
  refine Eq.trans ?_ (at2_fin _ r k).symm
  entry_read
  pointwise

/-! ## The tiles -/

theorem tile_at (k : ℕ) (hk : k < 8) (p : Fin 1024) (d : Fin 2048) : tileAt m c k (ix2 p d) = hN m c (1024 * k + p) d := by
  refine Eq.trans (congrArg (V m c main_v0) (funext fun a => ?_)) (row_read m c ⟨1024 * k + p, by omega⟩ d)
  match a with
  | 0 => exact Fin.ext (by show 1024 * (k % 8) + 1 * p.val = 1024 * k + p.val; omega)
  | 1 => exact Fin.ext (by show 0 + 1 * d.val = d.val; omega)

theorem xn_at (k : ℕ) (hk : k < 8) (p : Fin 1024) (d : Fin 2048) : xnAt m c k (ix2 p d) = rms (hN m c) (nN m c) (1024 * k + p) d :=
  normed_at (r0 := 1024 * k) (tile_at m c k hk) (blk0 m c _) p d

theorem tail_at (n : ℕ) (hn : n < 32) (s : Fin 8) (x : Fin 512) :
    tailAt m c n (ix3 0 s x) = gated (rms (hN m c) (nN m c)) (wN m c) (1024 * (n / 4) + 1016 + s) (512 * (n % 4) + x) := by
  have e : (pt n).val % 4 = n % 4 := by show n % 32 % 4 = n % 4; omega
  refine (nextTail_at (r0 := 1024 * (n / 4) + 512) (c0 := 512 * (n % 4)) (W := wN m c)
    (fun p k => (hi_at (P := fun p k => rms (hN m c) (nN m c) (1024 * (n / 4) + p) k) (xn_at m c (n / 4) (by omega)) p k).trans (by rw [Nat.add_assoc]))
    (fun k x => by rw [← e]; exact blk2 m c (pt n) k x) (fun k x => by rw [← e]; exact blk3 m c (pt n) k x) s x).trans ?_
  rw [show 1024 * (n / 4) + 512 + 504 + s.val = 1024 * (n / 4) + 1016 + s.val by omega]

theorem prev_at (n : ℕ) (hn : n < 32) (s : Fin 8) (x : Fin 512) :
    prevAt m c n (ix3 0 s x) = if 1024 * (n / 4) % 4096 = 0 then 0 else gated (rms (hN m c) (nN m c)) (wN m c) (1024 * (n / 4) - 8 + s) (512 * (n % 4) + x) := by
  unfold prevAt
  by_cases h : n / 4 % 4 = 0
  · rw [if_pos h, if_pos (by omega)]; exact pay1_at s x
  · rw [if_neg h, if_neg (by omega)]
    refine (tail_at m c (n - 4) (by omega) s x).trans ?_
    rw [show 1024 * ((n - 4) / 4) + 1016 + s.val = 1024 * (n / 4) - 8 + s.val by omega, show (n - 4) % 4 = n % 4 by omega]

/-- One channel's part of a row's result. -/
def part (r d x : ℕ) : EReal := mixed (rms (hN m c) (nN m c)) (wN m c) (cN m c) r x * oN m c x d

theorem step_at (n : ℕ) (hn : n < 32) {o : Vec Ideal S1024x2048 .f32} {G : ℕ → ℕ → EReal} (ho : ∀ (p : Fin 1024) (k : Fin 2048), o (ix2 p k) = G p k) (p : Fin 1024) (d : Fin 2048) :
    stepAt m c n o (ix2 p d) = G p d + ∑ x : Fin 512, part m c (1024 * (n / 4) + p) d (512 * (n % 4) + x) := by
  have e : (pt n).val % 4 = n % 4 := by show n % 32 % 4 = n % 4; omega
  exact stepOut_at (r0 := 1024 * (n / 4)) (c0 := 512 * (n % 4)) (N := rms (hN m c) (nN m c)) (W := wN m c) (C := cN m c) (O := oN m c) (by omega)
    (fun k x => by rw [← e]; exact blk1 m c (pt n) k x) (fun k x => by rw [← e]; exact blk2 m c (pt n) k x) (fun k x => by rw [← e]; exact blk3 m c (pt n) k x)
    (fun k x => by rw [← e]; exact blk4 m c (pt n) k x) (fun k x => by rw [← e]; exact blk5 m c (pt n) k x)
    (xn_at m c (n / 4) (by omega)) (prev_at m c n hn) ho p d

theorem out_first (n : ℕ) (hn : n < 32) (h : n % 4 = 0) (p : Fin 1024) (d : Fin 2048) :
    outAt m c n (ix2 p d) = hN m c (1024 * (n / 4) + p) d + ∑ x ∈ Finset.range (512 * (n % 4 + 1)), part m c (1024 * (n / 4) + p) d x := by
  have ht : ∀ (p : Fin 1024) (d : Fin 2048), tileAt m c (n / 4) (ix2 p d) = hN m c (1024 * (n / 4) + p) d := tile_at m c (n / 4) (by omega)
  rw [outAt_first m c n h, step_at m c n hn (G := fun p d => hN m c (1024 * (n / 4) + p) d) ht, sum_block, h]
  simp

theorem out_at : ∀ (n : ℕ) (_ : n < 32) (p : Fin 1024) (d : Fin 2048),
    outAt m c n (ix2 p d) = hN m c (1024 * (n / 4) + p) d + ∑ x ∈ Finset.range (512 * (n % 4 + 1)), part m c (1024 * (n / 4) + p) d x := by
  intro n
  induction n with
  | zero => exact fun hn => out_first m c 0 hn rfl
  | succ n ih =>
    intro hn p d
    by_cases h : (n + 1) % 4 = 0
    · exact out_first m c _ hn h p d
    · have e : (n + 1) / 4 = n / 4 := by omega
      rw [outAt_later m c (n + 1) h, Nat.add_sub_cancel, step_at m c (n + 1) hn (G := fun p d => hN m c (1024 * (n / 4) + p) d + ∑ x ∈ Finset.range (512 * (n % 4 + 1)), part m c (1024 * (n / 4) + p) d x)
          (ih (by omega)), e, show (n + 1) % 4 = n % 4 + 1 by omega, sum_block _ _ (n % 4 + 1), add_assoc]

/-- What the rows of the result should be. -/
def G : Vec Ideal S8192x2048 .f32 := fun i => scOut (hN m c) (nN m c) (wN m c) (cN m c) (oN m c) (i 0).val (i 1).val

/-- The written array. -/
theorem final : (dats m 0 c).arrAt 6 (cfgs 0).N = G m c := by
  refine (dats m 0 c).arrAt_eq_of_covers 6 _ (by decide +kernel) fun t hf y => ?_
  have hm := (flush0_6 t).mp hf
  have ht : t.val < 32 := t.isLt
  blk_simp
  rw [after0_6]
  have hy : y = ix2 (y 0) (y 1) := by funext a; match a with | 0 => rfl | 1 => rfl
  have e0 : ((win0_6.blk t).view.emb y 0).val = 1024 * (t.val / 4) + (y 0).val := by
    show win0_6.index t 0 * 1024 + 1 * (y 0).val = _
    rw [(idx t).2.2.2.2.2.2.1]
    show t.val / 4 * 1024 + 1 * (y 0).val = _
    omega
  have e1 : ((win0_6.blk t).view.emb y 1).val = (y 1).val := by
    show win0_6.index t 1 * 2048 + 1 * (y 1).val = _
    rw [(idx t).2.2.2.2.2.2.1]
    show 0 * 2048 + 1 * (y 1).val = _
    omega
  refine (congrArg (outAt m c t.val) hy).trans ((out_at m c t.val ht (y 0) (y 1)).trans ?_)
  unfold G scOut
  rw [e0, e1, hm]
  rfl

end Cert.Kernel2Ideal.Hand
-- ==== Proof.ScRef.lean ====
module

public import proofs.«01_k».proof.Proof.Gen.Reference2Ideal.Run
public import proofs.«01_k».proof.Proof.Spec
public import Idealize.ShloMosaic.Lib.Claim

/-! The short convolution's reference, row by row: its result holds the specification's rows. The term is read in
    four stages: normalised rows, projections, the convolution, the sum with the residual stream. -/

@[expose] public section

noncomputable section

namespace Cert.Reference2Ideal.Hand

open Cert.Reference2Ideal Cert.Reference2Ideal.Gen Cert.Spec Idealize.ShloMosaic Idealize.ShloMosaic.TcCoe Idealize.SL.Sem

def nrm (H : FVec Ideal S2x4096x2048 .f32) (w : FVec Ideal S2048 .f32) : FVec Ideal S2x4096x2048 .f32 :=
  mulf (mulf H (broadcastInDim S2x4096x2048 ![0, 1, 2] bcast_S2x4096x1_S2x4096x2048_0_1_2
    (Host.rsqrt (addf (Host.divf (broadcastInDim S2x4096x1 ![0, 1] bcast_S2x4096_S2x4096x1_0_1 (Host.reduceAdd (mulf H H) (constant S_ .f32 0x00000000#32) reducesTo_S2x4096x2048_S2x4096_d2 h_S_))
      (broadcastInDim S2x4096x1 ![] bcast_S_S2x4096x1 (constant S_ .f32 0x45000000#32))) (broadcastInDim S2x4096x1 ![] bcast_S_S2x4096x1 (constant S_ .f32 0x358637BD#32))))))
    (broadcastInDim S2x4096x2048 ![0, 1, 2] bcast_S1x1x2048_S2x4096x2048_0_1_2 (broadcastInDim S1x1x2048 ![2] bcast_S2048_S1x1x2048_2 w))

def prj (X : FVec Ideal S2x4096x2048 .f32) (W : FVec Ideal S2048x6144 .f32) : FVec Ideal S2x4096x6144 .f32 :=
  Host.dotGeneral dot_S2x4096x2048_S2048x6144_S2x4096x6144_2_0_01_1_n_n none X W

def padded (P : FVec Ideal S2x4096x6144 .f32) : FVec Ideal S2x4098x2048 .f32 :=
  pad (s := S2x4096x2048) S2x4098x2048 ![0, 2, 0] ![0, 0, 0] ![0, 0, 0] (mulf (extractStridedSlice S2x4096x2048 ![0, 0, 2048] P slices_S2x4096x6144_S2x4096x2048_0_0_2048)
    (extractStridedSlice S2x4096x2048 ![0, 0, 4096] P slices_S2x4096x6144_S2x4096x2048_0_0_4096)) (sitofp (F := Ideal) .f32 (constantI S_ 32 0#32)) pads_S2x4096x2048_S2x4098x2048_000_200_000 h_S_

def tap0 (C : FVec Ideal S3x2048 .f32) : FVec Ideal S2x4096x2048 .f32 :=
  broadcastInDim S2x4096x2048 ![0, 1, 2] bcast_S1x1x2048_S2x4096x2048_0_1_2 (broadcastInDim S1x1x2048 ![2] bcast_S2048_S1x1x2048_2 (shapeCast _ (extractStridedSlice S1x2048 ![0, 0] C slices_S3x2048_S1x2048_0_0) shapeCasts_S1x2048_S2048))
def tap1 (C : FVec Ideal S3x2048 .f32) : FVec Ideal S2x4096x2048 .f32 :=
  broadcastInDim S2x4096x2048 ![0, 1, 2] bcast_S1x1x2048_S2x4096x2048_0_1_2 (broadcastInDim S1x1x2048 ![2] bcast_S2048_S1x1x2048_2 (shapeCast _ (extractStridedSlice S1x2048 ![1, 0] C slices_S3x2048_S1x2048_1_0) shapeCasts_S1x2048_S2048))
def tap2 (C : FVec Ideal S3x2048 .f32) : FVec Ideal S2x4096x2048 .f32 :=
  broadcastInDim S2x4096x2048 ![0, 1, 2] bcast_S1x1x2048_S2x4096x2048_0_1_2 (broadcastInDim S1x1x2048 ![2] bcast_S2048_S1x1x2048_2 (shapeCast _ (extractStridedSlice S1x2048 ![2, 0] C slices_S3x2048_S1x2048_2_0) shapeCasts_S1x2048_S2048))

def cnv (Z : FVec Ideal S2x4098x2048 .f32) (C : FVec Ideal S3x2048 .f32) : FVec Ideal S2x4096x2048 .f32 :=
  addf (addf (addf (broadcastInDim S2x4096x2048 ![] bcast_S_S2x4096x2048 (constant S_ .f32 0x00000000#32)) (mulf (extractStridedSlice S2x4096x2048 ![0, 0, 0] Z slices_S2x4098x2048_S2x4096x2048_0_0_0) (tap0 C)))
    (mulf (extractStridedSlice S2x4096x2048 ![0, 1, 0] Z slices_S2x4098x2048_S2x4096x2048_0_1_0) (tap1 C))) (mulf (extractStridedSlice S2x4096x2048 ![0, 2, 0] Z slices_S2x4098x2048_S2x4096x2048_0_2_0) (tap2 C))

def out (H : FVec Ideal S2x4096x2048 .f32) (P : FVec Ideal S2x4096x6144 .f32) (V : FVec Ideal S2x4096x2048 .f32) (O : FVec Ideal S2048x2048 .f32) : FVec Ideal S8192x2048 .f32 :=
  shapeCast _ (addf H (Host.dotGeneral dot_S2x4096x2048_S2048x2048_S2x4096x2048_2_0_01_1_n_n none (mulf (extractStridedSlice S2x4096x2048 ![0, 0, 0] P slices_S2x4096x6144_S2x4096x2048_0_0_0) V) O)) shapeCasts_S2x4096x2048_S8192x2048

/-- The arrays as tables over the rows of both sequences. -/
def hR (H : FVec Ideal S2x4096x2048 .f32) : ℕ → ℕ → EReal := at2 (a := 8192) (b := 2048) fun r k => H (ix3 ⟨r.val / 4096, by omega⟩ ⟨r.val % 4096, by omega⟩ k)
def nR (w : FVec Ideal S2048 .f32) : ℕ → EReal := at1 (a := 2048) fun k => w (ix1 k)
def wR (W : FVec Ideal S2048x6144 .f32) : ℕ → ℕ → EReal := at2 (a := 2048) (b := 6144) fun r k => W (ix2 r k)
def cR (C : FVec Ideal S3x2048 .f32) : ℕ → ℕ → EReal := at2 (a := 3) (b := 2048) fun r k => C (ix2 r k)
def oR (O : FVec Ideal S2048x2048 .f32) : ℕ → ℕ → EReal := at2 (a := 2048) (b := 2048) fun r k => O (ix2 r k)

theorem hR_at (H) (s : Fin 2) (r : Fin 4096) (k : Fin 2048) : H (ix3 s r k) = hR H (4096 * s + r) k := by
  refine Eq.trans ?_ (at2_of _ (show 4096 * s.val + r.val < 8192 by omega) k.isLt).symm
  have e0 : (4096 * s.val + r.val) / 4096 = s.val := by omega
  have e1 : (4096 * s.val + r.val) % 4096 = r.val := by omega
  simp only [e0, e1]

theorem nR_at (w) (k : Fin 2048) : nR w k = w (ix1 k) := at1_fin (a := 2048) (fun k => w (ix1 k)) k
theorem wR_at (W) (r : Fin 2048) (k : ℕ) (hk : k < 6144) : wR W r k = W (ix2 r ⟨k, hk⟩) := at2_fin (fun r k => W (ix2 r k)) r ⟨k, hk⟩
theorem cR_at (C) (r : Fin 3) (k : Fin 2048) : cR C r k = C (ix2 r k) := at2_fin (fun r k => C (ix2 r k)) r k
theorem oR_at (O) (r : Fin 2048) (k : Fin 2048) : oR O r k = O (ix2 r k) := at2_fin (fun r k => O (ix2 r k)) r k

theorem nrm_at (H w) (s : Fin 2) (r : Fin 4096) (k : Fin 2048) : nrm H w (ix3 s r k) = rms (hR H) (nR w) (4096 * s + r) k := by
  pointwise [nrm]
  unfold rms
  simp only [hR_at H, Finset.sum_range, nR_at]

theorem prj_at (X W) {N : ℕ → ℕ → EReal} (hX : ∀ (s : Fin 2) (r : Fin 4096) (k : Fin 2048), X (ix3 s r k) = N (4096 * s + r) k)
    (s : Fin 2) (r : Fin 4096) (k : ℕ) (hk : k < 6144) : prj X W (ix3 s r ⟨k, hk⟩) = proj N (wR W) (4096 * s + r) k := by
  pointwise [prj]
  rw [proj_fin]
  simp only [hX, wR_at W _ k hk]

theorem padded_at (P) {N W : ℕ → ℕ → EReal} (hP : ∀ (s : Fin 2) (r : Fin 4096) (k : ℕ) (hk : k < 6144), P (ix3 s r ⟨k, hk⟩) = proj N W (4096 * s + r) k)
    (s : Fin 2) (r : Fin 4096) (e : ℕ) (he : e ≤ 2) (j : Fin 4098) (hj : j.val = (2 - e) + r.val) (k : Fin 2048) : padded P (ix3 s j k) = back (gated N W) e (4096 * s + r) k := by
  pointwise [padded]
  unfold back gated
  have hs : (4096 * s.val + r.val) % 4096 = r.val := by omega
  rw [hs]
  by_cases h : r.val < e
  · rw [if_pos h, dif_neg (by omega)]
    simp [FloatOps.sitofp]
  · rw [if_neg h, dif_pos (by omega), hP, hP, show 4096 * s.val + (j.val - 2) = 4096 * s.val + r.val - e by omega]

theorem cnv_at (Z C) {z : ℕ → ℕ → EReal} (hZ : ∀ (s : Fin 2) (r : Fin 4096) (e : ℕ) (_ : e ≤ 2) (j : Fin 4098) (_ : j.val = (2 - e) + r.val) (k : Fin 2048), Z (ix3 s j k) = back z e (4096 * s + r) k)
    (s : Fin 2) (r : Fin 4096) (k : Fin 2048) : cnv Z C (ix3 s r k) = conv (cR C) z (4096 * s + r) k := by
  pointwise [cnv, tap0, tap1, tap2]
  rw [hZ s r 2 (by decide) _ (by simp) k, hZ s r 1 (by decide) _ (by simp) k, hZ s r 0 (by decide) _ (by simp) k]
  unfold conv
  rw [show back z 0 (4096 * s.val + r.val) k.val = z (4096 * s.val + r.val) k.val from if_neg (by omega),
    show cR C 0 k = C (ix2 0 k) from cR_at C 0 k, show cR C 1 k = C (ix2 1 k) from cR_at C 1 k, show cR C 2 k = C (ix2 2 k) from cR_at C 2 k,
    mul_comm (C _), mul_comm (C _), mul_comm (C _)]

theorem out_at (H P V O) {nw : ℕ → EReal} {W cw : ℕ → ℕ → EReal}
    (hP : ∀ (s : Fin 2) (r : Fin 4096) (k : ℕ) (hk : k < 6144), P (ix3 s r ⟨k, hk⟩) = proj (rms (hR H) nw) W (4096 * s + r) k)
    (hV : ∀ (s : Fin 2) (r : Fin 4096) (k : Fin 2048), V (ix3 s r k) = conv cw (gated (rms (hR H) nw) W) (4096 * s + r) k)
    (r : Fin 8192) (k : Fin 2048) : out H P V O (ix2 r k) = scOut (hR H) nw W cw (oR O) r k := by
  pointwise [out]
  unfold scOut mixed
  rw [Finset.sum_range]
  simp only [hR_at H, hP, hV, Nat.div_add_mod, oR_at]

variable (m : (ℓ : Loc nD τ sig) → Buf (Elt Ideal) ℓ) (c : Dev nD)

theorem out_eq : Value.res_out0 m c = out (m (c.tc.loc main_arg0)) (prj (nrm (m (c.tc.loc main_arg0)) (m (c.tc.loc main_arg1))) (m (c.tc.loc main_arg2)))
   (cnv (padded (prj (nrm (m (c.tc.loc main_arg0)) (m (c.tc.loc main_arg1))) (m (c.tc.loc main_arg2)))) (m (c.tc.loc main_arg3))) (m (c.tc.loc main_arg4)) := rfl

/-- The reference's result, as the specification says it. -/
def G (H : FVec Ideal S2x4096x2048 .f32) (w : FVec Ideal S2048 .f32) (W : FVec Ideal S2048x6144 .f32) (C : FVec Ideal S3x2048 .f32) (O : FVec Ideal S2048x2048 .f32) : FVec Ideal S8192x2048 .f32 :=
  fun i => scOut (hR H) (nR w) (wR W) (cR C) (oR O) (i 0).val (i 1).val

theorem value : Value.res_main_v44 m c = G (m (c.tc.loc main_arg0)) (m (c.tc.loc main_arg1)) (m (c.tc.loc main_arg2)) (m (c.tc.loc main_arg3)) (m (c.tc.loc main_arg4)) := by
  refine (out_eq m c).trans (funext fun i => ?_)
  have hi : i = ix2 (i 0) (i 1) := by funext a; match a with | 0 => rfl | 1 => rfl
  have hX := nrm_at (m (c.tc.loc main_arg0)) (m (c.tc.loc main_arg1))
  have hP := prj_at _ (m (c.tc.loc main_arg2)) hX
  refine (congrArg _ hi).trans (out_at _ _ _ _ hP (cnv_at _ _ (padded_at _ hP)) (i 0) (i 1))

end Cert.Reference2Ideal.Hand
-- ==== Proof.ScClaims.lean ====
module

public import proofs.«01_k».proof.Defs
public import proofs.«01_k».proof.Proof.ScFrame
public import proofs.«01_k».proof.Proof.ScValue
public import proofs.«01_k».proof.Proof.ScRef
public import proofs.«01_k».proof.Proof.Gen.Kernel2
public import Idealize.ShloMosaic.Lib.Claim

/-! The claims about the short convolution. -/

@[expose] public section

noncomputable section

namespace Cert.Proof

open Idealize.ShloMosaic Idealize.SL.Sem

attribute [local instance] Cert.Kernel2.Gen.facts Cert.Kernel2Ideal.Gen.facts Cert.Reference2Ideal.Gen.facts

theorem frame_kernel2Ideal : Cert.quiescent_Kernel2Ideal := fun m ρ _ => Cert.Kernel2Ideal.Hand.run_frame (F := Ideal) m ρ

/-- The two programs' bodies are one text. -/
theorem bodies2 : (Cert.Kernel2Ideal.defs₀ (F := Bits)) = Cert.Kernel2.defs₀ (F := Bits) := by
  unfold Cert.Kernel2Ideal.defs₀ Cert.Kernel2.defs₀
  refine congrArg Defs.onTc (funext fun l => funext fun a => ?_)
  match l, a with
  | 0, (t, s) =>
    show Cert.Kernel2Ideal.cc0_short_conv _ _ _ _ _ _ _ _ _ _ _ _ _ _ _ _ _ _ _ _ _ _ _ _ = Cert.Kernel2.cc0_short_conv _ _ _ _ _ _ _ _ _ _ _ _ _ _ _ _ _ _ _ _ _ _ _ _
    rfl
theorem tables2 : (Cert.Kernel2Ideal.defs (F := Bits)) = Cert.Kernel2.defs (F := Bits) := congrArg (Pipeline.defs _) bodies2

theorem frame_kernel2 : Cert.quiescent_Kernel2 := fun m ρ _ => by
  rw [← tables2]
  exact (θ_run Cert.Kernel2Ideal.defs _ _).mono (fun _ h => h) (Cert.Kernel2Ideal.Hand.run_frame (F := Bits) m ρ)

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The two specifications are one. -/
theorem value2 (m : (ℓ : Loc Cert.Kernel2Ideal.nD Cert.Kernel2Ideal.τ Cert.Kernel2Ideal.sig) → Buf (Elt Ideal) ℓ) (c : Dev Cert.Kernel2Ideal.nD) :
    Cert.Kernel2Ideal.Hand.G m c = Cert.Reference2Ideal.Hand.G (Cert.Kernel2Ideal.Hand.argH m c) (Cert.Kernel2Ideal.Hand.argN m c) (Cert.Kernel2Ideal.Hand.argW m c) (Cert.Kernel2Ideal.Hand.argC m c) (Cert.Kernel2Ideal.Hand.argO m c) := rfl

/-- The kernel's run with the array it writes named. -/
theorem run_value2 (m : (ℓ : Loc Cert.Kernel2Ideal.nD Cert.Kernel2Ideal.τ Cert.Kernel2Ideal.sig) → Buf (Elt Ideal) ℓ) (g : Dev Cert.Kernel2Ideal.nD → PrngReg) :
    θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
      r.2.mem ((c.tc : Thread Cert.Kernel2Ideal.nD Cert.Kernel2Ideal.τ).loc Cert.Kernel2Ideal.main_v4) = Cert.Kernel2Ideal.Hand.G m c) :=
  (θ_run Cert.Kernel2Ideal.defs _ _).mono (fun r h c => ((h.1 c).1 6).trans (Cert.Kernel2Ideal.Hand.final m c)) (Cert.Kernel2Ideal.Hand.run_main (F := Ideal) m g)

theorem algebraic2 : Cert.algebraic_Kernel2Ideal_Reference2Ideal := fun m g m' g' _ hagree =>
  ⟨fun c => Cert.Kernel2Ideal.Hand.G m c,
    (θ_run Cert.Kernel2Ideal.defs _ _).mono (fun r h c => ⟨h.1 c, h.2.1 c⟩)
      (θ_run_and (run_value2 m g) (Cert.Kernel2Ideal.Hand.run_frame (F := Ideal) m g)),
    (θ_run Cert.Reference2Ideal.defs _ _).mono (fun r h c => by
      obtain ⟨a0, a1, a2, a3, a4⟩ := hagree c
      refine ⟨(h c).1.trans ((Cert.Reference2Ideal.Hand.value m' c).trans ?_), (h c).2⟩
      rw [a0, a1, a2, a3, a4]
      exact (value2 m c).symm) (Cert.Reference2Ideal.Value.run (F := Ideal) m' g')⟩

end Cert.Proof
-- ==== Proof.FfnStep.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Halves
public import Idealize.ShloMosaic.Lib.Pipeline.FrameBody
public import Idealize.ShloMosaic.Lib.Ring
public import Idealize.ShloMosaic.Lib.Pipeline.Value
public import Idealize.ShloMosaic.Lib.Tactic
public import Idealize.ShloMosaic.Lib.WordCmp

/-! One grid step of the last feed-forward layer: what it computes, and what its body leaves in the buffers. -/

@[expose] public section

set_option maxRecDepth 16384

noncomputable section

namespace Cert.KernelIdeal.Hand

open Cert.KernelIdeal Cert.KernelIdeal.Gen Cert.Halves
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- What one half tile of rows leaves for the next: its last eight rows of a block of gate channels, -/
def nextG (xh : Vec F S512x2048 .bf16) (wg : Vec F S2048x512 .bf16) : Vec F S1x8x512 .f32 := k0_pay34 (k0_pay26 xh wg)
/-- and of the value channels. -/
def nextV (xh : Vec F S512x2048 .bf16) (wv : Vec F S2048x512 .bf16) : Vec F S1x8x512 .f32 := k0_pay35 (k0_pay27 xh wv)

/-- One block of channels added to the upper half of the result, `pg` and `pv` being what the rows before left. -/
def stepLo (xl : Vec F S512x2048 .bf16) (pg pv : Vec F S1x8x512 .f32) (wg wv : Vec F S2048x512 .bf16) (cg cv : Vec F S3x512 .f32)
    (wd : Vec F S512x2048 .bf16) (ol : Vec F S512x2048 .f32) : Vec F S512x2048 .f32 :=
  k0_pay36 (k0_pay30 (k0_pay25 xl wv) (k0_pay28 pv) (k0_pay29 xl wg pg cg) cv) ol wd

/-- One block of channels added to the lower half of the result. -/
def stepHi (xl xh : Vec F S512x2048 .bf16) (wg wv : Vec F S2048x512 .bf16) (cg cv : Vec F S3x512 .f32)
    (wd : Vec F S512x2048 .bf16) (oh : Vec F S512x2048 .f32) : Vec F S512x2048 .f32 :=
  k0_pay37 (k0_pay27 xh wv) (k0_pay31 (k0_pay24 xl wg) (k0_pay26 xh wg) cg) (k0_pay32 (k0_pay25 xl wv) (k0_pay27 xh wv) cv) (k0_pay33 cv) oh wd

/-- One block of channels added to a tile of the result. -/
def stepOut (xn : Vec F S1024x2048 .bf16) (pg pv : Vec F S1x8x512 .f32) (wg wv : Vec F S2048x512 .bf16) (cg cv : Vec F S3x512 .f32)
    (wd : Vec F S512x2048 .bf16) (o : Vec F S1024x2048 .f32) : Vec F S1024x2048 .f32 :=
  two (stepLo (lo xn) pg pv wg wv cg cv wd (lo o)) (stepHi (lo xn) (hi xn) wg wv cg cv wd (hi o))

/-- A tile normalised. -/
def normed (h : Vec F S1024x2048 .f32) (nw : Vec F S1x2048 .f32) : Vec F S1024x2048 .bf16 :=
  two (k0_pay2 (lo h) nw) (k0_pay2 (hi h) nw)

theorem tailInb (i : grid0.Coords) : ∀ a, (![(i 1).val, 0, 0] : Fin 3 → ℕ) a + S1x8x512.size a ≤ S11x8x512.size a := fun a => by
  have h : (i 1).val < 11 := (i 1).isLt
  match a with
  | 0 => show (i 1).val + 1 ≤ 11; omega
  | 1 => show 0 + 8 ≤ 8; omega
  | 2 => show 0 + 512 ≤ 512; omega

/-- The slot of the block of channels at hand. -/
def slotOf (i : grid0.Coords) (tz : Vec F S11x8x512 .f32) : Vec F S1x8x512 .f32 := VecWindow.window tz ![(i 1).val, 0, 0] S1x8x512.size (tailInb i)

/-- What the rows before left in that slot: `z` where a sequence starts. -/
def prevTail (z : Vec F S1x8x512 .f32) (i : grid0.Coords) (tz : Vec F S11x8x512 .f32) : Vec F S1x8x512 .f32 := if k0_cond3 i = 1#1 then z else slotOf i tz

/-- The slot written. -/
def putTail (i : grid0.Coords) (tz : Vec F S11x8x512 .f32) (w : Vec F S1x8x512 .f32) : Vec F S11x8x512 .f32 := VecWindow.put tz ![(i 1).val, 0, 0] S1x8x512.size w

/-- The rows of the residual stream from `r` on. -/
def rowsAt (g : Vec F S8192x2048 .f32) (off : Fin 2 → ℕ) (inb : ∀ a, off a + S1024x2048.size a ≤ S8192x2048.size a) : Vec F S1024x2048 .f32 :=
  VecWindow.window g off S1024x2048.size inb

variable (z : Vec F S1x8x512 .f32) (v : View sig .tc .vmem S11x8x512 .f32) (f : v.ty.Contents (Elt F)) (i : grid0.Coords)

/-- The load of the slot, after it was cleared where a sequence starts. -/
theorem readAt_prev {off off' : Fin 3 → ℕ} (h : off = ![(i 1).val, 0, 0]) (h' : off' = ![(i 1).val, 0, 0]) (inb : ∀ a, off a + S1x8x512.size a ≤ S11x8x512.size a)
    (inb' : k0_cond3 i = 1#1 → ∀ a, off' a + S1x8x512.size a ≤ S11x8x512.size a) :
    v.readAt (Elt F) (Rect.unit (s := S11x8x512) off S1x8x512.size inb).toLoadRect
      (if hc : k0_cond3 i = 1#1 then v.writes (Elt F) f [⟨Rect.unit (s := S11x8x512) off' S1x8x512.size (inb' hc), z⟩] else f) = prevTail z i (v.read (Elt F) f) := by
  subst h h'
  unfold prevTail
  split
  · refine (View.readAt_unit v _ inb rfl (tailInb i)).trans ?_
    rw [View.read_writes_cons_put v f (inb' ‹_›) _ [] rfl]
    exact VecWindow.window_put_same _ _ _ _ _
  · exact View.readAt_unit v _ inb rfl (tailInb i)

/-- The slots after this block's tail is stored. -/
theorem read_put {off off' : Fin 3 → ℕ} (h : off = ![(i 1).val, 0, 0]) (h' : off' = ![(i 1).val, 0, 0]) (inb : ∀ a, off a + S1x8x512.size a ≤ S11x8x512.size a)
    (inb' : k0_cond3 i = 1#1 → ∀ a, off' a + S1x8x512.size a ≤ S11x8x512.size a) (w : Vec F S1x8x512 .f32) :
    v.read (Elt F) (v.writes (Elt F) (if hc : k0_cond3 i = 1#1 then v.writes (Elt F) f [⟨Rect.unit (s := S11x8x512) off' S1x8x512.size (inb' hc), z⟩] else f)
      [⟨Rect.unit (s := S11x8x512) off S1x8x512.size inb, w⟩]) = putTail i (v.read (Elt F) f) w := by
  subst h h'
  refine (View.read_writes_cons_put v _ inb w [] rfl).trans ?_
  rw [View.writes_nil]
  unfold putTail
  split
  · rw [View.read_writes_cons_put v f (inb' ‹_›) _ [] rfl]
    exact VecWindow.put_put_same _ _ _ _ _
  · rfl

section Whole

variable (v : View sig .tc .vmem S1024x2048 .f32) (f : v.ty.Contents (Elt F)) (L : List (View.Piece (Elt F) S1024x2048 .f32))
  (inb : ∀ k, (![0, 0] : Fin 2 → ℕ) k + S1024x2048.size k ≤ S1024x2048.size k)

/-- A tile stored whole. -/
theorem read_full (x : Vec F S1024x2048 .f32) : v.read (Elt F) (v.writes (Elt F) f (⟨Rect.unit (s := S1024x2048) ![0, 0] S1024x2048.size inb, x⟩ :: L)) = x := by
  refine (View.read_writes_cons_put v f inb x L rfl).trans (funext fun y => (dif_pos fun k => ?_).trans (congrArg x (funext fun k => ?_)))
  · match k with
    | 0 => exact ⟨Nat.zero_le _, by have h : (y 0).val < 1024 := (y 0).isLt; show (y 0).val < 0 + 1024; omega⟩
    | 1 => exact ⟨Nat.zero_le _, by have h : (y 1).val < 2048 := (y 1).isLt; show (y 1).val < 0 + 2048; omega⟩
  · match k with
    | 0 => rfl
    | 1 => rfl

end Whole

end Cert.KernelIdeal.Hand
-- ==== Proof.FfnRun.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.FfnStep
public import Idealize.ShloMosaic.Lib.Pipeline.FrameBody
public import Idealize.ShloMosaic.Lib.Ring
public import Idealize.ShloMosaic.Lib.Pipeline.Value
public import Idealize.ShloMosaic.Lib.Tactic
public import Idealize.ShloMosaic.Lib.WordCmp

/-! The body of one grid step of the last feed-forward layer, run once for each of the five ways its tests come out. -/

@[expose] public section

set_option maxRecDepth 16384

noncomputable section

namespace Cert.KernelIdeal.Hand

open Cert.KernelIdeal Cert.KernelIdeal.Gen Cert.Halves
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

abbrev hM : Memref sig .tc .hbm S8192x2048 .f32 := Memref.whole main_v0
abbrev bufM : Memref sig .tc .vmem S1024x2048 .f32 := Memref.whole cc0_scratch1
abbrev xnM : Memref sig .tc .vmem S1024x2048 .bf16 := Memref.whole cc0_scratch0
abbrev gM : Memref sig .tc .vmem S11x8x512 .f32 := Memref.whole cc0_scratch3
abbrev vM : Memref sig .tc .vmem S11x8x512 .f32 := Memref.whole cc0_scratch4

/-- A buffer held outright. -/
abbrev ptAll (c : Dev nD) {sp : Space} {S : Shape} {e : EltTy} (M : Memref sig .tc sp S e) (f : Buf (Elt F) (M.view.loc (c : Thread nD τ))) : sProp 𝕄 :=
  M.view.loc (c : Thread nD τ) ↦{fullShare} f
/-- A buffer's elements `s` held. -/
abbrev ptOn (c : Dev nD) {sp : Space} {S : Shape} {e : EltTy} (M : Memref sig .tc sp S e) (s : Finset M.view.ty.Idx)
    (f : Buf (Elt F) (M.view.loc (c : Thread nD τ))) : sProp 𝕄 :=
  M.view.loc (c : Thread nD τ) ↦[s]{fullShare} f
/-- The copy of a tile of rows into the tile buffer, under way: what it hands over is the buffer with `f` in it and the rows it reads. -/
abbrev copying (c : Dev nD) (f : Buf (Elt F) (bufM.view.loc (c : Thread nD τ))) (s : Finset hM.view.ty.Idx) (g : Vec F S8192x2048 .f32) : sProp 𝕄 :=
  Transfers.Flight (countersEmb (U := Pipeline.UD sig nD τ)) (c : Thread nD τ) (.dma 14) () 262144
    iprop(ptOn c bufM bufM.view.set f ∗ ptOn c hM s g)

section Runs

variable (c : Dev nD) (i : grid0.Coords)
  (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S3x512 .f32) (harg7 : arg7.IsWhole) (arg8 : Memref sig .tc .vmem S512x2048 .bf16) (harg8 : arg8.IsWhole) (arg9 : Memref sig .tc .vmem S1x2048 .f32) (harg9 : arg9.IsWhole) (arg10 : Memref sig .tc .vmem S1024x2048 .f32) (harg10 : arg10.IsWhole)
  (x3 : Vec F S1x2048 .f32) (x4 : Vec F S2048x512 .bf16) (x5 : Vec F S2048x512 .bf16) (x6 : Vec F S3x512 .f32) (x7 : Vec F S3x512 .f32) (x8 : Vec F S512x2048 .bf16) (x9 : Vec F S1x2048 .f32)
  (o : Vec F S1024x2048 .f32) (xn : Vec F S1024x2048 .bf16) (tg tv : Vec F S11x8x512 .f32) (g : Vec F S8192x2048 .f32)

/-- The buffers every grid step touches: the inputs, the result's tile,  the normalised tile and the tails. -/
abbrev held (o : Vec F S1024x2048 .f32) (xn : Vec F S1024x2048 .bf16) (tg tv : Vec F S11x8x512 .f32) : sProp 𝕄 :=
  iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
    ∗ owns (c : Thread nD τ) arg10 fullShare o ∗ owns (c : Thread nD τ) xnM fullShare xn ∗ owns (c : Thread nD τ) gM fullShare tg ∗ owns (c : Thread nD τ) vM fullShare tv)

/--  A later block of channels, with no copy started. -/
theorem run_later
    (hc1 : ¬ k0_cond1 i = 1#1) (hc2 : ¬ k0_cond2 i = 1#1) (hc4 : ¬ k0_cond4 i = 1#1) (hc5 : k0_cond5 i = 1#1) (hc6 : ¬ k0_cond6 i = 1#1)
    (W : Waits sig Unit) (K : PUnit → sProp 𝕄) :
    iprop(held c arg3 arg4 arg5 arg6 arg7 arg8 arg9 arg10 x3 x4 x5 x6 x7 x8 x9 o xn tg tv
        ∗ owes (c : Thread nD τ) 0 W
        ∗ (held c arg3 arg4 arg5 arg6 arg7 arg8 arg9 arg10 x3 x4 x5 x6 x7 x8 x9
              (stepOut xn (prevTail k0_pay38 i tg) (prevTail k0_pay39 i tv) x4 x5 x6 x7 x8 o)
              xn (putTail i tg (nextG (hi xn) x4)) (putTail i tv (nextV (hi xn) x5))
            ∗ (∃ W', owes (c : Thread nD τ) 0 W') -∗ K ⟨⟩))
      ⊢ wp frame (wpE (defs₀ (F := F)) Variants.none c none) Set.univ
          (cc0_ffn_final i hM (Memref.isWhole_whole _) arg3 harg3 arg4 harg4 arg5 harg5 arg6 harg6 arg7 harg7 arg8 harg8 arg9 harg9 arg10 harg10
            xnM (Memref.isWhole_whole _) bufM (Memref.isWhole_whole _)
            cc0_scratch2 gM (Memref.isWhole_whole _) vM (Memref.isWhole_whole _)) K := by
  simp only [cc0_ffn_final_eq_skeleton]; unfold cc0_ffn_final_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f14, %hf14, H14⟩, ⟨%f15, %hf15, H15⟩⟩, HW, Hk⟩
  sl_exec
  sl_step
  iapply Hk
  isplitl [H3 H4 H5 H6 H7 H8 H9 H10 H11 H14 H15]
  · isplitl [H3]; · iexists f3; isplitr; · ipureintro; exact hf3
                    iexact H3
    isplitl [H4]; · iexists f4; isplitr; · ipureintro; exact hf4
                    iexact H4
    isplitl [H5]; · iexists f5; isplitr; · ipureintro; exact hf5
                    iexact H5
    isplitl [H6]; · iexists f6; isplitr; · ipureintro; exact hf6
                    iexact H6
    isplitl [H7]; · iexists f7; isplitr; · ipureintro; exact hf7
                    iexact H7
    isplitl [H8]; · iexists f8; isplitr; · ipureintro; exact hf8
                    iexact H8
    isplitl [H9]; · iexists f9; isplitr; · ipureintro; exact hf9
                    iexact H9
    have e3 := View.readAt_full arg3.view f3 inb_S1x2048_S1x2048_0_0
    have e4 := View.readAt_full arg4.view f4 inb_S2048x512_S2048x512_0_0
    have e5 := View.readAt_full arg5.view f5 inb_S2048x512_S2048x512_0_0
    have e6 := View.readAt_full arg6.view f6 inb_S3x512_S3x512_0_0
    have e7 := View.readAt_full arg7.view f7 inb_S3x512_S3x512_0_0
    have e8 := View.readAt_full arg8.view f8 inb_S512x2048_S512x2048_0_0
    have e9 := View.readAt_full arg9.view f9 inb_S1x2048_S1x2048_0_0
    rw [hf3] at e3; rw [hf4] at e4; rw [hf5] at e5; rw [hf6] at e6; rw [hf7] at e7; rw [hf8] at e8; rw [hf9] at e9
    subst hf10 hf11 hf14 hf15 e3 e4 e5 e6 e7 e8 e9
    clear hf3 hf4 hf5 hf6 hf7 hf8 hf9
    isplitl [H10]
    · iexists _; isplitr; swap; · iexact H10
      ipureintro
      refine (read_two arg10.view f10 _ _ _ _ _).trans ?_
      have eg := readAt_prev k0_pay38 gM.view f14 i (k0_off6_eq i) (k0_off3_eq i) (k0_off6_inb i hc5) (fun hc => k0_off3_inb i hc)
      have ev := readAt_prev k0_pay39 vM.view f15 i (k0_off6_eq i) (k0_off3_eq i) (k0_off6_inb i hc5) (fun hc => k0_off3_inb i hc)
      unfold stepOut
      rw [← eg, ← ev]
      rfl
    isplitl [H11]
    · iexists _; isplitr; swap; · iexact H11
      ipureintro
      rfl
    isplitl [H14]
    · iexists _; isplitr; swap; · iexact H14
      ipureintro
      exact read_put k0_pay38 gM.view f14 i (k0_off6_eq i) (k0_off3_eq i) (k0_off6_inb i hc5) (fun hc => k0_off3_inb i hc) _
    · iexists _; isplitr; swap; · iexact H15
      ipureintro
      exact read_put k0_pay39 vM.view f15 i (k0_off6_eq i) (k0_off3_eq i) (k0_off6_inb i hc5) (fun hc => k0_off3_inb i hc) _
  iexists _; iexact HW

/--  The last block of channels of a tile: the rows are normalised. -/
theorem run_last
    (hc1 : ¬ k0_cond1 i = 1#1) (hc2 : ¬ k0_cond2 i = 1#1) (hc4 : ¬ k0_cond4 i = 1#1) (hc5 : k0_cond5 i = 1#1) (hc6 : k0_cond6 i = 1#1)
    (W : Waits sig Unit) (K : PUnit → sProp 𝕄) :
    iprop(held c arg3 arg4 arg5 arg6 arg7 arg8 arg9 arg10 x3 x4 x5 x6 x7 x8 x9 o xn tg tv
        ∗ owes (c : Thread nD τ) 0 W
        ∗ (held c arg3 arg4 arg5 arg6 arg7 arg8 arg9 arg10 x3 x4 x5 x6 x7 x8 x9
              (k0_pay1 (stepOut xn (prevTail k0_pay38 i tg) (prevTail k0_pay39 i tv) x4 x5 x6 x7 x8 o) x9)
              xn (putTail i tg (nextG (hi xn) x4)) (putTail i tv (nextV (hi xn) x5))
            ∗ (∃ W', owes (c : Thread nD τ) 0 W') -∗ K ⟨⟩))
      ⊢ wp frame (wpE (defs₀ (F := F)) Variants.none c none) Set.univ
          (cc0_ffn_final i hM (Memref.isWhole_whole _) arg3 harg3 arg4 harg4 arg5 harg5 arg6 harg6 arg7 harg7 arg8 harg8 arg9 harg9 arg10 harg10
            xnM (Memref.isWhole_whole _) bufM (Memref.isWhole_whole _)
            cc0_scratch2 gM (Memref.isWhole_whole _) vM (Memref.isWhole_whole _)) K := by
  simp only [cc0_ffn_final_eq_skeleton]; unfold cc0_ffn_final_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f14, %hf14, H14⟩, ⟨%f15, %hf15, H15⟩⟩, HW, Hk⟩
  sl_exec
  sl_step
  iapply Hk
  isplitl [H3 H4 H5 H6 H7 H8 H9 H10 H11 H14 H15]
  · isplitl [H3]; · iexists f3; isplitr; · ipureintro; exact hf3
                    iexact H3
    isplitl [H4]; · iexists f4; isplitr; · ipureintro; exact hf4
                    iexact H4
    isplitl [H5]; · iexists f5; isplitr; · ipureintro; exact hf5
                    iexact H5
    isplitl [H6]; · iexists f6; isplitr; · ipureintro; exact hf6
                    iexact H6
    isplitl [H7]; · iexists f7; isplitr; · ipureintro; exact hf7
                    iexact H7
    isplitl [H8]; · iexists f8; isplitr; · ipureintro; exact hf8
                    iexact H8
    isplitl [H9]; · iexists f9; isplitr; · ipureintro; exact hf9
                    iexact H9
    have e3 := View.readAt_full arg3.view f3 inb_S1x2048_S1x2048_0_0
    have e4 := View.readAt_full arg4.view f4 inb_S2048x512_S2048x512_0_0
    have e5 := View.readAt_full arg5.view f5 inb_S2048x512_S2048x512_0_0
    have e6 := View.readAt_full arg6.view f6 inb_S3x512_S3x512_0_0
    have e7 := View.readAt_full arg7.view f7 inb_S3x512_S3x512_0_0
    have e8 := View.readAt_full arg8.view f8 inb_S512x2048_S512x2048_0_0
    have e9 := View.readAt_full arg9.view f9 inb_S1x2048_S1x2048_0_0
    rw [hf3] at e3; rw [hf4] at e4; rw [hf5] at e5; rw [hf6] at e6; rw [hf7] at e7; rw [hf8] at e8; rw [hf9] at e9
    subst hf10 hf11 hf14 hf15 e3 e4 e5 e6 e7 e8 e9
    clear hf3 hf4 hf5 hf6 hf7 hf8 hf9
    isplitl [H10]
    · iexists _; isplitr; swap; · iexact H10
      ipureintro
      refine (read_full arg10.view f10 _ _ _).trans (congrArg (k0_pay1 · _) ?_)
      refine (readCov_tile arg10.view _ _ _ _ _ _).trans ?_
      have eg := readAt_prev k0_pay38 gM.view f14 i (k0_off6_eq i) (k0_off3_eq i) (k0_off6_inb i hc5) (fun hc => k0_off3_inb i hc)
      have ev := readAt_prev k0_pay39 vM.view f15 i (k0_off6_eq i) (k0_off3_eq i) (k0_off6_inb i hc5) (fun hc => k0_off3_inb i hc)
      unfold stepOut
      rw [← eg, ← ev]
      rfl
    isplitl [H11]
    · iexists _; isplitr; swap; · iexact H11
      ipureintro
      rfl
    isplitl [H14]
    · iexists _; isplitr; swap; · iexact H14
      ipureintro
      exact read_put k0_pay38 gM.view f14 i (k0_off6_eq i) (k0_off3_eq i) (k0_off6_inb i hc5) (fun hc => k0_off3_inb i hc) _
    · iexists _; isplitr; swap; · iexact H15
      ipureintro
      exact read_put k0_pay39 vM.view f15 i (k0_off6_eq i) (k0_off3_eq i) (k0_off6_inb i hc5) (fun hc => k0_off3_inb i hc) _
  iexists _; iexact HW

/-- A later block of channels that starts the copy of the next tile of rows. -/
theorem run_issue
    (hc1 : ¬ k0_cond1 i = 1#1) (hc2 : k0_cond2 i = 1#1) (hc4 : ¬ k0_cond4 i = 1#1) (hc5 : k0_cond5 i = 1#1) (hc6 : ¬ k0_cond6 i = 1#1)
    (W : Waits sig Unit) (K : PUnit → sProp 𝕄) :
    iprop(held c arg3 arg4 arg5 arg6 arg7 arg8 arg9 arg10 x3 x4 x5 x6 x7 x8 x9 o xn tg tv
        ∗ (∃ d, owns (c : Thread nD τ) bufM fullShare d) ∗ ptAll c hM g ∗ semVal ((c : Thread nD τ), SemLoc.dma 14) 0 ∗ owes (c : Thread nD τ) 0 W
        ∗ (held c arg3 arg4 arg5 arg6 arg7 arg8 arg9 arg10 x3 x4 x5 x6 x7 x8 x9
              (stepOut xn (prevTail k0_pay38 i tg) (prevTail k0_pay39 i tv) x4 x5 x6 x7 x8 o)
              xn (putTail i tg (nextG (hi xn) x4)) (putTail i tv (nextV (hi xn) x5))
            ∗ (∃ f s, ⌜bufM.view.read (Elt F) f = rowsAt g (k0_off2 i) (k0_off2_inb i hc2)⌝ ∗ copying c f s g ∗ ptOn c hM (Finset.univ \ s) g) ∗ (∃ W', owes (c : Thread nD τ) 0 W') -∗ K ⟨⟩))
      ⊢ wp frame (wpE (defs₀ (F := F)) Variants.none c none) Set.univ
          (cc0_ffn_final i hM (Memref.isWhole_whole _) arg3 harg3 arg4 harg4 arg5 harg5 arg6 harg6 arg7 harg7 arg8 harg8 arg9 harg9 arg10 harg10
            xnM (Memref.isWhole_whole _) bufM (Memref.isWhole_whole _)
            cc0_scratch2 gM (Memref.isWhole_whole _) vM (Memref.isWhole_whole _)) K := by
  simp only [cc0_ffn_final_eq_skeleton]; unfold cc0_ffn_final_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f14, %hf14, H14⟩, ⟨%f15, %hf15, H15⟩⟩, ⟨%db, %fb, %hfb, Hb⟩, Hh, HS, HW, Hk⟩
  sl_exec
  sl_step
  iapply Hk
  isplitl [H3 H4 H5 H6 H7 H8 H9 H10 H11 H14 H15]
  · isplitl [H3]; · iexists f3; isplitr; · ipureintro; exact hf3
                    iexact H3
    isplitl [H4]; · iexists f4; isplitr; · ipureintro; exact hf4
                    iexact H4
    isplitl [H5]; · iexists f5; isplitr; · ipureintro; exact hf5
                    iexact H5
    isplitl [H6]; · iexists f6; isplitr; · ipureintro; exact hf6
                    iexact H6
    isplitl [H7]; · iexists f7; isplitr; · ipureintro; exact hf7
                    iexact H7
    isplitl [H8]; · iexists f8; isplitr; · ipureintro; exact hf8
                    iexact H8
    isplitl [H9]; · iexists f9; isplitr; · ipureintro; exact hf9
                    iexact H9
    have e3 := View.readAt_full arg3.view f3 inb_S1x2048_S1x2048_0_0
    have e4 := View.readAt_full arg4.view f4 inb_S2048x512_S2048x512_0_0
    have e5 := View.readAt_full arg5.view f5 inb_S2048x512_S2048x512_0_0
    have e6 := View.readAt_full arg6.view f6 inb_S3x512_S3x512_0_0
    have e7 := View.readAt_full arg7.view f7 inb_S3x512_S3x512_0_0
    have e8 := View.readAt_full arg8.view f8 inb_S512x2048_S512x2048_0_0
    have e9 := View.readAt_full arg9.view f9 inb_S1x2048_S1x2048_0_0
    rw [hf3] at e3; rw [hf4] at e4; rw [hf5] at e5; rw [hf6] at e6; rw [hf7] at e7; rw [hf8] at e8; rw [hf9] at e9
    subst hf10 hf11 hf14 hf15 e3 e4 e5 e6 e7 e8 e9
    clear hf3 hf4 hf5 hf6 hf7 hf8 hf9
    isplitl [H10]
    · iexists _; isplitr; swap; · iexact H10
      ipureintro
      refine (read_two arg10.view f10 _ _ _ _ _).trans ?_
      have eg := readAt_prev k0_pay38 gM.view f14 i (k0_off6_eq i) (k0_off3_eq i) (k0_off6_inb i hc5) (fun hc => k0_off3_inb i hc)
      have ev := readAt_prev k0_pay39 vM.view f15 i (k0_off6_eq i) (k0_off3_eq i) (k0_off6_inb i hc5) (fun hc => k0_off3_inb i hc)
      unfold stepOut
      rw [← eg, ← ev]
      rfl
    isplitl [H11]
    · iexists _; isplitr; swap; · iexact H11
      ipureintro
      rfl
    isplitl [H14]
    · iexists _; isplitr; swap; · iexact H14
      ipureintro
      exact read_put k0_pay38 gM.view f14 i (k0_off6_eq i) (k0_off3_eq i) (k0_off6_inb i hc5) (fun hc => k0_off3_inb i hc) _
    · iexists _; isplitr; swap; · iexact H15
      ipureintro
      exact read_put k0_pay39 vM.view f15 i (k0_off6_eq i) (k0_off3_eq i) (k0_off6_inb i hc5) (fun hc => k0_off3_inb i hc) _
  isplitl [HS Hh]
  · iexists _, _; isplitr; swap
    · isplitl [HS]; · iexact HS
      iexact Hh
    ipureintro
    exact View.read_writes_whole _ _ _
  iexists _; iexact HW

/-- The first block of channels of the first tile: it copies the tile in and waits for it. -/
theorem run_first
    (hc1 : k0_cond1 i = 1#1) (hc2 : ¬ k0_cond2 i = 1#1) (hc4 : k0_cond4 i = 1#1) (hc5 : ¬ k0_cond5 i = 1#1) (hc6 : ¬ k0_cond6 i = 1#1)
    (W : Waits sig Unit) (K : PUnit → sProp 𝕄) :
    iprop(held c arg3 arg4 arg5 arg6 arg7 arg8 arg9 arg10 x3 x4 x5 x6 x7 x8 x9 o xn tg tv
        ∗ (∃ d, owns (c : Thread nD τ) bufM fullShare d) ∗ ptAll c hM g ∗ semVal ((c : Thread nD τ), SemLoc.dma 14) 0 ∗ owes (c : Thread nD τ) 0 W
        ∗ (held c arg3 arg4 arg5 arg6 arg7 arg8 arg9 arg10 x3 x4 x5 x6 x7 x8 x9
              (stepOut (normed (rowsAt g (k0_off1 i) (k0_off1_inb i hc1)) x3) (prevTail k0_pay38 i tg) (prevTail k0_pay39 i tv) x4 x5 x6 x7 x8 (rowsAt g (k0_off1 i) (k0_off1_inb i hc1)))
              (normed (rowsAt g (k0_off1 i) (k0_off1_inb i hc1)) x3) (putTail i tg (nextG (hi (normed (rowsAt g (k0_off1 i) (k0_off1_inb i hc1)) x3)) x4)) (putTail i tv (nextV (hi (normed (rowsAt g (k0_off1 i) (k0_off1_inb i hc1)) x3)) x5))
            ∗ (∃ d, owns (c : Thread nD τ) bufM fullShare d) ∗ ptAll c hM g ∗ semVal ((c : Thread nD τ), SemLoc.dma 14) 0 ∗ (∃ W', owes (c : Thread nD τ) 0 W') -∗ K ⟨⟩))
      ⊢ wp frame (wpE (defs₀ (F := F)) Variants.none c none) Set.univ
          (cc0_ffn_final i hM (Memref.isWhole_whole _) arg3 harg3 arg4 harg4 arg5 harg5 arg6 harg6 arg7 harg7 arg8 harg8 arg9 harg9 arg10 harg10
            xnM (Memref.isWhole_whole _) bufM (Memref.isWhole_whole _)
            cc0_scratch2 gM (Memref.isWhole_whole _) vM (Memref.isWhole_whole _)) K := by
  simp only [cc0_ffn_final_eq_skeleton]; unfold cc0_ffn_final_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f14, %hf14, H14⟩, ⟨%f15, %hf15, H15⟩⟩, ⟨%db, %fb, %hfb, Hb⟩, Hh, HS, HW, Hk⟩
  sl_exec
  sl_step
  iapply Hk
  isplitl [H3 H4 H5 H6 H7 H8 H9 H10 H11 H14 H15]
  · isplitl [H3]; · iexists f3; isplitr; · ipureintro; exact hf3
                    iexact H3
    isplitl [H4]; · iexists f4; isplitr; · ipureintro; exact hf4
                    iexact H4
    isplitl [H5]; · iexists f5; isplitr; · ipureintro; exact hf5
                    iexact H5
    isplitl [H6]; · iexists f6; isplitr; · ipureintro; exact hf6
                    iexact H6
    isplitl [H7]; · iexists f7; isplitr; · ipureintro; exact hf7
                    iexact H7
    isplitl [H8]; · iexists f8; isplitr; · ipureintro; exact hf8
                    iexact H8
    isplitl [H9]; · iexists f9; isplitr; · ipureintro; exact hf9
                    iexact H9
    have e3 := View.readAt_full arg3.view f3 inb_S1x2048_S1x2048_0_0
    have e4 := View.readAt_full arg4.view f4 inb_S2048x512_S2048x512_0_0
    have e5 := View.readAt_full arg5.view f5 inb_S2048x512_S2048x512_0_0
    have e6 := View.readAt_full arg6.view f6 inb_S3x512_S3x512_0_0
    have e7 := View.readAt_full arg7.view f7 inb_S3x512_S3x512_0_0
    have e8 := View.readAt_full arg8.view f8 inb_S512x2048_S512x2048_0_0
    have e9 := View.readAt_full arg9.view f9 inb_S1x2048_S1x2048_0_0
    rw [hf3] at e3; rw [hf4] at e4; rw [hf5] at e5; rw [hf6] at e6; rw [hf7] at e7; rw [hf8] at e8; rw [hf9] at e9
    subst hf10 hf11 hf14 hf15 e3 e4 e5 e6 e7 e8 e9
    clear hf3 hf4 hf5 hf6 hf7 hf8 hf9
    isplitl [H10]
    · iexists _; isplitr; swap; · iexact H10
      ipureintro
      refine (read_two arg10.view f10 _ _ _ _ _).trans ?_
      have eg := readAt_prev k0_pay38 gM.view f14 i (k0_off5_eq i) (k0_off3_eq i) (k0_off5_inb i hc4) (fun hc => k0_off3_inb i hc)
      have ev := readAt_prev k0_pay39 vM.view f15 i (k0_off5_eq i) (k0_off3_eq i) (k0_off5_inb i hc4) (fun hc => k0_off3_inb i hc)
      have el : run_first.sl.v36 c i g hc1 = lo (rowsAt g (k0_off1 i) (k0_off1_inb i hc1)) := readCov_whole_lo _ _ _
      have eh : run_first.sl.v56 c i g hc1 = hi (rowsAt g (k0_off1 i) (k0_off1_inb i hc1)) := readCov_whole_hi _ _ _
      have elo : run_first.sl.v186 c i arg10 g hc1 = lo (rowsAt g (k0_off1 i) (k0_off1_inb i hc1)) := (readCov_lo arg10.view inb_S1024x2048_S512x2048_512_0 inb_S1024x2048_S512x2048_0_0 _ _ [] _).trans el
      have ehi : run_first.sl.v193 c i arg3 arg4 arg5 arg6 arg7 arg8 arg10 g hc1 hc4 f3 f4 f5 f6 f7 f8 f14 f15 = hi (rowsAt g (k0_off1 i) (k0_off1_inb i hc1)) := (readCov_hi_under arg10.view inb_S1024x2048_S512x2048_512_0 inb_S1024x2048_S512x2048_0_0 _ _ _ _).trans eh
      have er : run_first.sl.r_16 c i arg3 arg4 arg5 arg6 arg7 arg8 arg10 g hc1 hc4 f3 f4 f5 f6 f7 f8 f14 f15 = k0_pay23 (hi (rowsAt g (k0_off1 i) (k0_off1_inb i hc1))) := congrArg k0_pay23 ehi
      unfold stepOut normed
      rw [← eg, ← ev, lo_two, hi_two, elo, er, ← el, ← eh]
      rfl
    isplitl [H11]
    · iexists _; isplitr; swap; · iexact H11
      ipureintro
      have el : run_first.sl.v36 c i g hc1 = lo (rowsAt g (k0_off1 i) (k0_off1_inb i hc1)) := readCov_whole_lo _ _ _
      have eh : run_first.sl.v56 c i g hc1 = hi (rowsAt g (k0_off1 i) (k0_off1_inb i hc1)) := readCov_whole_hi _ _ _
      refine (read_two xnM.view f11 _ _ _ _ _).trans ?_
      simp only [k0_pay3, k0_pay7, shapeCast_self]
      unfold normed
      rw [← el, ← eh]
      rfl
    isplitl [H14]
    · iexists _; isplitr; swap; · iexact H14
      ipureintro
      have el : run_first.sl.v36 c i g hc1 = lo (rowsAt g (k0_off1 i) (k0_off1_inb i hc1)) := readCov_whole_lo _ _ _
      have eh : run_first.sl.v56 c i g hc1 = hi (rowsAt g (k0_off1 i) (k0_off1_inb i hc1)) := readCov_whole_hi _ _ _
      refine (read_put k0_pay38 gM.view f14 i (k0_off5_eq i) (k0_off3_eq i) (k0_off5_inb i hc4) (fun hc => k0_off3_inb i hc) _).trans ?_
      unfold nextG normed
      rw [hi_two, ← eh]
      rfl
    · iexists _; isplitr; swap; · iexact H15
      ipureintro
      have el : run_first.sl.v36 c i g hc1 = lo (rowsAt g (k0_off1 i) (k0_off1_inb i hc1)) := readCov_whole_lo _ _ _
      have eh : run_first.sl.v56 c i g hc1 = hi (rowsAt g (k0_off1 i) (k0_off1_inb i hc1)) := readCov_whole_hi _ _ _
      refine (read_put k0_pay39 vM.view f15 i (k0_off5_eq i) (k0_off3_eq i) (k0_off5_inb i hc4) (fun hc => k0_off3_inb i hc) _).trans ?_
      unfold nextV normed
      rw [hi_two, ← eh]
      rfl
  isplitl [Hb]
  · iexists _, _; isplitr; swap; · iexact Hb
    ipureintro; rfl
  isplitl [Hh]; · iexact Hh
  isplitl [HS]; · iexact HS
  iexists _; iexact HW

/-- The first block of channels of a later tile: it waits for the tile whose copy was started before. -/
theorem run_arrive (f : Buf (Elt F) (bufM.view.loc (c : Thread nD τ))) (s : Finset hM.view.ty.Idx) (h : Vec F S1024x2048 .f32) (hx : bufM.view.read (Elt F) f = h)
    (hc1 : ¬ k0_cond1 i = 1#1) (hc2 : ¬ k0_cond2 i = 1#1) (hc4 : k0_cond4 i = 1#1) (hc5 : ¬ k0_cond5 i = 1#1) (hc6 : ¬ k0_cond6 i = 1#1)
    (W : Waits sig Unit) (K : PUnit → sProp 𝕄) :
    iprop(held c arg3 arg4 arg5 arg6 arg7 arg8 arg9 arg10 x3 x4 x5 x6 x7 x8 x9 o xn tg tv
        ∗ copying c f s g ∗ ptOn c hM (Finset.univ \ s) g ∗ owes (c : Thread nD τ) 0 W
        ∗ (held c arg3 arg4 arg5 arg6 arg7 arg8 arg9 arg10 x3 x4 x5 x6 x7 x8 x9
              (stepOut (normed (h) x3) (prevTail k0_pay38 i tg) (prevTail k0_pay39 i tv) x4 x5 x6 x7 x8 (h))
              (normed (h) x3) (putTail i tg (nextG (hi (normed (h) x3)) x4)) (putTail i tv (nextV (hi (normed (h) x3)) x5))
            ∗ (∃ d, owns (c : Thread nD τ) bufM fullShare d) ∗ ptAll c hM g ∗ semVal ((c : Thread nD τ), SemLoc.dma 14) 0 ∗ (∃ W', owes (c : Thread nD τ) 0 W') -∗ K ⟨⟩))
      ⊢ wp frame (wpE (defs₀ (F := F)) Variants.none c none) Set.univ
          (cc0_ffn_final i hM (Memref.isWhole_whole _) arg3 harg3 arg4 harg4 arg5 harg5 arg6 harg6 arg7 harg7 arg8 harg8 arg9 harg9 arg10 harg10
            xnM (Memref.isWhole_whole _) bufM (Memref.isWhole_whole _)
            cc0_scratch2 gM (Memref.isWhole_whole _) vM (Memref.isWhole_whole _)) K := by
  simp only [cc0_ffn_final_eq_skeleton]; unfold cc0_ffn_final_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f14, %hf14, H14⟩, ⟨%f15, %hf15, H15⟩⟩, HF, Hh, HW, Hk⟩
  sl_exec
  sl_step
  iapply Hk
  isplitl [H3 H4 H5 H6 H7 H8 H9 H10 H11 H14 H15]
  · isplitl [H3]; · iexists f3; isplitr; · ipureintro; exact hf3
                    iexact H3
    isplitl [H4]; · iexists f4; isplitr; · ipureintro; exact hf4
                    iexact H4
    isplitl [H5]; · iexists f5; isplitr; · ipureintro; exact hf5
                    iexact H5
    isplitl [H6]; · iexists f6; isplitr; · ipureintro; exact hf6
                    iexact H6
    isplitl [H7]; · iexists f7; isplitr; · ipureintro; exact hf7
                    iexact H7
    isplitl [H8]; · iexists f8; isplitr; · ipureintro; exact hf8
                    iexact H8
    isplitl [H9]; · iexists f9; isplitr; · ipureintro; exact hf9
                    iexact H9
    have e3 := View.readAt_full arg3.view f3 inb_S1x2048_S1x2048_0_0
    have e4 := View.readAt_full arg4.view f4 inb_S2048x512_S2048x512_0_0
    have e5 := View.readAt_full arg5.view f5 inb_S2048x512_S2048x512_0_0
    have e6 := View.readAt_full arg6.view f6 inb_S3x512_S3x512_0_0
    have e7 := View.readAt_full arg7.view f7 inb_S3x512_S3x512_0_0
    have e8 := View.readAt_full arg8.view f8 inb_S512x2048_S512x2048_0_0
    have e9 := View.readAt_full arg9.view f9 inb_S1x2048_S1x2048_0_0
    rw [hf3] at e3; rw [hf4] at e4; rw [hf5] at e5; rw [hf6] at e6; rw [hf7] at e7; rw [hf8] at e8; rw [hf9] at e9
    subst hx; subst hf10 hf11 hf14 hf15 e3 e4 e5 e6 e7 e8 e9
    clear hf3 hf4 hf5 hf6 hf7 hf8 hf9
    isplitl [H10]
    · iexists _; isplitr; swap; · iexact H10
      ipureintro
      refine (read_two arg10.view f10 _ _ _ _ _).trans ?_
      have eg := readAt_prev k0_pay38 gM.view f14 i (k0_off5_eq i) (k0_off3_eq i) (k0_off5_inb i hc4) (fun hc => k0_off3_inb i hc)
      have ev := readAt_prev k0_pay39 vM.view f15 i (k0_off5_eq i) (k0_off3_eq i) (k0_off5_inb i hc4) (fun hc => k0_off3_inb i hc)
      have elo : run_arrive.sl.v186 c arg10 f = lo (bufM.view.read (Elt F) f) := (readCov_lo arg10.view inb_S1024x2048_S512x2048_512_0 inb_S1024x2048_S512x2048_0_0 _ _ [] _)
      have ehi : run_arrive.sl.v193 c i arg3 arg4 arg5 arg6 arg7 arg8 arg10 f hc4 f3 f4 f5 f6 f7 f8 f14 f15 = hi (bufM.view.read (Elt F) f) := (readCov_hi_under arg10.view inb_S1024x2048_S512x2048_512_0 inb_S1024x2048_S512x2048_0_0 _ _ _ _)
      have er : run_arrive.sl.r_17 c i arg3 arg4 arg5 arg6 arg7 arg8 arg10 f hc4 f3 f4 f5 f6 f7 f8 f14 f15 = k0_pay23 (hi (bufM.view.read (Elt F) f)) := congrArg k0_pay23 ehi
      unfold stepOut normed
      rw [← eg, ← ev, lo_two, hi_two, elo, er]
      rfl
    isplitl [H11]
    · iexists _; isplitr; swap; · iexact H11
      ipureintro
      refine (read_two xnM.view f11 _ _ _ _ _).trans ?_
      simp only [k0_pay3, k0_pay7, shapeCast_self]
      unfold normed
      rfl
    isplitl [H14]
    · iexists _; isplitr; swap; · iexact H14
      ipureintro
      refine (read_put k0_pay38 gM.view f14 i (k0_off5_eq i) (k0_off3_eq i) (k0_off5_inb i hc4) (fun hc => k0_off3_inb i hc) _).trans ?_
      unfold nextG normed
      rw [hi_two]
      rfl
    · iexists _; isplitr; swap; · iexact H15
      ipureintro
      refine (read_put k0_pay39 vM.view f15 i (k0_off5_eq i) (k0_off3_eq i) (k0_off5_inb i hc4) (fun hc => k0_off3_inb i hc) _).trans ?_
      unfold nextV normed
      rw [hi_two]
      rfl
  isplitl [HF_dst]
  · iexists _, _; isplitr; swap; · iexact HF_dst
    ipureintro; rfl
  isplitl [Hh]; · iexact Hh
  isplitl [HF]; · iexact HF
  iexists _; iexact HW

end Runs

end Cert.KernelIdeal.Hand
-- ==== Proof.FfnData.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.FfnRun
public import Idealize.ShloMosaic.Lib.Pipeline.FrameBody
public import Idealize.ShloMosaic.Lib.Ring
public import Idealize.ShloMosaic.Lib.Pipeline.Value
public import Idealize.ShloMosaic.Lib.Tactic
public import Idealize.ShloMosaic.Lib.WordCmp

/-! What the last feed-forward layer holds at each grid point: the tiles of rows, the tails kept between tiles, and the running result. -/

@[expose] public section

set_option maxRecDepth 16384

noncomputable section

namespace Cert.KernelIdeal.Hand

open Cert.KernelIdeal Cert.KernelIdeal.Gen Cert.Halves
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

/-! ## The grid -/

/-- Point `n` of the grid. -/
def pt (n : ℕ) : Fin cfg0.N := ⟨n % 88, Nat.mod_lt _ (by decide)⟩
theorem pt_val (t : Fin cfg0.N) : pt t.val = t := Fin.ext (Nat.mod_eq_of_lt t.isLt)

theorem row_eq : ∀ t : Fin grid0.N, (grid0.coords t 0).val = t.val / 11 := by decide +kernel
theorem col_eq : ∀ t : Fin grid0.N, (grid0.coords t 1).val = t.val % 11 := by decide +kernel
theorem cond1_iff : ∀ t : Fin grid0.N, k0_cond1 (grid0.coords t) = 1#1 ↔ t.val = 0 := by decide +kernel
theorem cond2_iff : ∀ t : Fin grid0.N, k0_cond2 (grid0.coords t) = 1#1 ↔ t.val % 11 = 1 ∧ t.val / 11 < 7 := by decide +kernel
theorem cond3_iff : ∀ t : Fin grid0.N, k0_cond3 (grid0.coords t) = 1#1 ↔ t.val / 11 % 4 = 0 := by decide +kernel
theorem cond4_iff : ∀ t : Fin grid0.N, k0_cond4 (grid0.coords t) = 1#1 ↔ t.val % 11 = 0 := by decide +kernel
theorem cond5_iff : ∀ t : Fin grid0.N, k0_cond5 (grid0.coords t) = 1#1 ↔ t.val % 11 ≠ 0 := by decide +kernel
theorem cond6_iff : ∀ t : Fin grid0.N, k0_cond6 (grid0.coords t) = 1#1 ↔ t.val % 11 = 10 := by decide +kernel

/-! ## What is where -/

theorem tileInb (k : ℕ) : ∀ a, (![1024 * (k % 8), 0] : Fin 2 → ℕ) a + S1024x2048.size a ≤ S8192x2048.size a := fun a => by
  have := Nat.mod_lt k (show 0 < 8 by decide)
  match a with
  | 0 => show 1024 * (k % 8) + 1024 ≤ 8192; omega
  | 1 => show 0 + 2048 ≤ 2048; omega

/-- Tile `k` of the rows. -/
def tileAt (k : ℕ) : Vec F S1024x2048 .f32 := rowsAt (V m c main_v0) ![1024 * (k % 8), 0] (tileInb k)
/-- The normalising weights. -/
def nwAt (n : ℕ) : Vec F S1x2048 .f32 := iblk m c 0 (pt n)
/-- The blocks of the weights up, of the taps, and of the weights down. -/
def wgAt (n : ℕ) : Vec F S2048x512 .bf16 := iblk m c 1 (pt n)
def wvAt (n : ℕ) : Vec F S2048x512 .bf16 := iblk m c 2 (pt n)
def cgAt (n : ℕ) : Vec F S3x512 .f32 := iblk m c 3 (pt n)
def cvAt (n : ℕ) : Vec F S3x512 .f32 := iblk m c 4 (pt n)
def wdAt (n : ℕ) : Vec F S512x2048 .bf16 := iblk m c 5 (pt n)

/-- Tile `k`, normalised. -/
def xnAt (k : ℕ) : Vec F S1024x2048 .bf16 := normed (tileAt m c k) (nwAt m c (11 * k))
/-- The tails point `n` leaves. -/
def tailG (n : ℕ) : Vec F S1x8x512 .f32 := nextG (hi (xnAt m c (n / 11))) (wgAt m c n)
def tailV (n : ℕ) : Vec F S1x8x512 .f32 := nextV (hi (xnAt m c (n / 11))) (wvAt m c n)
/-- The tail point `n` finds, `T` being the tails left and `z` a sequence's start. -/
def prevAt (z : Vec F S1x8x512 .f32) (T : ℕ → Vec F S1x8x512 .f32) (n : ℕ) : Vec F S1x8x512 .f32 := if n / 11 % 4 = 0 then z else T (n - 11)
/-- Point `n`'s step from `o`. -/
def stepAt (n : ℕ) (o : Vec F S1024x2048 .f32) : Vec F S1024x2048 .f32 :=
  stepOut (xnAt m c (n / 11)) (prevAt k0_pay38 (tailG m c) n) (prevAt k0_pay39 (tailV m c) n) (wgAt m c n) (wvAt m c n) (cgAt m c n) (cvAt m c n) (wdAt m c n) o
/-- The tile of the result after point `n`, before the last normalisation. -/
def outAt : ℕ → Vec F S1024x2048 .f32
  | 0 => stepAt m c 0 (tileAt m c 0)
  | n + 1 => stepAt m c (n + 1) (if (n + 1) % 11 = 0 then tileAt m c ((n + 1) / 11) else outAt n)

theorem outAt_first (n : ℕ) (h : n % 11 = 0) : outAt m c n = stepAt m c n (tileAt m c (n / 11)) := by
  cases n with
  | zero => rfl
  | succ n => show stepAt m c (n + 1) (if (n + 1) % 11 = 0 then _ else _) = _; rw [if_pos h]
theorem outAt_later (n : ℕ) (h : n % 11 ≠ 0) : outAt m c n = stepAt m c n (outAt m c (n - 1)) := by
  cases n with
  | zero => exact absurd rfl h
  | succ n => show stepAt m c (n + 1) (if (n + 1) % 11 = 0 then _ else _) = _; rw [if_neg h]; rfl

/-- What point `n` leaves in the result's tile: the last point of a tile normalises it. -/
def leftAt (n : ℕ) : Vec F S1024x2048 .f32 := if n % 11 = 10 then k0_pay1 (outAt m c n) (iblk m c 6 (pt n)) else outAt m c n

theorem slotInb (n : ℕ) : ∀ a, (![n % 11, 0, 0] : Fin 3 → ℕ) a + S1x8x512.size a ≤ S11x8x512.size a := fun a => by
  have h := Nat.mod_lt n (show 0 < 11 by decide)
  match a with
  | 0 => show n % 11 + 1 ≤ 11; omega
  | 1 => show 0 + 8 ≤ 8; omega
  | 2 => show 0 + 512 ≤ 512; omega

theorem window_congr (d : Vec F S11x8x512 .f32) {o o' : Fin 3 → ℕ} (e : o = o') (inb : ∀ a, o a + S1x8x512.size a ≤ S11x8x512.size a)
    (inb' : ∀ a, o' a + S1x8x512.size a ≤ S11x8x512.size a) : VecWindow.window d o S1x8x512.size inb = VecWindow.window d o' S1x8x512.size inb' := by
  subst e; rfl

/-- The slots before point `n`: each of the last eleven points' tails in its own. -/
def TailsOk (T : ℕ → Vec F S1x8x512 .f32) (n : ℕ) (d : Vec F S11x8x512 .f32) : Prop :=
  ∀ k, k < n → n ≤ k + 11 → VecWindow.window d ![k % 11, 0, 0] S1x8x512.size (slotInb k) = T k

theorem tailsOk_step (T : ℕ → Vec F S1x8x512 .f32) (t : Fin grid0.N) (d : Vec F S11x8x512 .f32) (h : TailsOk T t.val d) :
    TailsOk T (t.val + 1) (putTail (grid0.coords t) d (T t.val)) := fun k hk hk' => by
  have e : (![(grid0.coords t 1).val, 0, 0] : Fin 3 → ℕ) = ![t.val % 11, 0, 0] := by rw [col_eq]
  unfold putTail
  rw [e]
  by_cases hn : k = t.val
  · subst hn; exact VecWindow.window_put_same _ _ _ _ _
  · refine (VecWindow.window_put_of_disjoint _ _ _ _ _ (slotInb k) _ 0 ?_).trans (h k (by omega) (by omega))
    show k % 11 + 1 ≤ t.val % 11 ∨ t.val % 11 + 1 ≤ k % 11
    omega

theorem prevTail_eq (z : Vec F S1x8x512 .f32) (T : ℕ → Vec F S1x8x512 .f32) (t : Fin grid0.N) (d : Vec F S11x8x512 .f32) (h : TailsOk T t.val d) :
    prevTail z (grid0.coords t) d = prevAt z T t.val := by
  have e : (![(grid0.coords t 1).val, 0, 0] : Fin 3 → ℕ) = ![(t.val - 11) % 11, 0, 0] ∨ t.val < 11 := by
    rw [col_eq]
    rcases Nat.lt_or_ge t.val 11 with h4 | h4
    · exact .inr h4
    · left; congr 1; omega
  unfold prevTail prevAt
  by_cases h3 : t.val / 11 % 4 = 0
  · rw [if_pos ((cond3_iff t).mpr h3), if_pos h3]
  · rw [if_neg (fun hc => h3 ((cond3_iff t).mp hc)), if_neg h3]
    rcases e with e | e
    · exact (window_congr d e _ _).trans (h (t.val - 11) (by omega) (by omega))
    · omega

/-! ## What holds before each point -/

/-- The copy of the next tile: idle, or under way. -/
def copySt (n : ℕ) : sProp 𝕄 :=
  if n ≠ 0 ∧ n % 11 ≠ 1 ∧ (n + 9) / 11 < 8 then
    iprop(∃ f s, ⌜bufM.view.read (Elt F) f = tileAt m c ((n + 9) / 11)⌝ ∗ copying c f s (V m c main_v0) ∗ ptOn c hM (Finset.univ \ s) (V m c main_v0))
  else iprop((∃ d, owns (c : Thread nD τ) bufM fullShare d) ∗ ptAll c hM (V m c main_v0) ∗ semVal ((c : Thread nD τ), SemLoc.dma 14) 0)

theorem copySt_idle (n : ℕ) (h : ¬ (n ≠ 0 ∧ n % 11 ≠ 1 ∧ (n + 9) / 11 < 8)) : copySt m c n
    = iprop((∃ d, owns (c : Thread nD τ) bufM fullShare d) ∗ ptAll c hM (V m c main_v0) ∗ semVal ((c : Thread nD τ), SemLoc.dma 14) 0) := if_neg h
theorem copySt_busy (n : ℕ) (h : n ≠ 0 ∧ n % 11 ≠ 1 ∧ (n + 9) / 11 < 8) : copySt m c n
    = iprop(∃ f s, ⌜bufM.view.read (Elt F) f = tileAt m c ((n + 9) / 11)⌝ ∗ copying c f s (V m c main_v0) ∗ ptOn c hM (Finset.univ \ s) (V m c main_v0)) := if_pos h
/-- A point that neither starts nor awaits a copy keeps its state. -/
theorem copySt_keep (n : ℕ) (hn : n < 88) (h : n % 11 ≠ 0) (h' : ¬ (n % 11 = 1 ∧ n / 11 < 7)) : copySt m c (n + 1) = copySt m c n := by
  by_cases hb : n ≠ 0 ∧ n % 11 ≠ 1 ∧ (n + 9) / 11 < 8
  · have e : (n + 1 + 9) / 11 = (n + 9) / 11 := by omega
    rw [copySt_busy m c n hb, copySt_busy m c (n + 1) (by omega), e]
  · rw [copySt_idle m c n hb, copySt_idle m c (n + 1) (by omega)]

/-- Before point `n`: the normalised tile, the tails, the generator register, the copy. -/
def Phi (n : ℕ) : sProp 𝕄 :=
  iprop((∃ d, ⌜n % 11 ≠ 0 → d = xnAt m c (n / 11)⌝ ∗ owns (c : Thread nD τ) xnM fullShare d)
    ∗ (∃ d, ⌜TailsOk (tailG m c) n d⌝ ∗ owns (c : Thread nD τ) gM fullShare d)
    ∗ (∃ d, ⌜TailsOk (tailV m c) n d⌝ ∗ owns (c : Thread nD τ) vM fullShare d)
    ∗ (∃ r, prngReg c r) ∗ copySt m c n)

/-- The proof data of the one pipeline. -/
def dats (_ : Fin 1) (c : Dev nD) : Pipeline.Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => leftAt m c t.val
  Φ t := Phi m c t.val
  q w := Pipeline.shareOf spec0 w
  owed _ := 0

theorem A_eq (w : Fin cfg0.W) : (dats m 0 c).A w = V m c (Pipeline.arrRef spec0 w) := by dsimp only [dats]
theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = iblk m c 5 t := by dsimp only [dats]
theorem after0_6 (t : Fin cfg0.N) : (dats m 0 c).after 6 t = iblk m c 6 t := by dsimp only [dats]
theorem after0_7 (t : Fin cfg0.N) : (dats m 0 c).after 7 t = leftAt m c t.val := by dsimp only [dats]

theorem before0_0 (t : Fin cfg0.N) (d) : (dats m 0 c).before 0 t d = iblk m c 0 t :=
  ((dats m 0 c).before_in_eq_fetched 0 rfl (fun _ => rfl) (fun _ _ _ => rfl) (fun t => by rw [after0_0]; unfold Pipeline.Dat.blockOf iblk; rw [A_eq]; try rfl) t d).trans (by unfold Pipeline.Dat.fetched Pipeline.Dat.blockOf iblk; rw [A_eq]; try rfl)
theorem before0_1 (t : Fin cfg0.N) (d) : (dats m 0 c).before 1 t d = iblk m c 1 t :=
  ((dats m 0 c).before_in_eq_fetched 1 rfl (fun _ => rfl) (fun _ _ _ => rfl) (fun t => by rw [after0_1]; unfold Pipeline.Dat.blockOf iblk; rw [A_eq]; try rfl) t d).trans (by unfold Pipeline.Dat.fetched Pipeline.Dat.blockOf iblk; rw [A_eq]; try rfl)
theorem before0_2 (t : Fin cfg0.N) (d) : (dats m 0 c).before 2 t d = iblk m c 2 t :=
  ((dats m 0 c).before_in_eq_fetched 2 rfl (fun _ => rfl) (fun _ _ _ => rfl) (fun t => by rw [after0_2]; unfold Pipeline.Dat.blockOf iblk; rw [A_eq]; try rfl) t d).trans (by unfold Pipeline.Dat.fetched Pipeline.Dat.blockOf iblk; rw [A_eq]; try rfl)
theorem before0_3 (t : Fin cfg0.N) (d) : (dats m 0 c).before 3 t d = iblk m c 3 t :=
  ((dats m 0 c).before_in_eq_fetched 3 rfl (fun _ => rfl) (fun _ _ _ => rfl) (fun t => by rw [after0_3]; unfold Pipeline.Dat.blockOf iblk; rw [A_eq]; try rfl) t d).trans (by unfold Pipeline.Dat.fetched Pipeline.Dat.blockOf iblk; rw [A_eq]; try rfl)
theorem before0_4 (t : Fin cfg0.N) (d) : (dats m 0 c).before 4 t d = iblk m c 4 t :=
  ((dats m 0 c).before_in_eq_fetched 4 rfl (fun _ => rfl) (fun _ _ _ => rfl) (fun t => by rw [after0_4]; unfold Pipeline.Dat.blockOf iblk; rw [A_eq]; try rfl) t d).trans (by unfold Pipeline.Dat.fetched Pipeline.Dat.blockOf iblk; rw [A_eq]; try rfl)
theorem before0_5 (t : Fin cfg0.N) (d) : (dats m 0 c).before 5 t d = iblk m c 5 t :=
  ((dats m 0 c).before_in_eq_fetched 5 rfl (fun _ => rfl) (fun _ _ _ => rfl) (fun t => by rw [after0_5]; unfold Pipeline.Dat.blockOf iblk; rw [A_eq]; try rfl) t d).trans (by unfold Pipeline.Dat.fetched Pipeline.Dat.blockOf iblk; rw [A_eq]; try rfl)
theorem before0_6 (t : Fin cfg0.N) (d) : (dats m 0 c).before 6 t d = iblk m c 6 t :=
  ((dats m 0 c).before_in_eq_fetched 6 rfl (fun _ => rfl) (fun _ _ _ => rfl) (fun t => by rw [after0_6]; unfold Pipeline.Dat.blockOf iblk; rw [A_eq]; try rfl) t d).trans (by unfold Pipeline.Dat.fetched Pipeline.Dat.blockOf iblk; rw [A_eq]; try rfl)

end Cert.KernelIdeal.Hand
-- ==== Proof.FfnFrame.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.FfnData
public import Idealize.ShloMosaic.Lib.Pipeline.Frame
public import Idealize.ShloMosaic.Lib.Pipeline.FrameBody
public import Idealize.ShloMosaic.Lib.Ring
public import Idealize.ShloMosaic.Lib.Pipeline.Value
public import Idealize.ShloMosaic.Lib.Tactic
public import Idealize.ShloMosaic.Lib.WordCmp

/-! The last feed-forward layer at every grid point, the run of the whole program, and what it leaves unchanged. -/

@[expose] public section

set_option maxRecDepth 16384

noncomputable section

namespace Cert.KernelIdeal.Hand

open Cert.KernelIdeal Cert.KernelIdeal.Gen Cert.Halves
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

/-! ## The equations of a point -/

theorem step_eq (t : Fin cfg0.N) (d e : Vec F S11x8x512 .f32) (hd : TailsOk (tailG m c) t.val d) (he : TailsOk (tailV m c) t.val e) (o : Vec F S1024x2048 .f32) :
    stepOut (xnAt m c (t.val / 11)) (prevTail k0_pay38 (grid0.coords t) d) (prevTail k0_pay39 (grid0.coords t) e) (iblk m c 1 t) (iblk m c 2 t) (iblk m c 3 t) (iblk m c 4 t) (iblk m c 5 t) o
      = stepAt m c t.val o := by
  rw [prevTail_eq k0_pay38 _ t d hd, prevTail_eq k0_pay39 _ t e he]
  unfold stepAt wgAt wvAt cgAt cvAt wdAt
  rw [pt_val]

theorem tailG_eq (t : Fin cfg0.N) (d : Vec F S11x8x512 .f32) (hd : TailsOk (tailG m c) t.val d) :
    TailsOk (tailG m c) (t.val + 1) (putTail (grid0.coords t) d (nextG (hi (xnAt m c (t.val / 11))) (iblk m c 1 t))) := by
  have := tailsOk_step (tailG m c) t d hd
  unfold tailG wgAt at this ⊢
  rwa [pt_val] at this

theorem tailV_eq (t : Fin cfg0.N) (d : Vec F S11x8x512 .f32) (hd : TailsOk (tailV m c) t.val d) :
    TailsOk (tailV m c) (t.val + 1) (putTail (grid0.coords t) d (nextV (hi (xnAt m c (t.val / 11))) (iblk m c 2 t))) := by
  have := tailsOk_step (tailV m c) t d hd
  unfold tailV wvAt at this ⊢
  rwa [pt_val] at this

theorem xn_eq (t : Fin cfg0.N) (h : t.val % 11 = 0) : normed (tileAt m c (t.val / 11)) (iblk m c 0 t) = xnAt m c (t.val / 11) := by
  unfold xnAt nwAt
  rw [show 11 * (t.val / 11) = t.val by omega, pt_val]

theorem rowsAt_eq (k : ℕ) {o : Fin 2 → ℕ} (inb) (e : o = ![1024 * (k % 8), 0]) : rowsAt (V m c main_v0) o inb = tileAt m c k := by
  subst e; rfl

theorem off1_tile (t : Fin cfg0.N) (h : t.val = 0) (hc) : rowsAt (V m c main_v0) (k0_off1 (grid0.coords t)) (k0_off1_inb (grid0.coords t) hc) = tileAt m c (t.val / 11) :=
  rowsAt_eq m c _ _ (by rw [k0_off1_eq, row_eq, h])

theorem off2_tile (t : Fin cfg0.N) (h : t.val % 11 = 1 ∧ t.val / 11 < 7) (hc) :
    rowsAt (V m c main_v0) (k0_off2 (grid0.coords t)) (k0_off2_inb (grid0.coords t) hc) = tileAt m c ((t.val + 1 + 9) / 11) :=
  rowsAt_eq m c _ _ (by rw [k0_off2_eq, row_eq, show (t.val + 1 + 9) / 11 % 8 = t.val / 11 + 1 by omega, Nat.mul_add])

theorem left_inner (n : ℕ) (h : n % 11 ≠ 10) : leftAt m c n = outAt m c n := if_neg h
theorem left_last (t : Fin cfg0.N) (h : t.val % 11 = 10) : k0_pay1 (outAt m c t.val) (iblk m c 6 t) = leftAt m c t.val := by
  unfold leftAt; rw [if_pos h, pt_val]

theorem idle7 : ∀ i : cfg0.grid.Coords, cfg0.idle 7 i = false := by decide +kernel

theorem before0_7 (t : Fin cfg0.N) (h : t.val % 11 ≠ 0) (d) : (dats m 0 c).before 7 t d = outAt m c (t.val - 1) := by
  refine ((dats m 0 c).before_out_kept 7 rfl t (by omega) ?_ idle7 (fun _ _ => rfl) d).trans ((after0_7 m c _).trans (left_inner m c _ (show (t.val - 1) % 11 ≠ 10 by omega)))
  rw [Bool.eq_false_iff]
  intro hf
  have := (flush0_7 _).mp hf
  simp only at this
  omega

/-! ## The body -/

abbrev bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)))
abbrev bodyPost (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t))

/-- The pipeline's buffers, the tile and the tails, and how a point ends. -/
theorem finish (t : Fin cfg0.N) (o : Vec F S1024x2048 .f32) (xn : Vec F S1024x2048 .bf16) (tg tv : Vec F S11x8x512 .f32)
    (ho : o = leftAt m c t.val) (hx : xn = xnAt m c (t.val / 11)) (ht : TailsOk (tailG m c) (t.val + 1) tg) (hu : TailsOk (tailV m c) (t.val + 1) tv) :
    iprop(held c (st0_0 t) (st0_1 t) (st0_2 t) (st0_3 t) (st0_4 t) (st0_5 t) (st0_6 t) (st0_7 t) (iblk m c 0 t) (iblk m c 1 t) (iblk m c 2 t) (iblk m c 3 t) (iblk m c 4 t) (iblk m c 5 t) (iblk m c 6 t)  o xn tg tv ∗ (∃ r, prngReg c r) ∗ copySt m c (t.val + 1) ∗ (∃ W', owes (c : Thread nD τ) 0 W')) ⊢ bodyPost m c t := by
  unfold bodyPost Dat.owesAt Pipeline.owesWithin
  rw [show (dats m 0 c).Φ t.succ = Phi m c (t.val + 1) from rfl, show (dats m 0 c).owed t.succ = 0 from rfl]
  simp only [after0_0, after0_1, after0_2, after0_3, after0_4, after0_5, after0_6, after0_7]
  unfold Phi held
  iintro ⟨⟨H0, H1, H2, H3, H4, H5, H6, H7, Hx, Hg, Hv⟩, Hr, Hc, ⟨%W', HW⟩⟩
  subst ho
  isplitl [Hx Hg Hv Hr Hc]
  · isplitl [Hx]
    · iexists xn; isplitr
      · ipureintro; intro h; rw [hx, show (t.val + 1) / 11 = t.val / 11 by omega]
      iexact Hx
    isplitl [Hg]
    · iexists tg; isplitr
      · ipureintro; exact ht
      iexact Hg
    isplitl [Hv]
    · iexists tv; isplitr
      · ipureintro; exact hu
      iexact Hv
    isplitl [Hr]; · iexact Hr
    iexact Hc
  isplitl [HW]
  · iexists W'; isplitr
    · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- How a tile's first point ends. -/
theorem finish_tile (t : Fin cfg0.N) (h4 : t.val % 11 = 0) (h : Vec F S1024x2048 .f32) (hh : h = tileAt m c (t.val / 11))
    (tg tv : Vec F S11x8x512 .f32) (ht : TailsOk (tailG m c) t.val tg) (hu : TailsOk (tailV m c) t.val tv) :
    iprop(held c (st0_0 t) (st0_1 t) (st0_2 t) (st0_3 t) (st0_4 t) (st0_5 t) (st0_6 t) (st0_7 t) (iblk m c 0 t) (iblk m c 1 t) (iblk m c 2 t) (iblk m c 3 t) (iblk m c 4 t) (iblk m c 5 t) (iblk m c 6 t)
        (stepOut (normed h (iblk m c 0 t)) (prevTail k0_pay38 (grid0.coords t) tg) (prevTail k0_pay39 (grid0.coords t) tv) (iblk m c 1 t) (iblk m c 2 t) (iblk m c 3 t) (iblk m c 4 t) (iblk m c 5 t) h)
        (normed h (iblk m c 0 t)) (putTail (grid0.coords t) tg (nextG (hi (normed h (iblk m c 0 t))) (iblk m c 1 t)))
        (putTail (grid0.coords t) tv (nextV (hi (normed h (iblk m c 0 t))) (iblk m c 2 t)))
      ∗ (∃ r, prngReg c r) ∗ copySt m c (t.val + 1) ∗ (∃ W', owes (c : Thread nD τ) 0 W')) ⊢ bodyPost m c t := by
  subst hh
  refine finish m c t _ _ _ _ ?_ (xn_eq m c t h4) ?_ ?_
  · rw [xn_eq m c t h4]; exact (step_eq m c t tg tv ht hu _).trans ((outAt_first m c t.val h4).symm.trans (left_inner m c _ (by omega)).symm)
  · rw [xn_eq m c t h4]; exact tailG_eq m c t tg ht
  · rw [xn_eq m c t h4]; exact tailV_eq m c t tv hu

/-- A point in the middle of a tile, the copy left as it is. -/
theorem body_later (t : Fin cfg0.N) (h : t.val % 11 ≠ 0) (h2 : ¬ (t.val % 11 = 1 ∧ t.val / 11 < 7)) (h6 : t.val % 11 ≠ 10) :
    bodyPre m c t ⊢ wp frame (wpE (defs₀ (F := F)) Variants.none c none) Set.univ (bodyAt0 t) (fun _ => bodyPost m c t) := by
  unfold bodyPre Dat.owesAt Pipeline.owesWithin
  rw [show (dats m 0 c).Φ t.castSucc = Phi m c t.val from rfl, show (dats m 0 c).owed t.castSucc = 0 from rfl]
  simp only [before0_0, before0_1, before0_2, before0_3, before0_4, before0_5, before0_6]
  unfold Phi
  iintro ⟨⟨⟨%xd, %hx, Hx⟩, ⟨%tg, %ht, Hg⟩, ⟨%tv, %hu, Hv⟩, Hr, Hc⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  obtain rfl := hx h
  iapply (run_later c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) (iblk m c 4 t) (iblk m c 5 t) (iblk m c 6 t)  ((dats m 0 c).before 7 t d7) (xnAt m c (t.val / 11)) tg tv
    (fun e => h (by rw [(cond1_iff t).mp e])) (fun e => h2 ((cond2_iff t).mp e)) (fun e => h ((cond4_iff t).mp e)) ((cond5_iff t).mpr h) (fun e => h6 ((cond6_iff t).mp e)) W _)
  isplitl [H0 H1 H2 H3 H4 H5 H6 H7 Hx Hg Hv]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hx]; · iexact Hx
    isplitl [Hg]; · iexact Hg
    iexact Hv
  isplitl [HW]; · iexact HW
  iintro ⟨HH, HW⟩
  iapply (finish m c t _ _ _ _ (((step_eq m c t tg tv ht hu _).trans ((congrArg _ (before0_7 m c t h d7)).trans (outAt_later m c t.val h).symm)).trans (left_inner m c _ h6).symm) rfl (tailG_eq m c t tg ht) (tailV_eq m c t tv hu))
  isplitl [HH]; · iexact HH
  isplitl [Hr]; · iexact Hr
  isplitl [Hc]; · rw [copySt_keep m c t.val t.isLt h h2]; iexact Hc
  iexact HW

/-- The last point of a tile, which normalises it. -/
theorem body_last (t : Fin cfg0.N) (h : t.val % 11 ≠ 0) (h2 : ¬ (t.val % 11 = 1 ∧ t.val / 11 < 7)) (h6 : t.val % 11 = 10) :
    bodyPre m c t ⊢ wp frame (wpE (defs₀ (F := F)) Variants.none c none) Set.univ (bodyAt0 t) (fun _ => bodyPost m c t) := by
  unfold bodyPre Dat.owesAt Pipeline.owesWithin
  rw [show (dats m 0 c).Φ t.castSucc = Phi m c t.val from rfl, show (dats m 0 c).owed t.castSucc = 0 from rfl]
  simp only [before0_0, before0_1, before0_2, before0_3, before0_4, before0_5, before0_6]
  unfold Phi
  iintro ⟨⟨⟨%xd, %hx, Hx⟩, ⟨%tg, %ht, Hg⟩, ⟨%tv, %hu, Hv⟩, Hr, Hc⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  obtain rfl := hx h
  iapply (run_last c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) (iblk m c 4 t) (iblk m c 5 t) (iblk m c 6 t)  ((dats m 0 c).before 7 t d7) (xnAt m c (t.val / 11)) tg tv
    (fun e => h (by rw [(cond1_iff t).mp e])) (fun e => h2 ((cond2_iff t).mp e)) (fun e => h ((cond4_iff t).mp e)) ((cond5_iff t).mpr h) ((cond6_iff t).mpr h6) W _)
  isplitl [H0 H1 H2 H3 H4 H5 H6 H7 Hx Hg Hv]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hx]; · iexact Hx
    isplitl [Hg]; · iexact Hg
    iexact Hv
  isplitl [HW]; · iexact HW
  iintro ⟨HH, HW⟩
  iapply (finish m c t _ _ _ _ ((congrArg (fun z => k0_pay1 z (iblk m c 6 t)) ((step_eq m c t tg tv ht hu _).trans ((congrArg _ (before0_7 m c t h d7)).trans (outAt_later m c t.val h).symm))).trans (left_last m c t h6)) rfl (tailG_eq m c t tg ht) (tailV_eq m c t tv hu))
  isplitl [HH]; · iexact HH
  isplitl [Hr]; · iexact Hr
  isplitl [Hc]; · rw [copySt_keep m c t.val t.isLt h h2]; iexact Hc
  iexact HW

/-- The second point of a tile that has a next one: its copy is started. -/
theorem body_issue (t : Fin cfg0.N) (h2 : t.val % 11 = 1 ∧ t.val / 11 < 7) :
    bodyPre m c t ⊢ wp frame (wpE (defs₀ (F := F)) Variants.none c none) Set.univ (bodyAt0 t) (fun _ => bodyPost m c t) := by
  unfold bodyPre Dat.owesAt Pipeline.owesWithin
  rw [show (dats m 0 c).Φ t.castSucc = Phi m c t.val from rfl, show (dats m 0 c).owed t.castSucc = 0 from rfl]
  simp only [before0_0, before0_1, before0_2, before0_3, before0_4, before0_5, before0_6]
  unfold Phi
  rw [copySt_idle m c t.val (by omega)]
  iintro ⟨⟨⟨%xd, %hx, Hx⟩, ⟨%tg, %ht, Hg⟩, ⟨%tv, %hu, Hv⟩, Hr, Hc⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  have h : t.val % 11 ≠ 0 := by omega
  have h6 : t.val % 11 ≠ 10 := by omega
  obtain rfl := hx h
  icases Hc with ⟨Hb, Hh, HS⟩
  iapply (run_issue c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) (iblk m c 4 t) (iblk m c 5 t) (iblk m c 6 t)  ((dats m 0 c).before 7 t d7) (xnAt m c (t.val / 11)) tg tv (V m c main_v0)
    (fun e => h (by rw [(cond1_iff t).mp e])) ((cond2_iff t).mpr h2) (fun e => h ((cond4_iff t).mp e)) ((cond5_iff t).mpr h) (fun e => h6 ((cond6_iff t).mp e)) W _)
  isplitl [H0 H1 H2 H3 H4 H5 H6 H7 Hx Hg Hv]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hx]; · iexact Hx
    isplitl [Hg]; · iexact Hg
    iexact Hv
  isplitl [Hb]; · iexact Hb
  isplitl [Hh]; · iexact Hh
  isplitl [HS]; · iexact HS
  isplitl [HW]; · iexact HW
  iintro ⟨HH, ⟨%f, %s, %hf, HF, Hh⟩, HW⟩
  iapply (finish m c t _ _ _ _ (((step_eq m c t tg tv ht hu _).trans ((congrArg _ (before0_7 m c t h d7)).trans (outAt_later m c t.val h).symm)).trans (left_inner m c _ h6).symm) rfl (tailG_eq m c t tg ht) (tailV_eq m c t tv hu))
  isplitl [HH]; · iexact HH
  isplitl [Hr]; · iexact Hr
  isplitl [HF Hh]
  · rw [copySt_busy m c (t.val + 1) (by omega)]
    iexists f; iexists s
    isplitr
    · ipureintro; exact hf.trans (off2_tile m c t h2 ((cond2_iff t).mpr h2))
    isplitl [HF]; · iexact HF
    iexact Hh
  iexact HW

/-- The first point of all: its tile is copied and awaited. -/
theorem body_first (t : Fin cfg0.N) (h : t.val = 0) :
    bodyPre m c t ⊢ wp frame (wpE (defs₀ (F := F)) Variants.none c none) Set.univ (bodyAt0 t) (fun _ => bodyPost m c t) := by
  unfold bodyPre Dat.owesAt Pipeline.owesWithin
  rw [show (dats m 0 c).Φ t.castSucc = Phi m c t.val from rfl, show (dats m 0 c).owed t.castSucc = 0 from rfl]
  simp only [before0_0, before0_1, before0_2, before0_3, before0_4, before0_5, before0_6]
  unfold Phi
  rw [copySt_idle m c t.val (by omega)]
  iintro ⟨⟨⟨%xd, %hx, Hx⟩, ⟨%tg, %ht, Hg⟩, ⟨%tv, %hu, Hv⟩, Hr, Hc⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  icases Hc with ⟨Hb, Hh, HS⟩
  iapply (run_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) (iblk m c 4 t) (iblk m c 5 t) (iblk m c 6 t)  ((dats m 0 c).before 7 t d7) xd tg tv (V m c main_v0)
    ((cond1_iff t).mpr h) (fun e => by have := (cond2_iff t).mp e; omega) ((cond4_iff t).mpr (by omega)) (fun e => (cond5_iff t).mp e (by omega)) (fun e => absurd ((cond6_iff t).mp e) (by omega)) W _)
  isplitl [H0 H1 H2 H3 H4 H5 H6 H7 Hx Hg Hv]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hx]; · iexact Hx
    isplitl [Hg]; · iexact Hg
    iexact Hv
  isplitl [Hb]; · iexact Hb
  isplitl [Hh]; · iexact Hh
  isplitl [HS]; · iexact HS
  isplitl [HW]; · iexact HW
  iintro ⟨HH, Hb, Hh, HS, HW⟩
  iapply (finish_tile m c t (by omega) (rowsAt (V m c main_v0) (k0_off1 (grid0.coords t)) (k0_off1_inb (grid0.coords t) ((cond1_iff t).mpr h))) (off1_tile m c t h ((cond1_iff t).mpr h)) tg tv ht hu)
  isplitl [HH]; · iexact HH
  isplitl [Hr]; · iexact Hr
  isplitl [Hb Hh HS]
  · rw [copySt_idle m c (t.val + 1) (by omega)]
    isplitl [Hb]; · iexact Hb
    isplitl [Hh]; · iexact Hh
    iexact HS
  iexact HW

/-- The first point of a later tile: the copy is awaited. -/
theorem body_arrive (t : Fin cfg0.N) (h : t.val % 11 = 0) (h0 : t.val ≠ 0) :
    bodyPre m c t ⊢ wp frame (wpE (defs₀ (F := F)) Variants.none c none) Set.univ (bodyAt0 t) (fun _ => bodyPost m c t) := by
  unfold bodyPre Dat.owesAt Pipeline.owesWithin
  rw [show (dats m 0 c).Φ t.castSucc = Phi m c t.val from rfl, show (dats m 0 c).owed t.castSucc = 0 from rfl]
  simp only [before0_0, before0_1, before0_2, before0_3, before0_4, before0_5, before0_6]
  unfold Phi
  have hlt : t.val < 88 := t.isLt
  rw [copySt_busy m c t.val (by omega)]
  iintro ⟨⟨⟨%xd, %hx, Hx⟩, ⟨%tg, %ht, Hg⟩, ⟨%tv, %hu, Hv⟩, Hr, Hc⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  icases Hc with ⟨%f, %s, %hf, HF, Hh⟩
  rw [show (t.val + 9) / 11 = t.val / 11 by omega] at hf
  iapply (run_arrive c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) (iblk m c 4 t) (iblk m c 5 t) (iblk m c 6 t)  ((dats m 0 c).before 7 t d7) xd tg tv (V m c main_v0) f s (tileAt m c (t.val / 11)) hf
    (fun e => h0 ((cond1_iff t).mp e)) (fun e => by have := (cond2_iff t).mp e; omega) ((cond4_iff t).mpr h) (fun e => (cond5_iff t).mp e h) (fun e => absurd ((cond6_iff t).mp e) (by omega)) W _)
  isplitl [H0 H1 H2 H3 H4 H5 H6 H7 Hx Hg Hv]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hx]; · iexact Hx
    isplitl [Hg]; · iexact Hg
    iexact Hv
  isplitl [HF]; · iexact HF
  isplitl [Hh]; · iexact Hh
  isplitl [HW]; · iexact HW
  iintro ⟨HH, Hb, Hh, HS, HW⟩
  iapply (finish_tile m c t h (tileAt m c (t.val / 11)) rfl tg tv ht hu)
  isplitl [HH]; · iexact HH
  isplitl [Hr]; · iexact Hr
  isplitl [Hb Hh HS]
  · rw [copySt_idle m c (t.val + 1) (by omega)]
    isplitl [Hb]; · iexact Hb
    isplitl [Hh]; · iexact Hh
    iexact HS
  iexact HW

theorem sound_body (t : Fin cfg0.N) :
    bodyPre m c t ⊢ wp frame (wpE (defs₀ (F := F)) Variants.none c none) Set.univ (bodyAt0 t) (fun _ => bodyPost m c t) := by
  by_cases h : t.val % 11 = 0
  · by_cases h0 : t.val = 0
    · exact body_first m c t h0
    · exact body_arrive m c t h h0
  · by_cases h2 : t.val % 11 = 1 ∧ t.val / 11 < 7
    · exact body_issue m c t h2
    · by_cases h6 : t.val % 11 = 10
      · exact body_last m c t h h2 h6
      · exact body_later m c t h h2 h6

theorem defs₀_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  refine triple_restated (sound_body m c t) rfl .rfl fun _ => ?_
  rw [idle7]

/-! ## The run -/

/-- The body's one semaphore, and the one array it copies from. -/
abbrev osem0 : Fin 1 → SemLoc sig := fun j => (![SemLoc.dma 14] : Fin 1 → SemLoc sig) j
theorem ownSemFacts0 : Pipeline.OwnSemFacts spec0 osem0 := by decide
def H0 : Finset (Ref sig .tc) := {main_v0}
theorem H0_sub : H0 ⊆ Pipeline.restRefs sig spec0 := by decide

theorem PhiD_eq : (Pipeline.ΦD osem0 spec0 H0 (V m) c : sProp 𝕄)
    = iprop(((∃ f, (c : Thread nD τ).loc cc0_scratch0 ↦{fullShare} f) ∗ (∃ f, (c : Thread nD τ).loc cc0_scratch1 ↦{fullShare} f)
        ∗ (∃ f, (c : Thread nD τ).loc cc0_scratch3 ↦{fullShare} f) ∗ (∃ f, (c : Thread nD τ).loc cc0_scratch4 ↦{fullShare} f))
      ∗ (∃ r, prngReg c r) ∗ semVal ((c : Thread nD τ), SemLoc.dma 14) 0 ∗ ptAll c hM (V m c main_v0)) := by
  rw [Pipeline.ΦD_eq, scopedRest0_eq, Pipeline.ownSems0_eq_of_list c osem0 [0] (by decide) (by decide), BI.bigSep_eq_bigSepL_of_eq (S := H0) [main_v0] (by decide) (by decide)]
  rfl

theorem hin : (Pipeline.ΦD osem0 spec0 H0 (V m) c : sProp 𝕄) ⊢ (dats m 0 c).Φ 0 := by
  rw [PhiD_eq, show (dats m 0 c).Φ 0 = Phi m c 0 from rfl]
  unfold Phi
  rw [copySt_idle m c 0 (by omega)]
  iintro ⟨⟨⟨%f0, G0⟩, ⟨%f1, G1⟩, ⟨%f3, G3⟩, ⟨%f4, G4⟩⟩, Hr, HS, Hh⟩
  isplitl [G0]
  · iexists f0; isplitr; · ipureintro; intro h; exact absurd rfl h
    simp only [xnM, owns_whole]; iexact G0
  isplitl [G3]
  · iexists f3; isplitr; · ipureintro; exact fun k hk => absurd hk (Nat.not_lt_zero _)
    simp only [gM, owns_whole]; iexact G3
  isplitl [G4]
  · iexists f4; isplitr; · ipureintro; exact fun k hk => absurd hk (Nat.not_lt_zero _)
    simp only [vM, owns_whole]; iexact G4
  isplitl [Hr]; · iexact Hr
  isplitl [G1]
  · iexists f1; simp only [bufM, owns_whole]; iexact G1
  isplitl [Hh]; · iexact Hh
  iexact HS

theorem hout : (dats m 0 c).Φ (Fin.last cfg0.N) ⊢ (Pipeline.ΦD osem0 spec0 H0 (V m) c : sProp 𝕄) := by
  rw [PhiD_eq, show (dats m 0 c).Φ (Fin.last cfg0.N) = Phi m c 88 from rfl]
  unfold Phi
  rw [copySt_idle m c 88 (by omega)]
  simp only [xnM, gM, vM, bufM, owns_whole]
  iintro ⟨⟨%d0, -, G0⟩, ⟨%d3, -, G3⟩, ⟨%d4, -, G4⟩, Hr, ⟨%d1, G1⟩, Hh, HS⟩
  isplitl [G0 G1 G3 G4]
  · isplitl [G0]; · iexists d0; iexact G0
    isplitl [G1]; · iexists d1; iexact G1
    isplitl [G3]; · iexists d3; iexact G3
    iexists d4; iexact G4
  isplitl [Hr]; · iexact Hr
  isplitl [HS]; · iexact HS
  iexact Hh

set_option maxHeartbeats 800000 in
theorem hmain : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- The run: the written arrays hold what the points wrote, everything else is as it was found, no semaphore is left up. -/
theorem run_main : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmain m) (hA := A_eq m)
    (hin := hin m) (hout := hout m)

/-- The arguments end as they began, and no semaphore is left up. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).1 3).trans (((dats m 0 c).arrAt_in 3 rfl _).trans ((A_eq m c 3).trans (V_main_arg3 m c))),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c)⟩, h.2⟩) (run_main m ρ)

end Cert.KernelIdeal.Hand
-- ==== Proof.FfnPoint.lean ====
module

public import proofs.«01_k».proof.Proof.FfnStep
public import proofs.«01_k».proof.Proof.HalvesAt
public import proofs.«01_k».proof.Proof.Spec

/-! What one grid step of the last feed-forward layer computes, over exact numbers: each payload read at a row and a column. -/

@[expose] public section

set_option maxRecDepth 16384

noncomputable section

namespace Cert.KernelIdeal.Hand

open Cert.KernelIdeal Cert.KernelIdeal.Gen Cert.Halves Cert.Spec
open Idealize.ShloMosaic Idealize.ShloMosaic.TcCoe

theorem norm_at {H : ℕ → ℕ → EReal} {nw : ℕ → EReal} {r0 : ℕ} {v : Vec Ideal S512x2048 .f32} {w : Vec Ideal S1x2048 .f32}
    (hv : ∀ (p : Fin 512) (k : Fin 2048), v (ix2 p k) = H (r0 + p) k) (hw : ∀ k : Fin 2048, w (ix2 0 k) = nw k) (p : Fin 512) (k : Fin 2048) :
    k0_pay2 (F := Ideal) v w (ix2 p k) = rms H nw (r0 + p) k := by
  pointwise [k0_pay2]
  simp only [hv, hw]
  unfold rms
  rw [Finset.sum_range]

theorem normed_at {H : ℕ → ℕ → EReal} {nw : ℕ → EReal} {r0 : ℕ} {h : Vec Ideal S1024x2048 .f32} {w : Vec Ideal S1x2048 .f32}
    (hh : ∀ (p : Fin 1024) (k : Fin 2048), h (ix2 p k) = H (r0 + p) k) (hw : ∀ k : Fin 2048, w (ix2 0 k) = nw k) (p : Fin 1024) (k : Fin 2048) :
    normed (F := Ideal) h w (ix2 p k) = rms H nw (r0 + p) k :=
  two_at (P := fun p k => rms H nw (r0 + p) k)
    (fun p k => norm_at (r0 := r0) (lo_at (P := fun p k => H (r0 + p) k) hh) hw p k)
    (fun p k => (norm_at (H := H) (r0 := r0 + 512) (fun p k => (hi_at (P := fun p k => H (r0 + p) k) hh p k).trans (by rw [Nat.add_assoc])) hw p k).trans (by rw [Nat.add_assoc])) p k

theorem lastNorm_at {H : ℕ → ℕ → EReal} {nw : ℕ → EReal} {r0 : ℕ} {v : Vec Ideal S1024x2048 .f32} {w : Vec Ideal S1x2048 .f32}
    (hv : ∀ (p : Fin 1024) (k : Fin 2048), v (ix2 p k) = H (r0 + p) k) (hw : ∀ k : Fin 2048, w (ix2 0 k) = nw k) (p : Fin 1024) (k : Fin 2048) :
    k0_pay1 (F := Ideal) v w (ix2 p k) = rms H nw (r0 + p) k := by
  pointwise [k0_pay1]
  simp only [hv, hw]
  unfold rms
  rw [Finset.sum_range]

theorem zeroG_at (s : Fin 8) (x : Fin 512) : k0_pay38 (F := Ideal) (ix3 0 s x) = 0 := by
  pointwise [k0_pay38]
theorem zeroV_at (s : Fin 8) (x : Fin 512) : k0_pay39 (F := Ideal) (ix3 0 s x) = 0 := by
  pointwise [k0_pay39]

section Step

variable {N W C O : ℕ → ℕ → EReal} {r0 c0 : ℕ} (h0 : r0 % 512 = 0) (h1 : r0 % 1024 = 0)
  {v v' : Vec Ideal S512x2048 .bf16} (hv : ∀ (p : Fin 512) (k : Fin 2048), v (ix2 p k) = N (r0 + p) k) (hv' : ∀ (p : Fin 512) (k : Fin 2048), v' (ix2 p k) = N (r0 + 512 + p) k)
  {wg wv : Vec Ideal S2048x512 .bf16} (hg : ∀ (k : Fin 2048) (x : Fin 512), wg (ix2 k x) = W k (c0 + x))
  (hu : ∀ (k : Fin 2048) (x : Fin 512), wv (ix2 k x) = W k (5632 + (c0 + x)))
  {cg cv : Vec Ideal S3x512 .f32} (hcg : ∀ (e : Fin 3) (x : Fin 512), cg (ix2 e x) = C e (c0 + x)) (hcv : ∀ (e : Fin 3) (x : Fin 512), cv (ix2 e x) = C e (5632 + (c0 + x)))
  {wd : Vec Ideal S512x2048 .bf16} (hd : ∀ (x : Fin 512) (d : Fin 2048), wd (ix2 x d) = O (c0 + x) d)

include hv hg in
theorem nextG_at (s : Fin 8) (x : Fin 512) : nextG (F := Ideal) v wg (ix3 0 s x) = proj N W (r0 + 504 + s) (c0 + x) := by
  pointwise [nextG, k0_pay34, k0_pay26]
  simp only [hv, hg]
  rw [proj_fin]
  simp only [Nat.add_assoc]

include hv hu in
theorem nextV_at (s : Fin 8) (x : Fin 512) : nextV (F := Ideal) v wv (ix3 0 s x) = proj N W (r0 + 504 + s) (5632 + (c0 + x)) := by
  pointwise [nextV, k0_pay35, k0_pay27]
  simp only [hv, hu]
  rw [proj_fin]
  simp only [Nat.add_assoc]

include h0 hv hg hu hcg hcv hd in
theorem stepLo_at {pg pv : Vec Ideal S1x8x512 .f32} (hpg : ∀ (s : Fin 8) (x : Fin 512), pg (ix3 0 s x) = if r0 % 4096 = 0 then 0 else proj N W (r0 - 8 + s) (c0 + x))
    (hpv : ∀ (s : Fin 8) (x : Fin 512), pv (ix3 0 s x) = if r0 % 4096 = 0 then 0 else proj N W (r0 - 8 + s) (5632 + (c0 + x)))
    (o : Vec Ideal S512x2048 .f32) (p : Fin 512) (d : Fin 2048) :
    stepLo (F := Ideal) v pg pv wg wv cg cv wd o (ix2 p d) = o (ix2 p d) + ∑ x : Fin 512, act N W C (r0 + p) (c0 + x) * O (c0 + x) d := by
  pointwise [stepLo, k0_pay36, k0_pay30, k0_pay25, k0_pay28, k0_pay29, k0_pay24]
  simp only [hv, hg, hu, hcg, hcv, hd]
  refine congrArg _ (Finset.sum_congr rfl fun x _ => ?_)
  unfold act swish conv
  rw [← back_tile (proj N W) (c := c0 + x) h0 p.isLt (le_refl 2) rfl (fun h => hpg ⟨6 + p, h⟩ x) (fun h => rfl),
    ← back_tile (proj N W) (c := c0 + x) h0 p.isLt (show 1 ≤ 2 by decide) rfl (fun h => hpg ⟨7 + p, h⟩ x) (fun h => rfl),
    ← back_tile (proj N W) (c := 5632 + (c0 + x)) h0 p.isLt (le_refl 2) rfl (fun h => hpv ⟨6 + p, h⟩ x) (fun h => rfl),
    ← back_tile (proj N W) (c := 5632 + (c0 + x)) h0 p.isLt (show 1 ≤ 2 by decide) rfl (fun h => hpv ⟨7 + p, h⟩ x) (fun h => rfl)]
  simp only [proj_fin, zero_sub]
  rfl

include h1 hv hv' hg hu hcg hcv hd in
theorem stepHi_at (o : Vec Ideal S512x2048 .f32) (p : Fin 512) (d : Fin 2048) :
    stepHi (F := Ideal) v v' wg wv cg cv wd o (ix2 p d) = o (ix2 p d) + ∑ x : Fin 512, act N W C (r0 + 512 + p) (c0 + x) * O (c0 + x) d := by
  pointwise [stepHi, k0_pay37, k0_pay27, k0_pay31, k0_pay24, k0_pay26, k0_pay32, k0_pay25, k0_pay33]
  simp only [hv, hv', hg, hu, hcg, hcv, hd]
  refine congrArg _ (Finset.sum_congr rfl fun x _ => ?_)
  have hs : ¬ (r0 + 512) % 4096 = 0 := by omega
  have e2 : ∀ (q c : ℕ), (if (r0 + 512) % 4096 = 0 then 0 else proj N W (r0 + 512 - 8 + q) c) = proj N W (r0 + (504 + q)) c := fun q c => by
    rw [if_neg hs, show r0 + 512 - 8 + q = r0 + (504 + q) by omega]
  unfold act swish conv
  rw [← back_tile (proj N W) (c := c0 + x) (r0 := r0 + 512) (by omega) p.isLt (le_refl 2) rfl (fun h => (e2 (6 + p) _).symm) (fun h => rfl),
    ← back_tile (proj N W) (c := c0 + x) (r0 := r0 + 512) (by omega) p.isLt (show 1 ≤ 2 by decide) rfl (fun h => (e2 (7 + p) _).symm) (fun h => rfl),
    ← back_tile (proj N W) (c := 5632 + (c0 + x)) (r0 := r0 + 512) (by omega) p.isLt (le_refl 2) rfl (fun h => (e2 (6 + p) _).symm) (fun h => rfl),
    ← back_tile (proj N W) (c := 5632 + (c0 + x)) (r0 := r0 + 512) (by omega) p.isLt (show 1 ≤ 2 by decide) rfl (fun h => (e2 (7 + p) _).symm) (fun h => rfl)]
  simp only [proj_fin, zero_sub]
  rfl

include h1 hg hu hcg hcv hd in
theorem stepOut_at {xn : Vec Ideal S1024x2048 .bf16} (hx : ∀ (p : Fin 1024) (k : Fin 2048), xn (ix2 p k) = N (r0 + p) k)
    {pg pv : Vec Ideal S1x8x512 .f32} (hpg : ∀ (s : Fin 8) (x : Fin 512), pg (ix3 0 s x) = if r0 % 4096 = 0 then 0 else proj N W (r0 - 8 + s) (c0 + x))
    (hpv : ∀ (s : Fin 8) (x : Fin 512), pv (ix3 0 s x) = if r0 % 4096 = 0 then 0 else proj N W (r0 - 8 + s) (5632 + (c0 + x)))
    {o : Vec Ideal S1024x2048 .f32} {G : ℕ → ℕ → EReal} (ho : ∀ (p : Fin 1024) (k : Fin 2048), o (ix2 p k) = G p k) (p : Fin 1024) (d : Fin 2048) :
    stepOut (F := Ideal) xn pg pv wg wv cg cv wd o (ix2 p d) = G p d + ∑ x : Fin 512, act N W C (r0 + p) (c0 + x) * O (c0 + x) d := by
  have hl := lo_at (P := fun p k => N (r0 + p) k) hx
  have hr : ∀ (p : Fin 512) (k : Fin 2048), hi xn (ix2 p k) = N (r0 + 512 + p) k := fun p k => (hi_at (P := fun p k => N (r0 + p) k) hx p k).trans (by rw [Nat.add_assoc])
  refine two_at (P := fun p d => G p d + ∑ x : Fin 512, act N W C (r0 + p) (c0 + x) * O (c0 + x) d) (fun p d => ?_) (fun p d => ?_) p d
  · rw [stepLo_at (by omega) hl hg hu hcg hcv hd hpg hpv, lo_at ho]
  · rw [stepHi_at h1 hl hr hg hu hcg hcv hd, hi_at ho]
    simp only [Nat.add_assoc]

end Step

end Cert.KernelIdeal.Hand
-- ==== Proof.FfnValue.lean ====
module

public import proofs.«01_k».proof.Proof.FfnData
public import proofs.«01_k».proof.Proof.FfnPoint
public import Idealize.ShloMosaic.Lib.Pipeline.ValueKit
public import Idealize.ShloMosaic.Lib.Claim

/-! The result the last feed-forward layer writes: its tiles hold the specification's rows. -/

@[expose] public section
set_option maxRecDepth 16384
noncomputable section

namespace Cert.KernelIdeal.Hand
open Cert.KernelIdeal Cert.KernelIdeal.Gen Cert.Halves Cert.Spec
open Idealize.ShloMosaic Idealize.ShloMosaic.TcCoe Idealize.SL.Sem
variable (m : (ℓ : Loc nD τ sig) → Buf (Elt Ideal) ℓ) (c : Dev nD)

theorem idx : ∀ t : Fin cfg0.N, win0_0.index t = ![0, 0] ∧ win0_1.index t = ![0, t.val % 11] ∧ win0_2.index t = ![0, 11 + t.val % 11] ∧ win0_3.index t = ![0, t.val % 11] ∧ win0_4.index t = ![0, 11 + t.val % 11] ∧ win0_5.index t = ![t.val % 11, 0] ∧ win0_6.index t = ![0, 0] ∧ win0_7.index t = ![t.val / 11, 0] ∧ t.val / 11 < 8 :=
  (by decide +kernel : ∀ t : Fin grid0.N, _)

abbrev argH : Vec Ideal S2x4096x2048 .f32 := m ((c : Thread nD τ).loc main_arg0)
abbrev argN : Vec Ideal S2048 .f32 := m ((c : Thread nD τ).loc main_arg1)
abbrev argW : Vec Ideal S2048x11264 .f32 := m ((c : Thread nD τ).loc main_arg2)
abbrev argC : Vec Ideal S3x11264 .f32 := m ((c : Thread nD τ).loc main_arg3)
abbrev argO : Vec Ideal S5632x2048 .f32 := m ((c : Thread nD τ).loc main_arg4)
abbrev argF : Vec Ideal S2048 .f32 := m ((c : Thread nD τ).loc main_arg5)

/-- The arguments read at natural numbers. -/
def hN : ℕ → ℕ → EReal := at2 (a := 8192) (b := 2048) fun r k => argH m c (ix3 ⟨r.val / 4096, by omega⟩ ⟨r.val % 4096, by omega⟩ k)
def nN : ℕ → EReal := at1 (a := 2048) fun k => argN m c (ix1 k)
def wN : ℕ → ℕ → EReal := at2 (a := 2048) (b := 11264) fun r k => argW m c (ix2 r k)
def cN : ℕ → ℕ → EReal := at2 (a := 3) (b := 11264) fun r k => argC m c (ix2 r k)
def oN : ℕ → ℕ → EReal := at2 (a := 5632) (b := 2048) fun r k => argO m c (ix2 r k)
def fN : ℕ → EReal := at1 (a := 2048) fun k => argF m c (ix1 k)

theorem blk0 (t : Fin cfg0.N) (k : Fin 2048) : (iblk m c 0 t : Vec Ideal S1x2048 .f32) (ix2 0 k) = nN m c k := by
  refine Eq.trans ?_ (at1_fin _ k).symm
  blk_point [iblk, V, idx t]
theorem blk1 (t : Fin cfg0.N) (r : Fin 2048) (k : Fin 512) : (iblk m c 1 t : Vec Ideal S2048x512 .bf16) (ix2 r k) = wN m c r (512 * (t.val % 11) + k) := by
  refine Eq.trans ?_ (at2_of _ r.isLt (show 512 * (t.val % 11) + k.val < 11264 by omega)).symm
  blk_point [iblk, V, idx t]
theorem blk2 (t : Fin cfg0.N) (r : Fin 2048) (k : Fin 512) : (iblk m c 2 t : Vec Ideal S2048x512 .bf16) (ix2 r k) = wN m c r (5632 + (512 * (t.val % 11) + k)) := by
  refine Eq.trans ?_ (at2_of _ r.isLt (show 5632 + (512 * (t.val % 11) + k.val) < 11264 by omega)).symm
  blk_point [iblk, V, idx t]
theorem blk3 (t : Fin cfg0.N) (r : Fin 3) (k : Fin 512) : (iblk m c 3 t : Vec Ideal S3x512 .f32) (ix2 r k) = cN m c r (512 * (t.val % 11) + k) := by
  refine Eq.trans ?_ (at2_of _ r.isLt (show 512 * (t.val % 11) + k.val < 11264 by omega)).symm
  blk_point [iblk, V, idx t]
theorem blk4 (t : Fin cfg0.N) (r : Fin 3) (k : Fin 512) : (iblk m c 4 t : Vec Ideal S3x512 .f32) (ix2 r k) = cN m c r (5632 + (512 * (t.val % 11) + k)) := by
  refine Eq.trans ?_ (at2_of _ r.isLt (show 5632 + (512 * (t.val % 11) + k.val) < 11264 by omega)).symm
  blk_point [iblk, V, idx t]
theorem blk5 (t : Fin cfg0.N) (r : Fin 512) (k : Fin 2048) : (iblk m c 5 t : Vec Ideal S512x2048 .bf16) (ix2 r k) = oN m c (512 * (t.val % 11) + r) k := by
  refine Eq.trans ?_ (at2_of _ (show 512 * (t.val % 11) + r.val < 5632 by omega) k.isLt).symm
  blk_point [iblk, V, idx t]
theorem blk6 (t : Fin cfg0.N) (k : Fin 2048) : (iblk m c 6 t : Vec Ideal S1x2048 .f32) (ix2 0 k) = fN m c k := by
  refine Eq.trans ?_ (at1_fin _ k).symm
  blk_point [iblk, V, idx t]
theorem row_read (r : Fin 8192) (k : Fin 2048) : (V m c main_v0 : Vec Ideal S8192x2048 .f32) (ix2 r k) = hN m c r k := by
  refine Eq.trans ?_ (at2_fin _ r k).symm
  entry_read
  pointwise

/-! ## The tiles -/

theorem tile_at (k : ℕ) (hk : k < 8) (p : Fin 1024) (d : Fin 2048) : tileAt m c k (ix2 p d) = hN m c (1024 * k + p) d := by
  refine Eq.trans (congrArg (V m c main_v0) (funext fun a => ?_)) (row_read m c ⟨1024 * k + p, by omega⟩ d)
  match a with
  | 0 => exact Fin.ext (by show 1024 * (k % 8) + 1 * p.val = 1024 * k + p.val; omega)
  | 1 => exact Fin.ext (by show 0 + 1 * d.val = d.val; omega)

theorem xn_at (k : ℕ) (hk : k < 8) (p : Fin 1024) (d : Fin 2048) : xnAt m c k (ix2 p d) = rms (hN m c) (nN m c) (1024 * k + p) d :=
  normed_at (r0 := 1024 * k) (tile_at m c k hk) (blk0 m c _) p d

/-- A channel before the convolution. -/
def chan (r x : ℕ) : EReal := proj (rms (hN m c) (nN m c)) (wN m c) r x

theorem hi_xn (n : ℕ) (hn : n < 88) (p : Fin 512) (k : Fin 2048) : hi (xnAt m c (n / 11)) (ix2 p k) = rms (hN m c) (nN m c) (1024 * (n / 11) + 512 + p) k :=
  (hi_at (P := fun p k => rms (hN m c) (nN m c) (1024 * (n / 11) + p) k) (xn_at m c (n / 11) (by omega)) p k).trans (by rw [Nat.add_assoc])

theorem tailG_at (n : ℕ) (hn : n < 88) (s : Fin 8) (x : Fin 512) :
    tailG m c n (ix3 0 s x) = chan m c (1024 * (n / 11) + 1016 + s) (512 * (n % 11) + x) := by
  have e : (pt n).val % 11 = n % 11 := by show n % 88 % 11 = n % 11; omega
  refine (nextG_at (r0 := 1024 * (n / 11) + 512) (c0 := 512 * (n % 11)) (W := wN m c) (hi_xn m c n hn)
    (fun k x => by rw [← e]; exact blk1 m c (pt n) k x) s x).trans ?_
  rw [show 1024 * (n / 11) + 512 + 504 + s.val = 1024 * (n / 11) + 1016 + s.val by omega]
  rfl

theorem tailV_at (n : ℕ) (hn : n < 88) (s : Fin 8) (x : Fin 512) :
    tailV m c n (ix3 0 s x) = chan m c (1024 * (n / 11) + 1016 + s) (5632 + (512 * (n % 11) + x)) := by
  have e : (pt n).val % 11 = n % 11 := by show n % 88 % 11 = n % 11; omega
  refine (nextV_at (r0 := 1024 * (n / 11) + 512) (c0 := 512 * (n % 11)) (W := wN m c) (hi_xn m c n hn)
    (fun k x => by rw [← e]; exact blk2 m c (pt n) k x) s x).trans ?_
  rw [show 1024 * (n / 11) + 512 + 504 + s.val = 1024 * (n / 11) + 1016 + s.val by omega]
  rfl

theorem prev_at {z : Vec Ideal S1x8x512 .f32} (hz : ∀ (s : Fin 8) (x : Fin 512), z (ix3 0 s x) = 0) {T : ℕ → Vec Ideal S1x8x512 .f32} {b : ℕ → ℕ → ℕ}
    (hT : ∀ n, n < 88 → ∀ (s : Fin 8) (x : Fin 512), T n (ix3 0 s x) = chan m c (1024 * (n / 11) + 1016 + s) (b (n % 11) x))
    (n : ℕ) (hn : n < 88) (s : Fin 8) (x : Fin 512) :
    prevAt z T n (ix3 0 s x) = if 1024 * (n / 11) % 4096 = 0 then 0 else chan m c (1024 * (n / 11) - 8 + s) (b (n % 11) x) := by
  unfold prevAt
  by_cases h : n / 11 % 4 = 0
  · rw [if_pos h, if_pos (by omega)]; exact hz s x
  · rw [if_neg h, if_neg (by omega)]
    refine (hT (n - 11) (by omega) s x).trans ?_
    rw [show 1024 * ((n - 11) / 11) + 1016 + s.val = 1024 * (n / 11) - 8 + s.val by omega, show (n - 11) % 11 = n % 11 by omega]

/-- One channel's part of a row's result. -/
def part (r d x : ℕ) : EReal := act (rms (hN m c) (nN m c)) (wN m c) (cN m c) r x * oN m c x d

theorem step_at (n : ℕ) (hn : n < 88) {o : Vec Ideal S1024x2048 .f32} {G : ℕ → ℕ → EReal} (ho : ∀ (p : Fin 1024) (k : Fin 2048), o (ix2 p k) = G p k) (p : Fin 1024) (d : Fin 2048) :
    stepAt m c n o (ix2 p d) = G p d + ∑ x : Fin 512, part m c (1024 * (n / 11) + p) d (512 * (n % 11) + x) := by
  have e : (pt n).val % 11 = n % 11 := by show n % 88 % 11 = n % 11; omega
  exact stepOut_at (r0 := 1024 * (n / 11)) (c0 := 512 * (n % 11)) (N := rms (hN m c) (nN m c)) (W := wN m c) (C := cN m c) (O := oN m c) (by omega)
    (fun k x => by rw [← e]; exact blk1 m c (pt n) k x) (fun k x => by rw [← e]; exact blk2 m c (pt n) k x)
    (fun k x => by rw [← e]; exact blk3 m c (pt n) k x) (fun k x => by rw [← e]; exact blk4 m c (pt n) k x) (fun k x => by rw [← e]; exact blk5 m c (pt n) k x)
    (xn_at m c (n / 11) (by omega)) (prev_at m c zeroG_at (b := fun j x => 512 * j + x) (tailG_at m c) n hn)
    (prev_at m c zeroV_at (b := fun j x => 5632 + (512 * j + x)) (tailV_at m c) n hn) ho p d

theorem out_first (n : ℕ) (hn : n < 88) (h : n % 11 = 0) (p : Fin 1024) (d : Fin 2048) :
    outAt m c n (ix2 p d) = hN m c (1024 * (n / 11) + p) d + ∑ x ∈ Finset.range (512 * (n % 11 + 1)), part m c (1024 * (n / 11) + p) d x := by
  have ht : ∀ (p : Fin 1024) (d : Fin 2048), tileAt m c (n / 11) (ix2 p d) = hN m c (1024 * (n / 11) + p) d := tile_at m c (n / 11) (by omega)
  rw [outAt_first m c n h, step_at m c n hn (G := fun p d => hN m c (1024 * (n / 11) + p) d) ht, sum_block, h]
  simp

theorem out_at : ∀ (n : ℕ) (_ : n < 88) (p : Fin 1024) (d : Fin 2048),
    outAt m c n (ix2 p d) = hN m c (1024 * (n / 11) + p) d + ∑ x ∈ Finset.range (512 * (n % 11 + 1)), part m c (1024 * (n / 11) + p) d x := by
  intro n
  induction n with
  | zero => exact fun hn => out_first m c 0 hn rfl
  | succ n ih =>
    intro hn p d
    by_cases h : (n + 1) % 11 = 0
    · exact out_first m c _ hn h p d
    · have e : (n + 1) / 11 = n / 11 := by omega
      rw [outAt_later m c (n + 1) h, Nat.add_sub_cancel, step_at m c (n + 1) hn (G := fun p d => hN m c (1024 * (n / 11) + p) d + ∑ x ∈ Finset.range (512 * (n % 11 + 1)), part m c (1024 * (n / 11) + p) d x)
          (ih (by omega)), e, show (n + 1) % 11 = n % 11 + 1 by omega, sum_block _ _ (n % 11 + 1), add_assoc]

/-- A tile's last point has added every channel. -/
theorem out_full (n : ℕ) (hn : n < 88) (h : n % 11 = 10) (p : Fin 1024) (d : Fin 2048) :
    outAt m c n (ix2 p d) = ffOut (hN m c) (nN m c) (wN m c) (cN m c) (oN m c) (1024 * (n / 11) + p) d := by
  rw [out_at m c n hn p d, h]
  rfl

theorem left_at (t : Fin cfg0.N) (h : t.val % 11 = 10) (p : Fin 1024) (d : Fin 2048) :
    leftAt m c t.val (ix2 p d) = rms (ffOut (hN m c) (nN m c) (wN m c) (cN m c) (oN m c)) (fN m c) (1024 * (t.val / 11) + p) d := by
  unfold leftAt
  rw [if_pos h, pt_val]
  exact lastNorm_at (r0 := 1024 * (t.val / 11)) (out_full m c t.val t.isLt h) (blk6 m c t) p d

/-- What the rows of the result should be. -/
def G : Vec Ideal S8192x2048 .f32 := fun i => rms (ffOut (hN m c) (nN m c) (wN m c) (cN m c) (oN m c)) (fN m c) (i 0).val (i 1).val

theorem emb0 (t : Fin cfg0.N) (y : S1024x2048.Idx) : ((win0_7.blk t).view.emb y 0).val = 1024 * (t.val / 11) + (y 0).val := by
  show win0_7.index t 0 * 1024 + 1 * (y 0).val = _
  rw [(idx t).2.2.2.2.2.2.2.1]
  show t.val / 11 * 1024 + 1 * (y 0).val = _
  omega
theorem emb1 (t : Fin cfg0.N) (y : S1024x2048.Idx) : ((win0_7.blk t).view.emb y 1).val = (y 1).val := by
  show win0_7.index t 1 * 2048 + 1 * (y 1).val = _
  rw [(idx t).2.2.2.2.2.2.2.1]
  show 0 * 2048 + 1 * (y 1).val = _
  omega

/-- The written array. -/
theorem final : (dats m 0 c).arrAt 7 (cfgs 0).N = G m c := by
  refine (dats m 0 c).arrAt_eq_of_covers 7 _ (by decide +kernel) fun t hf y => ?_
  have hm := (flush0_7 t).mp hf
  have ht : t.val < 88 := t.isLt
  blk_simp
  rw [after0_7]
  have hy : y = ix2 (y 0) (y 1) := by funext a; match a with | 0 => rfl | 1 => rfl
  refine (congrArg (leftAt m c t.val) hy).trans ((left_at m c t hm (y 0) (y 1)).trans ?_)
  unfold G
  rw [emb0 t y, emb1 t y]

end Cert.KernelIdeal.Hand
-- ==== Proof.FfnRef.lean ====
module

public import proofs.«01_k».proof.Proof.Gen.ReferenceIdeal.Run
public import proofs.«01_k».proof.Proof.Spec
public import Idealize.ShloMosaic.Lib.Claim

/-! The reference of the last feed-forward layer, row by row: its result holds the specification's rows. The term is read in
    stages: normalised rows, channels, the convolution, the sum with the residual stream, the last normalisation. -/

@[expose] public section

noncomputable section

namespace Cert.ReferenceIdeal.Hand

open Cert.ReferenceIdeal Cert.ReferenceIdeal.Gen Cert.Spec Idealize.ShloMosaic Idealize.ShloMosaic.TcCoe Idealize.SL.Sem

def nrm (H : FVec Ideal S2x4096x2048 .f32) (w : FVec Ideal S2048 .f32) : FVec Ideal S2x4096x2048 .f32 :=
  mulf (mulf H (broadcastInDim S2x4096x2048 ![0, 1, 2] bcast_S2x4096x1_S2x4096x2048_0_1_2
    (Host.rsqrt (addf (Host.divf (broadcastInDim S2x4096x1 ![0, 1] bcast_S2x4096_S2x4096x1_0_1 (Host.reduceAdd (mulf H H) (constant S_ .f32 0x00000000#32) reducesTo_S2x4096x2048_S2x4096_d2 h_S_))
      (broadcastInDim S2x4096x1 ![] bcast_S_S2x4096x1 (constant S_ .f32 0x45000000#32))) (broadcastInDim S2x4096x1 ![] bcast_S_S2x4096x1 (constant S_ .f32 0x358637BD#32))))))
    (broadcastInDim S2x4096x2048 ![0, 1, 2] bcast_S1x1x2048_S2x4096x2048_0_1_2 (broadcastInDim S1x1x2048 ![2] bcast_S2048_S1x1x2048_2 w))

def prj (X : FVec Ideal S2x4096x2048 .f32) (W : FVec Ideal S2048x11264 .f32) : FVec Ideal S2x4096x11264 .f32 :=
  Host.dotGeneral dot_S2x4096x2048_S2048x11264_S2x4096x11264_2_0_01_1_n_n none X W

def padded (P : FVec Ideal S2x4096x11264 .f32) : FVec Ideal S2x4098x11264 .f32 :=
  pad (s := S2x4096x11264) S2x4098x11264 ![0, 2, 0] ![0, 0, 0] ![0, 0, 0] P (sitofp (F := Ideal) .f32 (constantI S_ 32 0#32)) pads_S2x4096x11264_S2x4098x11264_000_200_000 h_S_

def tap0 (C : FVec Ideal S3x11264 .f32) : FVec Ideal S2x4096x11264 .f32 :=
  broadcastInDim S2x4096x11264 ![0, 1, 2] bcast_S1x1x11264_S2x4096x11264_0_1_2 (broadcastInDim S1x1x11264 ![2] bcast_S11264_S1x1x11264_2 (shapeCast _ (extractStridedSlice S1x11264 ![0, 0] C slices_S3x11264_S1x11264_0_0) shapeCasts_S1x11264_S11264))
def tap1 (C : FVec Ideal S3x11264 .f32) : FVec Ideal S2x4096x11264 .f32 :=
  broadcastInDim S2x4096x11264 ![0, 1, 2] bcast_S1x1x11264_S2x4096x11264_0_1_2 (broadcastInDim S1x1x11264 ![2] bcast_S11264_S1x1x11264_2 (shapeCast _ (extractStridedSlice S1x11264 ![1, 0] C slices_S3x11264_S1x11264_1_0) shapeCasts_S1x11264_S11264))
def tap2 (C : FVec Ideal S3x11264 .f32) : FVec Ideal S2x4096x11264 .f32 :=
  broadcastInDim S2x4096x11264 ![0, 1, 2] bcast_S1x1x11264_S2x4096x11264_0_1_2 (broadcastInDim S1x1x11264 ![2] bcast_S11264_S1x1x11264_2 (shapeCast _ (extractStridedSlice S1x11264 ![2, 0] C slices_S3x11264_S1x11264_2_0) shapeCasts_S1x11264_S11264))

def cnv (Z : FVec Ideal S2x4098x11264 .f32) (C : FVec Ideal S3x11264 .f32) : FVec Ideal S2x4096x11264 .f32 :=
  addf (addf (addf (broadcastInDim S2x4096x11264 ![] bcast_S_S2x4096x11264 (constant S_ .f32 0x00000000#32)) (mulf (extractStridedSlice S2x4096x11264 ![0, 0, 0] Z slices_S2x4098x11264_S2x4096x11264_0_0_0) (tap0 C)))
    (mulf (extractStridedSlice S2x4096x11264 ![0, 1, 0] Z slices_S2x4098x11264_S2x4096x11264_0_1_0) (tap1 C))) (mulf (extractStridedSlice S2x4096x11264 ![0, 2, 0] Z slices_S2x4098x11264_S2x4096x11264_0_2_0) (tap2 C))

def gate (V : FVec Ideal S2x4096x11264 .f32) : FVec Ideal S2x4096x5632 .f32 := extractStridedSlice S2x4096x5632 ![0, 0, 0] V slices_S2x4096x11264_S2x4096x5632_0_0_0
def value0 (V : FVec Ideal S2x4096x11264 .f32) : FVec Ideal S2x4096x5632 .f32 := extractStridedSlice S2x4096x5632 ![0, 0, 5632] V slices_S2x4096x11264_S2x4096x5632_0_0_5632

def acted (V : FVec Ideal S2x4096x11264 .f32) : FVec Ideal S2x4096x5632 .f32 :=
  mulf (mulf (gate V) (Host.divf (broadcastInDim S2x4096x5632 ![] bcast_S_S2x4096x5632 (constant S_ .f32 0x3F800000#32))
    (addf (broadcastInDim S2x4096x5632 ![] bcast_S_S2x4096x5632 (constant S_ .f32 0x3F800000#32)) (Host.exp (Host.negf (gate V)))))) (value0 V)

def sum (H : FVec Ideal S2x4096x2048 .f32) (A : FVec Ideal S2x4096x5632 .f32) (O : FVec Ideal S5632x2048 .f32) : FVec Ideal S2x4096x2048 .f32 :=
  addf H (Host.dotGeneral dot_S2x4096x5632_S5632x2048_S2x4096x2048_2_0_01_1_n_n none A O)

def rows (Y : FVec Ideal S2x4096x2048 .f32) : FVec Ideal S8192x2048 .f32 := shapeCast _ Y shapeCasts_S2x4096x2048_S8192x2048

/-- The arrays as tables over the rows of both sequences. -/
def hR (H : FVec Ideal S2x4096x2048 .f32) : ℕ → ℕ → EReal := at2 (a := 8192) (b := 2048) fun r k => H (ix3 ⟨r.val / 4096, by omega⟩ ⟨r.val % 4096, by omega⟩ k)
def nR (w : FVec Ideal S2048 .f32) : ℕ → EReal := at1 (a := 2048) fun k => w (ix1 k)
def wR (W : FVec Ideal S2048x11264 .f32) : ℕ → ℕ → EReal := at2 (a := 2048) (b := 11264) fun r k => W (ix2 r k)
def cR (C : FVec Ideal S3x11264 .f32) : ℕ → ℕ → EReal := at2 (a := 3) (b := 11264) fun r k => C (ix2 r k)
def oR (O : FVec Ideal S5632x2048 .f32) : ℕ → ℕ → EReal := at2 (a := 5632) (b := 2048) fun r k => O (ix2 r k)

theorem hR_at (H) (s : Fin 2) (r : Fin 4096) (k : Fin 2048) : H (ix3 s r k) = hR H (4096 * s + r) k := by
  refine Eq.trans ?_ (at2_of _ (show 4096 * s.val + r.val < 8192 by omega) k.isLt).symm
  have e0 : (4096 * s.val + r.val) / 4096 = s.val := by omega
  have e1 : (4096 * s.val + r.val) % 4096 = r.val := by omega
  simp only [e0, e1]

theorem nR_at (w) (k : Fin 2048) : nR w k = w (ix1 k) := at1_fin (a := 2048) (fun k => w (ix1 k)) k
theorem wR_at (W) (r : Fin 2048) (k : Fin 11264) : wR W r k = W (ix2 r k) := at2_fin (fun r k => W (ix2 r k)) r k
theorem cR_at (C) (r : Fin 3) (k : Fin 11264) : cR C r k = C (ix2 r k) := at2_fin (fun r k => C (ix2 r k)) r k
theorem oR_at (O) (r : Fin 5632) (k : Fin 2048) : oR O r k = O (ix2 r k) := at2_fin (fun r k => O (ix2 r k)) r k

theorem nrm_at {H w} {T : ℕ → ℕ → EReal} (hH : ∀ (s : Fin 2) (r : Fin 4096) (k : Fin 2048), H (ix3 s r k) = T (4096 * s + r) k)
    (s : Fin 2) (r : Fin 4096) (k : Fin 2048) : nrm H w (ix3 s r k) = rms T (nR w) (4096 * s + r) k := by
  pointwise [nrm]
  unfold rms
  simp only [hH, Finset.sum_range, nR_at]

theorem prj_at (X W) {N : ℕ → ℕ → EReal} (hX : ∀ (s : Fin 2) (r : Fin 4096) (k : Fin 2048), X (ix3 s r k) = N (4096 * s + r) k)
    (s : Fin 2) (r : Fin 4096) (k : Fin 11264) : prj X W (ix3 s r k) = proj N (wR W) (4096 * s + r) k := by
  pointwise [prj]
  rw [proj_fin]
  simp only [hX, wR_at W]

theorem padded_at (P) {z : ℕ → ℕ → EReal} (hP : ∀ (s : Fin 2) (r : Fin 4096) (k : Fin 11264), P (ix3 s r k) = z (4096 * s + r) k)
    (s : Fin 2) (r : Fin 4096) (e : ℕ) (he : e ≤ 2) (j : Fin 4098) (hj : j.val = (2 - e) + r.val) (k : Fin 11264) : padded P (ix3 s j k) = back z e (4096 * s + r) k := by
  pointwise [padded]
  unfold back
  have hs : (4096 * s.val + r.val) % 4096 = r.val := by omega
  rw [hs]
  by_cases h : r.val < e
  · rw [if_pos h, dif_neg (by omega)]
    simp [FloatOps.sitofp]
  · rw [if_neg h, dif_pos (by omega), hP, show 4096 * s.val + (j.val - 2) = 4096 * s.val + r.val - e by omega]

theorem cnv_at (Z C) {z : ℕ → ℕ → EReal} (hZ : ∀ (s : Fin 2) (r : Fin 4096) (e : ℕ) (_ : e ≤ 2) (j : Fin 4098) (_ : j.val = (2 - e) + r.val) (k : Fin 11264), Z (ix3 s j k) = back z e (4096 * s + r) k)
    (s : Fin 2) (r : Fin 4096) (k : ℕ) (hk : k < 11264) : cnv Z C (ix3 s r ⟨k, hk⟩) = conv (cR C) z (4096 * s + r) k := by
  pointwise [cnv, tap0, tap1, tap2]
  rw [hZ s r 2 (by decide) _ (by simp) ⟨k, hk⟩, hZ s r 1 (by decide) _ (by simp) ⟨k, hk⟩, hZ s r 0 (by decide) _ (by simp) ⟨k, hk⟩]
  unfold conv
  rw [show back z 0 (4096 * s.val + r.val) k = z (4096 * s.val + r.val) k from if_neg (by omega),
    show cR C 0 k = C (ix2 0 ⟨k, hk⟩) from cR_at C 0 ⟨k, hk⟩, show cR C 1 k = C (ix2 1 ⟨k, hk⟩) from cR_at C 1 ⟨k, hk⟩, show cR C 2 k = C (ix2 2 ⟨k, hk⟩) from cR_at C 2 ⟨k, hk⟩,
    mul_comm (C _), mul_comm (C _), mul_comm (C _)]

theorem acted_at (V) {N W cw : ℕ → ℕ → EReal} (hV : ∀ (s : Fin 2) (r : Fin 4096) (k : ℕ) (hk : k < 11264), V (ix3 s r ⟨k, hk⟩) = conv cw (proj N W) (4096 * s + r) k)
    (s : Fin 2) (r : Fin 4096) (k : Fin 5632) : acted V (ix3 s r k) = act N W cw (4096 * s + r) k := by
  pointwise [acted, gate, value0]
  simp only [hV]
  rfl

theorem sum_at (H A O) {nw : ℕ → EReal} {W cw : ℕ → ℕ → EReal}
    (hA : ∀ (s : Fin 2) (r : Fin 4096) (k : Fin 5632), A (ix3 s r k) = act (rms (hR H) nw) W cw (4096 * s + r) k)
    (s : Fin 2) (r : Fin 4096) (k : Fin 2048) : sum H A O (ix3 s r k) = ffOut (hR H) nw W cw (oR O) (4096 * s + r) k := by
  pointwise [sum]
  unfold ffOut
  rw [Finset.sum_range]
  simp only [hR_at H, hA, oR_at]

theorem rows_at (Y) {T : ℕ → ℕ → EReal} (hY : ∀ (s : Fin 2) (r : Fin 4096) (k : Fin 2048), Y (ix3 s r k) = T (4096 * s + r) k)
    (r : Fin 8192) (k : Fin 2048) : rows Y (ix2 r k) = T r k := by
  pointwise [rows]
  rw [hY]
  simp only [Nat.div_add_mod]

variable (m : (ℓ : Loc nD τ sig) → Buf (Elt Ideal) ℓ) (c : Dev nD)

/-- The residual stream after the layer, stage by stage. -/
def stages (H : FVec Ideal S2x4096x2048 .f32) (w : FVec Ideal S2048 .f32) (W : FVec Ideal S2048x11264 .f32) (C : FVec Ideal S3x11264 .f32) (O : FVec Ideal S5632x2048 .f32) : FVec Ideal S2x4096x2048 .f32 :=
  sum H (acted (cnv (padded (prj (nrm H w) W)) C)) O

theorem stages_at (H w W C O) (s : Fin 2) (r : Fin 4096) (k : Fin 2048) :
    stages H w W C O (ix3 s r k) = ffOut (hR H) (nR w) (wR W) (cR C) (oR O) (4096 * s + r) k :=
  sum_at _ _ _ (acted_at _ (cnv_at _ _ (padded_at _ (prj_at _ _ (nrm_at (hR_at H)))))) s r k

set_option maxRecDepth 8192 in
theorem out_eq : Value.res_out0 m c = rows (nrm (stages (m (c.tc.loc main_arg0)) (m (c.tc.loc main_arg1)) (m (c.tc.loc main_arg2)) (m (c.tc.loc main_arg3)) (m (c.tc.loc main_arg4))) (m (c.tc.loc main_arg5))) := rfl

/-- The reference's result, as the specification says it. -/
def G (H : FVec Ideal S2x4096x2048 .f32) (w : FVec Ideal S2048 .f32) (W : FVec Ideal S2048x11264 .f32) (C : FVec Ideal S3x11264 .f32) (O : FVec Ideal S5632x2048 .f32) (f : FVec Ideal S2048 .f32) : FVec Ideal S8192x2048 .f32 :=
  fun i => rms (ffOut (hR H) (nR w) (wR W) (cR C) (oR O)) (nR f) (i 0).val (i 1).val

theorem value : Value.res_out0 m c = G (m (c.tc.loc main_arg0)) (m (c.tc.loc main_arg1)) (m (c.tc.loc main_arg2)) (m (c.tc.loc main_arg3)) (m (c.tc.loc main_arg4)) (m (c.tc.loc main_arg5)) := by
  refine (out_eq m c).trans (funext fun i => ?_)
  have hi : i = ix2 (i 0) (i 1) := by funext a; match a with | 0 => rfl | 1 => rfl
  exact (congrArg _ hi).trans (rows_at _ (nrm_at (stages_at (m (c.tc.loc main_arg0)) (m (c.tc.loc main_arg1)) (m (c.tc.loc main_arg2)) (m (c.tc.loc main_arg3)) (m (c.tc.loc main_arg4)))) (i 0) (i 1))

end Cert.ReferenceIdeal.Hand
-- ==== Proof.FfnClaims.lean ====
module

public import proofs.«01_k».proof.Defs
public import proofs.«01_k».proof.Proof.FfnFrame
public import proofs.«01_k».proof.Proof.FfnValue
public import proofs.«01_k».proof.Proof.FfnRef
public import proofs.«01_k».proof.Proof.Gen.Kernel
public import Idealize.ShloMosaic.Lib.Claim

/-! The claims about the last feed-forward layer. -/

@[expose] public section

noncomputable section

namespace Cert.Proof

open Idealize.ShloMosaic Idealize.SL.Sem

attribute [local instance] Cert.Kernel.Gen.facts Cert.KernelIdeal.Gen.facts Cert.ReferenceIdeal.Gen.facts

theorem frame_kernelIdeal : Cert.quiescent_KernelIdeal := fun m ρ _ => Cert.KernelIdeal.Hand.run_frame (F := Ideal) m ρ

/-- The two programs' bodies are one text. -/
theorem bodies : (Cert.KernelIdeal.defs₀ (F := Bits)) = Cert.Kernel.defs₀ (F := Bits) := by
  unfold Cert.KernelIdeal.defs₀ Cert.Kernel.defs₀
  refine congrArg Defs.onTc (funext fun l => funext fun a => ?_)
  match l, a with
  | 0, (t, s) =>
    show Cert.KernelIdeal.cc0_ffn_final _ _ _ _ _ _ _ _ _ _ _ _ _ _ _ _ _ _ _ _ _ _ _ _ _ _ _ _ = Cert.Kernel.cc0_ffn_final _ _ _ _ _ _ _ _ _ _ _ _ _ _ _ _ _ _ _ _ _ _ _ _ _ _ _ _
    rfl
theorem tables : (Cert.KernelIdeal.defs (F := Bits)) = Cert.Kernel.defs (F := Bits) := congrArg (Pipeline.defs _) bodies

theorem frame_kernel : Cert.quiescent_Kernel := fun m ρ _ => by
  rw [← tables]
  exact (θ_run Cert.KernelIdeal.defs _ _).mono (fun _ h => h) (Cert.KernelIdeal.Hand.run_frame (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two specifications are one. -/
theorem value (m : (ℓ : Loc Cert.KernelIdeal.nD Cert.KernelIdeal.τ Cert.KernelIdeal.sig) → Buf (Elt Ideal) ℓ) (c : Dev Cert.KernelIdeal.nD) :
    Cert.KernelIdeal.Hand.G m c = Cert.ReferenceIdeal.Hand.G (Cert.KernelIdeal.Hand.argH m c) (Cert.KernelIdeal.Hand.argN m c) (Cert.KernelIdeal.Hand.argW m c) (Cert.KernelIdeal.Hand.argC m c) (Cert.KernelIdeal.Hand.argO m c) (Cert.KernelIdeal.Hand.argF m c) := rfl

/-- The kernel's run with what it writes named. -/
theorem run_value (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v5) = Cert.KernelIdeal.Hand.G m c) :=
  (θ_run Cert.KernelIdeal.defs _ _).mono (fun r h c => ((h.1 c).1 7).trans (Cert.KernelIdeal.Hand.final m c)) (Cert.KernelIdeal.Hand.run_main (F := Ideal) m g)

theorem algebraic : Cert.algebraic_KernelIdeal_ReferenceIdeal := fun m g m' g' _ hagree =>
  ⟨fun c => Cert.KernelIdeal.Hand.G m c,
    (θ_run Cert.KernelIdeal.defs _ _).mono (fun r h c => ⟨h.1 c, h.2.1 c⟩)
      (θ_run_and (run_value m g) (Cert.KernelIdeal.Hand.run_frame (F := Ideal) m g)),
    (θ_run Cert.ReferenceIdeal.defs _ _).mono (fun r h c => by
      obtain ⟨a0, a1, a2, a3, a4, a5⟩ := hagree c
      refine ⟨(h c).1.trans ((Cert.ReferenceIdeal.Hand.value m' c).trans ?_), (h c).2⟩
      rw [a0, a1, a2, a3, a4, a5]
      exact (value m c).symm) (Cert.ReferenceIdeal.Value.run (F := Ideal) m' g')⟩

end Cert.Proof
-- ==== Proof.UpStep.lean ====
module

public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Kernel3Ideal.Frame
public import proofs.«01_k».proof.Proof.Halves
public import Idealize.ShloMosaic.Lib.Pipeline.FrameBody
public import Idealize.ShloMosaic.Lib.Ring
public import Idealize.ShloMosaic.Lib.Pipeline.Value
public import Idealize.ShloMosaic.Lib.Tactic
public import Idealize.ShloMosaic.Lib.WordCmp

/-! One grid step of the first feed-forward layer: what it computes, and what its body leaves in the buffers. -/

@[expose] public section

set_option maxRecDepth 16384

noncomputable section

namespace Cert.Kernel3Ideal.Hand

open Cert.Kernel3Ideal Cert.Kernel3Ideal.Gen Cert.Halves
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- What one half tile of rows leaves for the next: its last eight rows of a block of gate channels, -/
def nextG (xh : Vec F S512x2048 .bf16) (wg : Vec F S2048x512 .bf16) : Vec F S1x8x512 .f32 := k0_pay36 (k0_pay28 xh wg)
/-- and of the value channels. -/
def nextV (xh : Vec F S512x2048 .bf16) (wv : Vec F S2048x512 .bf16) : Vec F S1x8x512 .f32 := k0_pay37 (k0_pay29 xh wv)

/-- One block of channels added to the upper half of the result, `pg` and `pv` being what the rows before left. -/
def stepLo (xl : Vec F S512x2048 .bf16) (pg pv : Vec F S1x8x512 .f32) (wg wv : Vec F S2048x512 .bf16) (cg cv : Vec F S3x512 .f32)
    (wd : Vec F S512x2048 .bf16) (ol : Vec F S512x2048 .f32) : Vec F S512x2048 .f32 :=
  k0_pay38 (k0_pay32 (k0_pay27 xl wv) (k0_pay30 pv) (k0_pay31 xl wg pg cg) cv) ol wd

/-- One block of channels added to the lower half of the result. -/
def stepHi (xl xh : Vec F S512x2048 .bf16) (wg wv : Vec F S2048x512 .bf16) (cg cv : Vec F S3x512 .f32)
    (wd : Vec F S512x2048 .bf16) (oh : Vec F S512x2048 .f32) : Vec F S512x2048 .f32 :=
  k0_pay39 (k0_pay29 xh wv) (k0_pay33 (k0_pay26 xl wg) (k0_pay28 xh wg) cg) (k0_pay34 (k0_pay27 xl wv) (k0_pay29 xh wv) cv) (k0_pay35 cv) oh wd

/-- One block of channels added to a tile of the result. -/
def stepOut (xn : Vec F S1024x2048 .bf16) (pg pv : Vec F S1x8x512 .f32) (wg wv : Vec F S2048x512 .bf16) (cg cv : Vec F S3x512 .f32)
    (wd : Vec F S512x2048 .bf16) (o : Vec F S1024x2048 .f32) : Vec F S1024x2048 .f32 :=
  two (stepLo (lo xn) pg pv wg wv cg cv wd (lo o)) (stepHi (lo xn) (hi xn) wg wv cg cv wd (hi o))

/-- A tile normalised. -/
def normed (h : Vec F S1024x2048 .f32) (nw : Vec F S1x2048 .f32) : Vec F S1024x2048 .bf16 :=
  two (k0_pay4 (lo h) nw) (k0_pay4 (hi h) nw)

theorem tailInb (i : grid0.Coords) : ∀ a, (![(i 1).val, 0, 0] : Fin 3 → ℕ) a + S1x8x512.size a ≤ S11x8x512.size a := fun a => by
  have h : (i 1).val < 11 := (i 1).isLt
  match a with
  | 0 => show (i 1).val + 1 ≤ 11; omega
  | 1 => show 0 + 8 ≤ 8; omega
  | 2 => show 0 + 512 ≤ 512; omega

/-- The slot of the block of channels at hand. -/
def slotOf (i : grid0.Coords) (tz : Vec F S11x8x512 .f32) : Vec F S1x8x512 .f32 := VecWindow.window tz ![(i 1).val, 0, 0] S1x8x512.size (tailInb i)

/-- What the rows before left in that slot: `z` where a sequence starts. -/
def prevTail (z : Vec F S1x8x512 .f32) (i : grid0.Coords) (tz : Vec F S11x8x512 .f32) : Vec F S1x8x512 .f32 := if k0_cond3 i = 1#1 then z else slotOf i tz

/-- The slot written. -/
def putTail (i : grid0.Coords) (tz : Vec F S11x8x512 .f32) (w : Vec F S1x8x512 .f32) : Vec F S11x8x512 .f32 := VecWindow.put tz ![(i 1).val, 0, 0] S1x8x512.size w

/-- The rows of the residual stream from `r` on. -/
def rowsAt (g : Vec F S8192x2048 .f32) (off : Fin 2 → ℕ) (inb : ∀ a, off a + S1024x2048.size a ≤ S8192x2048.size a) : Vec F S1024x2048 .f32 :=
  VecWindow.window g off S1024x2048.size inb

variable (z : Vec F S1x8x512 .f32) (v : View sig .tc .vmem S11x8x512 .f32) (f : v.ty.Contents (Elt F)) (i : grid0.Coords)

/-- The load of the slot, after it was cleared where a sequence starts. -/
theorem readAt_prev {off off' : Fin 3 → ℕ} (h : off = ![(i 1).val, 0, 0]) (h' : off' = ![(i 1).val, 0, 0]) (inb : ∀ a, off a + S1x8x512.size a ≤ S11x8x512.size a)
    (inb' : k0_cond3 i = 1#1 → ∀ a, off' a + S1x8x512.size a ≤ S11x8x512.size a) :
    v.readAt (Elt F) (Rect.unit (s := S11x8x512) off S1x8x512.size inb).toLoadRect
      (if hc : k0_cond3 i = 1#1 then v.writes (Elt F) f [⟨Rect.unit (s := S11x8x512) off' S1x8x512.size (inb' hc), z⟩] else f) = prevTail z i (v.read (Elt F) f) := by
  subst h h'
  unfold prevTail
  split
  · refine (View.readAt_unit v _ inb rfl (tailInb i)).trans ?_
    rw [View.read_writes_cons_put v f (inb' ‹_›) _ [] rfl]
    exact VecWindow.window_put_same _ _ _ _ _
  · exact View.readAt_unit v _ inb rfl (tailInb i)

/-- The slots after this block's tail is stored. -/
theorem read_put {off off' : Fin 3 → ℕ} (h : off = ![(i 1).val, 0, 0]) (h' : off' = ![(i 1).val, 0, 0]) (inb : ∀ a, off a + S1x8x512.size a ≤ S11x8x512.size a)
    (inb' : k0_cond3 i = 1#1 → ∀ a, off' a + S1x8x512.size a ≤ S11x8x512.size a) (w : Vec F S1x8x512 .f32) :
    v.read (Elt F) (v.writes (Elt F) (if hc : k0_cond3 i = 1#1 then v.writes (Elt F) f [⟨Rect.unit (s := S11x8x512) off' S1x8x512.size (inb' hc), z⟩] else f)
      [⟨Rect.unit (s := S11x8x512) off S1x8x512.size inb, w⟩]) = putTail i (v.read (Elt F) f) w := by
  subst h h'
  refine (View.read_writes_cons_put v _ inb w [] rfl).trans ?_
  rw [View.writes_nil]
  unfold putTail
  split
  · rw [View.read_writes_cons_put v f (inb' ‹_›) _ [] rfl]
    exact VecWindow.put_put_same _ _ _ _ _
  · rfl

/-- A buffer stored whole. -/
theorem read_all {s : Shape} {e : EltTy} (v : View sig .tc .vmem s e) (f : v.ty.Contents (Elt F)) {off : Fin s.rank → ℕ}
    (inb : ∀ k, off k + s.size k ≤ s.size k) (x : Vec F s e) : v.read (Elt F) (v.writes (Elt F) f [⟨Rect.unit (s := s) off s.size inb, x⟩]) = x := by
  refine (View.read_writes_cons_put v f inb x [] rfl).trans (funext fun y => (dif_pos fun k => ?_).trans (congrArg x (funext fun k => Fin.ext ?_)))
  · have := (y k).isLt; have := inb k; omega
  · have := inb k; show (y k).val - off k = (y k).val; omega

end Cert.Kernel3Ideal.Hand
-- ==== Proof.UpRun.lean ====
module

public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Kernel3Ideal.Frame
public import proofs.«01_k».proof.Proof.UpStep
public import Idealize.ShloMosaic.Lib.Pipeline.FrameBody
public import Idealize.ShloMosaic.Lib.Ring
public import Idealize.ShloMosaic.Lib.Pipeline.Value
public import Idealize.ShloMosaic.Lib.Tactic
public import Idealize.ShloMosaic.Lib.WordCmp

/-! The body of one grid step of the first feed-forward layer, run once for each of the four ways its tests come out. -/

@[expose] public section

set_option maxRecDepth 16384

noncomputable section

namespace Cert.Kernel3Ideal.Hand

open Cert.Kernel3Ideal Cert.Kernel3Ideal.Gen Cert.Halves
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

abbrev hM : Memref sig .tc .hbm S8192x2048 .f32 := Memref.whole main_v0
abbrev bufM : Memref sig .tc .vmem S1024x2048 .f32 := Memref.whole cc0_scratch1
abbrev xnM : Memref sig .tc .vmem S1024x2048 .bf16 := Memref.whole cc0_scratch0
abbrev gM : Memref sig .tc .vmem S11x8x512 .f32 := Memref.whole cc0_scratch3
abbrev vM : Memref sig .tc .vmem S11x8x512 .f32 := Memref.whole cc0_scratch4

/-- A buffer held outright. -/
abbrev ptAll (c : Dev nD) {sp : Space} {S : Shape} {e : EltTy} (M : Memref sig .tc sp S e) (f : Buf (Elt F) (M.view.loc (c : Thread nD τ))) : sProp 𝕄 :=
  M.view.loc (c : Thread nD τ) ↦{fullShare} f
/-- A buffer's elements `s` held. -/
abbrev ptOn (c : Dev nD) {sp : Space} {S : Shape} {e : EltTy} (M : Memref sig .tc sp S e) (s : Finset M.view.ty.Idx)
    (f : Buf (Elt F) (M.view.loc (c : Thread nD τ))) : sProp 𝕄 :=
  M.view.loc (c : Thread nD τ) ↦[s]{fullShare} f
/-- The copy of a tile of rows into the tile buffer, under way: what it hands over is the buffer with `f` in it and the rows it reads. -/
abbrev copying (c : Dev nD) (f : Buf (Elt F) (bufM.view.loc (c : Thread nD τ))) (s : Finset hM.view.ty.Idx) (g : Vec F S8192x2048 .f32) : sProp 𝕄 :=
  Transfers.Flight (countersEmb (U := Pipeline.UD sig nD τ)) (c : Thread nD τ) (.dma 22) () 262144
    iprop(ptOn c bufM bufM.view.set f ∗ ptOn c hM s g)

section Runs

variable (c : Dev nD) (i : grid0.Coords)
  (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S3x512 .f32) (harg7 : arg7.IsWhole) (arg8 : Memref sig .tc .vmem S512x2048 .bf16) (harg8 : arg8.IsWhole) (arg9 : Memref sig .tc .vmem S1x2048 .f32) (harg9 : arg9.IsWhole) (arg10 : Memref sig .tc .vmem S1x32x11264 .f32) (harg10 : arg10.IsWhole) (arg11 : Memref sig .tc .vmem S1x64x2048 .f32) (harg11 : arg11.IsWhole) (arg12 : Memref sig .tc .vmem S1024x2048 .f32) (harg12 : arg12.IsWhole) (arg13 : Memref sig .tc .vmem S1x32x11264 .bf16) (harg13 : arg13.IsWhole) (arg14 : Memref sig .tc .vmem S1x64x2048 .bf16) (harg14 : arg14.IsWhole)
  (x3 : Vec F S1x2048 .f32) (x4 : Vec F S2048x512 .bf16) (x5 : Vec F S2048x512 .bf16) (x6 : Vec F S3x512 .f32) (x7 : Vec F S3x512 .f32) (x8 : Vec F S512x2048 .bf16) (x9 : Vec F S1x2048 .f32) (x10 : Vec F S1x32x11264 .f32) (x11 : Vec F S1x64x2048 .f32) (d13 : Vec F S1x32x11264 .bf16) (d14 : Vec F S1x64x2048 .bf16)
  (o : Vec F S1024x2048 .f32) (xn : Vec F S1024x2048 .bf16) (tg tv : Vec F S11x8x512 .f32) (g : Vec F S8192x2048 .f32)

/-- The buffers every grid step touches: the inputs, the result's tile, the two written casts, the normalised tile and the tails. -/
abbrev held (d13 : Vec F S1x32x11264 .bf16) (d14 : Vec F S1x64x2048 .bf16) (o : Vec F S1024x2048 .f32) (xn : Vec F S1024x2048 .bf16) (tg tv : Vec F S11x8x512 .f32) : sProp 𝕄 :=
  iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11
    ∗ owns (c : Thread nD τ) arg12 fullShare o ∗ owns (c : Thread nD τ) arg13 fullShare d13 ∗ owns (c : Thread nD τ) arg14 fullShare d14 ∗ owns (c : Thread nD τ) xnM fullShare xn ∗ owns (c : Thread nD τ) gM fullShare tg ∗ owns (c : Thread nD τ) vM fullShare tv)

/--  A later block of channels, with no copy started. -/
theorem run_later
    (hc1 : ¬ k0_cond1 i = 1#1) (hc2 : ¬ k0_cond2 i = 1#1) (hc4 : ¬ k0_cond4 i = 1#1) (hc5 : k0_cond5 i = 1#1)
    (W : Waits sig Unit) (K : PUnit → sProp 𝕄) :
    iprop(held c arg3 arg4 arg5 arg6 arg7 arg8 arg9 arg10 arg11 arg12 arg13 arg14 x3 x4 x5 x6 x7 x8 x9 x10 x11 d13 d14 o xn tg tv
        ∗ owes (c : Thread nD τ) 0 W
        ∗ (held c arg3 arg4 arg5 arg6 arg7 arg8 arg9 arg10 arg11 arg12 arg13 arg14 x3 x4 x5 x6 x7 x8 x9 x10 x11 (k0_pay40 x10) (k0_pay41 x11)
              (stepOut xn (prevTail k0_pay1 i tg) (prevTail k0_pay2 i tv) x4 x5 x6 x7 x8 o)
              xn (putTail i tg (nextG (hi xn) x4)) (putTail i tv (nextV (hi xn) x5))
            ∗ (∃ W', owes (c : Thread nD τ) 0 W') -∗ K ⟨⟩))
      ⊢ wp frame (wpE (defs₀ (F := F)) Variants.none c none) Set.univ
          (cc0_ffn i hM (Memref.isWhole_whole _) arg3 harg3 arg4 harg4 arg5 harg5 arg6 harg6 arg7 harg7 arg8 harg8 arg9 harg9 arg10 harg10 arg11 harg11 arg12 harg12 arg13 harg13 arg14 harg14
            xnM (Memref.isWhole_whole _) bufM (Memref.isWhole_whole _)
            cc0_scratch2 gM (Memref.isWhole_whole _) vM (Memref.isWhole_whole _)) K := by
  simp only [cc0_ffn_eq_skeleton]; unfold cc0_ffn_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f18, %hf18, H18⟩, ⟨%f19, %hf19, H19⟩⟩, HW, Hk⟩
  sl_exec
  sl_step
  iapply Hk
  isplitl [H3 H4 H5 H6 H7 H8 H9 H10 H11 H12 H13 H14 H15 H18 H19]
  · isplitl [H3]; · iexists f3; isplitr; · ipureintro; exact hf3
                    iexact H3
    isplitl [H4]; · iexists f4; isplitr; · ipureintro; exact hf4
                    iexact H4
    isplitl [H5]; · iexists f5; isplitr; · ipureintro; exact hf5
                    iexact H5
    isplitl [H6]; · iexists f6; isplitr; · ipureintro; exact hf6
                    iexact H6
    isplitl [H7]; · iexists f7; isplitr; · ipureintro; exact hf7
                    iexact H7
    isplitl [H8]; · iexists f8; isplitr; · ipureintro; exact hf8
                    iexact H8
    isplitl [H9]; · iexists f9; isplitr; · ipureintro; exact hf9
                    iexact H9
    isplitl [H10]; · iexists f10; isplitr; · ipureintro; exact hf10
                     iexact H10
    isplitl [H11]; · iexists f11; isplitr; · ipureintro; exact hf11
                     iexact H11
    have e3 := View.readAt_full arg3.view f3 inb_S1x2048_S1x2048_0_0
    have e4 := View.readAt_full arg4.view f4 inb_S2048x512_S2048x512_0_0
    have e5 := View.readAt_full arg5.view f5 inb_S2048x512_S2048x512_0_0
    have e6 := View.readAt_full arg6.view f6 inb_S3x512_S3x512_0_0
    have e7 := View.readAt_full arg7.view f7 inb_S3x512_S3x512_0_0
    have e8 := View.readAt_full arg8.view f8 inb_S512x2048_S512x2048_0_0
    have e9 := View.readAt_full arg9.view f9 inb_S1x2048_S1x2048_0_0
    have e10 := View.readAt_full arg10.view f10 inb_S1x32x11264_S1x32x11264_0_0_0
    have e11 := View.readAt_full arg11.view f11 inb_S1x64x2048_S1x64x2048_0_0_0
    rw [hf3] at e3; rw [hf4] at e4; rw [hf5] at e5; rw [hf6] at e6; rw [hf7] at e7; rw [hf8] at e8; rw [hf9] at e9; rw [hf10] at e10; rw [hf11] at e11
    subst hf12 hf15 hf18 hf19 e3 e4 e5 e6 e7 e8 e9 e10 e11
    clear hf3 hf4 hf5 hf6 hf7 hf8 hf9 hf10 hf11
    isplitl [H12]
    · iexists _; isplitr; swap; · iexact H12
      ipureintro
      refine (read_two arg12.view f12 _ _ _ _ _).trans ?_
      have eg := readAt_prev k0_pay1 gM.view f18 i (k0_off6_eq i) (k0_off3_eq i) (k0_off6_inb i hc5) (fun hc => k0_off3_inb i hc)
      have ev := readAt_prev k0_pay2 vM.view f19 i (k0_off6_eq i) (k0_off3_eq i) (k0_off6_inb i hc5) (fun hc => k0_off3_inb i hc)
      unfold stepOut
      rw [← eg, ← ev]
      rfl
    isplitl [H13]
    · iexists _; isplitr; swap; · iexact H13
      ipureintro
      exact read_all arg13.view f13 inb_S1x32x11264_S1x32x11264_0_0_0 _
    isplitl [H14]
    · iexists _; isplitr; swap; · iexact H14
      ipureintro
      exact read_all arg14.view f14 inb_S1x64x2048_S1x64x2048_0_0_0 _
    isplitl [H15]
    · iexists _; isplitr; swap; · iexact H15
      ipureintro
      rfl
    isplitl [H18]
    · iexists _; isplitr; swap; · iexact H18
      ipureintro
      exact read_put k0_pay1 gM.view f18 i (k0_off6_eq i) (k0_off3_eq i) (k0_off6_inb i hc5) (fun hc => k0_off3_inb i hc) _
    · iexists _; isplitr; swap; · iexact H19
      ipureintro
      exact read_put k0_pay2 vM.view f19 i (k0_off6_eq i) (k0_off3_eq i) (k0_off6_inb i hc5) (fun hc => k0_off3_inb i hc) _
  iexists _; iexact HW

/-- A later block of channels that starts the copy of the next tile of rows. -/
theorem run_issue
    (hc1 : ¬ k0_cond1 i = 1#1) (hc2 : k0_cond2 i = 1#1) (hc4 : ¬ k0_cond4 i = 1#1) (hc5 : k0_cond5 i = 1#1)
    (W : Waits sig Unit) (K : PUnit → sProp 𝕄) :
    iprop(held c arg3 arg4 arg5 arg6 arg7 arg8 arg9 arg10 arg11 arg12 arg13 arg14 x3 x4 x5 x6 x7 x8 x9 x10 x11 d13 d14 o xn tg tv
        ∗ (∃ d, owns (c : Thread nD τ) bufM fullShare d) ∗ ptAll c hM g ∗ semVal ((c : Thread nD τ), SemLoc.dma 22) 0 ∗ owes (c : Thread nD τ) 0 W
        ∗ (held c arg3 arg4 arg5 arg6 arg7 arg8 arg9 arg10 arg11 arg12 arg13 arg14 x3 x4 x5 x6 x7 x8 x9 x10 x11 (k0_pay40 x10) (k0_pay41 x11)
              (stepOut xn (prevTail k0_pay1 i tg) (prevTail k0_pay2 i tv) x4 x5 x6 x7 x8 o)
              xn (putTail i tg (nextG (hi xn) x4)) (putTail i tv (nextV (hi xn) x5))
            ∗ (∃ f s, ⌜bufM.view.read (Elt F) f = rowsAt g (k0_off2 i) (k0_off2_inb i hc2)⌝ ∗ copying c f s g ∗ ptOn c hM (Finset.univ \ s) g) ∗ (∃ W', owes (c : Thread nD τ) 0 W') -∗ K ⟨⟩))
      ⊢ wp frame (wpE (defs₀ (F := F)) Variants.none c none) Set.univ
          (cc0_ffn i hM (Memref.isWhole_whole _) arg3 harg3 arg4 harg4 arg5 harg5 arg6 harg6 arg7 harg7 arg8 harg8 arg9 harg9 arg10 harg10 arg11 harg11 arg12 harg12 arg13 harg13 arg14 harg14
            xnM (Memref.isWhole_whole _) bufM (Memref.isWhole_whole _)
            cc0_scratch2 gM (Memref.isWhole_whole _) vM (Memref.isWhole_whole _)) K := by
  simp only [cc0_ffn_eq_skeleton]; unfold cc0_ffn_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f18, %hf18, H18⟩, ⟨%f19, %hf19, H19⟩⟩, ⟨%db, %fb, %hfb, Hb⟩, Hh, HS, HW, Hk⟩
  sl_exec
  sl_step
  iapply Hk
  isplitl [H3 H4 H5 H6 H7 H8 H9 H10 H11 H12 H13 H14 H15 H18 H19]
  · isplitl [H3]; · iexists f3; isplitr; · ipureintro; exact hf3
                    iexact H3
    isplitl [H4]; · iexists f4; isplitr; · ipureintro; exact hf4
                    iexact H4
    isplitl [H5]; · iexists f5; isplitr; · ipureintro; exact hf5
                    iexact H5
    isplitl [H6]; · iexists f6; isplitr; · ipureintro; exact hf6
                    iexact H6
    isplitl [H7]; · iexists f7; isplitr; · ipureintro; exact hf7
                    iexact H7
    isplitl [H8]; · iexists f8; isplitr; · ipureintro; exact hf8
                    iexact H8
    isplitl [H9]; · iexists f9; isplitr; · ipureintro; exact hf9
                    iexact H9
    isplitl [H10]; · iexists f10; isplitr; · ipureintro; exact hf10
                     iexact H10
    isplitl [H11]; · iexists f11; isplitr; · ipureintro; exact hf11
                     iexact H11
    have e3 := View.readAt_full arg3.view f3 inb_S1x2048_S1x2048_0_0
    have e4 := View.readAt_full arg4.view f4 inb_S2048x512_S2048x512_0_0
    have e5 := View.readAt_full arg5.view f5 inb_S2048x512_S2048x512_0_0
    have e6 := View.readAt_full arg6.view f6 inb_S3x512_S3x512_0_0
    have e7 := View.readAt_full arg7.view f7 inb_S3x512_S3x512_0_0
    have e8 := View.readAt_full arg8.view f8 inb_S512x2048_S512x2048_0_0
    have e9 := View.readAt_full arg9.view f9 inb_S1x2048_S1x2048_0_0
    have e10 := View.readAt_full arg10.view f10 inb_S1x32x11264_S1x32x11264_0_0_0
    have e11 := View.readAt_full arg11.view f11 inb_S1x64x2048_S1x64x2048_0_0_0
    rw [hf3] at e3; rw [hf4] at e4; rw [hf5] at e5; rw [hf6] at e6; rw [hf7] at e7; rw [hf8] at e8; rw [hf9] at e9; rw [hf10] at e10; rw [hf11] at e11
    subst hf12 hf15 hf18 hf19 e3 e4 e5 e6 e7 e8 e9 e10 e11
    clear hf3 hf4 hf5 hf6 hf7 hf8 hf9 hf10 hf11
    isplitl [H12]
    · iexists _; isplitr; swap; · iexact H12
      ipureintro
      refine (read_two arg12.view f12 _ _ _ _ _).trans ?_
      have eg := readAt_prev k0_pay1 gM.view f18 i (k0_off6_eq i) (k0_off3_eq i) (k0_off6_inb i hc5) (fun hc => k0_off3_inb i hc)
      have ev := readAt_prev k0_pay2 vM.view f19 i (k0_off6_eq i) (k0_off3_eq i) (k0_off6_inb i hc5) (fun hc => k0_off3_inb i hc)
      unfold stepOut
      rw [← eg, ← ev]
      rfl
    isplitl [H13]
    · iexists _; isplitr; swap; · iexact H13
      ipureintro
      exact read_all arg13.view f13 inb_S1x32x11264_S1x32x11264_0_0_0 _
    isplitl [H14]
    · iexists _; isplitr; swap; · iexact H14
      ipureintro
      exact read_all arg14.view f14 inb_S1x64x2048_S1x64x2048_0_0_0 _
    isplitl [H15]
    · iexists _; isplitr; swap; · iexact H15
      ipureintro
      rfl
    isplitl [H18]
    · iexists _; isplitr; swap; · iexact H18
      ipureintro
      exact read_put k0_pay1 gM.view f18 i (k0_off6_eq i) (k0_off3_eq i) (k0_off6_inb i hc5) (fun hc => k0_off3_inb i hc) _
    · iexists _; isplitr; swap; · iexact H19
      ipureintro
      exact read_put k0_pay2 vM.view f19 i (k0_off6_eq i) (k0_off3_eq i) (k0_off6_inb i hc5) (fun hc => k0_off3_inb i hc) _
  isplitl [HS Hh]
  · iexists _, _; isplitr; swap
    · isplitl [HS]; · iexact HS
      iexact Hh
    ipureintro
    exact View.read_writes_whole _ _ _
  iexists _; iexact HW

/-- The first block of channels of the first tile: it copies the tile in and waits for it. -/
theorem run_first
    (hc1 : k0_cond1 i = 1#1) (hc2 : ¬ k0_cond2 i = 1#1) (hc4 : k0_cond4 i = 1#1) (hc5 : ¬ k0_cond5 i = 1#1)
    (W : Waits sig Unit) (K : PUnit → sProp 𝕄) :
    iprop(held c arg3 arg4 arg5 arg6 arg7 arg8 arg9 arg10 arg11 arg12 arg13 arg14 x3 x4 x5 x6 x7 x8 x9 x10 x11 d13 d14 o xn tg tv
        ∗ (∃ d, owns (c : Thread nD τ) bufM fullShare d) ∗ ptAll c hM g ∗ semVal ((c : Thread nD τ), SemLoc.dma 22) 0 ∗ owes (c : Thread nD τ) 0 W
        ∗ (held c arg3 arg4 arg5 arg6 arg7 arg8 arg9 arg10 arg11 arg12 arg13 arg14 x3 x4 x5 x6 x7 x8 x9 x10 x11 (k0_pay40 x10) (k0_pay41 x11)
              (stepOut (normed (rowsAt g (k0_off1 i) (k0_off1_inb i hc1)) x3) (prevTail k0_pay1 i tg) (prevTail k0_pay2 i tv) x4 x5 x6 x7 x8 (rowsAt g (k0_off1 i) (k0_off1_inb i hc1)))
              (normed (rowsAt g (k0_off1 i) (k0_off1_inb i hc1)) x3) (putTail i tg (nextG (hi (normed (rowsAt g (k0_off1 i) (k0_off1_inb i hc1)) x3)) x4)) (putTail i tv (nextV (hi (normed (rowsAt g (k0_off1 i) (k0_off1_inb i hc1)) x3)) x5))
            ∗ (∃ d, owns (c : Thread nD τ) bufM fullShare d) ∗ ptAll c hM g ∗ semVal ((c : Thread nD τ), SemLoc.dma 22) 0 ∗ (∃ W', owes (c : Thread nD τ) 0 W') -∗ K ⟨⟩))
      ⊢ wp frame (wpE (defs₀ (F := F)) Variants.none c none) Set.univ
          (cc0_ffn i hM (Memref.isWhole_whole _) arg3 harg3 arg4 harg4 arg5 harg5 arg6 harg6 arg7 harg7 arg8 harg8 arg9 harg9 arg10 harg10 arg11 harg11 arg12 harg12 arg13 harg13 arg14 harg14
            xnM (Memref.isWhole_whole _) bufM (Memref.isWhole_whole _)
            cc0_scratch2 gM (Memref.isWhole_whole _) vM (Memref.isWhole_whole _)) K := by
  simp only [cc0_ffn_eq_skeleton]; unfold cc0_ffn_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f18, %hf18, H18⟩, ⟨%f19, %hf19, H19⟩⟩, ⟨%db, %fb, %hfb, Hb⟩, Hh, HS, HW, Hk⟩
  sl_exec
  sl_step
  iapply Hk
  isplitl [H3 H4 H5 H6 H7 H8 H9 H10 H11 H12 H13 H14 H15 H18 H19]
  · isplitl [H3]; · iexists f3; isplitr; · ipureintro; exact hf3
                    iexact H3
    isplitl [H4]; · iexists f4; isplitr; · ipureintro; exact hf4
                    iexact H4
    isplitl [H5]; · iexists f5; isplitr; · ipureintro; exact hf5
                    iexact H5
    isplitl [H6]; · iexists f6; isplitr; · ipureintro; exact hf6
                    iexact H6
    isplitl [H7]; · iexists f7; isplitr; · ipureintro; exact hf7
                    iexact H7
    isplitl [H8]; · iexists f8; isplitr; · ipureintro; exact hf8
                    iexact H8
    isplitl [H9]; · iexists f9; isplitr; · ipureintro; exact hf9
                    iexact H9
    isplitl [H10]; · iexists f10; isplitr; · ipureintro; exact hf10
                     iexact H10
    isplitl [H11]; · iexists f11; isplitr; · ipureintro; exact hf11
                     iexact H11
    have e3 := View.readAt_full arg3.view f3 inb_S1x2048_S1x2048_0_0
    have e4 := View.readAt_full arg4.view f4 inb_S2048x512_S2048x512_0_0
    have e5 := View.readAt_full arg5.view f5 inb_S2048x512_S2048x512_0_0
    have e6 := View.readAt_full arg6.view f6 inb_S3x512_S3x512_0_0
    have e7 := View.readAt_full arg7.view f7 inb_S3x512_S3x512_0_0
    have e8 := View.readAt_full arg8.view f8 inb_S512x2048_S512x2048_0_0
    have e9 := View.readAt_full arg9.view f9 inb_S1x2048_S1x2048_0_0
    have e10 := View.readAt_full arg10.view f10 inb_S1x32x11264_S1x32x11264_0_0_0
    have e11 := View.readAt_full arg11.view f11 inb_S1x64x2048_S1x64x2048_0_0_0
    rw [hf3] at e3; rw [hf4] at e4; rw [hf5] at e5; rw [hf6] at e6; rw [hf7] at e7; rw [hf8] at e8; rw [hf9] at e9; rw [hf10] at e10; rw [hf11] at e11
    subst hf12 hf15 hf18 hf19 e3 e4 e5 e6 e7 e8 e9 e10 e11
    clear hf3 hf4 hf5 hf6 hf7 hf8 hf9 hf10 hf11
    isplitl [H12]
    · iexists _; isplitr; swap; · iexact H12
      ipureintro
      refine (read_two arg12.view f12 _ _ _ _ _).trans ?_
      have eg := readAt_prev k0_pay1 gM.view f18 i (k0_off5_eq i) (k0_off3_eq i) (k0_off5_inb i hc4) (fun hc => k0_off3_inb i hc)
      have ev := readAt_prev k0_pay2 vM.view f19 i (k0_off5_eq i) (k0_off3_eq i) (k0_off5_inb i hc4) (fun hc => k0_off3_inb i hc)
      have el : run_first.sl.v45 c i g hc1 = lo (rowsAt g (k0_off1 i) (k0_off1_inb i hc1)) := readCov_whole_lo _ _ _
      have eh : run_first.sl.v65 c i g hc1 = hi (rowsAt g (k0_off1 i) (k0_off1_inb i hc1)) := readCov_whole_hi _ _ _
      have elo : run_first.sl.v195 c i arg12 g hc1 = lo (rowsAt g (k0_off1 i) (k0_off1_inb i hc1)) := (readCov_lo arg12.view inb_S1024x2048_S512x2048_512_0 inb_S1024x2048_S512x2048_0_0 _ _ [] _).trans el
      have ehi : run_first.sl.v202 c i arg3 arg4 arg5 arg6 arg7 arg8 arg12 g hc1 hc4 f3 f4 f5 f6 f7 f8 f18 f19 = hi (rowsAt g (k0_off1 i) (k0_off1_inb i hc1)) := (readCov_hi_under arg12.view inb_S1024x2048_S512x2048_512_0 inb_S1024x2048_S512x2048_0_0 _ _ _ _).trans eh
      have er : run_first.sl.r_16 c i arg3 arg4 arg5 arg6 arg7 arg8 arg12 g hc1 hc4 f3 f4 f5 f6 f7 f8 f18 f19 = k0_pay25 (hi (rowsAt g (k0_off1 i) (k0_off1_inb i hc1))) := congrArg k0_pay25 ehi
      unfold stepOut normed
      rw [← eg, ← ev, lo_two, hi_two, elo, er, ← el, ← eh]
      rfl
    isplitl [H13]
    · iexists _; isplitr; swap; · iexact H13
      ipureintro
      exact read_all arg13.view f13 inb_S1x32x11264_S1x32x11264_0_0_0 _
    isplitl [H14]
    · iexists _; isplitr; swap; · iexact H14
      ipureintro
      exact read_all arg14.view f14 inb_S1x64x2048_S1x64x2048_0_0_0 _
    isplitl [H15]
    · iexists _; isplitr; swap; · iexact H15
      ipureintro
      have el : run_first.sl.v45 c i g hc1 = lo (rowsAt g (k0_off1 i) (k0_off1_inb i hc1)) := readCov_whole_lo _ _ _
      have eh : run_first.sl.v65 c i g hc1 = hi (rowsAt g (k0_off1 i) (k0_off1_inb i hc1)) := readCov_whole_hi _ _ _
      refine (read_two xnM.view f15 _ _ _ _ _).trans ?_
      simp only [k0_pay5, k0_pay9, shapeCast_self]
      unfold normed
      rw [← el, ← eh]
      rfl
    isplitl [H18]
    · iexists _; isplitr; swap; · iexact H18
      ipureintro
      have el : run_first.sl.v45 c i g hc1 = lo (rowsAt g (k0_off1 i) (k0_off1_inb i hc1)) := readCov_whole_lo _ _ _
      have eh : run_first.sl.v65 c i g hc1 = hi (rowsAt g (k0_off1 i) (k0_off1_inb i hc1)) := readCov_whole_hi _ _ _
      refine (read_put k0_pay1 gM.view f18 i (k0_off5_eq i) (k0_off3_eq i) (k0_off5_inb i hc4) (fun hc => k0_off3_inb i hc) _).trans ?_
      unfold nextG normed
      rw [hi_two, ← eh]
      rfl
    · iexists _; isplitr; swap; · iexact H19
      ipureintro
      have el : run_first.sl.v45 c i g hc1 = lo (rowsAt g (k0_off1 i) (k0_off1_inb i hc1)) := readCov_whole_lo _ _ _
      have eh : run_first.sl.v65 c i g hc1 = hi (rowsAt g (k0_off1 i) (k0_off1_inb i hc1)) := readCov_whole_hi _ _ _
      refine (read_put k0_pay2 vM.view f19 i (k0_off5_eq i) (k0_off3_eq i) (k0_off5_inb i hc4) (fun hc => k0_off3_inb i hc) _).trans ?_
      unfold nextV normed
      rw [hi_two, ← eh]
      rfl
  isplitl [Hb]
  · iexists _, _; isplitr; swap; · iexact Hb
    ipureintro; rfl
  isplitl [Hh]; · iexact Hh
  isplitl [HS]; · iexact HS
  iexists _; iexact HW

/-- The first block of channels of a later tile: it waits for the tile whose copy was started before. -/
theorem run_arrive (f : Buf (Elt F) (bufM.view.loc (c : Thread nD τ))) (s : Finset hM.view.ty.Idx) (h : Vec F S1024x2048 .f32) (hx : bufM.view.read (Elt F) f = h)
    (hc1 : ¬ k0_cond1 i = 1#1) (hc2 : ¬ k0_cond2 i = 1#1) (hc4 : k0_cond4 i = 1#1) (hc5 : ¬ k0_cond5 i = 1#1)
    (W : Waits sig Unit) (K : PUnit → sProp 𝕄) :
    iprop(held c arg3 arg4 arg5 arg6 arg7 arg8 arg9 arg10 arg11 arg12 arg13 arg14 x3 x4 x5 x6 x7 x8 x9 x10 x11 d13 d14 o xn tg tv
        ∗ copying c f s g ∗ ptOn c hM (Finset.univ \ s) g ∗ owes (c : Thread nD τ) 0 W
        ∗ (held c arg3 arg4 arg5 arg6 arg7 arg8 arg9 arg10 arg11 arg12 arg13 arg14 x3 x4 x5 x6 x7 x8 x9 x10 x11 (k0_pay40 x10) (k0_pay41 x11)
              (stepOut (normed (h) x3) (prevTail k0_pay1 i tg) (prevTail k0_pay2 i tv) x4 x5 x6 x7 x8 (h))
              (normed (h) x3) (putTail i tg (nextG (hi (normed (h) x3)) x4)) (putTail i tv (nextV (hi (normed (h) x3)) x5))
            ∗ (∃ d, owns (c : Thread nD τ) bufM fullShare d) ∗ ptAll c hM g ∗ semVal ((c : Thread nD τ), SemLoc.dma 22) 0 ∗ (∃ W', owes (c : Thread nD τ) 0 W') -∗ K ⟨⟩))
      ⊢ wp frame (wpE (defs₀ (F := F)) Variants.none c none) Set.univ
          (cc0_ffn i hM (Memref.isWhole_whole _) arg3 harg3 arg4 harg4 arg5 harg5 arg6 harg6 arg7 harg7 arg8 harg8 arg9 harg9 arg10 harg10 arg11 harg11 arg12 harg12 arg13 harg13 arg14 harg14
            xnM (Memref.isWhole_whole _) bufM (Memref.isWhole_whole _)
            cc0_scratch2 gM (Memref.isWhole_whole _) vM (Memref.isWhole_whole _)) K := by
  simp only [cc0_ffn_eq_skeleton]; unfold cc0_ffn_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f18, %hf18, H18⟩, ⟨%f19, %hf19, H19⟩⟩, HF, Hh, HW, Hk⟩
  sl_exec
  sl_step
  iapply Hk
  isplitl [H3 H4 H5 H6 H7 H8 H9 H10 H11 H12 H13 H14 H15 H18 H19]
  · isplitl [H3]; · iexists f3; isplitr; · ipureintro; exact hf3
                    iexact H3
    isplitl [H4]; · iexists f4; isplitr; · ipureintro; exact hf4
                    iexact H4
    isplitl [H5]; · iexists f5; isplitr; · ipureintro; exact hf5
                    iexact H5
    isplitl [H6]; · iexists f6; isplitr; · ipureintro; exact hf6
                    iexact H6
    isplitl [H7]; · iexists f7; isplitr; · ipureintro; exact hf7
                    iexact H7
    isplitl [H8]; · iexists f8; isplitr; · ipureintro; exact hf8
                    iexact H8
    isplitl [H9]; · iexists f9; isplitr; · ipureintro; exact hf9
                    iexact H9
    isplitl [H10]; · iexists f10; isplitr; · ipureintro; exact hf10
                     iexact H10
    isplitl [H11]; · iexists f11; isplitr; · ipureintro; exact hf11
                     iexact H11
    have e3 := View.readAt_full arg3.view f3 inb_S1x2048_S1x2048_0_0
    have e4 := View.readAt_full arg4.view f4 inb_S2048x512_S2048x512_0_0
    have e5 := View.readAt_full arg5.view f5 inb_S2048x512_S2048x512_0_0
    have e6 := View.readAt_full arg6.view f6 inb_S3x512_S3x512_0_0
    have e7 := View.readAt_full arg7.view f7 inb_S3x512_S3x512_0_0
    have e8 := View.readAt_full arg8.view f8 inb_S512x2048_S512x2048_0_0
    have e9 := View.readAt_full arg9.view f9 inb_S1x2048_S1x2048_0_0
    have e10 := View.readAt_full arg10.view f10 inb_S1x32x11264_S1x32x11264_0_0_0
    have e11 := View.readAt_full arg11.view f11 inb_S1x64x2048_S1x64x2048_0_0_0
    rw [hf3] at e3; rw [hf4] at e4; rw [hf5] at e5; rw [hf6] at e6; rw [hf7] at e7; rw [hf8] at e8; rw [hf9] at e9; rw [hf10] at e10; rw [hf11] at e11
    subst hx; subst hf12 hf15 hf18 hf19 e3 e4 e5 e6 e7 e8 e9 e10 e11
    clear hf3 hf4 hf5 hf6 hf7 hf8 hf9 hf10 hf11
    isplitl [H12]
    · iexists _; isplitr; swap; · iexact H12
      ipureintro
      refine (read_two arg12.view f12 _ _ _ _ _).trans ?_
      have eg := readAt_prev k0_pay1 gM.view f18 i (k0_off5_eq i) (k0_off3_eq i) (k0_off5_inb i hc4) (fun hc => k0_off3_inb i hc)
      have ev := readAt_prev k0_pay2 vM.view f19 i (k0_off5_eq i) (k0_off3_eq i) (k0_off5_inb i hc4) (fun hc => k0_off3_inb i hc)
      have elo : run_arrive.sl.v195 c arg12 f = lo (bufM.view.read (Elt F) f) := (readCov_lo arg12.view inb_S1024x2048_S512x2048_512_0 inb_S1024x2048_S512x2048_0_0 _ _ [] _)
      have ehi : run_arrive.sl.v202 c i arg3 arg4 arg5 arg6 arg7 arg8 arg12 f hc4 f3 f4 f5 f6 f7 f8 f18 f19 = hi (bufM.view.read (Elt F) f) := (readCov_hi_under arg12.view inb_S1024x2048_S512x2048_512_0 inb_S1024x2048_S512x2048_0_0 _ _ _ _)
      have er : run_arrive.sl.r_17 c i arg3 arg4 arg5 arg6 arg7 arg8 arg12 f hc4 f3 f4 f5 f6 f7 f8 f18 f19 = k0_pay25 (hi (bufM.view.read (Elt F) f)) := congrArg k0_pay25 ehi
      unfold stepOut normed
      rw [← eg, ← ev, lo_two, hi_two, elo, er]
      rfl
    isplitl [H13]
    · iexists _; isplitr; swap; · iexact H13
      ipureintro
      exact read_all arg13.view f13 inb_S1x32x11264_S1x32x11264_0_0_0 _
    isplitl [H14]
    · iexists _; isplitr; swap; · iexact H14
      ipureintro
      exact read_all arg14.view f14 inb_S1x64x2048_S1x64x2048_0_0_0 _
    isplitl [H15]
    · iexists _; isplitr; swap; · iexact H15
      ipureintro
      refine (read_two xnM.view f15 _ _ _ _ _).trans ?_
      simp only [k0_pay5, k0_pay9, shapeCast_self]
      unfold normed
      rfl
    isplitl [H18]
    · iexists _; isplitr; swap; · iexact H18
      ipureintro
      refine (read_put k0_pay1 gM.view f18 i (k0_off5_eq i) (k0_off3_eq i) (k0_off5_inb i hc4) (fun hc => k0_off3_inb i hc) _).trans ?_
      unfold nextG normed
      rw [hi_two]
      rfl
    · iexists _; isplitr; swap; · iexact H19
      ipureintro
      refine (read_put k0_pay2 vM.view f19 i (k0_off5_eq i) (k0_off3_eq i) (k0_off5_inb i hc4) (fun hc => k0_off3_inb i hc) _).trans ?_
      unfold nextV normed
      rw [hi_two]
      rfl
  isplitl [HF_dst]
  · iexists _, _; isplitr; swap; · iexact HF_dst
    ipureintro; rfl
  isplitl [Hh]; · iexact Hh
  isplitl [HF]; · iexact HF
  iexists _; iexact HW

end Runs

end Cert.Kernel3Ideal.Hand
-- ==== Proof.UpData.lean ====
module

public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Kernel3Ideal.Frame
public import proofs.«01_k».proof.Proof.UpRun
public import Idealize.ShloMosaic.Lib.Pipeline.FrameBody
public import Idealize.ShloMosaic.Lib.Ring
public import Idealize.ShloMosaic.Lib.Pipeline.Value
public import Idealize.ShloMosaic.Lib.Tactic
public import Idealize.ShloMosaic.Lib.WordCmp

/-! What the first feed-forward layer holds at each grid point: the tiles of rows, the tails kept between tiles, and the running result. -/

@[expose] public section

set_option maxRecDepth 16384

noncomputable section

namespace Cert.Kernel3Ideal.Hand

open Cert.Kernel3Ideal Cert.Kernel3Ideal.Gen Cert.Halves
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

/-! ## The grid -/

/-- Point `n` of the grid. -/
def pt (n : ℕ) : Fin cfg0.N := ⟨n % 88, Nat.mod_lt _ (by decide)⟩
theorem pt_val (t : Fin cfg0.N) : pt t.val = t := Fin.ext (Nat.mod_eq_of_lt t.isLt)

theorem row_eq : ∀ t : Fin grid0.N, (grid0.coords t 0).val = t.val / 11 := by decide +kernel
theorem col_eq : ∀ t : Fin grid0.N, (grid0.coords t 1).val = t.val % 11 := by decide +kernel
theorem cond1_iff : ∀ t : Fin grid0.N, k0_cond1 (grid0.coords t) = 1#1 ↔ t.val = 0 := by decide +kernel
theorem cond2_iff : ∀ t : Fin grid0.N, k0_cond2 (grid0.coords t) = 1#1 ↔ t.val % 11 = 1 ∧ t.val / 11 < 7 := by decide +kernel
theorem cond3_iff : ∀ t : Fin grid0.N, k0_cond3 (grid0.coords t) = 1#1 ↔ t.val / 11 % 4 = 0 := by decide +kernel
theorem cond4_iff : ∀ t : Fin grid0.N, k0_cond4 (grid0.coords t) = 1#1 ↔ t.val % 11 = 0 := by decide +kernel
theorem cond5_iff : ∀ t : Fin grid0.N, k0_cond5 (grid0.coords t) = 1#1 ↔ t.val % 11 ≠ 0 := by decide +kernel

/-! ## What is where -/

theorem tileInb (k : ℕ) : ∀ a, (![1024 * (k % 8), 0] : Fin 2 → ℕ) a + S1024x2048.size a ≤ S8192x2048.size a := fun a => by
  have := Nat.mod_lt k (show 0 < 8 by decide)
  match a with
  | 0 => show 1024 * (k % 8) + 1024 ≤ 8192; omega
  | 1 => show 0 + 2048 ≤ 2048; omega

/-- Tile `k` of the rows. -/
def tileAt (k : ℕ) : Vec F S1024x2048 .f32 := rowsAt (V m c main_v0) ![1024 * (k % 8), 0] (tileInb k)
/-- The normalising weights. -/
def nwAt (n : ℕ) : Vec F S1x2048 .f32 := iblk m c 0 (pt n)
/-- The blocks of the weights up, of the taps, and of the weights down. -/
def wgAt (n : ℕ) : Vec F S2048x512 .bf16 := iblk m c 1 (pt n)
def wvAt (n : ℕ) : Vec F S2048x512 .bf16 := iblk m c 2 (pt n)
def cgAt (n : ℕ) : Vec F S3x512 .f32 := iblk m c 3 (pt n)
def cvAt (n : ℕ) : Vec F S3x512 .f32 := iblk m c 4 (pt n)
def wdAt (n : ℕ) : Vec F S512x2048 .bf16 := iblk m c 5 (pt n)

/-- Tile `k`, normalised. -/
def xnAt (k : ℕ) : Vec F S1024x2048 .bf16 := normed (tileAt m c k) (nwAt m c (11 * k))
/-- The tails point `n` leaves. -/
def tailG (n : ℕ) : Vec F S1x8x512 .f32 := nextG (hi (xnAt m c (n / 11))) (wgAt m c n)
def tailV (n : ℕ) : Vec F S1x8x512 .f32 := nextV (hi (xnAt m c (n / 11))) (wvAt m c n)
/-- The tail point `n` finds, `T` being the tails left and `z` a sequence's start. -/
def prevAt (z : Vec F S1x8x512 .f32) (T : ℕ → Vec F S1x8x512 .f32) (n : ℕ) : Vec F S1x8x512 .f32 := if n / 11 % 4 = 0 then z else T (n - 11)
/-- Point `n`'s step from `o`. -/
def stepAt (n : ℕ) (o : Vec F S1024x2048 .f32) : Vec F S1024x2048 .f32 :=
  stepOut (xnAt m c (n / 11)) (prevAt k0_pay1 (tailG m c) n) (prevAt k0_pay2 (tailV m c) n) (wgAt m c n) (wvAt m c n) (cgAt m c n) (cvAt m c n) (wdAt m c n) o
/-- The tile of the result after point `n`. -/
def outAt : ℕ → Vec F S1024x2048 .f32
  | 0 => stepAt m c 0 (tileAt m c 0)
  | n + 1 => stepAt m c (n + 1) (if (n + 1) % 11 = 0 then tileAt m c ((n + 1) / 11) else outAt n)

theorem outAt_first (n : ℕ) (h : n % 11 = 0) : outAt m c n = stepAt m c n (tileAt m c (n / 11)) := by
  cases n with
  | zero => rfl
  | succ n => show stepAt m c (n + 1) (if (n + 1) % 11 = 0 then _ else _) = _; rw [if_pos h]
theorem outAt_later (n : ℕ) (h : n % 11 ≠ 0) : outAt m c n = stepAt m c n (outAt m c (n - 1)) := by
  cases n with
  | zero => exact absurd rfl h
  | succ n => show stepAt m c (n + 1) (if (n + 1) % 11 = 0 then _ else _) = _; rw [if_neg h]; rfl

theorem slotInb (n : ℕ) : ∀ a, (![n % 11, 0, 0] : Fin 3 → ℕ) a + S1x8x512.size a ≤ S11x8x512.size a := fun a => by
  have h := Nat.mod_lt n (show 0 < 11 by decide)
  match a with
  | 0 => show n % 11 + 1 ≤ 11; omega
  | 1 => show 0 + 8 ≤ 8; omega
  | 2 => show 0 + 512 ≤ 512; omega

theorem window_congr (d : Vec F S11x8x512 .f32) {o o' : Fin 3 → ℕ} (e : o = o') (inb : ∀ a, o a + S1x8x512.size a ≤ S11x8x512.size a)
    (inb' : ∀ a, o' a + S1x8x512.size a ≤ S11x8x512.size a) : VecWindow.window d o S1x8x512.size inb = VecWindow.window d o' S1x8x512.size inb' := by
  subst e; rfl

/-- The slots before point `n`: each of the last eleven points' tails in its own. -/
def TailsOk (T : ℕ → Vec F S1x8x512 .f32) (n : ℕ) (d : Vec F S11x8x512 .f32) : Prop :=
  ∀ k, k < n → n ≤ k + 11 → VecWindow.window d ![k % 11, 0, 0] S1x8x512.size (slotInb k) = T k

theorem tailsOk_step (T : ℕ → Vec F S1x8x512 .f32) (t : Fin grid0.N) (d : Vec F S11x8x512 .f32) (h : TailsOk T t.val d) :
    TailsOk T (t.val + 1) (putTail (grid0.coords t) d (T t.val)) := fun k hk hk' => by
  have e : (![(grid0.coords t 1).val, 0, 0] : Fin 3 → ℕ) = ![t.val % 11, 0, 0] := by rw [col_eq]
  unfold putTail
  rw [e]
  by_cases hn : k = t.val
  · subst hn; exact VecWindow.window_put_same _ _ _ _ _
  · refine (VecWindow.window_put_of_disjoint _ _ _ _ _ (slotInb k) _ 0 ?_).trans (h k (by omega) (by omega))
    show k % 11 + 1 ≤ t.val % 11 ∨ t.val % 11 + 1 ≤ k % 11
    omega

theorem prevTail_eq (z : Vec F S1x8x512 .f32) (T : ℕ → Vec F S1x8x512 .f32) (t : Fin grid0.N) (d : Vec F S11x8x512 .f32) (h : TailsOk T t.val d) :
    prevTail z (grid0.coords t) d = prevAt z T t.val := by
  have e : (![(grid0.coords t 1).val, 0, 0] : Fin 3 → ℕ) = ![(t.val - 11) % 11, 0, 0] ∨ t.val < 11 := by
    rw [col_eq]
    rcases Nat.lt_or_ge t.val 11 with h4 | h4
    · exact .inr h4
    · left; congr 1; omega
  unfold prevTail prevAt
  by_cases h3 : t.val / 11 % 4 = 0
  · rw [if_pos ((cond3_iff t).mpr h3), if_pos h3]
  · rw [if_neg (fun hc => h3 ((cond3_iff t).mp hc)), if_neg h3]
    rcases e with e | e
    · exact (window_congr d e _ _).trans (h (t.val - 11) (by omega) (by omega))
    · omega

/-! ## What holds before each point -/

/-- The copy of the next tile: idle, or under way. -/
def copySt (n : ℕ) : sProp 𝕄 :=
  if n ≠ 0 ∧ n % 11 ≠ 1 ∧ (n + 9) / 11 < 8 then
    iprop(∃ f s, ⌜bufM.view.read (Elt F) f = tileAt m c ((n + 9) / 11)⌝ ∗ copying c f s (V m c main_v0) ∗ ptOn c hM (Finset.univ \ s) (V m c main_v0))
  else iprop((∃ d, owns (c : Thread nD τ) bufM fullShare d) ∗ ptAll c hM (V m c main_v0) ∗ semVal ((c : Thread nD τ), SemLoc.dma 22) 0)

theorem copySt_idle (n : ℕ) (h : ¬ (n ≠ 0 ∧ n % 11 ≠ 1 ∧ (n + 9) / 11 < 8)) : copySt m c n
    = iprop((∃ d, owns (c : Thread nD τ) bufM fullShare d) ∗ ptAll c hM (V m c main_v0) ∗ semVal ((c : Thread nD τ), SemLoc.dma 22) 0) := if_neg h
theorem copySt_busy (n : ℕ) (h : n ≠ 0 ∧ n % 11 ≠ 1 ∧ (n + 9) / 11 < 8) : copySt m c n
    = iprop(∃ f s, ⌜bufM.view.read (Elt F) f = tileAt m c ((n + 9) / 11)⌝ ∗ copying c f s (V m c main_v0) ∗ ptOn c hM (Finset.univ \ s) (V m c main_v0)) := if_pos h
/-- A point that neither starts nor awaits a copy keeps its state. -/
theorem copySt_keep (n : ℕ) (hn : n < 88) (h : n % 11 ≠ 0) (h' : ¬ (n % 11 = 1 ∧ n / 11 < 7)) : copySt m c (n + 1) = copySt m c n := by
  by_cases hb : n ≠ 0 ∧ n % 11 ≠ 1 ∧ (n + 9) / 11 < 8
  · have e : (n + 1 + 9) / 11 = (n + 9) / 11 := by omega
    rw [copySt_busy m c n hb, copySt_busy m c (n + 1) (by omega), e]
  · rw [copySt_idle m c n hb, copySt_idle m c (n + 1) (by omega)]

/-- Before point `n`: the normalised tile, the tails, the generator register, the copy. -/
def Phi (n : ℕ) : sProp 𝕄 :=
  iprop((∃ d, ⌜n % 11 ≠ 0 → d = xnAt m c (n / 11)⌝ ∗ owns (c : Thread nD τ) xnM fullShare d)
    ∗ (∃ d, ⌜TailsOk (tailG m c) n d⌝ ∗ owns (c : Thread nD τ) gM fullShare d)
    ∗ (∃ d, ⌜TailsOk (tailV m c) n d⌝ ∗ owns (c : Thread nD τ) vM fullShare d)
    ∗ (∃ r, prngReg c r) ∗ copySt m c n)

/-- The proof data of the one pipeline. -/
def dats (_ : Fin 1) (c : Dev nD) : Pipeline.Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t.val
    | ⟨10, _⟩ => k0_pay40 (iblk m c 7 t)
    | ⟨11, _⟩ => k0_pay41 (iblk m c 8 t)
  Φ t := Phi m c t.val
  q w := Pipeline.shareOf spec0 w
  owed _ := 0

theorem A_eq (w : Fin cfg0.W) : (dats m 0 c).A w = V m c (Pipeline.arrRef spec0 w) := by dsimp only [dats]
theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = iblk m c 5 t := by dsimp only [dats]
theorem after0_6 (t : Fin cfg0.N) : (dats m 0 c).after 6 t = iblk m c 6 t := by dsimp only [dats]
theorem after0_7 (t : Fin cfg0.N) : (dats m 0 c).after 7 t = iblk m c 7 t := by dsimp only [dats]
theorem after0_8 (t : Fin cfg0.N) : (dats m 0 c).after 8 t = iblk m c 8 t := by dsimp only [dats]
theorem after0_9 (t : Fin cfg0.N) : (dats m 0 c).after 9 t = outAt m c t.val := by dsimp only [dats]
theorem after0_10 (t : Fin cfg0.N) : (dats m 0 c).after 10 t = k0_pay40 (iblk m c 7 t) := by dsimp only [dats]
theorem after0_11 (t : Fin cfg0.N) : (dats m 0 c).after 11 t = k0_pay41 (iblk m c 8 t) := by dsimp only [dats]

theorem before0_0 (t : Fin cfg0.N) (d) : (dats m 0 c).before 0 t d = iblk m c 0 t :=
  ((dats m 0 c).before_in_eq_fetched 0 rfl (fun _ => rfl) (fun _ _ _ => rfl) (fun t => by rw [after0_0]; unfold Pipeline.Dat.blockOf iblk; rw [A_eq]; try rfl) t d).trans (by unfold Pipeline.Dat.fetched Pipeline.Dat.blockOf iblk; rw [A_eq]; try rfl)
theorem before0_1 (t : Fin cfg0.N) (d) : (dats m 0 c).before 1 t d = iblk m c 1 t :=
  ((dats m 0 c).before_in_eq_fetched 1 rfl (fun _ => rfl) (fun _ _ _ => rfl) (fun t => by rw [after0_1]; unfold Pipeline.Dat.blockOf iblk; rw [A_eq]; try rfl) t d).trans (by unfold Pipeline.Dat.fetched Pipeline.Dat.blockOf iblk; rw [A_eq]; try rfl)
theorem before0_2 (t : Fin cfg0.N) (d) : (dats m 0 c).before 2 t d = iblk m c 2 t :=
  ((dats m 0 c).before_in_eq_fetched 2 rfl (fun _ => rfl) (fun _ _ _ => rfl) (fun t => by rw [after0_2]; unfold Pipeline.Dat.blockOf iblk; rw [A_eq]; try rfl) t d).trans (by unfold Pipeline.Dat.fetched Pipeline.Dat.blockOf iblk; rw [A_eq]; try rfl)
theorem before0_3 (t : Fin cfg0.N) (d) : (dats m 0 c).before 3 t d = iblk m c 3 t :=
  ((dats m 0 c).before_in_eq_fetched 3 rfl (fun _ => rfl) (fun _ _ _ => rfl) (fun t => by rw [after0_3]; unfold Pipeline.Dat.blockOf iblk; rw [A_eq]; try rfl) t d).trans (by unfold Pipeline.Dat.fetched Pipeline.Dat.blockOf iblk; rw [A_eq]; try rfl)
theorem before0_4 (t : Fin cfg0.N) (d) : (dats m 0 c).before 4 t d = iblk m c 4 t :=
  ((dats m 0 c).before_in_eq_fetched 4 rfl (fun _ => rfl) (fun _ _ _ => rfl) (fun t => by rw [after0_4]; unfold Pipeline.Dat.blockOf iblk; rw [A_eq]; try rfl) t d).trans (by unfold Pipeline.Dat.fetched Pipeline.Dat.blockOf iblk; rw [A_eq]; try rfl)
theorem before0_5 (t : Fin cfg0.N) (d) : (dats m 0 c).before 5 t d = iblk m c 5 t :=
  ((dats m 0 c).before_in_eq_fetched 5 rfl (fun _ => rfl) (fun _ _ _ => rfl) (fun t => by rw [after0_5]; unfold Pipeline.Dat.blockOf iblk; rw [A_eq]; try rfl) t d).trans (by unfold Pipeline.Dat.fetched Pipeline.Dat.blockOf iblk; rw [A_eq]; try rfl)
theorem before0_6 (t : Fin cfg0.N) (d) : (dats m 0 c).before 6 t d = iblk m c 6 t :=
  ((dats m 0 c).before_in_eq_fetched 6 rfl (fun _ => rfl) (fun _ _ _ => rfl) (fun t => by rw [after0_6]; unfold Pipeline.Dat.blockOf iblk; rw [A_eq]; try rfl) t d).trans (by unfold Pipeline.Dat.fetched Pipeline.Dat.blockOf iblk; rw [A_eq]; try rfl)
theorem before0_7 (t : Fin cfg0.N) (d) : (dats m 0 c).before 7 t d = iblk m c 7 t :=
  ((dats m 0 c).before_in_eq_fetched 7 rfl (fun _ => rfl) (fun _ _ _ => rfl) (fun t => by rw [after0_7]; unfold Pipeline.Dat.blockOf iblk; rw [A_eq]; try rfl) t d).trans (by unfold Pipeline.Dat.fetched Pipeline.Dat.blockOf iblk; rw [A_eq]; try rfl)
theorem before0_8 (t : Fin cfg0.N) (d) : (dats m 0 c).before 8 t d = iblk m c 8 t :=
  ((dats m 0 c).before_in_eq_fetched 8 rfl (fun _ => rfl) (fun _ _ _ => rfl) (fun t => by rw [after0_8]; unfold Pipeline.Dat.blockOf iblk; rw [A_eq]; try rfl) t d).trans (by unfold Pipeline.Dat.fetched Pipeline.Dat.blockOf iblk; rw [A_eq]; try rfl)

end Cert.Kernel3Ideal.Hand
-- ==== Proof.UpFrame.lean ====
module

public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Kernel3Ideal.Frame
public import proofs.«01_k».proof.Proof.UpData
public import Idealize.ShloMosaic.Lib.Pipeline.Frame
public import Idealize.ShloMosaic.Lib.Pipeline.FrameBody
public import Idealize.ShloMosaic.Lib.Ring
public import Idealize.ShloMosaic.Lib.Pipeline.Value
public import Idealize.ShloMosaic.Lib.Tactic
public import Idealize.ShloMosaic.Lib.WordCmp

/-! The first feed-forward layer at every grid point, the run of the whole program, and what it leaves unchanged. -/

@[expose] public section

set_option maxRecDepth 16384

noncomputable section

namespace Cert.Kernel3Ideal.Hand

open Cert.Kernel3Ideal Cert.Kernel3Ideal.Gen Cert.Halves
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

/-! ## The equations of a point -/

theorem step_eq (t : Fin cfg0.N) (d e : Vec F S11x8x512 .f32) (hd : TailsOk (tailG m c) t.val d) (he : TailsOk (tailV m c) t.val e) (o : Vec F S1024x2048 .f32) :
    stepOut (xnAt m c (t.val / 11)) (prevTail k0_pay1 (grid0.coords t) d) (prevTail k0_pay2 (grid0.coords t) e) (iblk m c 1 t) (iblk m c 2 t) (iblk m c 3 t) (iblk m c 4 t) (iblk m c 5 t) o
      = stepAt m c t.val o := by
  rw [prevTail_eq k0_pay1 _ t d hd, prevTail_eq k0_pay2 _ t e he]
  unfold stepAt wgAt wvAt cgAt cvAt wdAt
  rw [pt_val]

theorem tailG_eq (t : Fin cfg0.N) (d : Vec F S11x8x512 .f32) (hd : TailsOk (tailG m c) t.val d) :
    TailsOk (tailG m c) (t.val + 1) (putTail (grid0.coords t) d (nextG (hi (xnAt m c (t.val / 11))) (iblk m c 1 t))) := by
  have := tailsOk_step (tailG m c) t d hd
  unfold tailG wgAt at this ⊢
  rwa [pt_val] at this

theorem tailV_eq (t : Fin cfg0.N) (d : Vec F S11x8x512 .f32) (hd : TailsOk (tailV m c) t.val d) :
    TailsOk (tailV m c) (t.val + 1) (putTail (grid0.coords t) d (nextV (hi (xnAt m c (t.val / 11))) (iblk m c 2 t))) := by
  have := tailsOk_step (tailV m c) t d hd
  unfold tailV wvAt at this ⊢
  rwa [pt_val] at this

theorem xn_eq (t : Fin cfg0.N) (h : t.val % 11 = 0) : normed (tileAt m c (t.val / 11)) (iblk m c 0 t) = xnAt m c (t.val / 11) := by
  unfold xnAt nwAt
  rw [show 11 * (t.val / 11) = t.val by omega, pt_val]

theorem rowsAt_eq (k : ℕ) {o : Fin 2 → ℕ} (inb) (e : o = ![1024 * (k % 8), 0]) : rowsAt (V m c main_v0) o inb = tileAt m c k := by
  subst e; rfl

theorem off1_tile (t : Fin cfg0.N) (h : t.val = 0) (hc) : rowsAt (V m c main_v0) (k0_off1 (grid0.coords t)) (k0_off1_inb (grid0.coords t) hc) = tileAt m c (t.val / 11) :=
  rowsAt_eq m c _ _ (by rw [k0_off1_eq, row_eq, h])

theorem off2_tile (t : Fin cfg0.N) (h : t.val % 11 = 1 ∧ t.val / 11 < 7) (hc) :
    rowsAt (V m c main_v0) (k0_off2 (grid0.coords t)) (k0_off2_inb (grid0.coords t) hc) = tileAt m c ((t.val + 1 + 9) / 11) :=
  rowsAt_eq m c _ _ (by rw [k0_off2_eq, row_eq, show (t.val + 1 + 9) / 11 % 8 = t.val / 11 + 1 by omega, Nat.mul_add])

theorem idle9 : ∀ i : cfg0.grid.Coords, cfg0.idle 9 i = false := by decide +kernel
theorem idle10 : ∀ i : cfg0.grid.Coords, cfg0.idle 10 i = false := by decide +kernel

theorem before0_9 (t : Fin cfg0.N) (h : t.val % 11 ≠ 0) (d) : (dats m 0 c).before 9 t d = outAt m c (t.val - 1) := by
  refine ((dats m 0 c).before_out_kept 9 rfl t (by omega) ?_ idle9 (fun _ _ => rfl) d).trans ((after0_9 m c _))
  rw [Bool.eq_false_iff]
  intro hf
  have := (flush0_9 _).mp hf
  simp only at this
  omega

/-! ## The body -/

abbrev bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)))
abbrev bodyPost (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t))

/-- The pipeline's buffers, the tile and the tails, and how a point ends. -/
theorem finish (t : Fin cfg0.N) (o : Vec F S1024x2048 .f32) (xn : Vec F S1024x2048 .bf16) (tg tv : Vec F S11x8x512 .f32)
    (ho : o = outAt m c t.val) (hx : xn = xnAt m c (t.val / 11)) (ht : TailsOk (tailG m c) (t.val + 1) tg) (hu : TailsOk (tailV m c) (t.val + 1) tv) :
    iprop(held c (st0_0 t) (st0_1 t) (st0_2 t) (st0_3 t) (st0_4 t) (st0_5 t) (st0_6 t) (st0_7 t) (st0_8 t) (st0_9 t) (st0_10 t) (st0_11 t) (iblk m c 0 t) (iblk m c 1 t) (iblk m c 2 t) (iblk m c 3 t) (iblk m c 4 t) (iblk m c 5 t) (iblk m c 6 t) (iblk m c 7 t) (iblk m c 8 t) (k0_pay40 (iblk m c 7 t)) (k0_pay41 (iblk m c 8 t)) o xn tg tv ∗ (∃ r, prngReg c r) ∗ copySt m c (t.val + 1) ∗ (∃ W', owes (c : Thread nD τ) 0 W')) ⊢ bodyPost m c t := by
  unfold bodyPost Dat.owesAt Pipeline.owesWithin
  rw [show (dats m 0 c).Φ t.succ = Phi m c (t.val + 1) from rfl, show (dats m 0 c).owed t.succ = 0 from rfl]
  simp only [after0_0, after0_1, after0_2, after0_3, after0_4, after0_5, after0_6, after0_7, after0_8, after0_9, after0_10, after0_11]
  unfold Phi held
  iintro ⟨⟨H0, H1, H2, H3, H4, H5, H6, H7, H8, H9, H10, H11, Hx, Hg, Hv⟩, Hr, Hc, ⟨%W', HW⟩⟩
  subst ho
  isplitl [Hx Hg Hv Hr Hc]
  · isplitl [Hx]
    · iexists xn; isplitr
      · ipureintro; intro h; rw [hx, show (t.val + 1) / 11 = t.val / 11 by omega]
      iexact Hx
    isplitl [Hg]
    · iexists tg; isplitr
      · ipureintro; exact ht
      iexact Hg
    isplitl [Hv]
    · iexists tv; isplitr
      · ipureintro; exact hu
      iexact Hv
    isplitl [Hr]; · iexact Hr
    iexact Hc
  isplitl [HW]
  · iexists W'; isplitr
    · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- How a tile's first point ends. -/
theorem finish_tile (t : Fin cfg0.N) (h4 : t.val % 11 = 0) (h : Vec F S1024x2048 .f32) (hh : h = tileAt m c (t.val / 11))
    (tg tv : Vec F S11x8x512 .f32) (ht : TailsOk (tailG m c) t.val tg) (hu : TailsOk (tailV m c) t.val tv) :
    iprop(held c (st0_0 t) (st0_1 t) (st0_2 t) (st0_3 t) (st0_4 t) (st0_5 t) (st0_6 t) (st0_7 t) (st0_8 t) (st0_9 t) (st0_10 t) (st0_11 t) (iblk m c 0 t) (iblk m c 1 t) (iblk m c 2 t) (iblk m c 3 t) (iblk m c 4 t) (iblk m c 5 t) (iblk m c 6 t) (iblk m c 7 t) (iblk m c 8 t) (k0_pay40 (iblk m c 7 t)) (k0_pay41 (iblk m c 8 t))
        (stepOut (normed h (iblk m c 0 t)) (prevTail k0_pay1 (grid0.coords t) tg) (prevTail k0_pay2 (grid0.coords t) tv) (iblk m c 1 t) (iblk m c 2 t) (iblk m c 3 t) (iblk m c 4 t) (iblk m c 5 t) h)
        (normed h (iblk m c 0 t)) (putTail (grid0.coords t) tg (nextG (hi (normed h (iblk m c 0 t))) (iblk m c 1 t)))
        (putTail (grid0.coords t) tv (nextV (hi (normed h (iblk m c 0 t))) (iblk m c 2 t)))
      ∗ (∃ r, prngReg c r) ∗ copySt m c (t.val + 1) ∗ (∃ W', owes (c : Thread nD τ) 0 W')) ⊢ bodyPost m c t := by
  subst hh
  refine finish m c t _ _ _ _ ?_ (xn_eq m c t h4) ?_ ?_
  · rw [xn_eq m c t h4]; exact (step_eq m c t tg tv ht hu _).trans ((outAt_first m c t.val h4).symm)
  · rw [xn_eq m c t h4]; exact tailG_eq m c t tg ht
  · rw [xn_eq m c t h4]; exact tailV_eq m c t tv hu

/-- A point in the middle of a tile, the copy left as it is. -/
theorem body_later (t : Fin cfg0.N) (h : t.val % 11 ≠ 0) (h2 : ¬ (t.val % 11 = 1 ∧ t.val / 11 < 7)) :
    bodyPre m c t ⊢ wp frame (wpE (defs₀ (F := F)) Variants.none c none) Set.univ (bodyAt0 t) (fun _ => bodyPost m c t) := by
  unfold bodyPre Dat.owesAt Pipeline.owesWithin
  rw [show (dats m 0 c).Φ t.castSucc = Phi m c t.val from rfl, show (dats m 0 c).owed t.castSucc = 0 from rfl]
  simp only [before0_0, before0_1, before0_2, before0_3, before0_4, before0_5, before0_6, before0_7, before0_8]
  unfold Phi
  iintro ⟨⟨⟨%xd, %hx, Hx⟩, ⟨%tg, %ht, Hg⟩, ⟨%tv, %hu, Hv⟩, Hr, Hc⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain rfl := hx h
  iapply (run_later c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (iblk m c 0 t) (iblk m c 1 t) (iblk m c 2 t) (iblk m c 3 t) (iblk m c 4 t) (iblk m c 5 t) (iblk m c 6 t) (iblk m c 7 t) (iblk m c 8 t) ((dats m 0 c).before 10 t d10) ((dats m 0 c).before 11 t d11) ((dats m 0 c).before 9 t d9) (xnAt m c (t.val / 11)) tg tv
    (fun e => h (by rw [(cond1_iff t).mp e])) (fun e => h2 ((cond2_iff t).mp e)) (fun e => h ((cond4_iff t).mp e)) ((cond5_iff t).mpr h) W _)
  isplitl [H0 H1 H2 H3 H4 H5 H6 H7 H8 H9 H10 H11 Hx Hg Hv]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [Hx]; · iexact Hx
    isplitl [Hg]; · iexact Hg
    iexact Hv
  isplitl [HW]; · iexact HW
  iintro ⟨HH, HW⟩
  iapply (finish m c t _ _ _ _ ((step_eq m c t tg tv ht hu _).trans ((congrArg _ (before0_9 m c t h d9)).trans (outAt_later m c t.val h).symm)) rfl (tailG_eq m c t tg ht) (tailV_eq m c t tv hu))
  isplitl [HH]; · iexact HH
  isplitl [Hr]; · iexact Hr
  isplitl [Hc]; · rw [copySt_keep m c t.val t.isLt h h2]; iexact Hc
  iexact HW

/-- The second point of a tile that has a next one: its copy is started. -/
theorem body_issue (t : Fin cfg0.N) (h2 : t.val % 11 = 1 ∧ t.val / 11 < 7) :
    bodyPre m c t ⊢ wp frame (wpE (defs₀ (F := F)) Variants.none c none) Set.univ (bodyAt0 t) (fun _ => bodyPost m c t) := by
  unfold bodyPre Dat.owesAt Pipeline.owesWithin
  rw [show (dats m 0 c).Φ t.castSucc = Phi m c t.val from rfl, show (dats m 0 c).owed t.castSucc = 0 from rfl]
  simp only [before0_0, before0_1, before0_2, before0_3, before0_4, before0_5, before0_6, before0_7, before0_8]
  unfold Phi
  rw [copySt_idle m c t.val (by omega)]
  iintro ⟨⟨⟨%xd, %hx, Hx⟩, ⟨%tg, %ht, Hg⟩, ⟨%tv, %hu, Hv⟩, Hr, Hc⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have h : t.val % 11 ≠ 0 := by omega
  obtain rfl := hx h
  icases Hc with ⟨Hb, Hh, HS⟩
  iapply (run_issue c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (iblk m c 0 t) (iblk m c 1 t) (iblk m c 2 t) (iblk m c 3 t) (iblk m c 4 t) (iblk m c 5 t) (iblk m c 6 t) (iblk m c 7 t) (iblk m c 8 t) ((dats m 0 c).before 10 t d10) ((dats m 0 c).before 11 t d11) ((dats m 0 c).before 9 t d9) (xnAt m c (t.val / 11)) tg tv (V m c main_v0)
    (fun e => h (by rw [(cond1_iff t).mp e])) ((cond2_iff t).mpr h2) (fun e => h ((cond4_iff t).mp e)) ((cond5_iff t).mpr h) W _)
  isplitl [H0 H1 H2 H3 H4 H5 H6 H7 H8 H9 H10 H11 Hx Hg Hv]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [Hx]; · iexact Hx
    isplitl [Hg]; · iexact Hg
    iexact Hv
  isplitl [Hb]; · iexact Hb
  isplitl [Hh]; · iexact Hh
  isplitl [HS]; · iexact HS
  isplitl [HW]; · iexact HW
  iintro ⟨HH, ⟨%f, %s, %hf, HF, Hh⟩, HW⟩
  iapply (finish m c t _ _ _ _ ((step_eq m c t tg tv ht hu _).trans ((congrArg _ (before0_9 m c t h d9)).trans (outAt_later m c t.val h).symm)) rfl (tailG_eq m c t tg ht) (tailV_eq m c t tv hu))
  isplitl [HH]; · iexact HH
  isplitl [Hr]; · iexact Hr
  isplitl [HF Hh]
  · rw [copySt_busy m c (t.val + 1) (by omega)]
    iexists f; iexists s
    isplitr
    · ipureintro; exact hf.trans (off2_tile m c t h2 ((cond2_iff t).mpr h2))
    isplitl [HF]; · iexact HF
    iexact Hh
  iexact HW

/-- The first point of all: its tile is copied and awaited. -/
theorem body_first (t : Fin cfg0.N) (h : t.val = 0) :
    bodyPre m c t ⊢ wp frame (wpE (defs₀ (F := F)) Variants.none c none) Set.univ (bodyAt0 t) (fun _ => bodyPost m c t) := by
  unfold bodyPre Dat.owesAt Pipeline.owesWithin
  rw [show (dats m 0 c).Φ t.castSucc = Phi m c t.val from rfl, show (dats m 0 c).owed t.castSucc = 0 from rfl]
  simp only [before0_0, before0_1, before0_2, before0_3, before0_4, before0_5, before0_6, before0_7, before0_8]
  unfold Phi
  rw [copySt_idle m c t.val (by omega)]
  iintro ⟨⟨⟨%xd, %hx, Hx⟩, ⟨%tg, %ht, Hg⟩, ⟨%tv, %hu, Hv⟩, Hr, Hc⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  icases Hc with ⟨Hb, Hh, HS⟩
  iapply (run_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (iblk m c 0 t) (iblk m c 1 t) (iblk m c 2 t) (iblk m c 3 t) (iblk m c 4 t) (iblk m c 5 t) (iblk m c 6 t) (iblk m c 7 t) (iblk m c 8 t) ((dats m 0 c).before 10 t d10) ((dats m 0 c).before 11 t d11) ((dats m 0 c).before 9 t d9) xd tg tv (V m c main_v0)
    ((cond1_iff t).mpr h) (fun e => by have := (cond2_iff t).mp e; omega) ((cond4_iff t).mpr (by omega)) (fun e => (cond5_iff t).mp e (by omega)) W _)
  isplitl [H0 H1 H2 H3 H4 H5 H6 H7 H8 H9 H10 H11 Hx Hg Hv]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [Hx]; · iexact Hx
    isplitl [Hg]; · iexact Hg
    iexact Hv
  isplitl [Hb]; · iexact Hb
  isplitl [Hh]; · iexact Hh
  isplitl [HS]; · iexact HS
  isplitl [HW]; · iexact HW
  iintro ⟨HH, Hb, Hh, HS, HW⟩
  iapply (finish_tile m c t (by omega) (rowsAt (V m c main_v0) (k0_off1 (grid0.coords t)) (k0_off1_inb (grid0.coords t) ((cond1_iff t).mpr h))) (off1_tile m c t h ((cond1_iff t).mpr h)) tg tv ht hu)
  isplitl [HH]; · iexact HH
  isplitl [Hr]; · iexact Hr
  isplitl [Hb Hh HS]
  · rw [copySt_idle m c (t.val + 1) (by omega)]
    isplitl [Hb]; · iexact Hb
    isplitl [Hh]; · iexact Hh
    iexact HS
  iexact HW

/-- The first point of a later tile: the copy is awaited. -/
theorem body_arrive (t : Fin cfg0.N) (h : t.val % 11 = 0) (h0 : t.val ≠ 0) :
    bodyPre m c t ⊢ wp frame (wpE (defs₀ (F := F)) Variants.none c none) Set.univ (bodyAt0 t) (fun _ => bodyPost m c t) := by
  unfold bodyPre Dat.owesAt Pipeline.owesWithin
  rw [show (dats m 0 c).Φ t.castSucc = Phi m c t.val from rfl, show (dats m 0 c).owed t.castSucc = 0 from rfl]
  simp only [before0_0, before0_1, before0_2, before0_3, before0_4, before0_5, before0_6, before0_7, before0_8]
  unfold Phi
  have hlt : t.val < 88 := t.isLt
  rw [copySt_busy m c t.val (by omega)]
  iintro ⟨⟨⟨%xd, %hx, Hx⟩, ⟨%tg, %ht, Hg⟩, ⟨%tv, %hu, Hv⟩, Hr, Hc⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  icases Hc with ⟨%f, %s, %hf, HF, Hh⟩
  rw [show (t.val + 9) / 11 = t.val / 11 by omega] at hf
  iapply (run_arrive c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (iblk m c 0 t) (iblk m c 1 t) (iblk m c 2 t) (iblk m c 3 t) (iblk m c 4 t) (iblk m c 5 t) (iblk m c 6 t) (iblk m c 7 t) (iblk m c 8 t) ((dats m 0 c).before 10 t d10) ((dats m 0 c).before 11 t d11) ((dats m 0 c).before 9 t d9) xd tg tv (V m c main_v0) f s (tileAt m c (t.val / 11)) hf
    (fun e => h0 ((cond1_iff t).mp e)) (fun e => by have := (cond2_iff t).mp e; omega) ((cond4_iff t).mpr h) (fun e => (cond5_iff t).mp e h) W _)
  isplitl [H0 H1 H2 H3 H4 H5 H6 H7 H8 H9 H10 H11 Hx Hg Hv]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [Hx]; · iexact Hx
    isplitl [Hg]; · iexact Hg
    iexact Hv
  isplitl [HF]; · iexact HF
  isplitl [Hh]; · iexact Hh
  isplitl [HW]; · iexact HW
  iintro ⟨HH, Hb, Hh, HS, HW⟩
  iapply (finish_tile m c t h (tileAt m c (t.val / 11)) rfl tg tv ht hu)
  isplitl [HH]; · iexact HH
  isplitl [Hr]; · iexact Hr
  isplitl [Hb Hh HS]
  · rw [copySt_idle m c (t.val + 1) (by omega)]
    isplitl [Hb]; · iexact Hb
    isplitl [Hh]; · iexact Hh
    iexact HS
  iexact HW

theorem sound_body (t : Fin cfg0.N) :
    bodyPre m c t ⊢ wp frame (wpE (defs₀ (F := F)) Variants.none c none) Set.univ (bodyAt0 t) (fun _ => bodyPost m c t) := by
  by_cases h : t.val % 11 = 0
  · by_cases h0 : t.val = 0
    · exact body_first m c t h0
    · exact body_arrive m c t h h0
  · by_cases h2 : t.val % 11 = 1 ∧ t.val / 11 < 7
    · exact body_issue m c t h2
    · exact body_later m c t h h2

theorem defs₀_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  refine triple_restated (sound_body m c t) rfl .rfl fun _ => ?_
  rw [idle9, idle10]

/-! ## The run -/

/-- The body's one semaphore, and the one array it copies from. -/
abbrev osem0 : Fin 1 → SemLoc sig := fun j => (![SemLoc.dma 22] : Fin 1 → SemLoc sig) j
theorem ownSemFacts0 : Pipeline.OwnSemFacts spec0 osem0 := by decide
def H0 : Finset (Ref sig .tc) := {main_v0}
theorem H0_sub : H0 ⊆ Pipeline.restRefs sig spec0 := by decide

theorem PhiD_eq : (Pipeline.ΦD osem0 spec0 H0 (V m) c : sProp 𝕄)
    = iprop(((∃ f, (c : Thread nD τ).loc cc0_scratch0 ↦{fullShare} f) ∗ (∃ f, (c : Thread nD τ).loc cc0_scratch1 ↦{fullShare} f)
        ∗ (∃ f, (c : Thread nD τ).loc cc0_scratch3 ↦{fullShare} f) ∗ (∃ f, (c : Thread nD τ).loc cc0_scratch4 ↦{fullShare} f))
      ∗ (∃ r, prngReg c r) ∗ semVal ((c : Thread nD τ), SemLoc.dma 22) 0 ∗ ptAll c hM (V m c main_v0)) := by
  rw [Pipeline.ΦD_eq, scopedRest0_eq, Pipeline.ownSems0_eq_of_list c osem0 [0] (by decide) (by decide), BI.bigSep_eq_bigSepL_of_eq (S := H0) [main_v0] (by decide) (by decide)]
  rfl

theorem hin : (Pipeline.ΦD osem0 spec0 H0 (V m) c : sProp 𝕄) ⊢ (dats m 0 c).Φ 0 := by
  rw [PhiD_eq, show (dats m 0 c).Φ 0 = Phi m c 0 from rfl]
  unfold Phi
  rw [copySt_idle m c 0 (by omega)]
  iintro ⟨⟨⟨%f0, G0⟩, ⟨%f1, G1⟩, ⟨%f3, G3⟩, ⟨%f4, G4⟩⟩, Hr, HS, Hh⟩
  isplitl [G0]
  · iexists f0; isplitr; · ipureintro; intro h; exact absurd rfl h
    simp only [xnM, owns_whole]; iexact G0
  isplitl [G3]
  · iexists f3; isplitr; · ipureintro; exact fun k hk => absurd hk (Nat.not_lt_zero _)
    simp only [gM, owns_whole]; iexact G3
  isplitl [G4]
  · iexists f4; isplitr; · ipureintro; exact fun k hk => absurd hk (Nat.not_lt_zero _)
    simp only [vM, owns_whole]; iexact G4
  isplitl [Hr]; · iexact Hr
  isplitl [G1]
  · iexists f1; simp only [bufM, owns_whole]; iexact G1
  isplitl [Hh]; · iexact Hh
  iexact HS

theorem hout : (dats m 0 c).Φ (Fin.last cfg0.N) ⊢ (Pipeline.ΦD osem0 spec0 H0 (V m) c : sProp 𝕄) := by
  rw [PhiD_eq, show (dats m 0 c).Φ (Fin.last cfg0.N) = Phi m c 88 from rfl]
  unfold Phi
  rw [copySt_idle m c 88 (by omega)]
  simp only [xnM, gM, vM, bufM, owns_whole]
  iintro ⟨⟨%d0, -, G0⟩, ⟨%d3, -, G3⟩, ⟨%d4, -, G4⟩, Hr, ⟨%d1, G1⟩, Hh, HS⟩
  isplitl [G0 G1 G3 G4]
  · isplitl [G0]; · iexists d0; iexact G0
    isplitl [G1]; · iexists d1; iexact G1
    isplitl [G3]; · iexists d3; iexact G3
    iexists d4; iexact G4
  isplitl [Hr]; · iexact Hr
  isplitl [HS]; · iexact HS
  iexact Hh

set_option maxHeartbeats 800000 in
theorem hmain : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- The run: the written arrays hold what the points wrote, everything else is as it was found, no semaphore is left up. -/
theorem run_main : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmain m) (hA := A_eq m)
    (hin := hin m) (hout := hout m)

/-- The arguments end as they began, and no semaphore is left up. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).1 3).trans (((dats m 0 c).arrAt_in 3 rfl _).trans ((A_eq m c 3).trans (V_main_arg3 m c))),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c)⟩, h.2⟩) (run_main m ρ)

end Cert.Kernel3Ideal.Hand
-- ==== Proof.UpPoint.lean ====
module

public import proofs.«01_k».proof.Proof.UpStep
public import proofs.«01_k».proof.Proof.HalvesAt
public import proofs.«01_k».proof.Proof.Spec

/-! What one grid step of the first feed-forward layer computes, over exact numbers: each payload read at a row and a column. -/

@[expose] public section

set_option maxRecDepth 16384

noncomputable section

namespace Cert.Kernel3Ideal.Hand

open Cert.Kernel3Ideal Cert.Kernel3Ideal.Gen Cert.Halves Cert.Spec
open Idealize.ShloMosaic Idealize.ShloMosaic.TcCoe

theorem norm_at {H : ℕ → ℕ → EReal} {nw : ℕ → EReal} {r0 : ℕ} {v : Vec Ideal S512x2048 .f32} {w : Vec Ideal S1x2048 .f32}
    (hv : ∀ (p : Fin 512) (k : Fin 2048), v (ix2 p k) = H (r0 + p) k) (hw : ∀ k : Fin 2048, w (ix2 0 k) = nw k) (p : Fin 512) (k : Fin 2048) :
    k0_pay4 (F := Ideal) v w (ix2 p k) = rms H nw (r0 + p) k := by
  pointwise [k0_pay4]
  simp only [hv, hw]
  unfold rms
  rw [Finset.sum_range]

theorem normed_at {H : ℕ → ℕ → EReal} {nw : ℕ → EReal} {r0 : ℕ} {h : Vec Ideal S1024x2048 .f32} {w : Vec Ideal S1x2048 .f32}
    (hh : ∀ (p : Fin 1024) (k : Fin 2048), h (ix2 p k) = H (r0 + p) k) (hw : ∀ k : Fin 2048, w (ix2 0 k) = nw k) (p : Fin 1024) (k : Fin 2048) :
    normed (F := Ideal) h w (ix2 p k) = rms H nw (r0 + p) k :=
  two_at (P := fun p k => rms H nw (r0 + p) k)
    (fun p k => norm_at (r0 := r0) (lo_at (P := fun p k => H (r0 + p) k) hh) hw p k)
    (fun p k => (norm_at (H := H) (r0 := r0 + 512) (fun p k => (hi_at (P := fun p k => H (r0 + p) k) hh p k).trans (by rw [Nat.add_assoc])) hw p k).trans (by rw [Nat.add_assoc])) p k

theorem zeroG_at (s : Fin 8) (x : Fin 512) : k0_pay1 (F := Ideal) (ix3 0 s x) = 0 := by
  pointwise [k0_pay1]
theorem zeroV_at (s : Fin 8) (x : Fin 512) : k0_pay2 (F := Ideal) (ix3 0 s x) = 0 := by
  pointwise [k0_pay2]

section Step

variable {N W C O : ℕ → ℕ → EReal} {r0 c0 : ℕ} (h0 : r0 % 512 = 0) (h1 : r0 % 1024 = 0)
  {v v' : Vec Ideal S512x2048 .bf16} (hv : ∀ (p : Fin 512) (k : Fin 2048), v (ix2 p k) = N (r0 + p) k) (hv' : ∀ (p : Fin 512) (k : Fin 2048), v' (ix2 p k) = N (r0 + 512 + p) k)
  {wg wv : Vec Ideal S2048x512 .bf16} (hg : ∀ (k : Fin 2048) (x : Fin 512), wg (ix2 k x) = W k (c0 + x))
  (hu : ∀ (k : Fin 2048) (x : Fin 512), wv (ix2 k x) = W k (5632 + (c0 + x)))
  {cg cv : Vec Ideal S3x512 .f32} (hcg : ∀ (e : Fin 3) (x : Fin 512), cg (ix2 e x) = C e (c0 + x)) (hcv : ∀ (e : Fin 3) (x : Fin 512), cv (ix2 e x) = C e (5632 + (c0 + x)))
  {wd : Vec Ideal S512x2048 .bf16} (hd : ∀ (x : Fin 512) (d : Fin 2048), wd (ix2 x d) = O (c0 + x) d)

include hv hg in
theorem nextG_at (s : Fin 8) (x : Fin 512) : nextG (F := Ideal) v wg (ix3 0 s x) = proj N W (r0 + 504 + s) (c0 + x) := by
  pointwise [nextG, k0_pay36, k0_pay28]
  simp only [hv, hg]
  rw [proj_fin]
  simp only [Nat.add_assoc]

include hv hu in
theorem nextV_at (s : Fin 8) (x : Fin 512) : nextV (F := Ideal) v wv (ix3 0 s x) = proj N W (r0 + 504 + s) (5632 + (c0 + x)) := by
  pointwise [nextV, k0_pay37, k0_pay29]
  simp only [hv, hu]
  rw [proj_fin]
  simp only [Nat.add_assoc]

include h0 hv hg hu hcg hcv hd in
theorem stepLo_at {pg pv : Vec Ideal S1x8x512 .f32} (hpg : ∀ (s : Fin 8) (x : Fin 512), pg (ix3 0 s x) = if r0 % 4096 = 0 then 0 else proj N W (r0 - 8 + s) (c0 + x))
    (hpv : ∀ (s : Fin 8) (x : Fin 512), pv (ix3 0 s x) = if r0 % 4096 = 0 then 0 else proj N W (r0 - 8 + s) (5632 + (c0 + x)))
    (o : Vec Ideal S512x2048 .f32) (p : Fin 512) (d : Fin 2048) :
    stepLo (F := Ideal) v pg pv wg wv cg cv wd o (ix2 p d) = o (ix2 p d) + ∑ x : Fin 512, act N W C (r0 + p) (c0 + x) * O (c0 + x) d := by
  pointwise [stepLo, k0_pay38, k0_pay32, k0_pay27, k0_pay30, k0_pay31, k0_pay26]
  simp only [hv, hg, hu, hcg, hcv, hd]
  refine congrArg _ (Finset.sum_congr rfl fun x _ => ?_)
  unfold act swish conv
  rw [← back_tile (proj N W) (c := c0 + x) h0 p.isLt (le_refl 2) rfl (fun h => hpg ⟨6 + p, h⟩ x) (fun h => rfl),
    ← back_tile (proj N W) (c := c0 + x) h0 p.isLt (show 1 ≤ 2 by decide) rfl (fun h => hpg ⟨7 + p, h⟩ x) (fun h => rfl),
    ← back_tile (proj N W) (c := 5632 + (c0 + x)) h0 p.isLt (le_refl 2) rfl (fun h => hpv ⟨6 + p, h⟩ x) (fun h => rfl),
    ← back_tile (proj N W) (c := 5632 + (c0 + x)) h0 p.isLt (show 1 ≤ 2 by decide) rfl (fun h => hpv ⟨7 + p, h⟩ x) (fun h => rfl)]
  simp only [proj_fin, zero_sub]
  rfl

include h1 hv hv' hg hu hcg hcv hd in
theorem stepHi_at (o : Vec Ideal S512x2048 .f32) (p : Fin 512) (d : Fin 2048) :
    stepHi (F := Ideal) v v' wg wv cg cv wd o (ix2 p d) = o (ix2 p d) + ∑ x : Fin 512, act N W C (r0 + 512 + p) (c0 + x) * O (c0 + x) d := by
  pointwise [stepHi, k0_pay39, k0_pay29, k0_pay33, k0_pay26, k0_pay28, k0_pay34, k0_pay27, k0_pay35]
  simp only [hv, hv', hg, hu, hcg, hcv, hd]
  refine congrArg _ (Finset.sum_congr rfl fun x _ => ?_)
  have hs : ¬ (r0 + 512) % 4096 = 0 := by omega
  have e2 : ∀ (q c : ℕ), (if (r0 + 512) % 4096 = 0 then 0 else proj N W (r0 + 512 - 8 + q) c) = proj N W (r0 + (504 + q)) c := fun q c => by
    rw [if_neg hs, show r0 + 512 - 8 + q = r0 + (504 + q) by omega]
  unfold act swish conv
  rw [← back_tile (proj N W) (c := c0 + x) (r0 := r0 + 512) (by omega) p.isLt (le_refl 2) rfl (fun h => (e2 (6 + p) _).symm) (fun h => rfl),
    ← back_tile (proj N W) (c := c0 + x) (r0 := r0 + 512) (by omega) p.isLt (show 1 ≤ 2 by decide) rfl (fun h => (e2 (7 + p) _).symm) (fun h => rfl),
    ← back_tile (proj N W) (c := 5632 + (c0 + x)) (r0 := r0 + 512) (by omega) p.isLt (le_refl 2) rfl (fun h => (e2 (6 + p) _).symm) (fun h => rfl),
    ← back_tile (proj N W) (c := 5632 + (c0 + x)) (r0 := r0 + 512) (by omega) p.isLt (show 1 ≤ 2 by decide) rfl (fun h => (e2 (7 + p) _).symm) (fun h => rfl)]
  simp only [proj_fin, zero_sub]
  rfl

include h1 hg hu hcg hcv hd in
theorem stepOut_at {xn : Vec Ideal S1024x2048 .bf16} (hx : ∀ (p : Fin 1024) (k : Fin 2048), xn (ix2 p k) = N (r0 + p) k)
    {pg pv : Vec Ideal S1x8x512 .f32} (hpg : ∀ (s : Fin 8) (x : Fin 512), pg (ix3 0 s x) = if r0 % 4096 = 0 then 0 else proj N W (r0 - 8 + s) (c0 + x))
    (hpv : ∀ (s : Fin 8) (x : Fin 512), pv (ix3 0 s x) = if r0 % 4096 = 0 then 0 else proj N W (r0 - 8 + s) (5632 + (c0 + x)))
    {o : Vec Ideal S1024x2048 .f32} {G : ℕ → ℕ → EReal} (ho : ∀ (p : Fin 1024) (k : Fin 2048), o (ix2 p k) = G p k) (p : Fin 1024) (d : Fin 2048) :
    stepOut (F := Ideal) xn pg pv wg wv cg cv wd o (ix2 p d) = G p d + ∑ x : Fin 512, act N W C (r0 + p) (c0 + x) * O (c0 + x) d := by
  have hl := lo_at (P := fun p k => N (r0 + p) k) hx
  have hr : ∀ (p : Fin 512) (k : Fin 2048), hi xn (ix2 p k) = N (r0 + 512 + p) k := fun p k => (hi_at (P := fun p k => N (r0 + p) k) hx p k).trans (by rw [Nat.add_assoc])
  refine two_at (P := fun p d => G p d + ∑ x : Fin 512, act N W C (r0 + p) (c0 + x) * O (c0 + x) d) (fun p d => ?_) (fun p d => ?_) p d
  · rw [stepLo_at (by omega) hl hg hu hcg hcv hd hpg hpv, lo_at ho]
  · rw [stepHi_at h1 hl hr hg hu hcg hcv hd, hi_at ho]
    simp only [Nat.add_assoc]

end Step

end Cert.Kernel3Ideal.Hand
-- ==== Proof.UpValue.lean ====
module

public import proofs.«01_k».proof.Proof.UpData
public import proofs.«01_k».proof.Proof.UpPoint
public import Idealize.ShloMosaic.Lib.Pipeline.ValueKit
public import Idealize.ShloMosaic.Lib.Claim

/-! The result the first feed-forward layer writes: its tiles hold the specification's rows. -/

@[expose] public section
set_option maxRecDepth 16384
noncomputable section

namespace Cert.Kernel3Ideal.Hand
open Cert.Kernel3Ideal Cert.Kernel3Ideal.Gen Cert.Halves Cert.Spec
open Idealize.ShloMosaic Idealize.ShloMosaic.TcCoe Idealize.SL.Sem
variable (m : (ℓ : Loc nD τ sig) → Buf (Elt Ideal) ℓ) (c : Dev nD)

theorem idx : ∀ t : Fin cfg0.N, win0_0.index t = ![0, 0] ∧ win0_1.index t = ![0, t.val % 11] ∧ win0_2.index t = ![0, 11 + t.val % 11] ∧ win0_3.index t = ![0, t.val % 11] ∧ win0_4.index t = ![0, 11 + t.val % 11] ∧ win0_5.index t = ![t.val % 11, 0] ∧ win0_6.index t = ![0, 0] ∧ win0_7.index t = ![64 + min t.val 63, 0, 0] ∧ win0_8.index t = ![88 + t.val, 0, 0] ∧ win0_9.index t = ![t.val / 11, 0] ∧ win0_10.index t = ![min t.val 63, 0, 0] ∧ win0_11.index t = ![t.val, 0, 0] ∧ t.val / 11 < 8 :=
  (by decide +kernel : ∀ t : Fin grid0.N, _)

abbrev argH : Vec Ideal S2x4096x2048 .f32 := m ((c : Thread nD τ).loc main_arg0)
abbrev argN : Vec Ideal S2048 .f32 := m ((c : Thread nD τ).loc main_arg1)
abbrev argW : Vec Ideal S2048x11264 .f32 := m ((c : Thread nD τ).loc main_arg2)
abbrev argC : Vec Ideal S3x11264 .f32 := m ((c : Thread nD τ).loc main_arg3)
abbrev argO : Vec Ideal S5632x2048 .f32 := m ((c : Thread nD τ).loc main_arg4)
abbrev argU : Vec Ideal S2x2048x11264 .f32 := m ((c : Thread nD τ).loc main_arg6)
abbrev argD : Vec Ideal S2x5632x2048 .f32 := m ((c : Thread nD τ).loc main_arg7)

/-- The arguments read at natural numbers. -/
def hN : ℕ → ℕ → EReal := at2 (a := 8192) (b := 2048) fun r k => argH m c (ix3 ⟨r.val / 4096, by omega⟩ ⟨r.val % 4096, by omega⟩ k)
def nN : ℕ → EReal := at1 (a := 2048) fun k => argN m c (ix1 k)
def wN : ℕ → ℕ → EReal := at2 (a := 2048) (b := 11264) fun r k => argW m c (ix2 r k)
def cN : ℕ → ℕ → EReal := at2 (a := 3) (b := 11264) fun r k => argC m c (ix2 r k)
def oN : ℕ → ℕ → EReal := at2 (a := 5632) (b := 2048) fun r k => argO m c (ix2 r k)

theorem blk0 (t : Fin cfg0.N) (k : Fin 2048) : (iblk m c 0 t : Vec Ideal S1x2048 .f32) (ix2 0 k) = nN m c k := by
  refine Eq.trans ?_ (at1_fin _ k).symm
  blk_point [iblk, V, idx t]
theorem blk1 (t : Fin cfg0.N) (r : Fin 2048) (k : Fin 512) : (iblk m c 1 t : Vec Ideal S2048x512 .bf16) (ix2 r k) = wN m c r (512 * (t.val % 11) + k) := by
  refine Eq.trans ?_ (at2_of _ r.isLt (show 512 * (t.val % 11) + k.val < 11264 by omega)).symm
  blk_point [iblk, V, idx t]
theorem blk2 (t : Fin cfg0.N) (r : Fin 2048) (k : Fin 512) : (iblk m c 2 t : Vec Ideal S2048x512 .bf16) (ix2 r k) = wN m c r (5632 + (512 * (t.val % 11) + k)) := by
  refine Eq.trans ?_ (at2_of _ r.isLt (show 5632 + (512 * (t.val % 11) + k.val) < 11264 by omega)).symm
  blk_point [iblk, V, idx t]
theorem blk3 (t : Fin cfg0.N) (r : Fin 3) (k : Fin 512) : (iblk m c 3 t : Vec Ideal S3x512 .f32) (ix2 r k) = cN m c r (512 * (t.val % 11) + k) := by
  refine Eq.trans ?_ (at2_of _ r.isLt (show 512 * (t.val % 11) + k.val < 11264 by omega)).symm
  blk_point [iblk, V, idx t]
theorem blk4 (t : Fin cfg0.N) (r : Fin 3) (k : Fin 512) : (iblk m c 4 t : Vec Ideal S3x512 .f32) (ix2 r k) = cN m c r (5632 + (512 * (t.val % 11) + k)) := by
  refine Eq.trans ?_ (at2_of _ r.isLt (show 5632 + (512 * (t.val % 11) + k.val) < 11264 by omega)).symm
  blk_point [iblk, V, idx t]
theorem blk5 (t : Fin cfg0.N) (r : Fin 512) (k : Fin 2048) : (iblk m c 5 t : Vec Ideal S512x2048 .bf16) (ix2 r k) = oN m c (512 * (t.val % 11) + r) k := by
  refine Eq.trans ?_ (at2_of _ (show 512 * (t.val % 11) + r.val < 5632 by omega) k.isLt).symm
  blk_point [iblk, V, idx t]

theorem row_read (r : Fin 8192) (k : Fin 2048) : (V m c main_v0 : Vec Ideal S8192x2048 .f32) (ix2 r k) = hN m c r k := by
  refine Eq.trans ?_ (at2_fin _ r k).symm
  entry_read
  pointwise

/-! ## The tiles -/

theorem tile_at (k : ℕ) (hk : k < 8) (p : Fin 1024) (d : Fin 2048) : tileAt m c k (ix2 p d) = hN m c (1024 * k + p) d := by
  refine Eq.trans (congrArg (V m c main_v0) (funext fun a => ?_)) (row_read m c ⟨1024 * k + p, by omega⟩ d)
  match a with
  | 0 => exact Fin.ext (by show 1024 * (k % 8) + 1 * p.val = 1024 * k + p.val; omega)
  | 1 => exact Fin.ext (by show 0 + 1 * d.val = d.val; omega)

theorem xn_at (k : ℕ) (hk : k < 8) (p : Fin 1024) (d : Fin 2048) : xnAt m c k (ix2 p d) = rms (hN m c) (nN m c) (1024 * k + p) d :=
  normed_at (r0 := 1024 * k) (tile_at m c k hk) (blk0 m c _) p d

/-- A channel before the convolution. -/
def chan (r x : ℕ) : EReal := proj (rms (hN m c) (nN m c)) (wN m c) r x

theorem hi_xn (n : ℕ) (hn : n < 88) (p : Fin 512) (k : Fin 2048) : hi (xnAt m c (n / 11)) (ix2 p k) = rms (hN m c) (nN m c) (1024 * (n / 11) + 512 + p) k :=
  (hi_at (P := fun p k => rms (hN m c) (nN m c) (1024 * (n / 11) + p) k) (xn_at m c (n / 11) (by omega)) p k).trans (by rw [Nat.add_assoc])

theorem tailG_at (n : ℕ) (hn : n < 88) (s : Fin 8) (x : Fin 512) :
    tailG m c n (ix3 0 s x) = chan m c (1024 * (n / 11) + 1016 + s) (512 * (n % 11) + x) := by
  have e : (pt n).val % 11 = n % 11 := by show n % 88 % 11 = n % 11; omega
  refine (nextG_at (r0 := 1024 * (n / 11) + 512) (c0 := 512 * (n % 11)) (W := wN m c) (hi_xn m c n hn)
    (fun k x => by rw [← e]; exact blk1 m c (pt n) k x) s x).trans ?_
  rw [show 1024 * (n / 11) + 512 + 504 + s.val = 1024 * (n / 11) + 1016 + s.val by omega]
  rfl

theorem tailV_at (n : ℕ) (hn : n < 88) (s : Fin 8) (x : Fin 512) :
    tailV m c n (ix3 0 s x) = chan m c (1024 * (n / 11) + 1016 + s) (5632 + (512 * (n % 11) + x)) := by
  have e : (pt n).val % 11 = n % 11 := by show n % 88 % 11 = n % 11; omega
  refine (nextV_at (r0 := 1024 * (n / 11) + 512) (c0 := 512 * (n % 11)) (W := wN m c) (hi_xn m c n hn)
    (fun k x => by rw [← e]; exact blk2 m c (pt n) k x) s x).trans ?_
  rw [show 1024 * (n / 11) + 512 + 504 + s.val = 1024 * (n / 11) + 1016 + s.val by omega]
  rfl

theorem prev_at {z : Vec Ideal S1x8x512 .f32} (hz : ∀ (s : Fin 8) (x : Fin 512), z (ix3 0 s x) = 0) {T : ℕ → Vec Ideal S1x8x512 .f32} {b : ℕ → ℕ → ℕ}
    (hT : ∀ n, n < 88 → ∀ (s : Fin 8) (x : Fin 512), T n (ix3 0 s x) = chan m c (1024 * (n / 11) + 1016 + s) (b (n % 11) x))
    (n : ℕ) (hn : n < 88) (s : Fin 8) (x : Fin 512) :
    prevAt z T n (ix3 0 s x) = if 1024 * (n / 11) % 4096 = 0 then 0 else chan m c (1024 * (n / 11) - 8 + s) (b (n % 11) x) := by
  unfold prevAt
  by_cases h : n / 11 % 4 = 0
  · rw [if_pos h, if_pos (by omega)]; exact hz s x
  · rw [if_neg h, if_neg (by omega)]
    refine (hT (n - 11) (by omega) s x).trans ?_
    rw [show 1024 * ((n - 11) / 11) + 1016 + s.val = 1024 * (n / 11) - 8 + s.val by omega, show (n - 11) % 11 = n % 11 by omega]

/-- One channel's part of a row's result. -/
def part (r d x : ℕ) : EReal := act (rms (hN m c) (nN m c)) (wN m c) (cN m c) r x * oN m c x d

theorem step_at (n : ℕ) (hn : n < 88) {o : Vec Ideal S1024x2048 .f32} {G : ℕ → ℕ → EReal} (ho : ∀ (p : Fin 1024) (k : Fin 2048), o (ix2 p k) = G p k) (p : Fin 1024) (d : Fin 2048) :
    stepAt m c n o (ix2 p d) = G p d + ∑ x : Fin 512, part m c (1024 * (n / 11) + p) d (512 * (n % 11) + x) := by
  have e : (pt n).val % 11 = n % 11 := by show n % 88 % 11 = n % 11; omega
  exact stepOut_at (r0 := 1024 * (n / 11)) (c0 := 512 * (n % 11)) (N := rms (hN m c) (nN m c)) (W := wN m c) (C := cN m c) (O := oN m c) (by omega)
    (fun k x => by rw [← e]; exact blk1 m c (pt n) k x) (fun k x => by rw [← e]; exact blk2 m c (pt n) k x)
    (fun k x => by rw [← e]; exact blk3 m c (pt n) k x) (fun k x => by rw [← e]; exact blk4 m c (pt n) k x) (fun k x => by rw [← e]; exact blk5 m c (pt n) k x)
    (xn_at m c (n / 11) (by omega)) (prev_at m c zeroG_at (b := fun j x => 512 * j + x) (tailG_at m c) n hn)
    (prev_at m c zeroV_at (b := fun j x => 5632 + (512 * j + x)) (tailV_at m c) n hn) ho p d

theorem out_first (n : ℕ) (hn : n < 88) (h : n % 11 = 0) (p : Fin 1024) (d : Fin 2048) :
    outAt m c n (ix2 p d) = hN m c (1024 * (n / 11) + p) d + ∑ x ∈ Finset.range (512 * (n % 11 + 1)), part m c (1024 * (n / 11) + p) d x := by
  have ht : ∀ (p : Fin 1024) (d : Fin 2048), tileAt m c (n / 11) (ix2 p d) = hN m c (1024 * (n / 11) + p) d := tile_at m c (n / 11) (by omega)
  rw [outAt_first m c n h, step_at m c n hn (G := fun p d => hN m c (1024 * (n / 11) + p) d) ht, sum_block, h]
  simp

theorem out_at : ∀ (n : ℕ) (_ : n < 88) (p : Fin 1024) (d : Fin 2048),
    outAt m c n (ix2 p d) = hN m c (1024 * (n / 11) + p) d + ∑ x ∈ Finset.range (512 * (n % 11 + 1)), part m c (1024 * (n / 11) + p) d x := by
  intro n
  induction n with
  | zero => exact fun hn => out_first m c 0 hn rfl
  | succ n ih =>
    intro hn p d
    by_cases h : (n + 1) % 11 = 0
    · exact out_first m c _ hn h p d
    · have e : (n + 1) / 11 = n / 11 := by omega
      rw [outAt_later m c (n + 1) h, Nat.add_sub_cancel, step_at m c (n + 1) hn (G := fun p d => hN m c (1024 * (n / 11) + p) d + ∑ x ∈ Finset.range (512 * (n % 11 + 1)), part m c (1024 * (n / 11) + p) d x)
          (ih (by omega)), e, show (n + 1) % 11 = n % 11 + 1 by omega, sum_block _ _ (n % 11 + 1), add_assoc]

/-- A tile's last point has added every channel. -/
theorem out_full (n : ℕ) (hn : n < 88) (h : n % 11 = 10) (p : Fin 1024) (d : Fin 2048) :
    outAt m c n (ix2 p d) = ffOut (hN m c) (nN m c) (wN m c) (cN m c) (oN m c) (1024 * (n / 11) + p) d := by
  rw [out_at m c n hn p d, h]
  rfl

/-- What the rows of the result should be. -/
def G : Vec Ideal S8192x2048 .f32 := fun i => ffOut (hN m c) (nN m c) (wN m c) (cN m c) (oN m c) (i 0).val (i 1).val

theorem emb0 (t : Fin cfg0.N) (y : S1024x2048.Idx) : ((win0_9.blk t).view.emb y 0).val = 1024 * (t.val / 11) + (y 0).val := by
  show win0_9.index t 0 * 1024 + 1 * (y 0).val = _
  rw [(idx t).2.2.2.2.2.2.2.2.2.1]
  show t.val / 11 * 1024 + 1 * (y 0).val = _
  omega
theorem emb1 (t : Fin cfg0.N) (y : S1024x2048.Idx) : ((win0_9.blk t).view.emb y 1).val = (y 1).val := by
  show win0_9.index t 1 * 2048 + 1 * (y 1).val = _
  rw [(idx t).2.2.2.2.2.2.2.2.2.1]
  show 0 * 2048 + 1 * (y 1).val = _
  omega

/-- The written array. -/
theorem final : (dats m 0 c).arrAt 9 (cfgs 0).N = G m c := by
  refine (dats m 0 c).arrAt_eq_of_covers 9 _ (by decide +kernel) fun t hf y => ?_
  have hm := (flush0_9 t).mp hf
  have ht : t.val < 88 := t.isLt
  blk_simp
  rw [after0_9]
  have hy : y = ix2 (y 0) (y 1) := by funext a; match a with | 0 => rfl | 1 => rfl
  refine (congrArg (outAt m c t.val) hy).trans ((out_full m c t.val ht hm (y 0) (y 1)).trans ?_)
  unfold G
  rw [emb0 t y, emb1 t y]

/-! ## The two weights cast on the side -/

theorem side10_at (x : Vec Ideal S1x32x11264 .f32) (i) : k0_pay40 x i = x i := by
  pointwise [k0_pay40]
theorem side11_at (x : Vec Ideal S1x64x2048 .f32) (i) : k0_pay41 x i = x i := by
  pointwise [k0_pay41]
theorem blk7 (t : Fin cfg0.N) (r : Fin 32) (k : Fin 11264) : (iblk m c 7 t : Vec Ideal S1x32x11264 .f32) (ix3 0 r k) = argU m c (ix3 1 ⟨32 * min t.val 63 + r.val, by omega⟩ k) := by
  blk_point [iblk, V, idx t]
theorem blk8 (t : Fin cfg0.N) (r : Fin 64) (k : Fin 2048) : (iblk m c 8 t : Vec Ideal S1x64x2048 .f32) (ix3 0 r k)
    = argD m c (ix3 1 ⟨64 * t.val + r.val, by have : t.val < 88 := t.isLt; omega⟩ k) := by
  have ht : t.val < 88 := t.isLt
  blk_point [iblk, V, idx t]

/-- The second layer's weights, in the chunks they are cast in. -/
def GU (U : Vec Ideal S2x2048x11264 .f32) : Vec Ideal S64x32x11264 .bf16 := fun i => U (ix3 1 ⟨32 * (i 0).val + (i 1).val, by
  have h0 : (i 0).val < 64 := (i 0).isLt
  have h1 : (i 1).val < 32 := (i 1).isLt
  omega⟩ (i 2))
def GD (D : Vec Ideal S2x5632x2048 .f32) : Vec Ideal S88x64x2048 .bf16 := fun i => D (ix3 1 ⟨64 * (i 0).val + (i 1).val, by
  have h0 : (i 0).val < 88 := (i 0).isLt
  have h1 : (i 1).val < 64 := (i 1).isLt
  omega⟩ (i 2))

theorem final10 : (dats m 0 c).arrAt 10 (cfgs 0).N = GU (argU m c) := by
  refine (dats m 0 c).arrAt_eq_of_covers 10 _ (by decide +kernel) fun t hf y => ?_
  blk_simp
  rw [after0_10]
  have h0 : (y 0).val < 1 := (y 0).isLt
  have hy : y = ix3 0 (y 1) (y 2) := by funext a; match a with | 0 => exact Fin.ext (by show (y 0).val = 0; omega) | 1 => rfl | 2 => rfl
  refine (side10_at _ y).trans ((congrArg _ hy).trans ((blk7 m c t (y 1) (y 2)).trans ?_))
  unfold GU
  refine congrArg _ (funext fun a => ?_)
  match a with
  | 0 => rfl
  | 1 =>
    refine Fin.ext ?_
    show 32 * min t.val 63 + (y 1).val = 32 * (win0_10.index t 0 * 1 + 1 * (y 0).val) + (win0_10.index t 1 * 32 + 1 * (y 1).val)
    rw [(idx t).2.2.2.2.2.2.2.2.2.2.1]
    show 32 * min t.val 63 + (y 1).val = 32 * (min t.val 63 * 1 + 1 * (y 0).val) + (0 * 32 + 1 * (y 1).val)
    omega
  | 2 =>
    refine Fin.ext ?_
    show (y 2).val = win0_10.index t 2 * 11264 + 1 * (y 2).val
    rw [(idx t).2.2.2.2.2.2.2.2.2.2.1]
    show (y 2).val = 0 * 11264 + 1 * (y 2).val
    omega

theorem final11 : (dats m 0 c).arrAt 11 (cfgs 0).N = GD (argD m c) := by
  refine (dats m 0 c).arrAt_eq_of_covers 11 _ (by decide +kernel) fun t hf y => ?_
  blk_simp
  rw [after0_11]
  have h0 : (y 0).val < 1 := (y 0).isLt
  have hy : y = ix3 0 (y 1) (y 2) := by funext a; match a with | 0 => exact Fin.ext (by show (y 0).val = 0; omega) | 1 => rfl | 2 => rfl
  refine (side11_at _ y).trans ((congrArg _ hy).trans ((blk8 m c t (y 1) (y 2)).trans ?_))
  unfold GD
  refine congrArg _ (funext fun a => ?_)
  match a with
  | 0 => rfl
  | 1 =>
    refine Fin.ext ?_
    show 64 * t.val + (y 1).val = 64 * (win0_11.index t 0 * 1 + 1 * (y 0).val) + (win0_11.index t 1 * 64 + 1 * (y 1).val)
    rw [(idx t).2.2.2.2.2.2.2.2.2.2.2.1]
    show 64 * t.val + (y 1).val = 64 * (t.val * 1 + 1 * (y 0).val) + (0 * 64 + 1 * (y 1).val)
    omega
  | 2 =>
    refine Fin.ext ?_
    show (y 2).val = win0_11.index t 2 * 2048 + 1 * (y 2).val
    rw [(idx t).2.2.2.2.2.2.2.2.2.2.2.1]
    show (y 2).val = 0 * 2048 + 1 * (y 2).val
    omega

end Cert.Kernel3Ideal.Hand
-- ==== Proof.UpRef.lean ====
module

public import proofs.«01_k».proof.Proof.Gen.Reference3Ideal.Run
public import proofs.«01_k».proof.Proof.Spec
public import Idealize.ShloMosaic.Lib.Claim

/-! The reference of the first feed-forward layer, row by row: its result holds the specification's rows. The term is read in
    stages: normalised rows, channels, the convolution, the sum with the residual stream. -/

@[expose] public section

noncomputable section

namespace Cert.Reference3Ideal.Hand

open Cert.Reference3Ideal Cert.Reference3Ideal.Gen Cert.Spec Idealize.ShloMosaic Idealize.ShloMosaic.TcCoe Idealize.SL.Sem

def nrm (H : FVec Ideal S2x4096x2048 .f32) (w : FVec Ideal S2048 .f32) : FVec Ideal S2x4096x2048 .f32 :=
  mulf (mulf H (broadcastInDim S2x4096x2048 ![0, 1, 2] bcast_S2x4096x1_S2x4096x2048_0_1_2
    (Host.rsqrt (addf (Host.divf (broadcastInDim S2x4096x1 ![0, 1] bcast_S2x4096_S2x4096x1_0_1 (Host.reduceAdd (mulf H H) (constant S_ .f32 0x00000000#32) reducesTo_S2x4096x2048_S2x4096_d2 h_S_))
      (broadcastInDim S2x4096x1 ![] bcast_S_S2x4096x1 (constant S_ .f32 0x45000000#32))) (broadcastInDim S2x4096x1 ![] bcast_S_S2x4096x1 (constant S_ .f32 0x358637BD#32))))))
    (broadcastInDim S2x4096x2048 ![0, 1, 2] bcast_S1x1x2048_S2x4096x2048_0_1_2 (broadcastInDim S1x1x2048 ![2] bcast_S2048_S1x1x2048_2 w))

def prj (X : FVec Ideal S2x4096x2048 .f32) (W : FVec Ideal S2048x11264 .f32) : FVec Ideal S2x4096x11264 .f32 :=
  Host.dotGeneral dot_S2x4096x2048_S2048x11264_S2x4096x11264_2_0_01_1_n_n none X W

def padded (P : FVec Ideal S2x4096x11264 .f32) : FVec Ideal S2x4098x11264 .f32 :=
  pad (s := S2x4096x11264) S2x4098x11264 ![0, 2, 0] ![0, 0, 0] ![0, 0, 0] P (sitofp (F := Ideal) .f32 (constantI S_ 32 0#32)) pads_S2x4096x11264_S2x4098x11264_000_200_000 h_S_

def tap0 (C : FVec Ideal S3x11264 .f32) : FVec Ideal S2x4096x11264 .f32 :=
  broadcastInDim S2x4096x11264 ![0, 1, 2] bcast_S1x1x11264_S2x4096x11264_0_1_2 (broadcastInDim S1x1x11264 ![2] bcast_S11264_S1x1x11264_2 (shapeCast _ (extractStridedSlice S1x11264 ![0, 0] C slices_S3x11264_S1x11264_0_0) shapeCasts_S1x11264_S11264))
def tap1 (C : FVec Ideal S3x11264 .f32) : FVec Ideal S2x4096x11264 .f32 :=
  broadcastInDim S2x4096x11264 ![0, 1, 2] bcast_S1x1x11264_S2x4096x11264_0_1_2 (broadcastInDim S1x1x11264 ![2] bcast_S11264_S1x1x11264_2 (shapeCast _ (extractStridedSlice S1x11264 ![1, 0] C slices_S3x11264_S1x11264_1_0) shapeCasts_S1x11264_S11264))
def tap2 (C : FVec Ideal S3x11264 .f32) : FVec Ideal S2x4096x11264 .f32 :=
  broadcastInDim S2x4096x11264 ![0, 1, 2] bcast_S1x1x11264_S2x4096x11264_0_1_2 (broadcastInDim S1x1x11264 ![2] bcast_S11264_S1x1x11264_2 (shapeCast _ (extractStridedSlice S1x11264 ![2, 0] C slices_S3x11264_S1x11264_2_0) shapeCasts_S1x11264_S11264))

def cnv (Z : FVec Ideal S2x4098x11264 .f32) (C : FVec Ideal S3x11264 .f32) : FVec Ideal S2x4096x11264 .f32 :=
  addf (addf (addf (broadcastInDim S2x4096x11264 ![] bcast_S_S2x4096x11264 (constant S_ .f32 0x00000000#32)) (mulf (extractStridedSlice S2x4096x11264 ![0, 0, 0] Z slices_S2x4098x11264_S2x4096x11264_0_0_0) (tap0 C)))
    (mulf (extractStridedSlice S2x4096x11264 ![0, 1, 0] Z slices_S2x4098x11264_S2x4096x11264_0_1_0) (tap1 C))) (mulf (extractStridedSlice S2x4096x11264 ![0, 2, 0] Z slices_S2x4098x11264_S2x4096x11264_0_2_0) (tap2 C))

def gate (V : FVec Ideal S2x4096x11264 .f32) : FVec Ideal S2x4096x5632 .f32 := extractStridedSlice S2x4096x5632 ![0, 0, 0] V slices_S2x4096x11264_S2x4096x5632_0_0_0
def value0 (V : FVec Ideal S2x4096x11264 .f32) : FVec Ideal S2x4096x5632 .f32 := extractStridedSlice S2x4096x5632 ![0, 0, 5632] V slices_S2x4096x11264_S2x4096x5632_0_0_5632

def acted (V : FVec Ideal S2x4096x11264 .f32) : FVec Ideal S2x4096x5632 .f32 :=
  mulf (mulf (gate V) (Host.divf (broadcastInDim S2x4096x5632 ![] bcast_S_S2x4096x5632 (constant S_ .f32 0x3F800000#32))
    (addf (broadcastInDim S2x4096x5632 ![] bcast_S_S2x4096x5632 (constant S_ .f32 0x3F800000#32)) (Host.exp (Host.negf (gate V)))))) (value0 V)

def sum (H : FVec Ideal S2x4096x2048 .f32) (A : FVec Ideal S2x4096x5632 .f32) (O : FVec Ideal S5632x2048 .f32) : FVec Ideal S2x4096x2048 .f32 :=
  addf H (Host.dotGeneral dot_S2x4096x5632_S5632x2048_S2x4096x2048_2_0_01_1_n_n none A O)

def rows (Y : FVec Ideal S2x4096x2048 .f32) : FVec Ideal S8192x2048 .f32 := shapeCast _ Y shapeCasts_S2x4096x2048_S8192x2048

/-- The arrays as tables over the rows of both sequences. -/
def hR (H : FVec Ideal S2x4096x2048 .f32) : ℕ → ℕ → EReal := at2 (a := 8192) (b := 2048) fun r k => H (ix3 ⟨r.val / 4096, by omega⟩ ⟨r.val % 4096, by omega⟩ k)
def nR (w : FVec Ideal S2048 .f32) : ℕ → EReal := at1 (a := 2048) fun k => w (ix1 k)
def wR (W : FVec Ideal S2048x11264 .f32) : ℕ → ℕ → EReal := at2 (a := 2048) (b := 11264) fun r k => W (ix2 r k)
def cR (C : FVec Ideal S3x11264 .f32) : ℕ → ℕ → EReal := at2 (a := 3) (b := 11264) fun r k => C (ix2 r k)
def oR (O : FVec Ideal S5632x2048 .f32) : ℕ → ℕ → EReal := at2 (a := 5632) (b := 2048) fun r k => O (ix2 r k)

theorem hR_at (H) (s : Fin 2) (r : Fin 4096) (k : Fin 2048) : H (ix3 s r k) = hR H (4096 * s + r) k := by
  refine Eq.trans ?_ (at2_of _ (show 4096 * s.val + r.val < 8192 by omega) k.isLt).symm
  have e0 : (4096 * s.val + r.val) / 4096 = s.val := by omega
  have e1 : (4096 * s.val + r.val) % 4096 = r.val := by omega
  simp only [e0, e1]

theorem nR_at (w) (k : Fin 2048) : nR w k = w (ix1 k) := at1_fin (a := 2048) (fun k => w (ix1 k)) k
theorem wR_at (W) (r : Fin 2048) (k : Fin 11264) : wR W r k = W (ix2 r k) := at2_fin (fun r k => W (ix2 r k)) r k
theorem cR_at (C) (r : Fin 3) (k : Fin 11264) : cR C r k = C (ix2 r k) := at2_fin (fun r k => C (ix2 r k)) r k
theorem oR_at (O) (r : Fin 5632) (k : Fin 2048) : oR O r k = O (ix2 r k) := at2_fin (fun r k => O (ix2 r k)) r k

theorem nrm_at {H w} {T : ℕ → ℕ → EReal} (hH : ∀ (s : Fin 2) (r : Fin 4096) (k : Fin 2048), H (ix3 s r k) = T (4096 * s + r) k)
    (s : Fin 2) (r : Fin 4096) (k : Fin 2048) : nrm H w (ix3 s r k) = rms T (nR w) (4096 * s + r) k := by
  pointwise [nrm]
  unfold rms
  simp only [hH, Finset.sum_range, nR_at]

theorem prj_at (X W) {N : ℕ → ℕ → EReal} (hX : ∀ (s : Fin 2) (r : Fin 4096) (k : Fin 2048), X (ix3 s r k) = N (4096 * s + r) k)
    (s : Fin 2) (r : Fin 4096) (k : Fin 11264) : prj X W (ix3 s r k) = proj N (wR W) (4096 * s + r) k := by
  pointwise [prj]
  rw [proj_fin]
  simp only [hX, wR_at W]

theorem padded_at (P) {z : ℕ → ℕ → EReal} (hP : ∀ (s : Fin 2) (r : Fin 4096) (k : Fin 11264), P (ix3 s r k) = z (4096 * s + r) k)
    (s : Fin 2) (r : Fin 4096) (e : ℕ) (he : e ≤ 2) (j : Fin 4098) (hj : j.val = (2 - e) + r.val) (k : Fin 11264) : padded P (ix3 s j k) = back z e (4096 * s + r) k := by
  pointwise [padded]
  unfold back
  have hs : (4096 * s.val + r.val) % 4096 = r.val := by omega
  rw [hs]
  by_cases h : r.val < e
  · rw [if_pos h, dif_neg (by omega)]
    simp [FloatOps.sitofp]
  · rw [if_neg h, dif_pos (by omega), hP, show 4096 * s.val + (j.val - 2) = 4096 * s.val + r.val - e by omega]

theorem cnv_at (Z C) {z : ℕ → ℕ → EReal} (hZ : ∀ (s : Fin 2) (r : Fin 4096) (e : ℕ) (_ : e ≤ 2) (j : Fin 4098) (_ : j.val = (2 - e) + r.val) (k : Fin 11264), Z (ix3 s j k) = back z e (4096 * s + r) k)
    (s : Fin 2) (r : Fin 4096) (k : ℕ) (hk : k < 11264) : cnv Z C (ix3 s r ⟨k, hk⟩) = conv (cR C) z (4096 * s + r) k := by
  pointwise [cnv, tap0, tap1, tap2]
  rw [hZ s r 2 (by decide) _ (by simp) ⟨k, hk⟩, hZ s r 1 (by decide) _ (by simp) ⟨k, hk⟩, hZ s r 0 (by decide) _ (by simp) ⟨k, hk⟩]
  unfold conv
  rw [show back z 0 (4096 * s.val + r.val) k = z (4096 * s.val + r.val) k from if_neg (by omega),
    show cR C 0 k = C (ix2 0 ⟨k, hk⟩) from cR_at C 0 ⟨k, hk⟩, show cR C 1 k = C (ix2 1 ⟨k, hk⟩) from cR_at C 1 ⟨k, hk⟩, show cR C 2 k = C (ix2 2 ⟨k, hk⟩) from cR_at C 2 ⟨k, hk⟩,
    mul_comm (C _), mul_comm (C _), mul_comm (C _)]

theorem acted_at (V) {N W cw : ℕ → ℕ → EReal} (hV : ∀ (s : Fin 2) (r : Fin 4096) (k : ℕ) (hk : k < 11264), V (ix3 s r ⟨k, hk⟩) = conv cw (proj N W) (4096 * s + r) k)
    (s : Fin 2) (r : Fin 4096) (k : Fin 5632) : acted V (ix3 s r k) = act N W cw (4096 * s + r) k := by
  pointwise [acted, gate, value0]
  simp only [hV]
  rfl

theorem sum_at (H A O) {nw : ℕ → EReal} {W cw : ℕ → ℕ → EReal}
    (hA : ∀ (s : Fin 2) (r : Fin 4096) (k : Fin 5632), A (ix3 s r k) = act (rms (hR H) nw) W cw (4096 * s + r) k)
    (s : Fin 2) (r : Fin 4096) (k : Fin 2048) : sum H A O (ix3 s r k) = ffOut (hR H) nw W cw (oR O) (4096 * s + r) k := by
  pointwise [sum]
  unfold ffOut
  rw [Finset.sum_range]
  simp only [hR_at H, hA, oR_at]

theorem rows_at (Y) {T : ℕ → ℕ → EReal} (hY : ∀ (s : Fin 2) (r : Fin 4096) (k : Fin 2048), Y (ix3 s r k) = T (4096 * s + r) k)
    (r : Fin 8192) (k : Fin 2048) : rows Y (ix2 r k) = T r k := by
  pointwise [rows]
  rw [hY]
  simp only [Nat.div_add_mod]

variable (m : (ℓ : Loc nD τ sig) → Buf (Elt Ideal) ℓ) (c : Dev nD)

/-- The residual stream after the layer, stage by stage. -/
def stages (H : FVec Ideal S2x4096x2048 .f32) (w : FVec Ideal S2048 .f32) (W : FVec Ideal S2048x11264 .f32) (C : FVec Ideal S3x11264 .f32) (O : FVec Ideal S5632x2048 .f32) : FVec Ideal S2x4096x2048 .f32 :=
  sum H (acted (cnv (padded (prj (nrm H w) W)) C)) O

theorem stages_at (H w W C O) (s : Fin 2) (r : Fin 4096) (k : Fin 2048) :
    stages H w W C O (ix3 s r k) = ffOut (hR H) (nR w) (wR W) (cR C) (oR O) (4096 * s + r) k :=
  sum_at _ _ _ (acted_at _ (cnv_at _ _ (padded_at _ (prj_at _ _ (nrm_at (hR_at H)))))) s r k

set_option maxRecDepth 8192 in
theorem out_eq : Value.res_out0 m c = rows (stages (m (c.tc.loc main_arg0)) (m (c.tc.loc main_arg1)) (m (c.tc.loc main_arg2)) (m (c.tc.loc main_arg3)) (m (c.tc.loc main_arg4))) := rfl

/-- The reference's result, as the specification says it. -/
def G (H : FVec Ideal S2x4096x2048 .f32) (w : FVec Ideal S2048 .f32) (W : FVec Ideal S2048x11264 .f32) (C : FVec Ideal S3x11264 .f32) (O : FVec Ideal S5632x2048 .f32) : FVec Ideal S8192x2048 .f32 :=
  fun i => ffOut (hR H) (nR w) (wR W) (cR C) (oR O) (i 0).val (i 1).val

theorem value : Value.res_out0 m c = G (m (c.tc.loc main_arg0)) (m (c.tc.loc main_arg1)) (m (c.tc.loc main_arg2)) (m (c.tc.loc main_arg3)) (m (c.tc.loc main_arg4)) := by
  refine (out_eq m c).trans (funext fun i => ?_)
  have hi : i = ix2 (i 0) (i 1) := by funext a; match a with | 0 => rfl | 1 => rfl
  exact (congrArg _ hi).trans (rows_at _ (stages_at (m (c.tc.loc main_arg0)) (m (c.tc.loc main_arg1)) (m (c.tc.loc main_arg2)) (m (c.tc.loc main_arg3)) (m (c.tc.loc main_arg4))) (i 0) (i 1))

/-! ## The two weights cast on the side -/

def castU (U : FVec Ideal S2x2048x11264 .f32) : FVec Ideal S64x32x11264 .bf16 :=
  shapeCast _ (truncf .bf16 (shapeCast _ (extractStridedSlice S1x2048x11264 ![1, 0, 0] U slices_S2x2048x11264_S1x2048x11264_1_0_0) shapeCasts_S1x2048x11264_S2048x11264) bitsLt_bf16_f32) shapeCasts_S2048x11264_S64x32x11264
def castD (D : FVec Ideal S2x5632x2048 .f32) : FVec Ideal S88x64x2048 .bf16 :=
  shapeCast _ (truncf .bf16 (shapeCast _ (extractStridedSlice S1x5632x2048 ![1, 0, 0] D slices_S2x5632x2048_S1x5632x2048_1_0_0) shapeCasts_S1x5632x2048_S5632x2048) bitsLt_bf16_f32) shapeCasts_S5632x2048_S88x64x2048

/-- The second layer's weights, in the chunks they are cast in. -/
def GU (U : FVec Ideal S2x2048x11264 .f32) : FVec Ideal S64x32x11264 .bf16 := fun i => U (ix3 1 ⟨32 * (i 0).val + (i 1).val, by
  have h0 : (i 0).val < 64 := (i 0).isLt
  have h1 : (i 1).val < 32 := (i 1).isLt
  omega⟩ (i 2))
def GD (D : FVec Ideal S2x5632x2048 .f32) : FVec Ideal S88x64x2048 .bf16 := fun i => D (ix3 1 ⟨64 * (i 0).val + (i 1).val, by
  have h0 : (i 0).val < 88 := (i 0).isLt
  have h1 : (i 1).val < 64 := (i 1).isLt
  omega⟩ (i 2))

theorem castU_at (U) (a : Fin 64) (b : Fin 32) (k : Fin 11264) : castU U (ix3 a b k) = GU U (ix3 a b k) := by
  pointwise [castU, GU]
  simp only [mul_comm]
theorem castD_at (D) (a : Fin 88) (b : Fin 64) (k : Fin 2048) : castD D (ix3 a b k) = GD D (ix3 a b k) := by
  pointwise [castD, GD]
  simp only [mul_comm]

theorem castU_eq (U) : castU U = GU U := funext fun i => by
  have hi : i = ix3 (i 0) (i 1) (i 2) := by funext a; match a with | 0 => rfl | 1 => rfl | 2 => rfl
  exact (congrArg _ hi).trans ((castU_at U (i 0) (i 1) (i 2)).trans (congrArg _ hi.symm))
theorem castD_eq (D) : castD D = GD D := funext fun i => by
  have hi : i = ix3 (i 0) (i 1) (i 2) := by funext a; match a with | 0 => rfl | 1 => rfl | 2 => rfl
  exact (congrArg _ hi).trans ((castD_at D (i 0) (i 1) (i 2)).trans (congrArg _ hi.symm))

end Cert.Reference3Ideal.Hand
-- ==== Proof.UpClaims.lean ====
module

public import proofs.«01_k».proof.Defs
public import proofs.«01_k».proof.Proof.UpFrame
public import proofs.«01_k».proof.Proof.UpValue
public import proofs.«01_k».proof.Proof.UpRef
public import proofs.«01_k».proof.Proof.Gen.Kernel3
public import Idealize.ShloMosaic.Lib.Claim

/-! The claims about the first feed-forward layer. -/

@[expose] public section

noncomputable section

namespace Cert.Proof

open Idealize.ShloMosaic Idealize.SL.Sem

attribute [local instance] Cert.Kernel3.Gen.facts Cert.Kernel3Ideal.Gen.facts Cert.Reference3Ideal.Gen.facts

theorem frame_kernel3Ideal : Cert.quiescent_Kernel3Ideal := fun m ρ _ => Cert.Kernel3Ideal.Hand.run_frame (F := Ideal) m ρ

/-- The two programs' bodies are one text. -/
theorem bodies3 : (Cert.Kernel3Ideal.defs₀ (F := Bits)) = Cert.Kernel3.defs₀ (F := Bits) := by
  unfold Cert.Kernel3Ideal.defs₀ Cert.Kernel3.defs₀
  refine congrArg Defs.onTc (funext fun l => funext fun a => ?_)
  match l, a with
  | 0, (t, s) =>
    show Cert.Kernel3Ideal.cc0_ffn _ _ _ _ _ _ _ _ _ _ _ _ _ _ _ _ _ _ _ _ _ _ _ _ _ _ _ _ _ _ _ _ _ _ _ _ = Cert.Kernel3.cc0_ffn _ _ _ _ _ _ _ _ _ _ _ _ _ _ _ _ _ _ _ _ _ _ _ _ _ _ _ _ _ _ _ _ _ _ _ _
    rfl
theorem tables3 : (Cert.Kernel3Ideal.defs (F := Bits)) = Cert.Kernel3.defs (F := Bits) := congrArg (Pipeline.defs _) bodies3

theorem frame_kernel3 : Cert.quiescent_Kernel3 := fun m ρ _ => by
  rw [← tables3]
  exact (θ_run Cert.Kernel3Ideal.defs _ _).mono (fun _ h => h) (Cert.Kernel3Ideal.Hand.run_frame (F := Bits) m ρ)

theorem frame_reference3 : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- The two specifications are one. -/
theorem value3 (m : (ℓ : Loc Cert.Kernel3Ideal.nD Cert.Kernel3Ideal.τ Cert.Kernel3Ideal.sig) → Buf (Elt Ideal) ℓ) (c : Dev Cert.Kernel3Ideal.nD) :
    Cert.Kernel3Ideal.Hand.G m c = Cert.Reference3Ideal.Hand.G (Cert.Kernel3Ideal.Hand.argH m c) (Cert.Kernel3Ideal.Hand.argN m c) (Cert.Kernel3Ideal.Hand.argW m c) (Cert.Kernel3Ideal.Hand.argC m c) (Cert.Kernel3Ideal.Hand.argO m c) := rfl

/-- The kernel's run with what it writes named. -/
theorem run_value3 (m : (ℓ : Loc Cert.Kernel3Ideal.nD Cert.Kernel3Ideal.τ Cert.Kernel3Ideal.sig) → Buf (Elt Ideal) ℓ) (g : Dev Cert.Kernel3Ideal.nD → PrngReg) :
    θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
      r.2.mem ((c.tc : Thread Cert.Kernel3Ideal.nD Cert.Kernel3Ideal.τ).loc Cert.Kernel3Ideal.main_v7_0) = Cert.Kernel3Ideal.Hand.G m c
      ∧ r.2.mem ((c.tc : Thread Cert.Kernel3Ideal.nD Cert.Kernel3Ideal.τ).loc Cert.Kernel3Ideal.main_v7_1) = Cert.Kernel3Ideal.Hand.GU (Cert.Kernel3Ideal.Hand.argU m c)
      ∧ r.2.mem ((c.tc : Thread Cert.Kernel3Ideal.nD Cert.Kernel3Ideal.τ).loc Cert.Kernel3Ideal.main_v7_2) = Cert.Kernel3Ideal.Hand.GD (Cert.Kernel3Ideal.Hand.argD m c)) :=
  (θ_run Cert.Kernel3Ideal.defs _ _).mono (fun r h c => ⟨((h.1 c).1 9).trans (Cert.Kernel3Ideal.Hand.final m c), ((h.1 c).1 10).trans (Cert.Kernel3Ideal.Hand.final10 m c), ((h.1 c).1 11).trans (Cert.Kernel3Ideal.Hand.final11 m c)⟩) (Cert.Kernel3Ideal.Hand.run_main (F := Ideal) m g)

theorem algebraic3 : Cert.algebraic_Kernel3Ideal_Reference3Ideal := fun m g m' g' _ hagree =>
  ⟨fun c => Cert.Kernel3Ideal.Hand.G m c, fun c => Cert.Kernel3Ideal.Hand.GU (Cert.Kernel3Ideal.Hand.argU m c), fun c => Cert.Kernel3Ideal.Hand.GD (Cert.Kernel3Ideal.Hand.argD m c),
    (θ_run Cert.Kernel3Ideal.defs _ _).mono (fun r h c => ⟨(h.1 c).1, (h.1 c).2.1, (h.1 c).2.2, h.2.1 c⟩)
      (θ_run_and (run_value3 m g) (Cert.Kernel3Ideal.Hand.run_frame (F := Ideal) m g)),
    (θ_run Cert.Reference3Ideal.defs _ _).mono (fun r h c => by
      obtain ⟨a0, a1, a2, a3, a4, a5, a6, a7⟩ := hagree c
      refine ⟨(h c).1.trans ((Cert.Reference3Ideal.Hand.value m' c).trans ?_), (h c).2.1.trans ((Cert.Reference3Ideal.Hand.castU_eq _).trans ?_), (h c).2.2.1.trans ((Cert.Reference3Ideal.Hand.castD_eq _).trans ?_), (h c).2.2.2⟩
      · rw [a0, a1, a2, a3, a4]
        exact (value3 m c).symm
      · rw [a6]
        rfl
      · rw [a7]
        rfl) (Cert.Reference3Ideal.Value.run (F := Ideal) m' g')⟩

end Cert.Proof
-- ==== Proof.OutPoint.lean ====
module

public import proofs.«01_k».proof.Proof.Gen.Kernel4Ideal.Value
public import proofs.«01_k».proof.Proof.Gen.Reference4Ideal.Run
public import proofs.«01_k».proof.Proof.Spec
public import Idealize.ShloMosaic.Lib.Pipeline.ValueKit
public import Idealize.ShloMosaic.Lib.Claim

/-! The output projection of the recurrent mixer: normalised rows times their gate, projected and added to the residual
    stream. The kernel's 16 tiles of 512 rows and the reference's array both hold the specification's rows. -/

@[expose] public section

set_option maxRecDepth 16384

noncomputable section

namespace Cert.Spec

open Idealize.ShloMosaic

/-- The mixer's rows `O`, normalised, gated by `Z` and projected, added to the residual stream `H`. -/
def mixOut (O Z H : ℕ → ℕ → EReal) (nw : ℕ → EReal) (W : ℕ → ℕ → EReal) (r d : ℕ) : EReal :=
  H r d + ∑ x ∈ Finset.range 2048, (rms O nw r x * Z r x) * W x d

end Cert.Spec

namespace Cert.Kernel4Ideal.Hand

open Cert.Kernel4Ideal Cert.Kernel4Ideal.Gen Cert.Spec
open Idealize.ShloMosaic Idealize.ShloMosaic.TcCoe Idealize.SL.Sem

/-- What one tile computes, at a row and a column. -/
theorem pay_at {O Z H W : ℕ → ℕ → EReal} {nw : ℕ → EReal} {r0 : ℕ} {o z : Vec Ideal S512x2048 .bf16} {h : Vec Ideal S512x2048 .f32} {g : Vec Ideal S1x2048 .f32} {w : Vec Ideal S2048x2048 .bf16}
    (ho : ∀ (p : Fin 512) (k : Fin 2048), o (ix2 p k) = O (r0 + p) k) (hz : ∀ (p : Fin 512) (k : Fin 2048), z (ix2 p k) = Z (r0 + p) k)
    (hh : ∀ (p : Fin 512) (k : Fin 2048), h (ix2 p k) = H (r0 + p) k) (hg : ∀ k : Fin 2048, g (ix2 0 k) = nw k)
    (hw : ∀ (k : Fin 2048) (d : Fin 2048), w (ix2 k d) = W k d) (p : Fin 512) (d : Fin 2048) :
    k0_pay1 (F := Ideal) o g z h w (ix2 p d) = mixOut O Z H nw W (r0 + p) d := by
  pointwise [k0_pay1]
  simp only [ho, hz, hh, hg, hw]
  unfold mixOut rms
  simp only [Finset.sum_range]

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ t.val < 16 :=
  (by decide +kernel : ∀ t : Fin grid0.N, _)

abbrev argO : Vec Ideal S2x4096x2048 .bf16 := m ((c : Thread nD τ).loc main_arg0)
abbrev argZ : Vec Ideal S8192x2048 .bf16 := m ((c : Thread nD τ).loc main_arg1)
abbrev argH : Vec Ideal S2x4096x2048 .f32 := m ((c : Thread nD τ).loc main_arg2)
abbrev argN : Vec Ideal S2048 .f32 := m ((c : Thread nD τ).loc main_arg3)
abbrev argW : Vec Ideal S2048x2048 .f32 := m ((c : Thread nD τ).loc main_arg4)

/-- Both sequences' rows as one table. -/
def rows3 (A : S2x4096x2048.Idx → EReal) : ℕ → ℕ → EReal := at2 (a := 8192) (b := 2048) fun r k => A (ix3 ⟨r.val / 4096, by omega⟩ ⟨r.val % 4096, by omega⟩ k)
def rows2 (A : S8192x2048.Idx → EReal) : ℕ → ℕ → EReal := at2 (a := 8192) (b := 2048) fun r k => A (ix2 r k)
def gains (A : S2048.Idx → EReal) : ℕ → EReal := at1 (a := 2048) fun k => A (ix1 k)
def weights (A : S2048x2048.Idx → EReal) : ℕ → ℕ → EReal := at2 (a := 2048) (b := 2048) fun r k => A (ix2 r k)

theorem blk0 (t : Fin cfg0.N) (p : Fin 512) (k : Fin 2048) : (iblk m c 0 t : Vec Ideal S512x2048 .bf16) (ix2 p k) = rows3 (argO m c) (512 * t.val + p) k := by
  refine Eq.trans ?_ (at2_of _ (show 512 * t.val + p.val < 8192 by have := (idx t).2.2.2.2.2.2; omega) k.isLt).symm
  blk_point [iblk, V, idx t]
theorem blk1 (t : Fin cfg0.N) (p : Fin 512) (k : Fin 2048) : (iblk m c 1 t : Vec Ideal S512x2048 .bf16) (ix2 p k) = rows2 (argZ m c) (512 * t.val + p) k := by
  refine Eq.trans ?_ (at2_of _ (show 512 * t.val + p.val < 8192 by have := (idx t).2.2.2.2.2.2; omega) k.isLt).symm
  blk_point [iblk, V, idx t]
theorem blk2 (t : Fin cfg0.N) (p : Fin 512) (k : Fin 2048) : (iblk m c 2 t : Vec Ideal S512x2048 .f32) (ix2 p k) = rows3 (argH m c) (512 * t.val + p) k := by
  refine Eq.trans ?_ (at2_of _ (show 512 * t.val + p.val < 8192 by have := (idx t).2.2.2.2.2.2; omega) k.isLt).symm
  blk_point [iblk, V, idx t]
theorem blk3 (t : Fin cfg0.N) (k : Fin 2048) : (iblk m c 3 t : Vec Ideal S1x2048 .f32) (ix2 0 k) = gains (argN m c) k := by
  refine Eq.trans ?_ (at1_fin _ k).symm
  blk_point [iblk, V, idx t]
theorem blk4 (t : Fin cfg0.N) (r : Fin 2048) (k : Fin 2048) : (iblk m c 4 t : Vec Ideal S2048x2048 .bf16) (ix2 r k) = weights (argW m c) r k := by
  refine Eq.trans ?_ (at2_fin _ r k).symm
  blk_point [iblk, V, idx t]

/-- What the result should be. -/
def G (O : S2x4096x2048.Idx → EReal) (Z : S8192x2048.Idx → EReal) (H : S2x4096x2048.Idx → EReal) (n : S2048.Idx → EReal) (W : S2048x2048.Idx → EReal) : S8192x2048.Idx → EReal :=
  fun i => mixOut (rows3 O) (rows2 Z) (rows3 H) (gains n) (weights W) (i 0).val (i 1).val

/-- The tile's buffer after the body holds what the body stores. -/
theorem out_eq (o z : Vec Ideal S512x2048 .bf16) (h : Vec Ideal S512x2048 .f32) (g : Vec Ideal S1x2048 .f32) (w : Vec Ideal S2048x2048 .bf16) :
    out0_5 o z h g w = k0_pay1 o g z h w := by
  unfold out0_5
  rw [View.canon_cons_unit_lit _ _ _ (by decide), View.ld_unit_lit _ o (by decide), View.ld_unit_lit _ z (by decide), View.ld_unit_lit _ h (by decide),
    View.ld_unit_lit _ g (by decide), View.ld_unit_lit _ w (by decide)]

theorem tile_at (t : Fin cfg0.N) (p : Fin 512) (d : Fin 2048) :
    (out0_5 (iblk m c 0 t) (iblk m c 1 t) (iblk m c 2 t) (iblk m c 3 t) (iblk m c 4 t) : Vec Ideal S512x2048 .f32) (ix2 p d)
      = mixOut (rows3 (argO m c)) (rows2 (argZ m c)) (rows3 (argH m c)) (gains (argN m c)) (weights (argW m c)) (512 * t.val + p) d :=
  (congrFun (out_eq _ _ _ _ _) _).trans (pay_at (r0 := 512 * t.val) (blk0 m c t) (blk1 m c t) (blk2 m c t) (blk3 m c t) (blk4 m c t) p d)

/-- The written array. -/
theorem final : (dats m 0 c).arrAt 5 (cfgs 0).N = (G (argO m c) (argZ m c) (argH m c) (argN m c) (argW m c) : Vec Ideal S8192x2048 .f32) := by
  refine (dats m 0 c).arrAt_eq_of_covers 5 _ (by decide +kernel) fun t hf y => ?_
  blk_simp
  rw [after0_5]
  have hy : y = ix2 (y 0) (y 1) := by funext a; match a with | 0 => rfl | 1 => rfl
  have e0 : ((win0_5.blk t).view.emb y 0).val = 512 * t.val + (y 0).val := by
    show win0_5.index t 0 * 512 + 1 * (y 0).val = _
    rw [(idx t).2.2.2.2.2.1]
    show t.val * 512 + 1 * (y 0).val = _
    omega
  have e1 : ((win0_5.blk t).view.emb y 1).val = (y 1).val := by
    show win0_5.index t 1 * 2048 + 1 * (y 1).val = _
    rw [(idx t).2.2.2.2.2.1]
    show 0 * 2048 + 1 * (y 1).val = _
    omega
  refine (congrArg (out0_5 (iblk m c 0 t) (iblk m c 1 t) (iblk m c 2 t) (iblk m c 3 t) (iblk m c 4 t)) hy).trans ((tile_at m c t (y 0) (y 1)).trans ?_)
  unfold G
  rw [e0, e1]

end Cert.Kernel4Ideal.Hand

namespace Cert.Reference4Ideal.Hand

open Cert.Reference4Ideal Cert.Reference4Ideal.Gen Cert.Spec Idealize.ShloMosaic Idealize.ShloMosaic.TcCoe Idealize.SL.Sem
open Cert.Kernel4Ideal.Hand (rows3 rows2 gains weights G)

theorem rows3_at (H : S2x4096x2048.Idx → EReal) (s : Fin 2) (r : Fin 4096) (k : Fin 2048) : H (ix3 s r k) = rows3 H (4096 * s + r) k := by
  refine Eq.trans ?_ (at2_of _ (show 4096 * s.val + r.val < 8192 by omega) k.isLt).symm
  have e0 : (4096 * s.val + r.val) / 4096 = s.val := by omega
  have e1 : (4096 * s.val + r.val) % 4096 = r.val := by omega
  simp only [e0, e1]
theorem rows2_at (Z : S8192x2048.Idx → EReal) (r : Fin 8192) (k : Fin 2048) : Z (ix2 r k) = rows2 Z r k := (at2_fin (fun r k => Z (ix2 r k)) r k).symm
theorem gains_at (w : S2048.Idx → EReal) (k : Fin 2048) : w (ix1 k) = gains w k := (at1_fin (fun k => w (ix1 k)) k).symm
theorem weights_at (W : S2048x2048.Idx → EReal) (r : Fin 2048) (k : Fin 2048) : W (ix2 r k) = weights W r k := (at2_fin (fun r k => W (ix2 r k)) r k).symm

def nrm (O : FVec Ideal S2x4096x2048 .bf16) (n : FVec Ideal S2048 .f32) : FVec Ideal S2x4096x2048 .f32 :=
  mulf (mulf (extf .f32 O bitsLt_bf16_f32) (broadcastInDim S2x4096x2048 ![0, 1, 2] bcast_S2x4096x1_S2x4096x2048_0_1_2
    (Host.rsqrt (addf (Host.divf (broadcastInDim S2x4096x1 ![0, 1] bcast_S2x4096_S2x4096x1_0_1 (Host.reduceAdd (mulf (extf .f32 O bitsLt_bf16_f32) (extf .f32 O bitsLt_bf16_f32)) (constant S_ .f32 0x00000000#32) reducesTo_S2x4096x2048_S2x4096_d2 h_S_))
      (broadcastInDim S2x4096x1 ![] bcast_S_S2x4096x1 (constant S_ .f32 0x45000000#32))) (broadcastInDim S2x4096x1 ![] bcast_S_S2x4096x1 (constant S_ .f32 0x358637BD#32))))))
    (broadcastInDim S2x4096x2048 ![0, 1, 2] bcast_S1x1x2048_S2x4096x2048_0_1_2 (broadcastInDim S1x1x2048 ![2] bcast_S2048_S1x1x2048_2 n))

/-- The reference's term, over its five arrays. -/
def out (O : FVec Ideal S2x4096x2048 .bf16) (Z : FVec Ideal S8192x2048 .bf16) (H : FVec Ideal S2x4096x2048 .f32) (n : FVec Ideal S2048 .f32) (W : FVec Ideal S2048x2048 .f32) : FVec Ideal S8192x2048 .f32 :=
  shapeCast _ (addf H (Host.dotGeneral dot_S2x4096x2048_S2048x2048_S2x4096x2048_2_0_01_1_n_n none
    (mulf (nrm O n) (extf .f32 (shapeCast S2x4096x2048 Z shapeCasts_S8192x2048_S2x4096x2048) bitsLt_bf16_f32)) W)) shapeCasts_S2x4096x2048_S8192x2048

theorem nrm_at (O n) (s : Fin 2) (r : Fin 4096) (k : Fin 2048) : nrm O n (ix3 s r k) = rms (rows3 O) (gains n) (4096 * s + r) k := by
  pointwise [nrm]
  unfold rms
  simp only [rows3_at O, Finset.sum_range, gains_at n]

theorem out_at (O Z H n W) (r : Fin 8192) (d : Fin 2048) : out O Z H n W (ix2 r d) = mixOut (rows3 O) (rows2 Z) (rows3 H) (gains n) (weights W) r d := by
  pointwise [out]
  simp only [nrm_at, Nat.div_add_mod]
  unfold mixOut
  rw [Finset.sum_range]
  simp only [rows3_at H, Nat.div_add_mod, weights_at W, rows2_at Z]

/-- It holds the specification's rows. -/
theorem out_eq (O Z H n W) : out O Z H n W = (G O Z H n W : FVec Ideal S8192x2048 .f32) := by
  funext i
  have hi : i = ix2 (i 0) (i 1) := by funext a; match a with | 0 => rfl | 1 => rfl
  exact (congrArg _ hi).trans (out_at O Z H n W (i 0) (i 1))

end Cert.Reference4Ideal.Hand
-- ==== Proof.OutClaims.lean ====
module

public import proofs.«01_k».proof.Defs
public import proofs.«01_k».proof.Proof.OutPoint
public import proofs.«01_k».proof.Proof.Gen.Kernel4
public import Idealize.ShloMosaic.Lib.Claim

/-! The claims about the output projection of the recurrent mixer. -/

@[expose] public section

noncomputable section

namespace Cert.Proof

open Idealize.ShloMosaic Idealize.SL.Sem

attribute [local instance] Cert.Kernel4.Gen.facts Cert.Kernel4Ideal.Gen.facts Cert.Reference4Ideal.Gen.facts

theorem frame_kernel4Ideal : Cert.quiescent_Kernel4Ideal := fun m ρ _ => Cert.Kernel4Ideal.Gen.frame (F := Ideal) m ρ

/-- The two programs' bodies are one text. -/
theorem bodies4 : (Cert.Kernel4Ideal.defs₀ (F := Bits)) = Cert.Kernel4.defs₀ (F := Bits) := by
  unfold Cert.Kernel4Ideal.defs₀ Cert.Kernel4.defs₀
  refine congrArg Defs.onTc (funext fun l => funext fun a => ?_)
  match l, a with
  | 0, (t, s) =>
    show Cert.Kernel4Ideal.cc0_hgrn_out _ _ _ _ _ _ _ _ _ _ _ _ _ = Cert.Kernel4.cc0_hgrn_out _ _ _ _ _ _ _ _ _ _ _ _ _
    rfl
theorem tables4 : (Cert.Kernel4Ideal.defs (F := Bits)) = Cert.Kernel4.defs (F := Bits) := congrArg (Pipeline.defs _) bodies4

theorem frame_kernel4 : Cert.quiescent_Kernel4 := fun m ρ _ => by
  rw [← tables4]
  exact (θ_run Cert.Kernel4Ideal.defs _ _).mono (fun _ h => h) (Cert.Kernel4Ideal.Gen.frame (F := Bits) m ρ)

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Kernel and reference both leave the specification's rows. -/
theorem algebraic4 : Cert.algebraic_Kernel4Ideal_Reference4Ideal := fun m g m' g' _ hagree =>
  ⟨fun c => Cert.Kernel4Ideal.Hand.G (Cert.Kernel4Ideal.Hand.argO m c) (Cert.Kernel4Ideal.Hand.argZ m c) (Cert.Kernel4Ideal.Hand.argH m c) (Cert.Kernel4Ideal.Hand.argN m c) (Cert.Kernel4Ideal.Hand.argW m c),
    (θ_run Cert.Kernel4Ideal.defs _ _).mono (fun r h c => ⟨(h c).1.trans (Cert.Kernel4Ideal.Hand.final m c), (h c).2⟩) (Cert.Kernel4Ideal.Value.run_blocks (F := Ideal) m g),
    (θ_run Cert.Reference4Ideal.defs _ _).mono (fun r h c => by
      obtain ⟨a0, a1, a2, a3, a4⟩ := hagree c
      refine ⟨(h c).1.trans ((Cert.Reference4Ideal.Hand.out_eq _ _ _ _ _).trans ?_), (h c).2⟩
      rw [a0, a1, a2, a3, a4]) (Cert.Reference4Ideal.Value.run (F := Ideal) m' g')⟩

end Cert.Proof
-- ==== Proof.PjSpec.lean ====
module

public import proofs.«01_k».proof.Proof.Spec

/-! The mathematics of the mixer's input projections: the four projected quantities, the decay gate, and the running sum of
    the gate's logarithm over chunks of 64 rows, which the kernel forms by doubling. -/

@[expose] public section

noncomputable section

namespace Cert.Spec

open Idealize.ShloMosaic

/-- The lowest value of a channel's gate: the first entry of the softmax of three. -/
def low (T : ℕ → ℕ → EReal) (c : ℕ) : EReal :=
  let M := max (max (T 0 c) (T 1 c)) (T 2 c)
  Ideal.div (Ideal.exp (T 0 c - M)) (Ideal.exp (T 0 c - M) + Ideal.exp (T 1 c - M) + Ideal.exp (T 2 c - M))

/-- The logistic function. -/
def logistic (x : EReal) : EReal := Ideal.div 1 (1 + Ideal.exp (-x))

/-- The decay gate of a row and a channel, and its logarithm to base two. -/
def fgate (T X W : ℕ → ℕ → EReal) (r c : ℕ) : EReal := low T c + (1 - low T c) * logistic (proj X W r (2048 + c))
def lg2 (f : EReal) : EReal := Ideal.log f * (((Real.log 2)⁻¹ : ℝ) : EReal)

/-- The sum of a column over the last `w` rows of a row's chunk of 64, that row included. -/
def win (a : ℕ → EReal) (w r : ℕ) : EReal := ∑ i ∈ Finset.range (min w (r % 64 + 1)), a (r - i)

theorem win_one (a : ℕ → EReal) (r : ℕ) : win a 1 r = a r := by
  unfold win
  rw [show min 1 (r % 64 + 1) = 1 by omega]
  simp

/-- Doubling the window. -/
theorem win_double (a : ℕ → EReal) (w r : ℕ) : win a w r + (if w ≤ r % 64 then win a w (r - w) else 0) = win a (2 * w) r := by
  unfold win
  by_cases h : w ≤ r % 64
  · rw [if_pos h, show min w (r % 64 + 1) = w by omega, show min (2 * w) (r % 64 + 1) = w + min w ((r - w) % 64 + 1) by omega, Finset.sum_range_add]
    simp only [Nat.sub_sub]
  · rw [if_neg h, add_zero, show min (2 * w) (r % 64 + 1) = min w (r % 64 + 1) by omega]

/-- The whole running sum of a chunk. -/
theorem win_full (a : ℕ → EReal) (r : ℕ) : win a 64 r = ∑ i ∈ Finset.range (r % 64 + 1), a (r - i) := by
  unfold win
  rw [show min 64 (r % 64 + 1) = r % 64 + 1 by omega]

/-- The four quantities kept of a row and a channel. -/
def qval (X W : ℕ → ℕ → EReal) (r c : ℕ) : EReal := swish (proj X W r c) * Ideal.ofBits FTy.f32 0x3DB504F3#32
def kval (T X W : ℕ → ℕ → EReal) (r c : ℕ) : EReal := 1 - fgate T X W r c
def vval (X W : ℕ → ℕ → EReal) (r c : ℕ) : EReal := proj X W r (4096 + c)
def zval (X W : ℕ → ℕ → EReal) (r c : ℕ) : EReal := swish (proj X W r (6144 + c))
def bval (T X W : ℕ → ℕ → EReal) (r c : ℕ) : EReal := win (fun r => lg2 (fgate T X W r c)) 64 r

/-- The least running sum over 128 rows eight apart. -/
def mval (T X W : ℕ → ℕ → EReal) (r c : ℕ) : EReal := (Finset.range 128).inf fun i => bval T X W (r + 8 * i) c

end Cert.Spec
end
-- ==== Proof.PjPoint.lean ====
module

public import proofs.«01_k».proof.Proof.Gen.Kernel5Ideal.Skeleton
public import proofs.«01_k».proof.Proof.PjSpec
public import Idealize.ShloMosaic.Lib.Pipeline.ValueKit

/-! What one grid step of the mixer's input projections computes, over exact numbers: each payload read at a row and a column. -/

@[expose] public section

set_option maxRecDepth 16384

noncomputable section

namespace Cert.Kernel5Ideal.Hand

open Cert.Kernel5Ideal Cert.Kernel5Ideal.Gen Cert.Spec
open Idealize.ShloMosaic Idealize.ShloMosaic.TcCoe

/-- The gate's lowest value, from three rows of the table. -/
theorem low_at {T : ℕ → ℕ → EReal} {c0 : ℕ} {a b d : Vec Ideal S1x256 .f32} (ha : ∀ j : Fin 256, a (ix2 0 j) = T 0 (c0 + j))
    (hb : ∀ j : Fin 256, b (ix2 0 j) = T 1 (c0 + j)) (hd : ∀ j : Fin 256, d (ix2 0 j) = T 2 (c0 + j)) (j : Fin 256) :
    k0_pay12 (F := Ideal) a b d (ix2 0 j) = low T (c0 + j) := by
  pointwise [k0_pay12]
  simp only [ha, hb, hd]
  unfold low
  simp only [zero_add]

/-- The table's row, and one minus it. -/
theorem rest_at {l : FVec Ideal S1x256 .f32} {L : ℕ → EReal} {c0 : ℕ} (hl : ∀ j : Fin 256, l (ix2 0 j) = L (c0 + j)) (j : Fin 256) :
    k0_pay38 (F := Ideal) l (ix2 0 j) = 1 - L (c0 + j) := by
  pointwise [k0_pay38]
  simp only [hl]

section Rows

variable {X W T : ℕ → ℕ → EReal} {r0 c0 : ℕ} {x : Vec Ideal S512x2048 .bf16} {w : Vec Ideal S1x2048x256 .bf16}
  (hx : ∀ (p : Fin 512) (k : Fin 2048), x (ix2 p k) = X (r0 + p) k) (hw : ∀ (k : Fin 2048) (j : Fin 256), w (ix3 0 k j) = W k (c0 + j))

include hx hw in
theorem q_at (p : Fin 512) (j : Fin 256) : k0_pay13 (F := Ideal) x w (ix2 p j) = swish (proj X W (r0 + p) (c0 + j)) * Ideal.ofBits FTy.f32 0x3DB504F3#32 := by
  pointwise [k0_pay13]
  simp only [hx, hw, proj_fin, swish, zero_sub]

include hx hw in
theorem v_at (p : Fin 512) (j : Fin 256) : k0_pay23 (F := Ideal) x w (ix2 p j) = proj X W (r0 + p) (c0 + j) := by
  pointwise [k0_pay23]
  simp only [hx, hw, proj_fin]

include hx hw in
theorem z_at (p : Fin 512) (j : Fin 256) : k0_pay24 (F := Ideal) x w (ix2 p j) = swish (proj X W (r0 + p) (c0 + j)) := by
  pointwise [k0_pay24]
  simp only [hx, hw, proj_fin, swish, zero_sub]

include hx hw in
theorem f_at {l l' : FVec Ideal S1x256 .f32} {L : ℕ → EReal} (hl : ∀ j : Fin 256, l (ix2 0 j) = L j) (hl' : ∀ j : Fin 256, l' (ix2 0 j) = 1 - L j)
    (p : Fin 512) (j : Fin 256) : k0_pay17 (F := Ideal) l l' (k0_pay15 x w) k0_pay16 (ix2 p j) = L j + (1 - L j) * Spec.logistic (proj X W (r0 + p) (c0 + j)) := by
  pointwise [k0_pay17, k0_pay15, k0_pay16]
  simp only [hx, hw, hl, hl', proj_fin, Spec.logistic, zero_sub]

end Rows

/-- The gate's logarithm to base two. -/
def logs (f : FVec Ideal S512x256 .f32) : FVec Ideal S512x256 .f32 := mulf (log f) (broadcast S512x256 (Named.named κ "inv_log_2" 0x3FB8AA3B#32))

theorem logs_at {f : FVec Ideal S512x256 .f32} {g : ℕ → ℕ → EReal} {r0 : ℕ} (hf : ∀ (p : Fin 512) (j : Fin 256), f (ix2 p j) = g (r0 + p) j) (p : Fin 512) (j : Fin 256) :
    logs f (ix2 p j) = lg2 (g (r0 + p) j) := by
  pointwise [logs]
  simp only [hf]
  rfl

/-! The running sum: six steps, each adding the rows `s` above within the chunk. -/

def up1 (b : FVec Ideal S512x256 .f32) : FVec Ideal S512x256 .f32 :=
  addf b (select (cmpi .sge k0_pay18 (broadcast S512x256 1#32)) (extractStridedSlice S512x256 ![7, 0] (concatenate S520x256 0 [⟨S8x256, broadcast S8x256 (Scalar.ofBits .f32 0x00000000#32)⟩, ⟨S512x256, b⟩] concatenates_S8x256_S512x256_S520x256_d0) slices_S520x256_o7_0_S512x256)
    (broadcast S512x256 (Scalar.ofBits .f32 0x00000000#32)))
def up2 (b : FVec Ideal S512x256 .f32) : FVec Ideal S512x256 .f32 :=
  addf b (select (cmpi .sge k0_pay18 (broadcast S512x256 2#32)) (extractStridedSlice S512x256 ![6, 0] (concatenate S520x256 0 [⟨S8x256, broadcast S8x256 (Scalar.ofBits .f32 0x00000000#32)⟩, ⟨S512x256, b⟩] concatenates_S8x256_S512x256_S520x256_d0) slices_S520x256_o6_0_S512x256)
    (broadcast S512x256 (Scalar.ofBits .f32 0x00000000#32)))
def up4 (b : FVec Ideal S512x256 .f32) : FVec Ideal S512x256 .f32 :=
  addf b (select (cmpi .sge k0_pay18 (broadcast S512x256 4#32)) (extractStridedSlice S512x256 ![4, 0] (concatenate S520x256 0 [⟨S8x256, broadcast S8x256 (Scalar.ofBits .f32 0x00000000#32)⟩, ⟨S512x256, b⟩] concatenates_S8x256_S512x256_S520x256_d0) slices_S520x256_o4_0_S512x256)
    (broadcast S512x256 (Scalar.ofBits .f32 0x00000000#32)))
def up8 (b : FVec Ideal S512x256 .f32) : FVec Ideal S512x256 .f32 :=
  addf b (select (cmpi .sge k0_pay18 (broadcast S512x256 8#32)) (extractStridedSlice S512x256 ![0, 0] (concatenate S520x256 0 [⟨S8x256, broadcast S8x256 (Scalar.ofBits .f32 0x00000000#32)⟩, ⟨S512x256, b⟩] concatenates_S8x256_S512x256_S520x256_d0) slices_S520x256_o0_0_S512x256)
    (broadcast S512x256 (Scalar.ofBits .f32 0x00000000#32)))
def up16 (b : FVec Ideal S512x256 .f32) : FVec Ideal S512x256 .f32 :=
  addf b (select (cmpi .sge k0_pay18 (broadcast S512x256 16#32)) (extractStridedSlice S512x256 ![0, 0] (concatenate S528x256 0 [⟨S16x256, broadcast S16x256 (Scalar.ofBits .f32 0x00000000#32)⟩, ⟨S512x256, b⟩] concatenates_S16x256_S512x256_S528x256_d0) slices_S528x256_o0_0_S512x256)
    (broadcast S512x256 (Scalar.ofBits .f32 0x00000000#32)))
def up32 (b : FVec Ideal S512x256 .f32) : FVec Ideal S512x256 .f32 :=
  addf b (select (cmpi .sge k0_pay18 (broadcast S512x256 32#32)) (extractStridedSlice S512x256 ![0, 0] (concatenate S544x256 0 [⟨S32x256, broadcast S32x256 (Scalar.ofBits .f32 0x00000000#32)⟩, ⟨S512x256, b⟩] concatenates_S32x256_S512x256_S544x256_d0) slices_S544x256_o0_0_S512x256)
    (broadcast S512x256 (Scalar.ofBits .f32 0x00000000#32)))

/-- The mask keeps the rows with `s` rows above them in their chunk. -/
theorem mask1 : ∀ p : Fin 512, IntOp.cmpi .sge (IntOp.andi (BitVec.ofNat 32 p.val) 63#32) 1#32 = if 1 ≤ p.val % 64 then 1#1 else 0#1 := by decide +kernel
theorem mask2 : ∀ p : Fin 512, IntOp.cmpi .sge (IntOp.andi (BitVec.ofNat 32 p.val) 63#32) 2#32 = if 2 ≤ p.val % 64 then 1#1 else 0#1 := by decide +kernel
theorem mask4 : ∀ p : Fin 512, IntOp.cmpi .sge (IntOp.andi (BitVec.ofNat 32 p.val) 63#32) 4#32 = if 4 ≤ p.val % 64 then 1#1 else 0#1 := by decide +kernel
theorem mask8 : ∀ p : Fin 512, IntOp.cmpi .sge (IntOp.andi (BitVec.ofNat 32 p.val) 63#32) 8#32 = if 8 ≤ p.val % 64 then 1#1 else 0#1 := by decide +kernel
theorem mask16 : ∀ p : Fin 512, IntOp.cmpi .sge (IntOp.andi (BitVec.ofNat 32 p.val) 63#32) 16#32 = if 16 ≤ p.val % 64 then 1#1 else 0#1 := by decide +kernel
theorem mask32 : ∀ p : Fin 512, IntOp.cmpi .sge (IntOp.andi (BitVec.ofNat 32 p.val) 63#32) 32#32 = if 32 ≤ p.val % 64 then 1#1 else 0#1 := by decide +kernel

theorem up_step {v : Fin 512 → EReal} {a : ℕ → EReal} {r0 s : ℕ} (h0 : r0 % 512 = 0) (hv : ∀ p : Fin 512, v p = win a s (r0 + p)) (p : Fin 512) {k : BitVec 1} (hk : k = if s ≤ p.val % 64 then 1#1 else 0#1)
    {P : Prop} [Decidable P] (hP : P ↔ p.val < s) {y : ¬P → EReal} (hy : ∀ h : ¬P, y h = v ⟨p.val - s, by omega⟩) :
    v p + Scalar.select k (if h : P then 0 else y h) 0 = win a (2 * s) (r0 + p) := by
  rw [← win_double, hv p, hk]
  refine congrArg _ ?_
  have e : (r0 + p.val) % 64 = p.val % 64 := by omega
  by_cases h : s ≤ p.val % 64
  · have hn : ¬P := fun hp => by have := hP.mp hp; omega
    rw [if_pos h, if_pos (by omega), dif_neg hn, hy hn, hv]
    have e2 : r0 + (p.val - s) = r0 + p.val - s := by omega
    simp [Scalar.select, e2]
  · rw [if_neg h, if_neg (by omega)]
    simp [Scalar.select]

theorem up1_at {b : FVec Ideal S512x256 .f32} {a : ℕ → ℕ → EReal} {r0 : ℕ} (h0 : r0 % 512 = 0) (hb : ∀ (p : Fin 512) (j : Fin 256), b (ix2 p j) = win (a j) 1 (r0 + p)) (p : Fin 512) (j : Fin 256) :
    up1 b (ix2 p j) = win (a j) 2 (r0 + p) := by
  pointwise [up1, k0_pay18]
  exact up_step (v := fun p => b (ix2 p j)) (s := 1) h0 (fun p => hb p j) p (mask1 p) (by omega) (fun h => congrArg (fun i => b (ix2 i j)) (Fin.ext (by first | rfl | (simp only []; omega))))

theorem up2_at {b : FVec Ideal S512x256 .f32} {a : ℕ → ℕ → EReal} {r0 : ℕ} (h0 : r0 % 512 = 0) (hb : ∀ (p : Fin 512) (j : Fin 256), b (ix2 p j) = win (a j) 2 (r0 + p)) (p : Fin 512) (j : Fin 256) :
    up2 b (ix2 p j) = win (a j) 4 (r0 + p) := by
  pointwise [up2, k0_pay18]
  exact up_step (v := fun p => b (ix2 p j)) (s := 2) h0 (fun p => hb p j) p (mask2 p) (by omega) (fun h => congrArg (fun i => b (ix2 i j)) (Fin.ext (by first | rfl | (simp only []; omega))))

theorem up4_at {b : FVec Ideal S512x256 .f32} {a : ℕ → ℕ → EReal} {r0 : ℕ} (h0 : r0 % 512 = 0) (hb : ∀ (p : Fin 512) (j : Fin 256), b (ix2 p j) = win (a j) 4 (r0 + p)) (p : Fin 512) (j : Fin 256) :
    up4 b (ix2 p j) = win (a j) 8 (r0 + p) := by
  pointwise [up4, k0_pay18]
  exact up_step (v := fun p => b (ix2 p j)) (s := 4) h0 (fun p => hb p j) p (mask4 p) (by omega) (fun h => congrArg (fun i => b (ix2 i j)) (Fin.ext (by first | rfl | (simp only []; omega))))

theorem up8_at {b : FVec Ideal S512x256 .f32} {a : ℕ → ℕ → EReal} {r0 : ℕ} (h0 : r0 % 512 = 0) (hb : ∀ (p : Fin 512) (j : Fin 256), b (ix2 p j) = win (a j) 8 (r0 + p)) (p : Fin 512) (j : Fin 256) :
    up8 b (ix2 p j) = win (a j) 16 (r0 + p) := by
  pointwise [up8, k0_pay18]
  exact up_step (v := fun p => b (ix2 p j)) (s := 8) h0 (fun p => hb p j) p (mask8 p) Iff.rfl (fun h => congrArg (fun i => b (ix2 i j)) (Fin.ext (by first | rfl | (simp only []; omega))))

theorem up16_at {b : FVec Ideal S512x256 .f32} {a : ℕ → ℕ → EReal} {r0 : ℕ} (h0 : r0 % 512 = 0) (hb : ∀ (p : Fin 512) (j : Fin 256), b (ix2 p j) = win (a j) 16 (r0 + p)) (p : Fin 512) (j : Fin 256) :
    up16 b (ix2 p j) = win (a j) 32 (r0 + p) := by
  pointwise [up16, k0_pay18]
  exact up_step (v := fun p => b (ix2 p j)) (s := 16) h0 (fun p => hb p j) p (mask16 p) Iff.rfl (fun h => congrArg (fun i => b (ix2 i j)) (Fin.ext (by first | rfl | (simp only []; omega))))

theorem up32_at {b : FVec Ideal S512x256 .f32} {a : ℕ → ℕ → EReal} {r0 : ℕ} (h0 : r0 % 512 = 0) (hb : ∀ (p : Fin 512) (j : Fin 256), b (ix2 p j) = win (a j) 32 (r0 + p)) (p : Fin 512) (j : Fin 256) :
    up32 b (ix2 p j) = win (a j) 64 (r0 + p) := by
  pointwise [up32, k0_pay18]
  exact up_step (v := fun p => b (ix2 p j)) (s := 32) h0 (fun p => hb p j) p (mask32 p) Iff.rfl (fun h => congrArg (fun i => b (ix2 i j)) (Fin.ext (by first | rfl | (simp only []; omega))))

/-- The running sum of the gate's logarithm. -/
def sums (f : FVec Ideal S512x256 .f32) : FVec Ideal S512x256 .f32 := up32 (up16 (up8 (up4 (up2 (up1 (logs f))))))

theorem sums_at {f : FVec Ideal S512x256 .f32} {g : ℕ → ℕ → EReal} {r0 : ℕ} (h0 : r0 % 512 = 0) (hf : ∀ (p : Fin 512) (j : Fin 256), f (ix2 p j) = g (r0 + p) j) (p : Fin 512) (j : Fin 256) :
    sums f (ix2 p j) = win (fun r => lg2 (g r j)) 64 (r0 + p) :=
  up32_at (a := fun j r => lg2 (g r j)) h0 (up16_at (a := fun j r => lg2 (g r j)) h0 (up8_at (a := fun j r => lg2 (g r j)) h0 (up4_at (a := fun j r => lg2 (g r j)) h0
    (up2_at (a := fun j r => lg2 (g r j)) h0 (up1_at (a := fun j r => lg2 (g r j)) h0 (fun p j => (logs_at hf p j).trans (win_one (fun r => lg2 (g r j)) _).symm)))))) p j

theorem sums_lo (l l' : FVec Ideal S1x256 .f32) (u o : FVec Ideal S512x256 .f32) :
    k0_pay21 (F := Ideal) k0_pay18 (k0_pay19 l l' u o) (k0_pay20 l l' u o) = sums (k0_pay17 l l' u o) := rfl
theorem sums_hi (l l' : FVec Ideal S1x256 .f32) (u : FVec Ideal S512x256 .f32) (o : Ideal .f32) :
    k0_pay44 (F := Ideal) k0_pay41 (k0_pay42 l l' u o) k0_pay43 = sums (k0_pay40 l l' u o) := rfl

/-! The least running sum over the rows eight apart of one half tile. -/

theorem least_at {f : Fin 64 → EReal} {g : ℕ → EReal} (h : ∀ i : Fin 64, f i = g i) : Finset.fold min (Ideal.ofBits FTy.f32 2139095040#32) f Finset.univ = (Finset.range 64).inf g := by
  rw [show Ideal.ofBits FTy.f32 2139095040#32 = ⊤ by simp [Ideal.ofBits, Ideal.ieee]]
  show Finset.univ.inf f = _
  apply le_antisymm
  · refine Finset.le_inf fun i hi => ?_
    have hi' : i < 64 := Finset.mem_range.mp hi
    exact (Finset.inf_le (Finset.mem_univ (⟨i, hi'⟩ : Fin 64))).trans (le_of_eq (h ⟨i, hi'⟩))
  · exact Finset.le_inf fun i _ => (Finset.inf_le (Finset.mem_range.mpr i.isLt)).trans (le_of_eq (h i).symm)

/-- The least of two halves of 64. -/
theorem least_two (g : ℕ → EReal) : min ((Finset.range 64).inf g) ((Finset.range 64).inf fun i => g (64 + i)) = (Finset.range 128).inf g := by
  apply le_antisymm
  · refine Finset.le_inf fun i hi => ?_
    have hi' : i < 128 := Finset.mem_range.mp hi
    by_cases h : i < 64
    · exact (min_le_left _ _).trans (Finset.inf_le (Finset.mem_range.mpr h))
    · refine (min_le_right _ _).trans ((Finset.inf_le (f := fun i => g (64 + i)) (Finset.mem_range.mpr (show i - 64 < 64 by omega))).trans (le_of_eq (congrArg g (by omega))))
  · refine le_min (Finset.le_inf fun i hi => ?_) (Finset.le_inf fun i hi => ?_)
    · have hi' : i < 64 := Finset.mem_range.mp hi
      exact Finset.inf_le (Finset.mem_range.mpr (by omega))
    · have hi' : i < 64 := Finset.mem_range.mp hi
      exact Finset.inf_le (f := g) (Finset.mem_range.mpr (by omega))

section Least

variable {b b' : FVec Ideal S512x256 .f32} {g : ℕ → ℕ → EReal} {r0 : ℕ} (hb : ∀ (p : Fin 512) (j : Fin 256), b (ix2 p j) = g (r0 + p) j)
  (hb' : ∀ (p : Fin 512) (j : Fin 256), b' (ix2 p j) = g (r0 + 512 + p) j)

include hb in
theorem minA_at (s : Fin 8) (j : Fin 128) : k0_pay30 (F := Ideal) b (ix2 s j) = (Finset.range 64).inf fun i => g (r0 + s + 8 * i) j := by
  pointwise [k0_pay30]
  exact least_at fun i => (hb _ _).trans (congrArg (fun r => g r j) (by simp only []; omega))
include hb in
theorem minB_at (s : Fin 8) (j : Fin 128) : k0_pay36 (F := Ideal) b (ix2 s j) = (Finset.range 64).inf fun i => g (r0 + s + 8 * i) (128 + j) := by
  pointwise [k0_pay36]
  exact least_at fun i => (hb _ _).trans (congrArg (fun r => g r (128 + j)) (by simp only []; omega))

include hb hb' in
theorem leastA_at (s : Fin 8) (j : Fin 128) : k0_pay3 (F := Ideal) (k0_pay53 (k0_pay30 b) b') (ix5 0 0 0 s j) = (Finset.range 128).inf fun i => g (r0 + s + 8 * i) j := by
  pointwise [k0_pay3, k0_pay53]
  refine Eq.trans ?_ (least_two fun i => g (r0 + s + 8 * i) j)
  refine congrArg₂ min (minA_at hb s j) (least_at fun i => (hb' _ _).trans (congrArg (fun r => g r j) (by simp only []; omega)))
include hb hb' in
theorem leastB_at (s : Fin 8) (j : Fin 128) : k0_pay4 (F := Ideal) (k0_pay36 b) b' (ix5 0 0 0 s j) = (Finset.range 128).inf fun i => g (r0 + s + 8 * i) (128 + j) := by
  pointwise [k0_pay4]
  refine Eq.trans ?_ (least_two fun i => g (r0 + s + 8 * i) (128 + j))
  refine congrArg₂ min (minB_at hb s j) (least_at fun i => (hb' _ _).trans (congrArg (fun r => g r (128 + j)) (by simp only []; omega)))

end Least

end Cert.Kernel5Ideal.Hand
-- ==== Proof.PjTile.lean ====
module

public import proofs.«01_k».proof.Proof.PjPoint

/-! The tiles one grid step of the mixer's input projections writes: two halves of 512 rows, two heads of 128 columns. -/

@[expose] public section

set_option maxRecDepth 16384

noncomputable section

namespace Cert.Kernel5Ideal.Hand

open Cert.Kernel5Ideal Cert.Kernel5Ideal.Gen Cert.Spec
open Idealize.ShloMosaic Idealize.ShloMosaic.TcCoe

/-- The two halves of a tile of rows. -/
def lo (x : Vec Ideal S1024x2048 .bf16) : Vec Ideal S512x2048 .bf16 := View.ld x (Rect.unit ![0, 0] ![512, 2048] inb_S1024x2048_S512x2048_0_0)
def hi (x : Vec Ideal S1024x2048 .bf16) : Vec Ideal S512x2048 .bf16 := View.ld x (Rect.unit ![512, 0] ![512, 2048] inb_S1024x2048_S512x2048_512_0)
/-- The gate of each half. -/
def gateLo (x : Vec Ideal S1024x2048 .bf16) (a b d : Vec Ideal S1x256 .f32) (w : Vec Ideal S1x2048x256 .bf16) : FVec Ideal S512x256 .f32 :=
  k0_pay17 (k0_pay12 a b d) (k0_pay14 a b d) (k0_pay15 (lo x) w) k0_pay16
def gateHi (x : Vec Ideal S1024x2048 .bf16) (a b d : Vec Ideal S1x256 .f32) (w : Vec Ideal S1x2048x256 .bf16) : FVec Ideal S512x256 .f32 :=
  k0_pay40 (k0_pay12 a b d) (k0_pay38 (k0_pay12 a b d)) (k0_pay39 (hi x) w) (FloatOps.ofBits FTy.f32 1065353216#32)

/-! The six tiles, of two halves `f` and `g`. -/
def tileQ (f g : FVec Ideal S512x256 .f32) : Vec Ideal S1x2x1024x128 .bf16 :=
  View.canon [⟨Rect.unit ![0, 1, 512, 0] ![1, 1, 512, 128] inb_S1x2x1024x128_S1x1x512x128_0_1_512_0, k0_pay54 g⟩,
    ⟨Rect.unit ![0, 0, 512, 0] ![1, 1, 512, 128] inb_S1x2x1024x128_S1x1x512x128_0_0_512_0, k0_pay49 (k0_pay48 g)⟩,
    ⟨Rect.unit ![0, 1, 0, 0] ![1, 1, 512, 128] inb_S1x2x1024x128_S1x1x512x128_0_1_0_0, k0_pay31 f⟩,
    ⟨Rect.unit ![0, 0, 0, 0] ![1, 1, 512, 128] inb_S1x2x1024x128_S1x1x512x128_0_0_0_0, k0_pay26 (k0_pay25 f)⟩]
def tileK (f g : FVec Ideal S512x256 .f32) : Vec Ideal S1x2x1024x128 .bf16 :=
  View.canon [⟨Rect.unit ![0, 1, 512, 0] ![1, 1, 512, 128] inb_S1x2x1024x128_S1x1x512x128_0_1_512_0, k0_pay55 g⟩,
    ⟨Rect.unit ![0, 0, 512, 0] ![1, 1, 512, 128] inb_S1x2x1024x128_S1x1x512x128_0_0_512_0, k0_pay50 g⟩,
    ⟨Rect.unit ![0, 1, 0, 0] ![1, 1, 512, 128] inb_S1x2x1024x128_S1x1x512x128_0_1_0_0, k0_pay32 f⟩,
    ⟨Rect.unit ![0, 0, 0, 0] ![1, 1, 512, 128] inb_S1x2x1024x128_S1x1x512x128_0_0_0_0, k0_pay27 f⟩]
def tileB (f g : FVec Ideal S512x256 .f32) : Vec Ideal S1x2x1024x128 .f32 :=
  View.canon [⟨Rect.unit ![0, 1, 512, 0] ![1, 1, 512, 128] inb_S1x2x1024x128_S1x1x512x128_0_1_512_0, k0_pay1 (k0_pay56 g)⟩,
    ⟨Rect.unit ![0, 0, 512, 0] ![1, 1, 512, 128] inb_S1x2x1024x128_S1x1x512x128_0_0_512_0, k0_pay51 g⟩,
    ⟨Rect.unit ![0, 1, 0, 0] ![1, 1, 512, 128] inb_S1x2x1024x128_S1x1x512x128_0_1_0_0, k0_pay34 (k0_pay33 f)⟩,
    ⟨Rect.unit ![0, 0, 0, 0] ![1, 1, 512, 128] inb_S1x2x1024x128_S1x1x512x128_0_0_0_0, k0_pay28 f⟩]
def tileV (f g : FVec Ideal S512x256 .f32) : Vec Ideal S1x2x1024x128 .bf16 :=
  View.canon [⟨Rect.unit ![0, 1, 512, 0] ![1, 1, 512, 128] inb_S1x2x1024x128_S1x1x512x128_0_1_512_0, k0_pay2 g⟩,
    ⟨Rect.unit ![0, 0, 512, 0] ![1, 1, 512, 128] inb_S1x2x1024x128_S1x1x512x128_0_0_512_0, k0_pay52 g⟩,
    ⟨Rect.unit ![0, 1, 0, 0] ![1, 1, 512, 128] inb_S1x2x1024x128_S1x1x512x128_0_1_0_0, k0_pay35 f⟩,
    ⟨Rect.unit ![0, 0, 0, 0] ![1, 1, 512, 128] inb_S1x2x1024x128_S1x1x512x128_0_0_0_0, k0_pay29 f⟩]
def tileM (f g : FVec Ideal S512x256 .f32) : Vec Ideal S1x2x1x8x128 .f32 :=
  View.canon [⟨Rect.unit ![0, 1, 0, 0, 0] ![1, 1, 1, 8, 128] inb_S1x2x1x8x128_S1x1x1x8x128_0_1_0_0_0, k0_pay4 (k0_pay36 f) g⟩,
    ⟨Rect.unit ![0, 0, 0, 0, 0] ![1, 1, 1, 8, 128] inb_S1x2x1x8x128_S1x1x1x8x128_0_0_0_0_0, k0_pay3 (k0_pay53 (k0_pay30 f) g)⟩]
def tileZ (f g : FVec Ideal S512x256 .bf16) : Vec Ideal S1024x256 .bf16 :=
  View.canon [⟨Rect.unit ![512, 0] ![512, 256] inb_S1024x256_S512x256_512_0, g⟩, ⟨Rect.unit ![0, 0] ![512, 256] inb_S1024x256_S512x256_0_0, f⟩]

section Tiles

variable {f g : FVec Ideal S512x256 .f32} {Y : ℕ → ℕ → EReal} {R : ℕ} (hf : ∀ (p : Fin 512) (j : Fin 256), f (ix2 p j) = Y (R + p) j)
  (hg : ∀ (p : Fin 512) (j : Fin 256), g (ix2 p j) = Y (R + 512 + p) j)

theorem piece {a b r c : ℕ} (h : a = r) (h' : b = c) : Y a b = Y r c := by rw [h, h']

theorem ix4_eta (x : S1x1x512x128.Idx) : x = ix4 0 0 (x 2) (x 3) := by
  funext a
  match a with
  | 0 => exact Subsingleton.elim (α := Fin 1) _ _
  | 1 => exact Subsingleton.elim (α := Fin 1) _ _
  | 2 => rfl
  | 3 => rfl
theorem ix5_eta (x : S1x1x1x8x128.Idx) : x = ix5 0 0 0 (x 3) (x 4) := by
  funext a
  match a with
  | 0 => exact Subsingleton.elim (α := Fin 1) _ _
  | 1 => exact Subsingleton.elim (α := Fin 1) _ _
  | 2 => exact Subsingleton.elim (α := Fin 1) _ _
  | 3 => rfl
  | 4 => rfl
theorem ix2_eta (x : S512x256.Idx) : x = ix2 (x 0) (x 1) := by
  funext a
  match a with
  | 0 => rfl
  | 1 => rfl

include hf hg in
theorem tileQ_at (y : S1x2x1024x128.Idx) : tileQ f g y = Y (R + (y 2).val) (128 * (y 1).val + (y 3).val) := by
  unfold tileQ
  canon_tiles x h
  · rw [ix4_eta x]
    pointwise [k0_pay54]
    exact (hg _ _).trans (piece (by first | omega | rfl | (simp only []; omega)) (by first | omega | rfl | (simp only []; omega)))
  · rw [ix4_eta x]
    pointwise [k0_pay49, k0_pay48]
    exact (hg _ _).trans (piece (by first | omega | rfl | (simp only []; omega)) (by first | omega | rfl | (simp only []; omega)))
  · rw [ix4_eta x]
    pointwise [k0_pay31]
    exact (hf _ _).trans (piece (by first | omega | rfl | (simp only []; omega)) (by first | omega | rfl | (simp only []; omega)))
  · rw [ix4_eta x]
    pointwise [k0_pay26, k0_pay25]
    exact (hf _ _).trans (piece (by first | omega | rfl | (simp only []; omega)) (by first | omega | rfl | (simp only []; omega)))

include hf hg in
theorem tileK_at (y : S1x2x1024x128.Idx) : tileK f g y = Y (R + (y 2).val) (128 * (y 1).val + (y 3).val) := by
  unfold tileK
  canon_tiles x h
  · rw [ix4_eta x]
    pointwise [k0_pay55]
    exact (hg _ _).trans (piece (by first | omega | rfl | (simp only []; omega)) (by first | omega | rfl | (simp only []; omega)))
  · rw [ix4_eta x]
    pointwise [k0_pay50]
    exact (hg _ _).trans (piece (by first | omega | rfl | (simp only []; omega)) (by first | omega | rfl | (simp only []; omega)))
  · rw [ix4_eta x]
    pointwise [k0_pay32]
    exact (hf _ _).trans (piece (by first | omega | rfl | (simp only []; omega)) (by first | omega | rfl | (simp only []; omega)))
  · rw [ix4_eta x]
    pointwise [k0_pay27]
    exact (hf _ _).trans (piece (by first | omega | rfl | (simp only []; omega)) (by first | omega | rfl | (simp only []; omega)))

include hf hg in
theorem tileB_at (y : S1x2x1024x128.Idx) : tileB f g y = Y (R + (y 2).val) (128 * (y 1).val + (y 3).val) := by
  unfold tileB
  canon_tiles x h
  · rw [ix4_eta x]
    pointwise [k0_pay1, k0_pay56]
    exact (hg _ _).trans (piece (by first | omega | rfl | (simp only []; omega)) (by first | omega | rfl | (simp only []; omega)))
  · rw [ix4_eta x]
    pointwise [k0_pay51]
    exact (hg _ _).trans (piece (by first | omega | rfl | (simp only []; omega)) (by first | omega | rfl | (simp only []; omega)))
  · rw [ix4_eta x]
    pointwise [k0_pay34, k0_pay33]
    exact (hf _ _).trans (piece (by first | omega | rfl | (simp only []; omega)) (by first | omega | rfl | (simp only []; omega)))
  · rw [ix4_eta x]
    pointwise [k0_pay28]
    exact (hf _ _).trans (piece (by first | omega | rfl | (simp only []; omega)) (by first | omega | rfl | (simp only []; omega)))

include hf hg in
theorem tileV_at (y : S1x2x1024x128.Idx) : tileV f g y = Y (R + (y 2).val) (128 * (y 1).val + (y 3).val) := by
  unfold tileV
  canon_tiles x h
  · rw [ix4_eta x]
    pointwise [k0_pay2]
    exact (hg _ _).trans (piece (by first | omega | rfl | (simp only []; omega)) (by first | omega | rfl | (simp only []; omega)))
  · rw [ix4_eta x]
    pointwise [k0_pay52]
    exact (hg _ _).trans (piece (by first | omega | rfl | (simp only []; omega)) (by first | omega | rfl | (simp only []; omega)))
  · rw [ix4_eta x]
    pointwise [k0_pay35]
    exact (hf _ _).trans (piece (by first | omega | rfl | (simp only []; omega)) (by first | omega | rfl | (simp only []; omega)))
  · rw [ix4_eta x]
    pointwise [k0_pay29]
    exact (hf _ _).trans (piece (by first | omega | rfl | (simp only []; omega)) (by first | omega | rfl | (simp only []; omega)))

include hf hg in
theorem tileM_at (y : S1x2x1x8x128.Idx) : tileM f g y = (Finset.range 128).inf fun i => Y (R + (y 3).val + 8 * i) (128 * (y 1).val + (y 4).val) := by
  unfold tileM
  canon_tiles x h
  · rw [ix5_eta x]
    refine (leastB_at hf hg _ _).trans ?_
    rw [show (y 3).val = (x 3).val by omega, show 128 * (y 1).val + (y 4).val = 128 + (x 4).val by omega]
  · rw [ix5_eta x]
    refine (leastA_at hf hg _ _).trans ?_
    rw [show (y 3).val = (x 3).val by omega, show 128 * (y 1).val + (y 4).val = (x 4).val by omega]

include hf hg in
theorem tileZ_at (y : S1024x256.Idx) : tileZ f g y = Y (R + (y 0).val) (y 1).val := by
  unfold tileZ
  canon_tiles x h
  · rw [ix2_eta x]
    exact (hg _ _).trans (piece (by omega) (by omega))
  · rw [ix2_eta x]
    exact (hf _ _).trans (piece (by omega) (by omega))

end Tiles

section Halves

variable {X W T : ℕ → ℕ → EReal} {R c0 : ℕ} {x : Vec Ideal S1024x2048 .bf16} (hx : ∀ (p : Fin 1024) (k : Fin 2048), x (ix2 p k) = X (R + p) k)

include hx in
theorem lo_at (p : Fin 512) (k : Fin 2048) : lo x (ix2 p k) = X (R + p) k := by
  pointwise [lo]
  exact (hx _ _).trans (piece (by first | omega | rfl | (simp only []; omega)) (by first | omega | rfl | (simp only []; omega)))
include hx in
theorem hi_at (p : Fin 512) (k : Fin 2048) : hi x (ix2 p k) = X (R + 512 + p) k := by
  pointwise [hi]
  exact (hx _ _).trans (piece (by first | omega | rfl | (simp only []; omega)) (by first | omega | rfl | (simp only []; omega)))

variable {a b d : Vec Ideal S1x256 .f32} (ha : ∀ j : Fin 256, a (ix2 0 j) = T 0 (c0 + j))
    (hb : ∀ j : Fin 256, b (ix2 0 j) = T 1 (c0 + j)) (hd : ∀ j : Fin 256, d (ix2 0 j) = T 2 (c0 + j))
    {w : Vec Ideal S1x2048x256 .bf16} (hw : ∀ (k : Fin 2048) (j : Fin 256), w (ix3 0 k j) = W k (2048 + (c0 + j)))

include ha hb hd in
theorem low_rest (j : Fin 256) : k0_pay14 (F := Ideal) a b d (ix2 0 j) = 1 - low T (c0 + j) :=
  rest_at (L := low T) (low_at ha hb hd) j

include hx ha hb hd hw in
theorem gateLo_at (p : Fin 512) (j : Fin 256) : gateLo x a b d w (ix2 p j) = fgate T X W (R + p) (c0 + j) :=
  (f_at (L := fun j => low T (c0 + j)) (c0 := 2048 + c0) (lo_at hx) (fun k j => (hw k j).trans (piece rfl (by omega))) (low_at ha hb hd) (low_rest ha hb hd) p j).trans (by rw [Nat.add_assoc 2048, fgate])
include hx ha hb hd hw in
theorem gateHi_at (p : Fin 512) (j : Fin 256) : gateHi x a b d w (ix2 p j) = fgate T X W (R + 512 + p) (c0 + j) :=
  (f_at (L := fun j => low T (c0 + j)) (c0 := 2048 + c0) (hi_at hx) (fun k j => (hw k j).trans (piece rfl (by omega))) (low_at ha hb hd) (low_rest ha hb hd) p j).trans (by rw [Nat.add_assoc 2048, fgate])

theorem one_sub_at {f : FVec Ideal S512x256 .f32} {G : ℕ → ℕ → EReal} {r0 : ℕ} (hf : ∀ (p : Fin 512) (j : Fin 256), f (ix2 p j) = G (r0 + p) j) (p : Fin 512) (j : Fin 256) :
    k0_pay22 (F := Ideal) f (ix2 p j) = 1 - G (r0 + p) j := by
  pointwise [k0_pay22]
  rw [hf]

end Halves

end Cert.Kernel5Ideal.Hand
-- ==== Proof.PjValue.lean ====
module

public import proofs.«01_k».proof.Proof.PjTile
public import proofs.«01_k».proof.Proof.Gen.Kernel5Ideal.Frame
public import Idealize.ShloMosaic.Lib.Pipeline.ValueKit
public import Idealize.ShloMosaic.Lib.Pipeline.ValueKit.Held
public import Idealize.ShloMosaic.Lib.Pipeline.ReadBack

/-! What each grid step of the mixer's input projections writes, read at rows and columns of the arguments. -/

@[expose] public section

set_option maxRecDepth 16384

noncomputable section

namespace Cert.Kernel5Ideal.Hand

open Cert.Kernel5Ideal Cert.Kernel5Ideal.Gen Cert.Spec
open Idealize.ShloMosaic Idealize.ShloMosaic.TcCoe Idealize.SL.Sem

variable (m : (ℓ : Loc nD τ sig) → Buf (Elt Ideal) ℓ) (c : Dev nD)

abbrev argX : Vec Ideal S8192x2048 .bf16 := m ((c : Thread nD τ).loc main_arg0)
abbrev argT : Vec Ideal S3x2048 .f32 := m ((c : Thread nD τ).loc main_arg1)
abbrev argW : Vec Ideal S2048x8192 .f32 := m ((c : Thread nD τ).loc main_arg2)

/-- The arguments read at natural numbers. -/
def xN (x : Vec Ideal S8192x2048 .bf16) : ℕ → ℕ → EReal := at2 (a := 8192) (b := 2048) fun r k => x (ix2 r k)
def tN (x : Vec Ideal S3x2048 .f32) : ℕ → ℕ → EReal := at2 (a := 3) (b := 2048) fun r k => x (ix2 r k)
def wN (x : Vec Ideal S2048x8192 .f32) : ℕ → ℕ → EReal := at2 (a := 2048) (b := 8192) fun r k => x (ix2 r k)

theorem idx : ∀ t : Fin cfg0.N, win0_0.index t = ![t.val % 8, 0] ∧ win0_1.index t = ![0, 1 + t.val / 8] ∧ win0_2.index t = ![0, 1 + t.val / 8] ∧ win0_3.index t = ![0, 9 + t.val / 8] ∧ win0_4.index t = ![0, 17 + t.val / 8] ∧ win0_5.index t = ![0, 25 + t.val / 8] ∧ t.val / 8 < 7 :=
  (by decide +kernel : ∀ t : Fin grid0.N, _)

theorem blk0 (t : Fin cfg0.N) (p : Fin 1024) (k : Fin 2048) : (iblk m c 0 t : Vec Ideal S1024x2048 .bf16) (ix2 p k) = xN (argX m c) (1024 * (t.val % 8) + p) k := by
  refine Eq.trans ?_ (at2_of _ (show 1024 * (t.val % 8) + p.val < 8192 by omega) k.isLt).symm
  blk_point [iblk, V, idx t]
theorem blk1 (t : Fin cfg0.N) (r : Fin 3) (k : Fin 256) : (iblk m c 1 t : Vec Ideal S3x256 .f32) (ix2 r k) = tN (argT m c) r (256 * (1 + t.val / 8) + k) := by
  have ht : t.val / 8 < 7 := (idx t).2.2.2.2.2.2
  refine Eq.trans ?_ (at2_of _ r.isLt (show 256 * (1 + t.val / 8) + k.val < 2048 by omega)).symm
  blk_point [iblk, V, idx t]
theorem blk2 (t : Fin cfg0.N) (r : Fin 2048) (k : Fin 256) : (iblk m c 2 t : Vec Ideal S2048x256 .f32) (ix2 r k) = wN (argW m c) r (0 + (256 * (1 + t.val / 8) + k)) := by
  have ht : t.val / 8 < 7 := (idx t).2.2.2.2.2.2
  refine Eq.trans ?_ (at2_of _ r.isLt (show 0 + (256 * (1 + t.val / 8) + k.val) < 8192 by omega)).symm
  blk_point [iblk, V, idx t]
theorem blk3 (t : Fin cfg0.N) (r : Fin 2048) (k : Fin 256) : (iblk m c 3 t : Vec Ideal S2048x256 .f32) (ix2 r k) = wN (argW m c) r (2048 + (256 * (1 + t.val / 8) + k)) := by
  have ht : t.val / 8 < 7 := (idx t).2.2.2.2.2.2
  refine Eq.trans ?_ (at2_of _ r.isLt (show 2048 + (256 * (1 + t.val / 8) + k.val) < 8192 by omega)).symm
  blk_point [iblk, V, idx t]
theorem blk4 (t : Fin cfg0.N) (r : Fin 2048) (k : Fin 256) : (iblk m c 4 t : Vec Ideal S2048x256 .f32) (ix2 r k) = wN (argW m c) r (4096 + (256 * (1 + t.val / 8) + k)) := by
  have ht : t.val / 8 < 7 := (idx t).2.2.2.2.2.2
  refine Eq.trans ?_ (at2_of _ r.isLt (show 4096 + (256 * (1 + t.val / 8) + k.val) < 8192 by omega)).symm
  blk_point [iblk, V, idx t]
theorem blk5 (t : Fin cfg0.N) (r : Fin 2048) (k : Fin 256) : (iblk m c 5 t : Vec Ideal S2048x256 .f32) (ix2 r k) = wN (argW m c) r (6144 + (256 * (1 + t.val / 8) + k)) := by
  have ht : t.val / 8 < 7 := (idx t).2.2.2.2.2.2
  refine Eq.trans ?_ (at2_of _ r.isLt (show 6144 + (256 * (1 + t.val / 8) + k.val) < 8192 by omega)).symm
  blk_point [iblk, V, idx t]
/-- Row 0 of the table's block. -/
def row0 (t : Fin cfg0.N) : Vec Ideal S1x256 .f32 := View.ld (iblk m c 1 t) (Rect.unit ![0, 0] ![1, 256] inb_S3x256_S1x256_0_0)
theorem row0_at (t : Fin cfg0.N) (j : Fin 256) : row0 m c t (ix2 0 j) = tN (argT m c) 0 (256 * (1 + t.val / 8) + j) := by
  refine Eq.trans ?_ (blk1 m c t 0 j)
  pointwise [row0]
  try rfl
/-- Row 1 of the table's block. -/
def row1 (t : Fin cfg0.N) : Vec Ideal S1x256 .f32 := View.ld (iblk m c 1 t) (Rect.unit ![1, 0] ![1, 256] inb_S3x256_S1x256_1_0)
theorem row1_at (t : Fin cfg0.N) (j : Fin 256) : row1 m c t (ix2 0 j) = tN (argT m c) 1 (256 * (1 + t.val / 8) + j) := by
  refine Eq.trans ?_ (blk1 m c t 1 j)
  pointwise [row1]
  try rfl
/-- Row 2 of the table's block. -/
def row2 (t : Fin cfg0.N) : Vec Ideal S1x256 .f32 := View.ld (iblk m c 1 t) (Rect.unit ![2, 0] ![1, 256] inb_S3x256_S1x256_2_0)
theorem row2_at (t : Fin cfg0.N) (j : Fin 256) : row2 m c t (ix2 0 j) = tN (argT m c) 2 (256 * (1 + t.val / 8) + j) := by
  refine Eq.trans ?_ (blk1 m c t 2 j)
  pointwise [row2]
  try rfl

/-! ## The weights held in scratch for a group's eight steps -/

/-- The scratch after a step. -/
def held (n : ℕ) (h : n < cfg0.N) : Vec Ideal S4x2048x256 .bf16 := (outsAt0 m c n h).2.2.2.2.2.2.2.2.2
/-- The four casts a group begins with, stacked. -/
def casts (t : Fin cfg0.N) : Vec Ideal S4x2048x256 .bf16 :=
  View.canon [⟨Rect.unit ![3, 0, 0] ![1, 2048, 256] inb_S4x2048x256_S1x2048x256_3_0_0, k0_pay11 (iblk m c 5 t)⟩,
    ⟨Rect.unit ![2, 0, 0] ![1, 2048, 256] inb_S4x2048x256_S1x2048x256_2_0_0, k0_pay10 (iblk m c 4 t)⟩,
    ⟨Rect.unit ![1, 0, 0] ![1, 2048, 256] inb_S4x2048x256_S1x2048x256_1_0_0, k0_pay9 (iblk m c 3 t)⟩,
    ⟨Rect.unit ![0, 0, 0] ![1, 2048, 256] inb_S4x2048x256_S1x2048x256_0_0_0, k0_pay8 (iblk m c 2 t)⟩]

theorem held_first (t : Fin cfg0.N) (h : t.val % 8 = 0) : held m c t.val t.isLt = casts m c t := by
  unfold held
  rw [outsAt0_A m c t h]
  frame_out
theorem held_later (t : Fin cfg0.N) (h : ¬t.val % 8 = 0) : held m c t.val t.isLt = held m c (t.val - 1) (Nat.lt_of_le_of_lt (Nat.sub_le _ _) t.isLt) := by
  unfold held
  rw [outsAt0_B m c t h]
  rfl

theorem held_eq (t : Fin cfg0.N) : held m c t.val t.isLt = casts m c ⟨8 * (t.val / 8), Nat.lt_of_le_of_lt (Nat.mul_div_le _ _) t.isLt⟩ :=
  funext fun i => Pipeline.eq_of_write_hold_apply (fun n h => held m c n h) 8 (casts m c) (fun t h i => congrFun (held_first m c t h) i) (fun t h i => congrFun (held_later m c t h) i) t i

theorem ix3_eta {a b d : ℕ} (x : (⟨3, ![a, b, d]⟩ : Shape).Idx) : x = ix3 (x 0) (x 1) (x 2) := by
  funext i
  match i with
  | 0 => rfl
  | 1 => rfl
  | 2 => rfl

theorem cast0 (t : Fin cfg0.N) (k : Fin 2048) (j : Fin 256) : k0_pay8 (F := Ideal) (iblk m c 2 t) (ix3 0 k j) = wN (argW m c) k (0 + (256 * (1 + t.val / 8) + j)) := by
  refine Eq.trans ?_ (blk2 m c t k j)
  pointwise [k0_pay8]
theorem cast1 (t : Fin cfg0.N) (k : Fin 2048) (j : Fin 256) : k0_pay9 (F := Ideal) (iblk m c 3 t) (ix3 0 k j) = wN (argW m c) k (2048 + (256 * (1 + t.val / 8) + j)) := by
  refine Eq.trans ?_ (blk3 m c t k j)
  pointwise [k0_pay9]
theorem cast2 (t : Fin cfg0.N) (k : Fin 2048) (j : Fin 256) : k0_pay10 (F := Ideal) (iblk m c 4 t) (ix3 0 k j) = wN (argW m c) k (4096 + (256 * (1 + t.val / 8) + j)) := by
  refine Eq.trans ?_ (blk4 m c t k j)
  pointwise [k0_pay10]
theorem cast3 (t : Fin cfg0.N) (k : Fin 2048) (j : Fin 256) : k0_pay11 (F := Ideal) (iblk m c 5 t) (ix3 0 k j) = wN (argW m c) k (6144 + (256 * (1 + t.val / 8) + j)) := by
  refine Eq.trans ?_ (blk5 m c t k j)
  pointwise [k0_pay11]

theorem casts_at (t : Fin cfg0.N) (y : S4x2048x256.Idx) : casts m c t y = wN (argW m c) (y 1).val (2048 * (y 0).val + (256 * (1 + t.val / 8) + (y 2).val)) := by
  unfold casts
  canon_tiles x h
  · have e : x = ix3 0 (x 1) (x 2) := by
      funext a
      match a with
      | 0 => exact Subsingleton.elim (α := Fin 1) _ _
      | 1 => rfl
      | 2 => rfl
    rw [e]
    exact (cast3 m c t _ _).trans (piece (by omega) (by omega))
  · have e : x = ix3 0 (x 1) (x 2) := by
      funext a
      match a with
      | 0 => exact Subsingleton.elim (α := Fin 1) _ _
      | 1 => rfl
      | 2 => rfl
    rw [e]
    exact (cast2 m c t _ _).trans (piece (by omega) (by omega))
  · have e : x = ix3 0 (x 1) (x 2) := by
      funext a
      match a with
      | 0 => exact Subsingleton.elim (α := Fin 1) _ _
      | 1 => rfl
      | 2 => rfl
    rw [e]
    exact (cast1 m c t _ _).trans (piece (by omega) (by omega))
  · have e : x = ix3 0 (x 1) (x 2) := by
      funext a
      match a with
      | 0 => exact Subsingleton.elim (α := Fin 1) _ _
      | 1 => rfl
      | 2 => rfl
    rw [e]
    exact (cast0 m c t _ _).trans (piece (by omega) (by omega))

/-- The weights a step uses, part by part: the casts at a group's first step, the held scratch afterwards. -/
def IsPart (e : ℕ) (t : Fin cfg0.N) (w : Vec Ideal S1x2048x256 .bf16) : Prop :=
  ∀ (k : Fin 2048) (j : Fin 256), w (ix3 0 k j) = wN (argW m c) k (2048 * e + (256 * (1 + t.val / 8) + j))

theorem held_at (t : Fin cfg0.N) (h : ¬t.val % 8 = 0) (y : S4x2048x256.Idx) :
    held m c (t.val - 1) (Nat.lt_of_le_of_lt (Nat.sub_le _ _) t.isLt) y = wN (argW m c) (y 1).val (2048 * (y 0).val + (256 * (1 + t.val / 8) + (y 2).val)) := by
  have e := held_eq m c ⟨t.val - 1, Nat.lt_of_le_of_lt (Nat.sub_le _ _) t.isLt⟩
  refine (congrFun e y).trans ((casts_at m c _ y).trans ?_)
  refine piece rfl ?_
  show 2048 * (y 0).val + (256 * (1 + 8 * ((t.val - 1) / 8) / 8) + (y 2).val) = _
  omega

def kept0 (t : Fin cfg0.N) : Vec Ideal S1x2048x256 .bf16 := View.ld (held m c (t.val - 1) (Nat.lt_of_le_of_lt (Nat.sub_le _ _) t.isLt)) (Rect.unit ![0, 0, 0] ![1, 2048, 256] inb_S4x2048x256_S1x2048x256_0_0_0)
theorem kept0_part (t : Fin cfg0.N) (h : ¬t.val % 8 = 0) : IsPart m c 0 t (kept0 m c t) := by
  intro k j
  refine Eq.trans ?_ (held_at m c t h (ix3 0 k j))
  pointwise [kept0]
  try rfl
theorem first0_part (t : Fin cfg0.N) : IsPart m c 0 t (k0_pay8 (iblk m c 2 t)) := fun k j => cast0 m c t k j

def kept1 (t : Fin cfg0.N) : Vec Ideal S1x2048x256 .bf16 := View.ld (held m c (t.val - 1) (Nat.lt_of_le_of_lt (Nat.sub_le _ _) t.isLt)) (Rect.unit ![1, 0, 0] ![1, 2048, 256] inb_S4x2048x256_S1x2048x256_1_0_0)
theorem kept1_part (t : Fin cfg0.N) (h : ¬t.val % 8 = 0) : IsPart m c 1 t (kept1 m c t) := by
  intro k j
  refine Eq.trans ?_ (held_at m c t h (ix3 1 k j))
  pointwise [kept1]
  try rfl
theorem first1_part (t : Fin cfg0.N) : IsPart m c 1 t (k0_pay9 (iblk m c 3 t)) := fun k j => cast1 m c t k j

def kept2 (t : Fin cfg0.N) : Vec Ideal S1x2048x256 .bf16 := View.ld (held m c (t.val - 1) (Nat.lt_of_le_of_lt (Nat.sub_le _ _) t.isLt)) (Rect.unit ![2, 0, 0] ![1, 2048, 256] inb_S4x2048x256_S1x2048x256_2_0_0)
theorem kept2_part (t : Fin cfg0.N) (h : ¬t.val % 8 = 0) : IsPart m c 2 t (kept2 m c t) := by
  intro k j
  refine Eq.trans ?_ (held_at m c t h (ix3 2 k j))
  pointwise [kept2]
  try rfl
theorem first2_part (t : Fin cfg0.N) : IsPart m c 2 t (k0_pay10 (iblk m c 4 t)) := fun k j => cast2 m c t k j

def kept3 (t : Fin cfg0.N) : Vec Ideal S1x2048x256 .bf16 := View.ld (held m c (t.val - 1) (Nat.lt_of_le_of_lt (Nat.sub_le _ _) t.isLt)) (Rect.unit ![3, 0, 0] ![1, 2048, 256] inb_S4x2048x256_S1x2048x256_3_0_0)
theorem kept3_part (t : Fin cfg0.N) (h : ¬t.val % 8 = 0) : IsPart m c 3 t (kept3 m c t) := by
  intro k j
  refine Eq.trans ?_ (held_at m c t h (ix3 3 k j))
  pointwise [kept3]
  try rfl
theorem first3_part (t : Fin cfg0.N) : IsPart m c 3 t (k0_pay11 (iblk m c 5 t)) := fun k j => cast3 m c t k j

/-! ## What a step writes -/

theorem q_step (t : Fin cfg0.N) : ∃ w, IsPart m c 0 t w ∧ (outsAt0 m c t.val t.isLt).1 = tileQ (k0_pay13 (lo (iblk m c 0 t)) w) (k0_pay37 (hi (iblk m c 0 t)) w) := by
  by_cases h : t.val % 8 = 0
  · refine ⟨_, first0_part m c t, ?_⟩
    rw [outsAt0_A m c t h]
    frame_open
    simp (disch := decide) only [↓ View.readCov_skip, ↓ View.readCov_cons_toLoadRect, ↓ View.readCov_fill]
    frame_out
    rfl
  · refine ⟨_, kept0_part m c t h, ?_⟩
    rw [outsAt0_B m c t h]
    frame_out
    simp only [read_unread_whole]
    rfl
theorem k_step (t : Fin cfg0.N) : ∃ w, IsPart m c 1 t w ∧ (outsAt0 m c t.val t.isLt).2.1 = tileK (k0_pay22 (gateLo (iblk m c 0 t) (row0 m c t) (row1 m c t) (row2 m c t) w)) (k0_pay45 (gateHi (iblk m c 0 t) (row0 m c t) (row1 m c t) (row2 m c t) w)) := by
  by_cases h : t.val % 8 = 0
  · refine ⟨_, first1_part m c t, ?_⟩
    rw [outsAt0_A m c t h]
    frame_open
    simp (disch := decide) only [↓ View.readCov_skip, ↓ View.readCov_cons_toLoadRect, ↓ View.readCov_fill]
    frame_out
    rfl
  · refine ⟨_, kept1_part m c t h, ?_⟩
    rw [outsAt0_B m c t h]
    frame_out
    simp only [read_unread_whole]
    rfl
theorem b_step (t : Fin cfg0.N) : ∃ w, IsPart m c 1 t w ∧ (outsAt0 m c t.val t.isLt).2.2.1 = tileB (sums (gateLo (iblk m c 0 t) (row0 m c t) (row1 m c t) (row2 m c t) w)) (sums (gateHi (iblk m c 0 t) (row0 m c t) (row1 m c t) (row2 m c t) w)) := by
  by_cases h : t.val % 8 = 0
  · refine ⟨_, first1_part m c t, ?_⟩
    rw [outsAt0_A m c t h]
    frame_open
    simp (disch := decide) only [↓ View.readCov_skip, ↓ View.readCov_cons_toLoadRect, ↓ View.readCov_fill]
    frame_out
    rfl
  · refine ⟨_, kept1_part m c t h, ?_⟩
    rw [outsAt0_B m c t h]
    frame_out
    simp only [read_unread_whole]
    rfl
theorem m_step (t : Fin cfg0.N) : ∃ w, IsPart m c 1 t w ∧ (outsAt0 m c t.val t.isLt).2.2.2.1 = tileM (sums (gateLo (iblk m c 0 t) (row0 m c t) (row1 m c t) (row2 m c t) w)) (sums (gateHi (iblk m c 0 t) (row0 m c t) (row1 m c t) (row2 m c t) w)) := by
  by_cases h : t.val % 8 = 0
  · refine ⟨_, first1_part m c t, ?_⟩
    rw [outsAt0_A m c t h]
    frame_open
    simp (disch := decide) only [↓ View.readCov_skip, ↓ View.readCov_cons_toLoadRect, ↓ View.readCov_fill]
    frame_out
    rfl
  · refine ⟨_, kept1_part m c t h, ?_⟩
    rw [outsAt0_B m c t h]
    frame_out
    simp only [read_unread_whole]
    rfl
theorem v_step (t : Fin cfg0.N) : ∃ w, IsPart m c 2 t w ∧ (outsAt0 m c t.val t.isLt).2.2.2.2.1 = tileV (k0_pay23 (lo (iblk m c 0 t)) w) (k0_pay46 (hi (iblk m c 0 t)) w) := by
  by_cases h : t.val % 8 = 0
  · refine ⟨_, first2_part m c t, ?_⟩
    rw [outsAt0_A m c t h]
    frame_open
    simp (disch := decide) only [↓ View.readCov_skip, ↓ View.readCov_cons_toLoadRect, ↓ View.readCov_fill]
    frame_out
    rfl
  · refine ⟨_, kept2_part m c t h, ?_⟩
    rw [outsAt0_B m c t h]
    frame_out
    simp only [read_unread_whole]
    rfl
theorem z_step (t : Fin cfg0.N) : ∃ w, IsPart m c 3 t w ∧ (outsAt0 m c t.val t.isLt).2.2.2.2.2.1 = tileZ (k0_pay24 (lo (iblk m c 0 t)) w) (k0_pay47 (hi (iblk m c 0 t)) w) := by
  by_cases h : t.val % 8 = 0
  · refine ⟨_, first3_part m c t, ?_⟩
    rw [outsAt0_A m c t h]
    frame_open
    simp (disch := decide) only [↓ View.readCov_skip, ↓ View.readCov_cons_toLoadRect, ↓ View.readCov_fill]
    frame_out
    rfl
  · refine ⟨_, kept3_part m c t h, ?_⟩
    rw [outsAt0_B m c t h]
    frame_out
    simp only [read_unread_whole]
    rfl

/-- The gate's block of columns. -/
def cols (t : Fin cfg0.N) : ℕ := 256 * (1 + t.val / 8)
/-- The first row of a step's tile. -/
def rowOf (t : Fin cfg0.N) : ℕ := 1024 * (t.val % 8)

section Gates
variable (t : Fin cfg0.N) {w : Vec Ideal S1x2048x256 .bf16} (hw : IsPart m c 1 t w)
include hw
theorem gl (p : Fin 512) (j : Fin 256) : gateLo (iblk m c 0 t) (row0 m c t) (row1 m c t) (row2 m c t) w (ix2 p j) = fgate (tN (argT m c)) (xN (argX m c)) (wN (argW m c)) (rowOf t + p) (cols t + j) :=
  gateLo_at (blk0 m c t) (row0_at m c t) (row1_at m c t) (row2_at m c t) hw p j
theorem gh (p : Fin 512) (j : Fin 256) : gateHi (iblk m c 0 t) (row0 m c t) (row1 m c t) (row2 m c t) w (ix2 p j) = fgate (tN (argT m c)) (xN (argX m c)) (wN (argW m c)) (rowOf t + 512 + p) (cols t + j) :=
  gateHi_at (blk0 m c t) (row0_at m c t) (row1_at m c t) (row2_at m c t) hw p j
end Gates

theorem q_out (t : Fin cfg0.N) (y : S1x2x1024x128.Idx) : (outsAt0 m c t.val t.isLt).1 y = qval (xN (argX m c)) (wN (argW m c)) (rowOf t + (y 2).val) (cols t + (128 * (y 1).val + (y 3).val)) := by
  obtain ⟨w, hw, e⟩ := q_step m c t
  rw [e]
  exact tileQ_at (Y := fun r j => qval (xN (argX m c)) (wN (argW m c)) r (cols t + j)) (fun p j => q_at (c0 := cols t) (lo_at (blk0 m c t)) (fun k j => (hw k j).trans (piece rfl (by unfold cols; omega))) p j)
    (fun p j => q_at (c0 := cols t) (hi_at (blk0 m c t)) (fun k j => (hw k j).trans (piece rfl (by unfold cols; omega))) p j) y
theorem v_out (t : Fin cfg0.N) (y : S1x2x1024x128.Idx) : (outsAt0 m c t.val t.isLt).2.2.2.2.1 y = vval (xN (argX m c)) (wN (argW m c)) (rowOf t + (y 2).val) (cols t + (128 * (y 1).val + (y 3).val)) := by
  obtain ⟨w, hw, e⟩ := v_step m c t
  rw [e]
  exact tileV_at (Y := fun r j => vval (xN (argX m c)) (wN (argW m c)) r (cols t + j))
    (fun p j => (v_at (c0 := 4096 + cols t) (lo_at (blk0 m c t)) (fun k j => (hw k j).trans (piece rfl (by unfold cols; omega))) p j).trans (by rw [Nat.add_assoc 4096, vval]; rfl))
    (fun p j => (v_at (c0 := 4096 + cols t) (hi_at (blk0 m c t)) (fun k j => (hw k j).trans (piece rfl (by unfold cols; omega))) p j).trans (by rw [Nat.add_assoc 4096, vval]; rfl)) y
theorem z_out (t : Fin cfg0.N) (y : S1024x256.Idx) : (outsAt0 m c t.val t.isLt).2.2.2.2.2.1 y = zval (xN (argX m c)) (wN (argW m c)) (rowOf t + (y 0).val) (cols t + (y 1).val) := by
  obtain ⟨w, hw, e⟩ := z_step m c t
  rw [e]
  exact tileZ_at (Y := fun r j => zval (xN (argX m c)) (wN (argW m c)) r (cols t + j))
    (fun p j => (z_at (c0 := 6144 + cols t) (lo_at (blk0 m c t)) (fun k j => (hw k j).trans (piece rfl (by unfold cols; omega))) p j).trans (by rw [Nat.add_assoc 6144, zval]; rfl))
    (fun p j => (z_at (c0 := 6144 + cols t) (hi_at (blk0 m c t)) (fun k j => (hw k j).trans (piece rfl (by unfold cols; omega))) p j).trans (by rw [Nat.add_assoc 6144, zval]; rfl)) y
theorem k_out (t : Fin cfg0.N) (y : S1x2x1024x128.Idx) : (outsAt0 m c t.val t.isLt).2.1 y = kval (tN (argT m c)) (xN (argX m c)) (wN (argW m c)) (rowOf t + (y 2).val) (cols t + (128 * (y 1).val + (y 3).val)) := by
  obtain ⟨w, hw, e⟩ := k_step m c t
  rw [e]
  exact tileK_at (Y := fun r j => kval (tN (argT m c)) (xN (argX m c)) (wN (argW m c)) r (cols t + j))
    (one_sub_at (G := fun r j => fgate (tN (argT m c)) (xN (argX m c)) (wN (argW m c)) r (cols t + j)) (gl m c t hw))
    (one_sub_at (G := fun r j => fgate (tN (argT m c)) (xN (argX m c)) (wN (argW m c)) r (cols t + j)) (gh m c t hw)) y

theorem row_mod (t : Fin cfg0.N) : rowOf t % 512 = 0 := by unfold rowOf; omega
theorem row_mod' (t : Fin cfg0.N) : (rowOf t + 512) % 512 = 0 := by unfold rowOf; omega
theorem b_out (t : Fin cfg0.N) (y : S1x2x1024x128.Idx) : (outsAt0 m c t.val t.isLt).2.2.1 y = bval (tN (argT m c)) (xN (argX m c)) (wN (argW m c)) (rowOf t + (y 2).val) (cols t + (128 * (y 1).val + (y 3).val)) := by
  obtain ⟨w, hw, e⟩ := b_step m c t
  rw [e]
  exact tileB_at (Y := fun r j => bval (tN (argT m c)) (xN (argX m c)) (wN (argW m c)) r (cols t + j))
    (sums_at (g := fun r j => fgate (tN (argT m c)) (xN (argX m c)) (wN (argW m c)) r (cols t + j)) (row_mod t) (gl m c t hw))
    (sums_at (g := fun r j => fgate (tN (argT m c)) (xN (argX m c)) (wN (argW m c)) r (cols t + j)) (row_mod' t) (gh m c t hw)) y
theorem m_out (t : Fin cfg0.N) (y : S1x2x1x8x128.Idx) : (outsAt0 m c t.val t.isLt).2.2.2.1 y = mval (tN (argT m c)) (xN (argX m c)) (wN (argW m c)) (rowOf t + (y 3).val) (cols t + (128 * (y 1).val + (y 4).val)) := by
  obtain ⟨w, hw, e⟩ := m_step m c t
  rw [e]
  exact tileM_at (Y := fun r j => bval (tN (argT m c)) (xN (argX m c)) (wN (argW m c)) r (cols t + j))
    (sums_at (g := fun r j => fgate (tN (argT m c)) (xN (argX m c)) (wN (argW m c)) r (cols t + j)) (row_mod t) (gl m c t hw))
    (sums_at (g := fun r j => fgate (tN (argT m c)) (xN (argX m c)) (wN (argW m c)) r (cols t + j)) (row_mod' t) (gh m c t hw)) y

end Cert.Kernel5Ideal.Hand
-- ==== Proof.PjFinal.lean ====
module

public import proofs.«01_k».proof.Proof.PjValue
public import Idealize.ShloMosaic.Lib.Claim

/-! The arrays the mixer's input projections leave: the specification's values from the second group of heads on, the
    first group's as they were, and the three weights cast on the side. -/

@[expose] public section

set_option maxRecDepth 16384

noncomputable section

namespace Cert.Kernel5Ideal.Hand

open Cert.Kernel5Ideal Cert.Kernel5Ideal.Gen Cert.Spec
open Idealize.ShloMosaic Idealize.ShloMosaic.TcCoe Idealize.SL.Sem

/-- A table of values by row and channel, in the layout by sequence, head, row and lane, the first two heads `old`. -/
def heads (Y : ℕ → ℕ → EReal) (old : S2x16x4096x128.Idx → EReal) : S2x16x4096x128.Idx → EReal :=
  fun i => if 2 ≤ (i 1).val then Y (4096 * (i 0).val + (i 2).val) (128 * (i 1).val + (i 3).val) else old i
/-- The same by sequence, head, tile, row and lane. -/
def tiles (Y : ℕ → ℕ → EReal) (old : S2x16x4x8x128.Idx → EReal) : S2x16x4x8x128.Idx → EReal :=
  fun i => if 2 ≤ (i 1).val then Y (4096 * (i 0).val + 1024 * (i 2).val + (i 3).val) (128 * (i 1).val + (i 4).val) else old i
/-- The same by row and channel. -/
def flat (Y : ℕ → ℕ → EReal) (old : S8192x2048.Idx → EReal) : S8192x2048.Idx → EReal :=
  fun i => if 256 ≤ (i 1).val then Y (i 0).val (i 1).val else old i

variable (m : (ℓ : Loc nD τ sig) → Buf (Elt Ideal) ℓ) (c : Dev nD)

abbrev arg6 : Vec Ideal S2x16x4096x128 .bf16 := m ((c : Thread nD τ).loc main_arg6)
abbrev arg7 : Vec Ideal S2x16x4096x128 .bf16 := m ((c : Thread nD τ).loc main_arg7)
abbrev arg8 : Vec Ideal S2x16x4096x128 .f32 := m ((c : Thread nD τ).loc main_arg8)
abbrev arg9 : Vec Ideal S2x16x4x8x128 .f32 := m ((c : Thread nD τ).loc main_arg9)
abbrev arg10 : Vec Ideal S2x16x4096x128 .bf16 := m ((c : Thread nD τ).loc main_arg10)
abbrev arg11 : Vec Ideal S8192x2048 .bf16 := m ((c : Thread nD τ).loc main_arg11)

theorem idxo : ∀ t : Fin cfg0.N, win0_9.index t = ![t.val / 4 % 2, 1 + t.val / 8, t.val % 4, 0] ∧ win0_10.index t = ![t.val / 4 % 2, 1 + t.val / 8, t.val % 4, 0] ∧ win0_11.index t = ![t.val / 4 % 2, 1 + t.val / 8, t.val % 4, 0] ∧ win0_12.index t = ![t.val / 4 % 2, 1 + t.val / 8, t.val % 4, 0, 0] ∧ win0_13.index t = ![t.val / 4 % 2, 1 + t.val / 8, t.val % 4, 0] ∧ win0_14.index t = ![t.val % 8, 1 + t.val / 8] :=
  (by decide +kernel : ∀ t : Fin grid0.N, _)

theorem in9 (i : S2x16x4096x128.Idx) : (dats m 0 c).A 9 i = arg6 m c i := by
  rw [A_eq]
  entry_read
  rfl
theorem emb9 (t : Fin cfg0.N) (y : S1x2x1024x128.Idx) (Y : ℕ → ℕ → EReal) (old : S2x16x4096x128.Idx → EReal) :
    heads Y old ((win0_9.blk t).view.emb y) = Y (rowOf t + (y 2).val) (cols t + (128 * (y 1).val + (y 3).val)) := by
  have hi := (idxo t).1
  have e0 : ((win0_9.blk t).view.emb y 0).val = t.val / 4 % 2 * 1 + 1 * (y 0).val := by
    show win0_9.index t 0 * 1 + 1 * (y 0).val = _
    rw [hi]; rfl
  have e1 : ((win0_9.blk t).view.emb y 1).val = (1 + t.val / 8) * 2 + 1 * (y 1).val := by
    show win0_9.index t 1 * 2 + 1 * (y 1).val = _
    rw [hi]; rfl
  have e2 : ((win0_9.blk t).view.emb y 2).val = t.val % 4 * 1024 + 1 * (y 2).val := by
    show win0_9.index t 2 * 1024 + 1 * (y 2).val = _
    rw [hi]; rfl
  have e3 : ((win0_9.blk t).view.emb y 3).val = 0 * 128 + 1 * (y 3).val := by
    show win0_9.index t 3 * 128 + 1 * (y 3).val = _
    rw [hi]; rfl
  have h0 : (y 0).val < 1 := (y 0).isLt
  unfold heads rowOf cols
  rw [e0, e1, e2, e3, if_pos (by omega)]
  exact piece (by omega) (by omega)
theorem final9 : (dats m 0 c).arrAt 9 (cfgs 0).N = heads (qval (xN (argX m c)) (wN (argW m c))) (arg6 m c) := by
  refine ((dats m 0 c).arrAt_eq_of_coversWhere 9 (heads (qval (xN (argX m c)) (wN (argW m c))) (arg6 m c)) (P := fun i => 2 ≤ (i 1).val) (fun β => 1 ≤ β (1 : Fin 4)) (by decide +kernel) (fun t hf y => ?_) (fun j => ?_)).trans (funext fun i => ?_)
  · blk_simp
    rw [after0_9]
    exact (q_out m c t y).trans (emb9 t y _ _).symm
  · blk_simp [Pipeline.Window.cell_apply]
    omega
  · unfold heads
    by_cases h : 2 ≤ (i 1).val
    · rw [if_pos h]
    · rw [if_neg h, if_neg h]
      exact in9 m c i

theorem in10 (i : S2x16x4096x128.Idx) : (dats m 0 c).A 10 i = arg7 m c i := by
  rw [A_eq]
  entry_read
  rfl
theorem emb10 (t : Fin cfg0.N) (y : S1x2x1024x128.Idx) (Y : ℕ → ℕ → EReal) (old : S2x16x4096x128.Idx → EReal) :
    heads Y old ((win0_10.blk t).view.emb y) = Y (rowOf t + (y 2).val) (cols t + (128 * (y 1).val + (y 3).val)) := by
  have hi := (idxo t).2.1
  have e0 : ((win0_10.blk t).view.emb y 0).val = t.val / 4 % 2 * 1 + 1 * (y 0).val := by
    show win0_10.index t 0 * 1 + 1 * (y 0).val = _
    rw [hi]; rfl
  have e1 : ((win0_10.blk t).view.emb y 1).val = (1 + t.val / 8) * 2 + 1 * (y 1).val := by
    show win0_10.index t 1 * 2 + 1 * (y 1).val = _
    rw [hi]; rfl
  have e2 : ((win0_10.blk t).view.emb y 2).val = t.val % 4 * 1024 + 1 * (y 2).val := by
    show win0_10.index t 2 * 1024 + 1 * (y 2).val = _
    rw [hi]; rfl
  have e3 : ((win0_10.blk t).view.emb y 3).val = 0 * 128 + 1 * (y 3).val := by
    show win0_10.index t 3 * 128 + 1 * (y 3).val = _
    rw [hi]; rfl
  have h0 : (y 0).val < 1 := (y 0).isLt
  unfold heads rowOf cols
  rw [e0, e1, e2, e3, if_pos (by omega)]
  exact piece (by omega) (by omega)
theorem final10 : (dats m 0 c).arrAt 10 (cfgs 0).N = heads (kval (tN (argT m c)) (xN (argX m c)) (wN (argW m c))) (arg7 m c) := by
  refine ((dats m 0 c).arrAt_eq_of_coversWhere 10 (heads (kval (tN (argT m c)) (xN (argX m c)) (wN (argW m c))) (arg7 m c)) (P := fun i => 2 ≤ (i 1).val) (fun β => 1 ≤ β (1 : Fin 4)) (by decide +kernel) (fun t hf y => ?_) (fun j => ?_)).trans (funext fun i => ?_)
  · blk_simp
    rw [after0_10]
    exact (k_out m c t y).trans (emb10 t y _ _).symm
  · blk_simp [Pipeline.Window.cell_apply]
    omega
  · unfold heads
    by_cases h : 2 ≤ (i 1).val
    · rw [if_pos h]
    · rw [if_neg h, if_neg h]
      exact in10 m c i

theorem in11 (i : S2x16x4096x128.Idx) : (dats m 0 c).A 11 i = arg8 m c i := by
  rw [A_eq]
  entry_read
  rfl
theorem emb11 (t : Fin cfg0.N) (y : S1x2x1024x128.Idx) (Y : ℕ → ℕ → EReal) (old : S2x16x4096x128.Idx → EReal) :
    heads Y old ((win0_11.blk t).view.emb y) = Y (rowOf t + (y 2).val) (cols t + (128 * (y 1).val + (y 3).val)) := by
  have hi := (idxo t).2.2.1
  have e0 : ((win0_11.blk t).view.emb y 0).val = t.val / 4 % 2 * 1 + 1 * (y 0).val := by
    show win0_11.index t 0 * 1 + 1 * (y 0).val = _
    rw [hi]; rfl
  have e1 : ((win0_11.blk t).view.emb y 1).val = (1 + t.val / 8) * 2 + 1 * (y 1).val := by
    show win0_11.index t 1 * 2 + 1 * (y 1).val = _
    rw [hi]; rfl
  have e2 : ((win0_11.blk t).view.emb y 2).val = t.val % 4 * 1024 + 1 * (y 2).val := by
    show win0_11.index t 2 * 1024 + 1 * (y 2).val = _
    rw [hi]; rfl
  have e3 : ((win0_11.blk t).view.emb y 3).val = 0 * 128 + 1 * (y 3).val := by
    show win0_11.index t 3 * 128 + 1 * (y 3).val = _
    rw [hi]; rfl
  have h0 : (y 0).val < 1 := (y 0).isLt
  unfold heads rowOf cols
  rw [e0, e1, e2, e3, if_pos (by omega)]
  exact piece (by omega) (by omega)
theorem final11 : (dats m 0 c).arrAt 11 (cfgs 0).N = heads (bval (tN (argT m c)) (xN (argX m c)) (wN (argW m c))) (arg8 m c) := by
  refine ((dats m 0 c).arrAt_eq_of_coversWhere 11 (heads (bval (tN (argT m c)) (xN (argX m c)) (wN (argW m c))) (arg8 m c)) (P := fun i => 2 ≤ (i 1).val) (fun β => 1 ≤ β (1 : Fin 4)) (by decide +kernel) (fun t hf y => ?_) (fun j => ?_)).trans (funext fun i => ?_)
  · blk_simp
    rw [after0_11]
    exact (b_out m c t y).trans (emb11 t y _ _).symm
  · blk_simp [Pipeline.Window.cell_apply]
    omega
  · unfold heads
    by_cases h : 2 ≤ (i 1).val
    · rw [if_pos h]
    · rw [if_neg h, if_neg h]
      exact in11 m c i

theorem in13 (i : S2x16x4096x128.Idx) : (dats m 0 c).A 13 i = arg10 m c i := by
  rw [A_eq]
  entry_read
  rfl
theorem emb13 (t : Fin cfg0.N) (y : S1x2x1024x128.Idx) (Y : ℕ → ℕ → EReal) (old : S2x16x4096x128.Idx → EReal) :
    heads Y old ((win0_13.blk t).view.emb y) = Y (rowOf t + (y 2).val) (cols t + (128 * (y 1).val + (y 3).val)) := by
  have hi := (idxo t).2.2.2.2.1
  have e0 : ((win0_13.blk t).view.emb y 0).val = t.val / 4 % 2 * 1 + 1 * (y 0).val := by
    show win0_13.index t 0 * 1 + 1 * (y 0).val = _
    rw [hi]; rfl
  have e1 : ((win0_13.blk t).view.emb y 1).val = (1 + t.val / 8) * 2 + 1 * (y 1).val := by
    show win0_13.index t 1 * 2 + 1 * (y 1).val = _
    rw [hi]; rfl
  have e2 : ((win0_13.blk t).view.emb y 2).val = t.val % 4 * 1024 + 1 * (y 2).val := by
    show win0_13.index t 2 * 1024 + 1 * (y 2).val = _
    rw [hi]; rfl
  have e3 : ((win0_13.blk t).view.emb y 3).val = 0 * 128 + 1 * (y 3).val := by
    show win0_13.index t 3 * 128 + 1 * (y 3).val = _
    rw [hi]; rfl
  have h0 : (y 0).val < 1 := (y 0).isLt
  unfold heads rowOf cols
  rw [e0, e1, e2, e3, if_pos (by omega)]
  exact piece (by omega) (by omega)
theorem final13 : (dats m 0 c).arrAt 13 (cfgs 0).N = heads (vval (xN (argX m c)) (wN (argW m c))) (arg10 m c) := by
  refine ((dats m 0 c).arrAt_eq_of_coversWhere 13 (heads (vval (xN (argX m c)) (wN (argW m c))) (arg10 m c)) (P := fun i => 2 ≤ (i 1).val) (fun β => 1 ≤ β (1 : Fin 4)) (by decide +kernel) (fun t hf y => ?_) (fun j => ?_)).trans (funext fun i => ?_)
  · blk_simp
    rw [after0_13]
    exact (v_out m c t y).trans (emb13 t y _ _).symm
  · blk_simp [Pipeline.Window.cell_apply]
    omega
  · unfold heads
    by_cases h : 2 ≤ (i 1).val
    · rw [if_pos h]
    · rw [if_neg h, if_neg h]
      exact in13 m c i

theorem in12 (i : S2x16x4x8x128.Idx) : (dats m 0 c).A 12 i = arg9 m c i := by
  rw [A_eq]
  entry_read
  rfl
theorem emb12 (t : Fin cfg0.N) (y : S1x2x1x8x128.Idx) (Y : ℕ → ℕ → EReal) (old : S2x16x4x8x128.Idx → EReal) :
    tiles Y old ((win0_12.blk t).view.emb y) = Y (rowOf t + (y 3).val) (cols t + (128 * (y 1).val + (y 4).val)) := by
  have hi := (idxo t).2.2.2.1
  have e0 : ((win0_12.blk t).view.emb y 0).val = t.val / 4 % 2 * 1 + 1 * (y 0).val := by
    show win0_12.index t 0 * 1 + 1 * (y 0).val = _
    rw [hi]; rfl
  have e1 : ((win0_12.blk t).view.emb y 1).val = (1 + t.val / 8) * 2 + 1 * (y 1).val := by
    show win0_12.index t 1 * 2 + 1 * (y 1).val = _
    rw [hi]; rfl
  have e2 : ((win0_12.blk t).view.emb y 2).val = t.val % 4 * 1 + 1 * (y 2).val := by
    show win0_12.index t 2 * 1 + 1 * (y 2).val = _
    rw [hi]; rfl
  have e3 : ((win0_12.blk t).view.emb y 3).val = 0 * 8 + 1 * (y 3).val := by
    show win0_12.index t 3 * 8 + 1 * (y 3).val = _
    rw [hi]; rfl
  have e4 : ((win0_12.blk t).view.emb y 4).val = 0 * 128 + 1 * (y 4).val := by
    show win0_12.index t 4 * 128 + 1 * (y 4).val = _
    rw [hi]; rfl
  have h0 : (y 0).val < 1 := (y 0).isLt
  have h2 : (y 2).val < 1 := (y 2).isLt
  unfold tiles rowOf cols
  rw [e0, e1, e2, e3, e4, if_pos (by omega)]
  exact piece (by omega) (by omega)
theorem final12 : (dats m 0 c).arrAt 12 (cfgs 0).N = tiles (mval (tN (argT m c)) (xN (argX m c)) (wN (argW m c))) (arg9 m c) := by
  refine ((dats m 0 c).arrAt_eq_of_coversWhere 12 (tiles (mval (tN (argT m c)) (xN (argX m c)) (wN (argW m c))) (arg9 m c)) (P := fun i => 2 ≤ (i 1).val) (fun β => 1 ≤ β (1 : Fin 5)) (by decide +kernel) (fun t hf y => ?_) (fun j => ?_)).trans (funext fun i => ?_)
  · blk_simp
    rw [after0_12]
    exact (m_out m c t y).trans (emb12 t y _ _).symm
  · blk_simp [Pipeline.Window.cell_apply]
    omega
  · unfold tiles
    by_cases h : 2 ≤ (i 1).val
    · rw [if_pos h]
    · rw [if_neg h, if_neg h]
      exact in12 m c i

theorem in14 (i : S8192x2048.Idx) : (dats m 0 c).A 14 i = arg11 m c i := by
  rw [A_eq]
  entry_read
  rfl
theorem emb14 (t : Fin cfg0.N) (y : S1024x256.Idx) (Y : ℕ → ℕ → EReal) (old : S8192x2048.Idx → EReal) :
    flat Y old ((win0_14.blk t).view.emb y) = Y (rowOf t + (y 0).val) (cols t + (y 1).val) := by
  have hi := (idxo t).2.2.2.2.2
  have e0 : ((win0_14.blk t).view.emb y 0).val = t.val % 8 * 1024 + 1 * (y 0).val := by
    show win0_14.index t 0 * 1024 + 1 * (y 0).val = _
    rw [hi]; rfl
  have e1 : ((win0_14.blk t).view.emb y 1).val = (1 + t.val / 8) * 256 + 1 * (y 1).val := by
    show win0_14.index t 1 * 256 + 1 * (y 1).val = _
    rw [hi]; rfl
  unfold flat rowOf cols
  rw [e0, e1, if_pos (by omega)]
  exact piece (by omega) (by omega)
theorem final14 : (dats m 0 c).arrAt 14 (cfgs 0).N = flat (zval (xN (argX m c)) (wN (argW m c))) (arg11 m c) := by
  refine ((dats m 0 c).arrAt_eq_of_coversWhere 14 (flat (zval (xN (argX m c)) (wN (argW m c))) (arg11 m c)) (P := fun i => 256 ≤ (i 1).val) (fun β => 1 ≤ β (1 : Fin 2)) (by decide +kernel) (fun t hf y => ?_) (fun j => ?_)).trans (funext fun i => ?_)
  · blk_simp
    rw [after0_14]
    exact (z_out m c t y).trans (emb14 t y _ _).symm
  · blk_simp [Pipeline.Window.cell_apply]
    omega
  · unfold flat
    by_cases h : 256 ≤ (i 1).val
    · rw [if_pos h]
    · rw [if_neg h, if_neg h]
      exact in14 m c i

/-! ## The three weights cast on the side -/

abbrev argO : Vec Ideal S1x2048x2048 .f32 := m ((c : Thread nD τ).loc main_arg3)
abbrev argU : Vec Ideal S2x2048x11264 .f32 := m ((c : Thread nD τ).loc main_arg4)
abbrev argD : Vec Ideal S2x5632x2048 .f32 := m ((c : Thread nD τ).loc main_arg5)
theorem idxs : ∀ t : Fin cfg0.N, win0_6.index t = ![min t.val 31, 0, 0] ∧ win0_15.index t = ![min t.val 31, 0, 0] ∧ win0_7.index t = ![min t.val 31, 0, 0] ∧ win0_16.index t = ![min t.val 31, 0, 0] ∧ win0_8.index t = ![min t.val 43, 0, 0] ∧ win0_17.index t = ![min t.val 43, 0, 0] :=
  (by decide +kernel : ∀ t : Fin grid0.N, _)

/-- The first layer's weights, in the chunks they are cast in. -/
def GO (x : Vec Ideal S1x2048x2048 .f32) : Vec Ideal S32x64x2048 .bf16 := fun i => x (ix3 0 ⟨64 * (i 0).val + (i 1).val, by
  have h0 : (i 0).val < 32 := (i 0).isLt
  have h1 : (i 1).val < 64 := (i 1).isLt
  omega⟩ (i 2))
theorem side15_at (x : Vec Ideal S1x64x2048 .f32) (i) : k0_pay5 x i = x i := by
  pointwise [k0_pay5]
theorem blk6 (t : Fin cfg0.N) (r : Fin 64) (k : Fin 2048) : (iblk m c 6 t : Vec Ideal S1x64x2048 .f32) (ix3 0 r k) = argO m c (ix3 0 ⟨64 * min t.val 31 + r.val, by omega⟩ k) := by
  blk_point [iblk, V, idxs t]
theorem s15_step (t : Fin cfg0.N) : (dats m 0 c).after 15 t = k0_pay5 (iblk m c 6 t) := by
  rw [after0_15]
  by_cases h : t.val % 8 = 0
  · rw [outsAt0_A m c t h]
    frame_out
  · rw [outsAt0_B m c t h]
    frame_out
theorem final15 : (dats m 0 c).arrAt 15 (cfgs 0).N = GO (argO m c) := by
  refine (dats m 0 c).arrAt_eq_of_covers 15 _ (by decide +kernel) fun t hf y => ?_
  blk_simp
  rw [s15_step]
  have h0 : (y 0).val < 1 := (y 0).isLt
  have hy : y = ix3 0 (y 1) (y 2) := by funext a; match a with | 0 => exact Fin.ext (by show (y 0).val = 0; omega) | 1 => rfl | 2 => rfl
  refine (side15_at _ y).trans ((congrArg _ hy).trans ((blk6 m c t (y 1) (y 2)).trans ?_))
  unfold GO
  refine congrArg _ (funext fun a => ?_)
  match a with
  | 0 => rfl
  | 1 =>
    refine Fin.ext ?_
    show 64 * min t.val 31 + (y 1).val = 64 * (win0_15.index t 0 * 1 + 1 * (y 0).val) + (win0_15.index t 1 * 64 + 1 * (y 1).val)
    rw [(idxs t).2.1]
    show 64 * min t.val 31 + (y 1).val = 64 * (min t.val 31 * 1 + 1 * (y 0).val) + (0 * 64 + 1 * (y 1).val)
    omega
  | 2 =>
    refine Fin.ext ?_
    show (y 2).val = win0_15.index t 2 * 2048 + 1 * (y 2).val
    rw [(idxs t).2.1]
    show (y 2).val = 0 * 2048 + 1 * (y 2).val
    omega

/-- The first layer's weights, in the chunks they are cast in. -/
def GU (x : Vec Ideal S2x2048x11264 .f32) : Vec Ideal S32x64x11264 .bf16 := fun i => x (ix3 0 ⟨64 * (i 0).val + (i 1).val, by
  have h0 : (i 0).val < 32 := (i 0).isLt
  have h1 : (i 1).val < 64 := (i 1).isLt
  omega⟩ (i 2))
theorem side16_at (x : Vec Ideal S1x64x11264 .f32) (i) : k0_pay6 x i = x i := by
  pointwise [k0_pay6]
theorem blk7 (t : Fin cfg0.N) (r : Fin 64) (k : Fin 11264) : (iblk m c 7 t : Vec Ideal S1x64x11264 .f32) (ix3 0 r k) = argU m c (ix3 0 ⟨64 * min t.val 31 + r.val, by omega⟩ k) := by
  blk_point [iblk, V, idxs t]
theorem s16_step (t : Fin cfg0.N) : (dats m 0 c).after 16 t = k0_pay6 (iblk m c 7 t) := by
  rw [after0_16]
  by_cases h : t.val % 8 = 0
  · rw [outsAt0_A m c t h]
    frame_out
  · rw [outsAt0_B m c t h]
    frame_out
theorem final16 : (dats m 0 c).arrAt 16 (cfgs 0).N = GU (argU m c) := by
  refine (dats m 0 c).arrAt_eq_of_covers 16 _ (by decide +kernel) fun t hf y => ?_
  blk_simp
  rw [s16_step]
  have h0 : (y 0).val < 1 := (y 0).isLt
  have hy : y = ix3 0 (y 1) (y 2) := by funext a; match a with | 0 => exact Fin.ext (by show (y 0).val = 0; omega) | 1 => rfl | 2 => rfl
  refine (side16_at _ y).trans ((congrArg _ hy).trans ((blk7 m c t (y 1) (y 2)).trans ?_))
  unfold GU
  refine congrArg _ (funext fun a => ?_)
  match a with
  | 0 => rfl
  | 1 =>
    refine Fin.ext ?_
    show 64 * min t.val 31 + (y 1).val = 64 * (win0_16.index t 0 * 1 + 1 * (y 0).val) + (win0_16.index t 1 * 64 + 1 * (y 1).val)
    rw [(idxs t).2.2.2.1]
    show 64 * min t.val 31 + (y 1).val = 64 * (min t.val 31 * 1 + 1 * (y 0).val) + (0 * 64 + 1 * (y 1).val)
    omega
  | 2 =>
    refine Fin.ext ?_
    show (y 2).val = win0_16.index t 2 * 11264 + 1 * (y 2).val
    rw [(idxs t).2.2.2.1]
    show (y 2).val = 0 * 11264 + 1 * (y 2).val
    omega

/-- The first layer's weights, in the chunks they are cast in. -/
def GD (x : Vec Ideal S2x5632x2048 .f32) : Vec Ideal S44x128x2048 .bf16 := fun i => x (ix3 0 ⟨128 * (i 0).val + (i 1).val, by
  have h0 : (i 0).val < 44 := (i 0).isLt
  have h1 : (i 1).val < 128 := (i 1).isLt
  omega⟩ (i 2))
theorem side17_at (x : Vec Ideal S1x128x2048 .f32) (i) : k0_pay7 x i = x i := by
  pointwise [k0_pay7]
theorem blk8 (t : Fin cfg0.N) (r : Fin 128) (k : Fin 2048) : (iblk m c 8 t : Vec Ideal S1x128x2048 .f32) (ix3 0 r k) = argD m c (ix3 0 ⟨128 * min t.val 43 + r.val, by omega⟩ k) := by
  blk_point [iblk, V, idxs t]
theorem s17_step (t : Fin cfg0.N) : (dats m 0 c).after 17 t = k0_pay7 (iblk m c 8 t) := by
  rw [after0_17]
  by_cases h : t.val % 8 = 0
  · rw [outsAt0_A m c t h]
    frame_out
  · rw [outsAt0_B m c t h]
    frame_out
theorem final17 : (dats m 0 c).arrAt 17 (cfgs 0).N = GD (argD m c) := by
  refine (dats m 0 c).arrAt_eq_of_covers 17 _ (by decide +kernel) fun t hf y => ?_
  blk_simp
  rw [s17_step]
  have h0 : (y 0).val < 1 := (y 0).isLt
  have hy : y = ix3 0 (y 1) (y 2) := by funext a; match a with | 0 => exact Fin.ext (by show (y 0).val = 0; omega) | 1 => rfl | 2 => rfl
  refine (side17_at _ y).trans ((congrArg _ hy).trans ((blk8 m c t (y 1) (y 2)).trans ?_))
  unfold GD
  refine congrArg _ (funext fun a => ?_)
  match a with
  | 0 => rfl
  | 1 =>
    refine Fin.ext ?_
    show 128 * min t.val 43 + (y 1).val = 128 * (win0_17.index t 0 * 1 + 1 * (y 0).val) + (win0_17.index t 1 * 128 + 1 * (y 1).val)
    rw [(idxs t).2.2.2.2.2]
    show 128 * min t.val 43 + (y 1).val = 128 * (min t.val 43 * 1 + 1 * (y 0).val) + (0 * 128 + 1 * (y 1).val)
    omega
  | 2 =>
    refine Fin.ext ?_
    show (y 2).val = win0_17.index t 2 * 2048 + 1 * (y 2).val
    rw [(idxs t).2.2.2.2.2]
    show (y 2).val = 0 * 2048 + 1 * (y 2).val
    omega

end Cert.Kernel5Ideal.Hand
-- ==== Proof.PjRef.lean ====
module

public import proofs.«01_k».proof.Proof.Gen.Reference5Ideal.Run
public import proofs.«01_k».proof.Proof.PjSpec
public import Idealize.ShloMosaic.Lib.Claim

/-! The reference of the mixer's input projections, row by row. The term is read in stages: the projected features, the
    gate's lowest value, the gate, its logarithm, the running sum over a chunk, the layout by head. -/

@[expose] public section

set_option maxRecDepth 16384

noncomputable section

namespace Cert.Reference5Ideal.Hand

open Cert.Reference5Ideal Cert.Reference5Ideal.Gen Cert.Spec Idealize.ShloMosaic Idealize.ShloMosaic.TcCoe Idealize.SL.Sem

/-! ## Sums over windows -/

theorem fold_add {N : ℕ} (g : Fin N → EReal) (v : EReal) : (List.finRange N).foldl (fun r n => r + g n) v = v + ∑ n, g n := by
  rw [Fin.sum_univ_def]
  generalize List.finRange N = l
  induction l generalizing v with
  | nil => simp
  | cons a l ih => rw [List.foldl_cons, ih, List.map_cons, List.sum_cons, add_assoc]

/-- A window of 64 that ends at an entry and starts before the column's first: the sum of the entries up to it. -/
theorem window_sum (a : ℕ → EReal) (p : ℕ) (hp : p < 64) : (∑ n ∈ Finset.range 64, if 63 ≤ p + n then a (p + n - 63) else 0) = ∑ i ∈ Finset.range (p + 1), a (p - i) := by
  rw [← Finset.sum_range_reflect, ← Finset.sum_filter]
  refine Finset.sum_congr_of_eq_on_inter ?_ ?_ ?_ <;> simp only [Finset.mem_filter, Finset.mem_range]
  · intro i h h'; omega
  · intro i h h'; omega
  · intro i h h'; exact congrArg a (by omega)

/-- A sum over the entries of a window's one axis of extent above one. -/
theorem coords64 : ∀ n : Fin (Shape.numel ⟨5, ![1, 1, 1, 64, 1]⟩), ((Shape.rowMajor ⟨5, ![1, 1, 1, 64, 1]⟩).symm n 3).val = n.val := by decide +kernel
theorem coords3 : ∀ n : Fin (Shape.numel ⟨2, ![3, 1]⟩), ((Shape.rowMajor ⟨2, ![3, 1]⟩).symm n 0).val = n.val := by decide +kernel
theorem coordsU : ∀ (a : Fin 5) (n : Fin (Shape.numel ⟨5, ![1, 1, 1, 64, 1]⟩)), a ≠ 3 → ((Shape.rowMajor ⟨5, ![1, 1, 1, 64, 1]⟩).symm n a).val = 0 := by decide +kernel
theorem coordsV : ∀ n : Fin (Shape.numel ⟨2, ![3, 1]⟩), ((Shape.rowMajor ⟨2, ![3, 1]⟩).symm n 1).val = 0 := by decide +kernel

/-- The running sum over a chunk of 64 rows. -/
def scan (x : FVec Ideal S2x16x64x64x128 .f32) : FVec Ideal S2x16x64x64x128 .f32 :=
  Host.reduceWindowAdd ![1, 1, 1, 64, 1] ![1, 1, 1, 1, 1] ![0, 0, 0, 63, 0] ![0, 0, 0, 0, 0] x (broadcastInDim S_ ![] bcast_S_S_ (constant S_ .f32 0x00000000#32)) reduceWindows_S2x16x64x64x128_S2x16x64x64x128_w1s1p0_0_w1s1p0_0_w1s1p0_0_w64s1p63_0_w1s1p0_0 h_S_

theorem zero_at (i) : (broadcastInDim S_ ![] bcast_S_S_ (constant (F := Ideal) S_ .f32 0x00000000#32)) i = 0 := by
  show Ideal.ofBits .f32 0x00000000#32 = 0
  simp [Ideal.ofBits, Ideal.ieee]

theorem scan_at {x : FVec Ideal S2x16x64x64x128 .f32} {a : ℕ → EReal} (s : Fin 2) (h : Fin 16) (q : Fin 64) (l : Fin 128) (hx : ∀ p : Fin 64, x (ix5 s h q p l) = a p) (p : Fin 64) :
    scan x (ix5 s h q p l) = ∑ i ∈ Finset.range (p.val + 1), a (p.val - i) := by
  rw [← window_sum a p.val p.isLt]
  refine (fold_add _ _).trans ?_
  rw [zero_at, zero_add]
  refine Eq.trans (Finset.sum_congr rfl fun n _ => ?_) (Fin.sum_univ_eq_sum_range (fun n => if 63 ≤ p.val + n then a (p.val + n - 63) else 0) (Shape.numel ⟨5, ![1, 1, 1, 64, 1]⟩))
  have c3 := coords64 n
  have c0 := coordsU 0 n (by decide)
  have c1 := coordsU 1 n (by decide)
  have c2 := coordsU 2 n (by decide)
  have c4 := coordsU 4 n (by decide)
  have hn : n.val < 64 := n.isLt
  dsimp only
  split
  · next hin =>
    have h3 : 63 ≤ p.val * 1 + ((Shape.rowMajor ⟨5, ![1, 1, 1, 64, 1]⟩).symm n 3).val := (hin 3).1
    rw [c3] at h3
    rw [if_pos (by omega)]
    refine (congrArg x (funext fun b => Fin.ext ?_)).trans (hx ⟨p.val + n.val - 63, by omega⟩)
    match b with
    | 0 => show s.val * 1 + ((Shape.rowMajor ⟨5, ![1, 1, 1, 64, 1]⟩).symm n 0).val - 0 = s.val; omega
    | 1 => show h.val * 1 + ((Shape.rowMajor ⟨5, ![1, 1, 1, 64, 1]⟩).symm n 1).val - 0 = h.val; omega
    | 2 => show q.val * 1 + ((Shape.rowMajor ⟨5, ![1, 1, 1, 64, 1]⟩).symm n 2).val - 0 = q.val; omega
    | 3 => show p.val * 1 + ((Shape.rowMajor ⟨5, ![1, 1, 1, 64, 1]⟩).symm n 3).val - 63 = p.val + n.val - 63; omega
    | 4 => show l.val * 1 + ((Shape.rowMajor ⟨5, ![1, 1, 1, 64, 1]⟩).symm n 4).val - 0 = l.val; omega
  · next hin =>
    rw [if_neg fun hle => hin fun b => ?_]
    · have := s.isLt; have := h.isLt; have := q.isLt; have := l.isLt
      match b with
      | 0 => show 0 ≤ s.val * 1 + ((Shape.rowMajor ⟨5, ![1, 1, 1, 64, 1]⟩).symm n 0).val ∧ s.val * 1 + ((Shape.rowMajor ⟨5, ![1, 1, 1, 64, 1]⟩).symm n 0).val - 0 < 2; omega
      | 1 => show 0 ≤ h.val * 1 + ((Shape.rowMajor ⟨5, ![1, 1, 1, 64, 1]⟩).symm n 1).val ∧ h.val * 1 + ((Shape.rowMajor ⟨5, ![1, 1, 1, 64, 1]⟩).symm n 1).val - 0 < 16; omega
      | 2 => show 0 ≤ q.val * 1 + ((Shape.rowMajor ⟨5, ![1, 1, 1, 64, 1]⟩).symm n 2).val ∧ q.val * 1 + ((Shape.rowMajor ⟨5, ![1, 1, 1, 64, 1]⟩).symm n 2).val - 0 < 64; omega
      | 3 => show 63 ≤ p.val * 1 + ((Shape.rowMajor ⟨5, ![1, 1, 1, 64, 1]⟩).symm n 3).val ∧ p.val * 1 + ((Shape.rowMajor ⟨5, ![1, 1, 1, 64, 1]⟩).symm n 3).val - 63 < 64; omega
      | 4 => show 0 ≤ l.val * 1 + ((Shape.rowMajor ⟨5, ![1, 1, 1, 64, 1]⟩).symm n 4).val ∧ l.val * 1 + ((Shape.rowMajor ⟨5, ![1, 1, 1, 64, 1]⟩).symm n 4).val - 0 < 128; omega

/-- The running sum over the three layers' rows. -/
def scan3 (x : FVec Ideal S3x2048 .f32) : FVec Ideal S3x2048 .f32 :=
  Host.reduceWindowAdd ![3, 1] ![1, 1] ![2, 0] ![0, 0] x (broadcastInDim S_ ![] bcast_S_S_ (constant S_ .f32 0x00000000#32)) reduceWindows_S3x2048_S3x2048_w3s1p2_0_w1s1p0_0 h_S_

/-- Its first row is the first row. -/
theorem scan3_at (x : FVec Ideal S3x2048 .f32) (l : Fin 2048) : scan3 x (ix2 0 l) = x (ix2 0 l) := by
  refine (fold_add _ _).trans ?_
  rw [zero_at, zero_add]
  refine Eq.trans (Finset.sum_congr rfl fun n _ => ?_) ((Fin.sum_univ_eq_sum_range (fun n => if n = 2 then x (ix2 0 l) else 0) (Shape.numel ⟨2, ![3, 1]⟩)).trans ?_)
  · have c0 := coords3 n
    have c1 := coordsV n
    have hn : n.val < 3 := n.isLt
    dsimp only
    split
    · next hin =>
      have h0 : 2 ≤ 0 * 1 + ((Shape.rowMajor ⟨2, ![3, 1]⟩).symm n 0).val := (hin 0).1
      rw [if_pos (by omega)]
      refine congrArg x (funext fun b => Fin.ext ?_)
      match b with
      | 0 => show 0 * 1 + ((Shape.rowMajor ⟨2, ![3, 1]⟩).symm n 0).val - 2 = 0; omega
      | 1 => show l.val * 1 + ((Shape.rowMajor ⟨2, ![3, 1]⟩).symm n 1).val - 0 = l.val; omega
    · next hin =>
      rw [if_neg fun hle => hin fun b => ?_]
      · have := l.isLt
        match b with
        | 0 => show 2 ≤ 0 * 1 + ((Shape.rowMajor ⟨2, ![3, 1]⟩).symm n 0).val ∧ 0 * 1 + ((Shape.rowMajor ⟨2, ![3, 1]⟩).symm n 0).val - 2 < 3; omega
        | 1 => show 0 ≤ l.val * 1 + ((Shape.rowMajor ⟨2, ![3, 1]⟩).symm n 1).val ∧ l.val * 1 + ((Shape.rowMajor ⟨2, ![3, 1]⟩).symm n 1).val - 0 < 2048; omega
  · rw [show Shape.numel ⟨2, ![3, 1]⟩ = 3 from by decide]
    simp [Finset.sum_range_succ]

/-! ## The stages -/

def xR (x : FVec Ideal S8192x2048 .bf16) : ℕ → ℕ → EReal := at2 (a := 8192) (b := 2048) fun r k => x (ix2 r k)
def tR (x : FVec Ideal S3x2048 .f32) : ℕ → ℕ → EReal := at2 (a := 3) (b := 2048) fun r k => x (ix2 r k)
def wR (x : FVec Ideal S2048x8192 .f32) : ℕ → ℕ → EReal := at2 (a := 2048) (b := 8192) fun r k => x (ix2 r k)

theorem piece {Y : ℕ → ℕ → EReal} {a b r c : ℕ} (h : a = r) (h' : b = c) : Y a b = Y r c := by rw [h, h']

def prj (X : FVec Ideal S8192x2048 .bf16) (W : FVec Ideal S2048x8192 .f32) : FVec Ideal S2x4096x8192 .f32 :=
  Host.dotGeneral dot_S2x4096x2048_S2048x8192_S2x4096x8192_2_0_01_1_n_n none (extf .f32 (shapeCast _ X shapeCasts_S8192x2048_S2x4096x2048) bitsLt_bf16_f32) W

theorem prj_at (X W) (s : Fin 2) (r : Fin 4096) (k : Fin 8192) : prj X W (ix3 s r k) = proj (xR X) (wR W) (4096 * s + r) k := by
  pointwise [prj]
  rw [proj_fin]
  refine Finset.sum_congr rfl fun x _ => congrArg₂ _ ?_ (at2_fin (fun r k => W (ix2 r k)) _ _).symm
  exact ((at2_of (fun r k => X (ix2 r k)) (show 4096 * s.val + r.val < 8192 by omega) x.isLt).trans (congrArg (fun i => X (ix2 i x)) (Fin.ext (by simp only []; omega)))).symm

def part0 (P : FVec Ideal S2x4096x8192 .f32) : FVec Ideal S2x4096x2048 .f32 := extractStridedSlice S2x4096x2048 ![0, 0, 0] P slices_S2x4096x8192_S2x4096x2048_0_0_0
def part1 (P : FVec Ideal S2x4096x8192 .f32) : FVec Ideal S2x4096x2048 .f32 := extractStridedSlice S2x4096x2048 ![0, 0, 2048] P slices_S2x4096x8192_S2x4096x2048_0_0_2048
def part2 (P : FVec Ideal S2x4096x8192 .f32) : FVec Ideal S2x4096x2048 .f32 := extractStridedSlice S2x4096x2048 ![0, 0, 4096] P slices_S2x4096x8192_S2x4096x2048_0_0_4096
def part3 (P : FVec Ideal S2x4096x8192 .f32) : FVec Ideal S2x4096x2048 .f32 := extractStridedSlice S2x4096x2048 ![0, 0, 6144] P slices_S2x4096x8192_S2x4096x2048_0_0_6144

section Parts
variable (X : FVec Ideal S8192x2048 .bf16) (W : FVec Ideal S2048x8192 .f32) (s : Fin 2) (r : Fin 4096) (k : Fin 2048)
theorem part0_at : part0 (prj X W) (ix3 s r k) = proj (xR X) (wR W) (4096 * s + r) (k) := by
  pointwise [part0]
  exact (prj_at X W _ _ _).trans (piece (by first | rfl | omega) (by first | rfl | omega | (simp only []; omega)))
theorem part1_at : part1 (prj X W) (ix3 s r k) = proj (xR X) (wR W) (4096 * s + r) (2048 + k) := by
  pointwise [part1]
  exact (prj_at X W _ _ _).trans (piece (by first | rfl | omega) (by first | rfl | omega | (simp only []; omega)))
theorem part2_at : part2 (prj X W) (ix3 s r k) = proj (xR X) (wR W) (4096 * s + r) (4096 + k) := by
  pointwise [part2]
  exact (prj_at X W _ _ _).trans (piece (by first | rfl | omega) (by first | rfl | omega | (simp only []; omega)))
theorem part3_at : part3 (prj X W) (ix3 s r k) = proj (xR X) (wR W) (4096 * s + r) (6144 + k) := by
  pointwise [part3]
  exact (prj_at X W _ _ _).trans (piece (by first | rfl | omega) (by first | rfl | omega | (simp only []; omega)))
end Parts

/-- One over one plus the exponential of the negative, and the product with it. -/
def logi (A : FVec Ideal S2x4096x2048 .f32) : FVec Ideal S2x4096x2048 .f32 :=
  Host.divf (broadcastInDim S2x4096x2048 ![] bcast_S_S2x4096x2048 (constant S_ .f32 0x3F800000#32)) (addf (broadcastInDim S2x4096x2048 ![] bcast_S_S2x4096x2048 (constant S_ .f32 0x3F800000#32)) (Host.exp (Host.negf A)))
theorem logi_at (A) (i) : logi A i = Spec.logistic (A i) := by
  pointwise [logi]
  rfl

/-! The gate's lowest value: the first row of the running sum of a softmax. -/

def most (T : FVec Ideal S3x2048 .f32) : FVec Ideal S2048 .f32 :=
  maximumf (broadcastInDim S2048 ![] bcast_S_S2048 (constant S_ .f32 0xFF800000#32)) (Host.reduce FloatOps.maximumf T (constant S_ .f32 0xFF800000#32) reducesTo_S3x2048_S2048_d0 h_S_)
def exps (T : FVec Ideal S3x2048 .f32) : FVec Ideal S3x2048 .f32 :=
  Host.exp (subf T (broadcastInDim S3x2048 ![0, 1] bcast_S1x2048_S3x2048_0_1 (broadcastInDim S1x2048 ![1] bcast_S2048_S1x2048_1 (most T))))
def soft (T : FVec Ideal S3x2048 .f32) : FVec Ideal S3x2048 .f32 :=
  Host.divf (exps T) (broadcastInDim S3x2048 ![0, 1] bcast_S1x2048_S3x2048_0_1 (broadcastInDim S1x2048 ![1] bcast_S2048_S1x2048_1 (Host.reduceAdd (exps T) (constant S_ .f32 0x00000000#32) reducesTo_S3x2048_S2048_d0 h_S_)))
def lows (T : FVec Ideal S3x2048 .f32) : FVec Ideal S2048 .f32 := shapeCast _ (extractStridedSlice S1x2048 ![0, 0] (scan3 (soft T)) slices_S3x2048_S1x2048_0_0) shapeCasts_S1x2048_S2048

theorem tR_at (T) (a : Fin 3) (k : Fin 2048) : T (ix2 a k) = tR T a k := (at2_fin (fun r k => T (ix2 r k)) a k).symm

theorem most_at (T) (k : Fin 2048) : most T (ix1 k) = max (max (tR T 0 k) (tR T 1 k)) (tR T 2 k) := by
  pointwise [most]
  simp only [tR_at]
  simp [Ideal.ofBits, Ideal.ieee, Fin.univ_succ, max_assoc]

theorem exps_at (T) (a : Fin 3) (k : Fin 2048) : exps T (ix2 a k) = Ideal.exp (tR T a k - max (max (tR T 0 k) (tR T 1 k)) (tR T 2 k)) := by
  pointwise [exps]
  rw [most_at, tR_at T a k]

theorem soft_at (T) (k : Fin 2048) : soft T (ix2 0 k) = low (tR T) k := by
  pointwise [soft]
  simp only [exps_at, Fin.sum_univ_three]
  simp [low]

theorem lows_at (T) (k : Fin 2048) : lows T (ix1 k) = low (tR T) k := by
  refine Eq.trans ?_ ((scan3_at (soft T) k).trans (soft_at T k))
  pointwise [lows]
  try rfl

/-- The gate. -/
def gates (L : FVec Ideal S2048 .f32) (A : FVec Ideal S2x4096x2048 .f32) : FVec Ideal S2x4096x2048 .f32 :=
  addf (broadcastInDim S2x4096x2048 ![0, 1, 2] bcast_S1x1x2048_S2x4096x2048_0_1_2 (broadcastInDim S1x1x2048 ![2] bcast_S2048_S1x1x2048_2 L))
    (mulf (broadcastInDim S2x4096x2048 ![0, 1, 2] bcast_S1x1x2048_S2x4096x2048_0_1_2 (broadcastInDim S1x1x2048 ![2] bcast_S2048_S1x1x2048_2 (subf (broadcastInDim S2048 ![] bcast_S_S2048 (constant S_ .f32 0x3F800000#32)) L))) (logi A))

section Gate
variable (X : FVec Ideal S8192x2048 .bf16) (T : FVec Ideal S3x2048 .f32) (W : FVec Ideal S2048x8192 .f32)

def gt : FVec Ideal S2x4096x2048 .f32 := gates (lows T) (part1 (prj X W))

theorem gt_at (s : Fin 2) (r : Fin 4096) (k : Fin 2048) : gt X T W (ix3 s r k) = fgate (tR T) (xR X) (wR W) (4096 * s + r) k := by
  pointwise [gt, gates]
  rw [lows_at, logi_at, part1_at]
  rfl

def qs : FVec Ideal S2x4096x2048 .f32 :=
  mulf (mulf (part0 (prj X W)) (logi (part0 (prj X W)))) (broadcastInDim S2x4096x2048 ![] bcast_S_S2x4096x2048 (constant S_ .f32 0x3DB504F3#32))
theorem qs_at (s : Fin 2) (r : Fin 4096) (k : Fin 2048) : qs X W (ix3 s r k) = qval (xR X) (wR W) (4096 * s + r) k := by
  pointwise [qs]
  rw [logi_at, part0_at]
  rfl
def zs : FVec Ideal S2x4096x2048 .f32 := mulf (part3 (prj X W)) (logi (part3 (prj X W)))
theorem zs_at (s : Fin 2) (r : Fin 4096) (k : Fin 2048) : zs X W (ix3 s r k) = zval (xR X) (wR W) (4096 * s + r) k := by
  pointwise [zs]
  rw [logi_at, part3_at]
  rfl
theorem vs_at (s : Fin 2) (r : Fin 4096) (k : Fin 2048) : part2 (prj X W) (ix3 s r k) = vval (xR X) (wR W) (4096 * s + r) k := part2_at X W s r k
def ks : FVec Ideal S2x4096x2048 .f32 := subf (broadcastInDim S2x4096x2048 ![] bcast_S_S2x4096x2048 (constant S_ .f32 0x3F800000#32)) (gt X T W)
theorem ks_at (s : Fin 2) (r : Fin 4096) (k : Fin 2048) : ks X T W (ix3 s r k) = kval (tR T) (xR X) (wR W) (4096 * s + r) k := by
  pointwise [ks]
  rw [gt_at]
  rfl
def ls : FVec Ideal S2x4096x2048 .f32 := Host.divf (Host.log (gt X T W)) (broadcastInDim S2x4096x2048 ![] bcast_S_S2x4096x2048 (Host.log (constant S_ .f32 0x40000000#32)))

/-- Dividing by the logarithm of two. -/
theorem div_log_two (x : EReal) : Ideal.div x (Ideal.log (Ideal.ofBits FTy.f32 0x40000000#32)) = x * (((Real.log 2)⁻¹ : ℝ) : EReal) := by
  have h2 : Ideal.ofBits FTy.f32 0x40000000#32 = ((2 : ℝ) : EReal) := by
    simp [Ideal.ofBits, Ideal.ieee]
    rw [← EReal.coe_mul]
    norm_num
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  have hp : Real.log 2 ≠ 0 := (Real.log_pos (by norm_num)).ne'
  rw [h2, hl]
  unfold Ideal.div
  rw [if_neg (by exact_mod_cast hp), EReal.coe_inv]

theorem ls_at (s : Fin 2) (r : Fin 4096) (k : Fin 2048) : ls X T W (ix3 s r k) = lg2 (fgate (tR T) (xR X) (wR W) (4096 * s + r) k) := by
  pointwise [ls]
  rw [gt_at]
  exact div_log_two _

end Gate

/-! ## The layout by head -/

def byHead (A : FVec Ideal S2x4096x2048 .f32) : FVec Ideal S2x16x4096x128 .f32 :=
  transpose S2x16x4096x128 [0, 2, 1, 3] (shapeCast _ A shapeCasts_S2x4096x2048_S2x4096x16x128) transposes_S2x4096x16x128_S2x16x4096x128_0_2_1_3

section Heads
variable {A : FVec Ideal S2x4096x2048 .f32} {Y : ℕ → ℕ → EReal} (hA : ∀ (s : Fin 2) (r : Fin 4096) (k : Fin 2048), A (ix3 s r k) = Y (4096 * s + r) k)

include hA in
theorem byHead_at (s : Fin 2) (h : Fin 16) (r : Fin 4096) (l : Fin 128) : byHead A (ix4 s h r l) = Y (4096 * s + r) (128 * h + l) := by
  pointwise [byHead]
  exact (hA _ _ _).trans (piece (by first | rfl | omega | (simp only []; omega)) (by first | rfl | omega | (simp only []; omega)))

/-- The running sum, back in the layout by head. -/
def sums (A : FVec Ideal S2x4096x2048 .f32) : FVec Ideal S2x16x4096x128 .f32 :=
  shapeCast _ (scan (shapeCast _ (byHead A) shapeCasts_S2x16x4096x128_S2x16x64x64x128)) shapeCasts_S2x16x64x64x128_S2x16x4096x128

def chunks (A : FVec Ideal S2x4096x2048 .f32) : FVec Ideal S2x16x64x64x128 .f32 := shapeCast _ (byHead A) shapeCasts_S2x16x4096x128_S2x16x64x64x128
include hA in
theorem chunks_at (s : Fin 2) (h : Fin 16) (q : Fin 64) (p : Fin 64) (l : Fin 128) : chunks A (ix5 s h q p l) = Y (4096 * s + (64 * q + p)) (128 * h + l) := by
  pointwise [chunks]
  exact (byHead_at hA _ _ _ _).trans (piece (by first | rfl | omega | (simp only []; omega)) rfl)

include hA in
theorem sums_at (s : Fin 2) (h : Fin 16) (r : Fin 4096) (l : Fin 128) : sums A (ix4 s h r l) = win (fun r => Y r (128 * h + l)) 64 (4096 * s + r) := by
  pointwise [sums]
  refine (scan_at (a := fun p => Y (4096 * s + (64 * (r.val / 64) + p)) (128 * h + l)) s h ⟨r.val / 64, by omega⟩ l (fun p => chunks_at hA s h ⟨r.val / 64, by omega⟩ p l) ⟨r.val % 64, by omega⟩).trans ?_
  rw [win_full, show (4096 * s.val + r.val) % 64 = r.val % 64 by omega]
  refine Finset.sum_congr rfl fun i hi => ?_
  have hi' := Finset.mem_range.mp hi
  simp only [] at hi' ⊢
  exact piece (by omega) rfl

/-- The least over 128 rows eight apart. -/
def mins (B : FVec Ideal S2x16x4096x128 .f32) : FVec Ideal S2x16x4x8x128 .f32 :=
  Host.reduce FloatOps.minimumf (shapeCast _ B shapeCasts_S2x16x4096x128_S2x16x4x128x8x128) (constant S_ .f32 0x7F800000#32) reducesTo_S2x16x4x128x8x128_S2x16x4x8x128_d3 h_S_

theorem least_at {f : Fin 128 → EReal} {g : ℕ → EReal} (h : ∀ i : Fin 128, f i = g i) : Finset.fold min (Ideal.ofBits FTy.f32 2139095040#32) f Finset.univ = (Finset.range 128).inf g := by
  rw [show Ideal.ofBits FTy.f32 2139095040#32 = ⊤ by simp [Ideal.ofBits, Ideal.ieee]]
  show Finset.univ.inf f = _
  apply le_antisymm
  · refine Finset.le_inf fun i hi => ?_
    have hi' : i < 128 := Finset.mem_range.mp hi
    exact (Finset.inf_le (Finset.mem_univ (⟨i, hi'⟩ : Fin 128))).trans (le_of_eq (h ⟨i, hi'⟩))
  · exact Finset.le_inf fun i _ => (Finset.inf_le (Finset.mem_range.mpr i.isLt)).trans (le_of_eq (h i).symm)

/-- The entries the least is taken over. -/
theorem fiber (s : Fin 2) (h : Fin 16) (q : Fin 4) (p : Fin 8) (l : Fin 128) (i : S2x16x4x128x8x128.Idx) :
    reducesTo_S2x16x4x128x8x128_S2x16x4x8x128_d3.drop i = ix5 s h q p l ↔ ∃ k : Fin 128, ix6 s h q k p l = i := by
  constructor
  · intro e
    refine ⟨i 3, funext fun a => Fin.ext ?_⟩
    match a with
    | 0 => exact (congrArg Fin.val (congrFun e 0)).symm
    | 1 => exact (congrArg Fin.val (congrFun e 1)).symm
    | 2 => exact (congrArg Fin.val (congrFun e 2)).symm
    | 3 => rfl
    | 4 => exact (congrArg Fin.val (congrFun e 3)).symm
    | 5 => exact (congrArg Fin.val (congrFun e 4)).symm
  · rintro ⟨k, rfl⟩
    funext b
    apply Fin.ext
    match b with
    | 0 => rfl
    | 1 => rfl
    | 2 => rfl
    | 3 => rfl
    | 4 => rfl

theorem mins_at {B : FVec Ideal S2x16x4096x128 .f32} {Z : ℕ → ℕ → EReal} (hB : ∀ (s : Fin 2) (h : Fin 16) (r : Fin 4096) (l : Fin 128), B (ix4 s h r l) = Z (4096 * s + r) (128 * h + l))
    (s : Fin 2) (h : Fin 16) (q : Fin 4) (p : Fin 8) (l : Fin 128) : mins B (ix5 s h q p l) = (Finset.range 128).inf fun i => Z (4096 * s + 1024 * q + p + 8 * i) (128 * h + l) := by
  pointwise [mins]
  refine (Finset.fold_filter_eq_fold_of_fiber _ _ (fun k : Fin 128 => ix6 s h q k p l) (fun _ _ e => congrFun e 3) (fiber s h q p l) _ _).trans (least_at fun i => ?_)
  refine (hB s h ⟨q.val * 1024 + i.val * 8 + p.val, by omega⟩ l).trans ?_
  refine piece ?_ rfl
  simp only []
  omega

end Heads

/-! ## The first group's entries kept -/

/-- A table of values by row and channel, in the layout by sequence, head, row and lane, the first two heads `old`. -/
def heads (Y : ℕ → ℕ → EReal) (old : S2x16x4096x128.Idx → EReal) : S2x16x4096x128.Idx → EReal :=
  fun i => if 2 ≤ (i 1).val then Y (4096 * (i 0).val + (i 2).val) (128 * (i 1).val + (i 3).val) else old i
/-- The same by sequence, head, tile, row and lane. -/
def tiles (Y : ℕ → ℕ → EReal) (old : S2x16x4x8x128.Idx → EReal) : S2x16x4x8x128.Idx → EReal :=
  fun i => if 2 ≤ (i 1).val then Y (4096 * (i 0).val + 1024 * (i 2).val + (i 3).val) (128 * (i 1).val + (i 4).val) else old i
/-- The same by row and channel. -/
def flat (Y : ℕ → ℕ → EReal) (old : S8192x2048.Idx → EReal) : S8192x2048.Idx → EReal :=
  fun i => if 256 ≤ (i 1).val then Y (i 0).val (i 1).val else old i

def keepB {φ : FTy} (old new : FVec Ideal S2x16x4096x128 φ) : FVec Ideal S2x16x4096x128 φ :=
  concatenate S2x16x4096x128 1 [⟨S2x2x4096x128, extractStridedSlice S2x2x4096x128 ![0, 0, 0, 0] old slices_S2x16x4096x128_S2x2x4096x128_0_0_0_0⟩,
    ⟨S2x14x4096x128, extractStridedSlice S2x14x4096x128 ![0, 2, 0, 0] new slices_S2x16x4096x128_S2x14x4096x128_0_2_0_0⟩] concatenates_S2x2x4096x128_S2x14x4096x128_S2x16x4096x128_d1
def keepM (old new : FVec Ideal S2x16x4x8x128 .f32) : FVec Ideal S2x16x4x8x128 .f32 :=
  concatenate S2x16x4x8x128 1 [⟨S2x2x4x8x128, extractStridedSlice S2x2x4x8x128 ![0, 0, 0, 0, 0] old slices_S2x16x4x8x128_S2x2x4x8x128_0_0_0_0_0⟩,
    ⟨S2x14x4x8x128, extractStridedSlice S2x14x4x8x128 ![0, 2, 0, 0, 0] new slices_S2x16x4x8x128_S2x14x4x8x128_0_2_0_0_0⟩] concatenates_S2x2x4x8x128_S2x14x4x8x128_S2x16x4x8x128_d1
def keepZ (old new : FVec Ideal S8192x2048 .bf16) : FVec Ideal S8192x2048 .bf16 :=
  concatenate S8192x2048 1 [⟨S8192x256, extractStridedSlice S8192x256 ![0, 0] old slices_S8192x2048_S8192x256_0_0⟩,
    ⟨S8192x1792, extractStridedSlice S8192x1792 ![0, 256] new slices_S8192x2048_S8192x1792_0_256⟩] concatenates_S8192x256_S8192x1792_S8192x2048_d1

theorem keepB_at {φ : FTy} {old new : FVec Ideal S2x16x4096x128 φ} {Y : ℕ → ℕ → EReal} (hn : ∀ (s : Fin 2) (h : Fin 16) (r : Fin 4096) (l : Fin 128), new (ix4 s h r l) = Y (4096 * s + r) (128 * h + l))
    (s : Fin 2) (h : Fin 16) (r : Fin 4096) (l : Fin 128) : keepB old new (ix4 s h r l) = if 2 ≤ h.val then Y (4096 * s + r) (128 * h + l) else old (ix4 s h r l) := by
  pointwise [keepB]
  by_cases hh : 2 ≤ h.val
  · rw [if_pos hh, dif_neg (by omega)]
    exact (hn _ _ _ _).trans (piece rfl (by first | omega | (simp only []; omega)))
  · rw [if_neg hh, dif_pos (by omega)]
theorem keepM_at {old new : FVec Ideal S2x16x4x8x128 .f32} {Y : ℕ → ℕ → EReal} (hn : ∀ (s : Fin 2) (h : Fin 16) (q : Fin 4) (p : Fin 8) (l : Fin 128), new (ix5 s h q p l) = Y (4096 * s + 1024 * q + p) (128 * h + l))
    (s : Fin 2) (h : Fin 16) (q : Fin 4) (p : Fin 8) (l : Fin 128) : keepM old new (ix5 s h q p l) = if 2 ≤ h.val then Y (4096 * s + 1024 * q + p) (128 * h + l) else old (ix5 s h q p l) := by
  pointwise [keepM]
  by_cases hh : 2 ≤ h.val
  · rw [if_pos hh, dif_neg (by omega)]
    exact (hn _ _ _ _ _).trans (piece rfl (by first | omega | (simp only []; omega)))
  · rw [if_neg hh, dif_pos (by omega)]
theorem keepZ_at {old new : FVec Ideal S8192x2048 .bf16} {Y : ℕ → ℕ → EReal} (hn : ∀ (r : Fin 8192) (k : Fin 2048), new (ix2 r k) = Y r k)
    (r : Fin 8192) (k : Fin 2048) : keepZ old new (ix2 r k) = if 256 ≤ k.val then Y r k else old (ix2 r k) := by
  pointwise [keepZ]
  by_cases hh : 256 ≤ k.val
  · rw [if_pos hh, dif_neg (by omega)]
    exact (hn _ _).trans (piece rfl (by first | omega | (simp only []; omega)))
  · rw [if_neg hh, dif_pos (by omega)]

theorem ix4_eta (i : S2x16x4096x128.Idx) : i = ix4 (i 0) (i 1) (i 2) (i 3) := by funext a; match a with | 0 => rfl | 1 => rfl | 2 => rfl | 3 => rfl
theorem ix5_eta (i : S2x16x4x8x128.Idx) : i = ix5 (i 0) (i 1) (i 2) (i 3) (i 4) := by funext a; match a with | 0 => rfl | 1 => rfl | 2 => rfl | 3 => rfl | 4 => rfl
theorem ix2_eta (i : S8192x2048.Idx) : i = ix2 (i 0) (i 1) := by funext a; match a with | 0 => rfl | 1 => rfl

theorem keepB_eq {φ : FTy} {old new : FVec Ideal S2x16x4096x128 φ} {Y : ℕ → ℕ → EReal} (hn : ∀ (s : Fin 2) (h : Fin 16) (r : Fin 4096) (l : Fin 128), new (ix4 s h r l) = Y (4096 * s + r) (128 * h + l)) :
    keepB old new = heads Y old := funext fun i => by
  refine (congrArg _ (ix4_eta i)).trans ((keepB_at hn _ _ _ _).trans ?_)
  unfold heads
  exact congrArg (fun x => if 2 ≤ (i 1).val then Y (4096 * (i 0).val + (i 2).val) (128 * (i 1).val + (i 3).val) else x) (congrArg old (ix4_eta i).symm)
theorem keepM_eq {old new : FVec Ideal S2x16x4x8x128 .f32} {Y : ℕ → ℕ → EReal} (hn : ∀ (s : Fin 2) (h : Fin 16) (q : Fin 4) (p : Fin 8) (l : Fin 128), new (ix5 s h q p l) = Y (4096 * s + 1024 * q + p) (128 * h + l)) :
    keepM old new = tiles Y old := funext fun i => by
  refine (congrArg _ (ix5_eta i)).trans ((keepM_at hn _ _ _ _ _).trans ?_)
  unfold tiles
  exact congrArg (fun x => if 2 ≤ (i 1).val then Y (4096 * (i 0).val + 1024 * (i 2).val + (i 3).val) (128 * (i 1).val + (i 4).val) else x) (congrArg old (ix5_eta i).symm)
theorem keepZ_eq {old new : FVec Ideal S8192x2048 .bf16} {Y : ℕ → ℕ → EReal} (hn : ∀ (r : Fin 8192) (k : Fin 2048), new (ix2 r k) = Y r k) :
    keepZ old new = flat Y old := funext fun i => by
  refine (congrArg _ (ix2_eta i)).trans ((keepZ_at hn _ _).trans ?_)
  unfold flat
  exact congrArg (fun x => if 256 ≤ (i 1).val then Y (i 0).val (i 1).val else x) (congrArg old (ix2_eta i).symm)

/-! ## The results -/

def half (A : FVec Ideal S2x16x4096x128 .f32) : FVec Ideal S2x16x4096x128 .bf16 := truncf .bf16 A bitsLt_bf16_f32
theorem half_at (A) (i) : half A i = A i := by
  pointwise [half]
def rows (A : FVec Ideal S2x4096x2048 .f32) : FVec Ideal S8192x2048 .bf16 := truncf .bf16 (shapeCast _ A shapeCasts_S2x4096x2048_S8192x2048) bitsLt_bf16_f32
theorem rows_at {A : FVec Ideal S2x4096x2048 .f32} {Y : ℕ → ℕ → EReal} (hA : ∀ (s : Fin 2) (r : Fin 4096) (k : Fin 2048), A (ix3 s r k) = Y (4096 * s + r) k)
    (r : Fin 8192) (k : Fin 2048) : rows A (ix2 r k) = Y r k := by
  pointwise [rows]
  rw [hA]
  simp only [Nat.div_add_mod]

section Results
variable (X : FVec Ideal S8192x2048 .bf16) (T : FVec Ideal S3x2048 .f32) (W : FVec Ideal S2048x8192 .f32)

theorem q_eq (old) : keepB old (half (byHead (qs X W))) = heads (qval (xR X) (wR W)) old := keepB_eq fun s h r l => (half_at _ _).trans (byHead_at (qs_at X W) s h r l)
theorem k_eq (old) : keepB old (half (byHead (ks X T W))) = heads (kval (tR T) (xR X) (wR W)) old := keepB_eq fun s h r l => (half_at _ _).trans (byHead_at (ks_at X T W) s h r l)
theorem v_eq (old) : keepB old (half (byHead (part2 (prj X W)))) = heads (vval (xR X) (wR W)) old := keepB_eq fun s h r l => (half_at _ _).trans (byHead_at (vs_at X W) s h r l)
theorem z_eq (old) : keepZ old (rows (zs X W)) = flat (zval (xR X) (wR W)) old := keepZ_eq (rows_at (zs_at X W))
theorem b_eq (old) : keepB old (sums (ls X T W)) = heads (bval (tR T) (xR X) (wR W)) old := keepB_eq (sums_at (Y := fun r k => lg2 (fgate (tR T) (xR X) (wR W) r k)) (ls_at X T W))
theorem m_eq (old) : keepM old (mins (sums (ls X T W))) = tiles (mval (tR T) (xR X) (wR W)) old :=
  keepM_eq fun s h q p l => mins_at (Z := bval (tR T) (xR X) (wR W)) (sums_at (Y := fun r k => lg2 (fgate (tR T) (xR X) (wR W) r k)) (ls_at X T W)) s h q p l

end Results

section Named
variable (m : (ℓ : Loc nD τ sig) → Buf (Elt Ideal) ℓ) (c : Dev nD)

theorem out1 : Value.res_out1 m c = keepB (φ := .bf16) (m (c.tc.loc main_arg7)) (half (byHead (ks (m (c.tc.loc main_arg0)) (m (c.tc.loc main_arg1)) (m (c.tc.loc main_arg2))))) := rfl
theorem out2 : Value.res_out2 m c = keepB (φ := .f32) (m (c.tc.loc main_arg8)) (sums (ls (m (c.tc.loc main_arg0)) (m (c.tc.loc main_arg1)) (m (c.tc.loc main_arg2)))) := rfl
theorem out3 : Value.res_out3 m c = keepM (m (c.tc.loc main_arg9)) (mins (sums (ls (m (c.tc.loc main_arg0)) (m (c.tc.loc main_arg1)) (m (c.tc.loc main_arg2))))) := rfl
end Named

/-! ## The weights cast on the side -/

def castO (x : FVec Ideal S1x2048x2048 .f32) : FVec Ideal S32x64x2048 .bf16 :=
  shapeCast _ (truncf .bf16 (shapeCast _ x shapeCasts_S1x2048x2048_S2048x2048) bitsLt_bf16_f32) shapeCasts_S2048x2048_S32x64x2048
def castU (x : FVec Ideal S2x2048x11264 .f32) : FVec Ideal S32x64x11264 .bf16 :=
  shapeCast _ (truncf .bf16 (shapeCast _ (extractStridedSlice S1x2048x11264 ![0, 0, 0] x slices_S2x2048x11264_S1x2048x11264_0_0_0) shapeCasts_S1x2048x11264_S2048x11264) bitsLt_bf16_f32) shapeCasts_S2048x11264_S32x64x11264
def castD (x : FVec Ideal S2x5632x2048 .f32) : FVec Ideal S44x128x2048 .bf16 :=
  shapeCast _ (truncf .bf16 (shapeCast _ (extractStridedSlice S1x5632x2048 ![0, 0, 0] x slices_S2x5632x2048_S1x5632x2048_0_0_0) shapeCasts_S1x5632x2048_S5632x2048) bitsLt_bf16_f32) shapeCasts_S5632x2048_S44x128x2048

/-- The first layer's weights, in the chunks they are cast in. -/
def GO (x : FVec Ideal S1x2048x2048 .f32) : FVec Ideal S32x64x2048 .bf16 := fun i => x (ix3 0 ⟨64 * (i 0).val + (i 1).val, by
  have h0 : (i 0).val < 32 := (i 0).isLt
  have h1 : (i 1).val < 64 := (i 1).isLt
  omega⟩ (i 2))
theorem castO_at (x) (a : Fin 32) (b : Fin 64) (k : Fin 2048) : castO x (ix3 a b k) = GO x (ix3 a b k) := by
  pointwise [castO, GO]
  try simp only [mul_comm]
theorem castO_eq (x) : castO x = GO x := funext fun i => by
  have hi : i = ix3 (i 0) (i 1) (i 2) := by funext a; match a with | 0 => rfl | 1 => rfl | 2 => rfl
  exact (congrArg _ hi).trans ((castO_at x (i 0) (i 1) (i 2)).trans (congrArg _ hi.symm))

/-- The first layer's weights, in the chunks they are cast in. -/
def GU (x : FVec Ideal S2x2048x11264 .f32) : FVec Ideal S32x64x11264 .bf16 := fun i => x (ix3 0 ⟨64 * (i 0).val + (i 1).val, by
  have h0 : (i 0).val < 32 := (i 0).isLt
  have h1 : (i 1).val < 64 := (i 1).isLt
  omega⟩ (i 2))
theorem castU_at (x) (a : Fin 32) (b : Fin 64) (k : Fin 11264) : castU x (ix3 a b k) = GU x (ix3 a b k) := by
  pointwise [castU, GU]
  try simp only [mul_comm]
theorem castU_eq (x) : castU x = GU x := funext fun i => by
  have hi : i = ix3 (i 0) (i 1) (i 2) := by funext a; match a with | 0 => rfl | 1 => rfl | 2 => rfl
  exact (congrArg _ hi).trans ((castU_at x (i 0) (i 1) (i 2)).trans (congrArg _ hi.symm))

/-- The first layer's weights, in the chunks they are cast in. -/
def GD (x : FVec Ideal S2x5632x2048 .f32) : FVec Ideal S44x128x2048 .bf16 := fun i => x (ix3 0 ⟨128 * (i 0).val + (i 1).val, by
  have h0 : (i 0).val < 44 := (i 0).isLt
  have h1 : (i 1).val < 128 := (i 1).isLt
  omega⟩ (i 2))
theorem castD_at (x) (a : Fin 44) (b : Fin 128) (k : Fin 2048) : castD x (ix3 a b k) = GD x (ix3 a b k) := by
  pointwise [castD, GD]
  try simp only [mul_comm]
theorem castD_eq (x) : castD x = GD x := funext fun i => by
  have hi : i = ix3 (i 0) (i 1) (i 2) := by funext a; match a with | 0 => rfl | 1 => rfl | 2 => rfl
  exact (congrArg _ hi).trans ((castD_at x (i 0) (i 1) (i 2)).trans (congrArg _ hi.symm))

end Cert.Reference5Ideal.Hand
-- ==== Proof.PjClaims.lean ====
module

public import proofs.«01_k».proof.Defs
public import proofs.«01_k».proof.Proof.PjFinal
public import proofs.«01_k».proof.Proof.PjRef
public import proofs.«01_k».proof.Proof.Gen.Kernel5.Frame
public import proofs.«01_k».proof.Proof.Gen.Kernel5Ideal.Frame
public import Idealize.ShloMosaic.Lib.Claim

/-! The claims about the mixer's input projections. -/

@[expose] public section

noncomputable section

namespace Cert.Proof

open Idealize.ShloMosaic Idealize.SL.Sem

attribute [local instance] Cert.Kernel5.Gen.facts Cert.Kernel5Ideal.Gen.facts Cert.Reference5Ideal.Gen.facts

theorem frame_kernel5 : Cert.quiescent_Kernel5 := fun m ρ _ => Cert.Kernel5.Gen.frame (F := Bits) m ρ

theorem frame_kernel5Ideal : Cert.quiescent_Kernel5Ideal := fun m ρ _ => Cert.Kernel5Ideal.Gen.frame (F := Ideal) m ρ

theorem frame_reference5 : Cert.quiescent_Reference5Ideal := fun m ρ _ =>
  (θ_run Cert.Reference5Ideal.defs _ _).mono (fun r h => ⟨fun c => (h c).2.2.2.2.2.2.2.2.2, sem_eq_zero_of_no_sems (by decide) r.2⟩)
    (Cert.Reference5Ideal.Value.run (F := Ideal) m ρ)

/-- The constant put in place of the kernel's is the reciprocal of the logarithm of two. -/
theorem preserves5 : Cert.preserves_Kernel5_Kernel5Ideal :=
  IdealRules.named_const.statement Cert.Kernel5Ideal.κ "inv_log_2" .f32 0x3FB8AA3B#32 (((Real.log 2)⁻¹ : ℝ) : EReal) rfl

/-- The kernel's run with what it writes named. -/
theorem run_value5 (m : (ℓ : Loc Cert.Kernel5Ideal.nD Cert.Kernel5Ideal.τ Cert.Kernel5Ideal.sig) → Buf (Elt Ideal) ℓ) (g : Dev Cert.Kernel5Ideal.nD → PrngReg) :
    θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
      r.2.mem ((c.tc : Thread Cert.Kernel5Ideal.nD Cert.Kernel5Ideal.τ).loc Cert.Kernel5Ideal.main_v3_0) = Cert.Kernel5Ideal.Hand.heads (Cert.Spec.qval (Cert.Kernel5Ideal.Hand.xN (Cert.Kernel5Ideal.Hand.argX m c)) (Cert.Kernel5Ideal.Hand.wN (Cert.Kernel5Ideal.Hand.argW m c))) (Cert.Kernel5Ideal.Hand.arg6 m c)
      ∧ r.2.mem ((c.tc : Thread Cert.Kernel5Ideal.nD Cert.Kernel5Ideal.τ).loc Cert.Kernel5Ideal.main_v3_1) = Cert.Kernel5Ideal.Hand.heads (Cert.Spec.kval (Cert.Kernel5Ideal.Hand.tN (Cert.Kernel5Ideal.Hand.argT m c)) (Cert.Kernel5Ideal.Hand.xN (Cert.Kernel5Ideal.Hand.argX m c)) (Cert.Kernel5Ideal.Hand.wN (Cert.Kernel5Ideal.Hand.argW m c))) (Cert.Kernel5Ideal.Hand.arg7 m c)
      ∧ r.2.mem ((c.tc : Thread Cert.Kernel5Ideal.nD Cert.Kernel5Ideal.τ).loc Cert.Kernel5Ideal.main_v3_2) = Cert.Kernel5Ideal.Hand.heads (Cert.Spec.bval (Cert.Kernel5Ideal.Hand.tN (Cert.Kernel5Ideal.Hand.argT m c)) (Cert.Kernel5Ideal.Hand.xN (Cert.Kernel5Ideal.Hand.argX m c)) (Cert.Kernel5Ideal.Hand.wN (Cert.Kernel5Ideal.Hand.argW m c))) (Cert.Kernel5Ideal.Hand.arg8 m c)
      ∧ r.2.mem ((c.tc : Thread Cert.Kernel5Ideal.nD Cert.Kernel5Ideal.τ).loc Cert.Kernel5Ideal.main_v3_3) = Cert.Kernel5Ideal.Hand.tiles (Cert.Spec.mval (Cert.Kernel5Ideal.Hand.tN (Cert.Kernel5Ideal.Hand.argT m c)) (Cert.Kernel5Ideal.Hand.xN (Cert.Kernel5Ideal.Hand.argX m c)) (Cert.Kernel5Ideal.Hand.wN (Cert.Kernel5Ideal.Hand.argW m c))) (Cert.Kernel5Ideal.Hand.arg9 m c)
      ∧ r.2.mem ((c.tc : Thread Cert.Kernel5Ideal.nD Cert.Kernel5Ideal.τ).loc Cert.Kernel5Ideal.main_v3_4) = Cert.Kernel5Ideal.Hand.heads (Cert.Spec.vval (Cert.Kernel5Ideal.Hand.xN (Cert.Kernel5Ideal.Hand.argX m c)) (Cert.Kernel5Ideal.Hand.wN (Cert.Kernel5Ideal.Hand.argW m c))) (Cert.Kernel5Ideal.Hand.arg10 m c)
      ∧ r.2.mem ((c.tc : Thread Cert.Kernel5Ideal.nD Cert.Kernel5Ideal.τ).loc Cert.Kernel5Ideal.main_v3_5) = Cert.Kernel5Ideal.Hand.flat (Cert.Spec.zval (Cert.Kernel5Ideal.Hand.xN (Cert.Kernel5Ideal.Hand.argX m c)) (Cert.Kernel5Ideal.Hand.wN (Cert.Kernel5Ideal.Hand.argW m c))) (Cert.Kernel5Ideal.Hand.arg11 m c)
      ∧ r.2.mem ((c.tc : Thread Cert.Kernel5Ideal.nD Cert.Kernel5Ideal.τ).loc Cert.Kernel5Ideal.main_v3_6) = Cert.Kernel5Ideal.Hand.GO (Cert.Kernel5Ideal.Hand.argO m c)
      ∧ r.2.mem ((c.tc : Thread Cert.Kernel5Ideal.nD Cert.Kernel5Ideal.τ).loc Cert.Kernel5Ideal.main_v3_7) = Cert.Kernel5Ideal.Hand.GU (Cert.Kernel5Ideal.Hand.argU m c)
      ∧ r.2.mem ((c.tc : Thread Cert.Kernel5Ideal.nD Cert.Kernel5Ideal.τ).loc Cert.Kernel5Ideal.main_v3_8) = Cert.Kernel5Ideal.Hand.GD (Cert.Kernel5Ideal.Hand.argD m c)) :=
  (θ_run Cert.Kernel5Ideal.defs _ _).mono (fun r h c => ⟨((h c).1 9).trans (Cert.Kernel5Ideal.Hand.final9 m c), ((h c).1 10).trans (Cert.Kernel5Ideal.Hand.final10 m c), ((h c).1 11).trans (Cert.Kernel5Ideal.Hand.final11 m c), ((h c).1 12).trans (Cert.Kernel5Ideal.Hand.final12 m c), ((h c).1 13).trans (Cert.Kernel5Ideal.Hand.final13 m c), ((h c).1 14).trans (Cert.Kernel5Ideal.Hand.final14 m c), ((h c).1 15).trans (Cert.Kernel5Ideal.Hand.final15 m c), ((h c).1 16).trans (Cert.Kernel5Ideal.Hand.final16 m c), ((h c).1 17).trans (Cert.Kernel5Ideal.Hand.final17 m c)⟩) (Cert.Kernel5Ideal.Gen.run_main (F := Ideal) m g)

/-- Kernel and reference leave the specification's tables. -/
theorem algebraic5 : Cert.algebraic_Kernel5Ideal_Reference5Ideal := fun m g m' g' _ hagree =>
  ⟨fun c => Cert.Kernel5Ideal.Hand.heads (Cert.Spec.qval (Cert.Kernel5Ideal.Hand.xN (Cert.Kernel5Ideal.Hand.argX m c)) (Cert.Kernel5Ideal.Hand.wN (Cert.Kernel5Ideal.Hand.argW m c))) (Cert.Kernel5Ideal.Hand.arg6 m c),
    fun c => Cert.Kernel5Ideal.Hand.heads (Cert.Spec.kval (Cert.Kernel5Ideal.Hand.tN (Cert.Kernel5Ideal.Hand.argT m c)) (Cert.Kernel5Ideal.Hand.xN (Cert.Kernel5Ideal.Hand.argX m c)) (Cert.Kernel5Ideal.Hand.wN (Cert.Kernel5Ideal.Hand.argW m c))) (Cert.Kernel5Ideal.Hand.arg7 m c),
    fun c => Cert.Kernel5Ideal.Hand.heads (Cert.Spec.bval (Cert.Kernel5Ideal.Hand.tN (Cert.Kernel5Ideal.Hand.argT m c)) (Cert.Kernel5Ideal.Hand.xN (Cert.Kernel5Ideal.Hand.argX m c)) (Cert.Kernel5Ideal.Hand.wN (Cert.Kernel5Ideal.Hand.argW m c))) (Cert.Kernel5Ideal.Hand.arg8 m c),
    fun c => Cert.Kernel5Ideal.Hand.tiles (Cert.Spec.mval (Cert.Kernel5Ideal.Hand.tN (Cert.Kernel5Ideal.Hand.argT m c)) (Cert.Kernel5Ideal.Hand.xN (Cert.Kernel5Ideal.Hand.argX m c)) (Cert.Kernel5Ideal.Hand.wN (Cert.Kernel5Ideal.Hand.argW m c))) (Cert.Kernel5Ideal.Hand.arg9 m c),
    fun c => Cert.Kernel5Ideal.Hand.heads (Cert.Spec.vval (Cert.Kernel5Ideal.Hand.xN (Cert.Kernel5Ideal.Hand.argX m c)) (Cert.Kernel5Ideal.Hand.wN (Cert.Kernel5Ideal.Hand.argW m c))) (Cert.Kernel5Ideal.Hand.arg10 m c),
    fun c => Cert.Kernel5Ideal.Hand.flat (Cert.Spec.zval (Cert.Kernel5Ideal.Hand.xN (Cert.Kernel5Ideal.Hand.argX m c)) (Cert.Kernel5Ideal.Hand.wN (Cert.Kernel5Ideal.Hand.argW m c))) (Cert.Kernel5Ideal.Hand.arg11 m c),
    fun c => Cert.Kernel5Ideal.Hand.GO (Cert.Kernel5Ideal.Hand.argO m c),
    fun c => Cert.Kernel5Ideal.Hand.GU (Cert.Kernel5Ideal.Hand.argU m c),
    fun c => Cert.Kernel5Ideal.Hand.GD (Cert.Kernel5Ideal.Hand.argD m c),
    (θ_run Cert.Kernel5Ideal.defs _ _).mono (fun r h c => by
      obtain ⟨h0, h1, h2, h3, h4, h5, h6, h7, h8⟩ := h.1 c
      exact ⟨h0, h1, h2, h3, h4, h5, h6, h7, h8, h.2.1 c⟩)
      (θ_run_and (run_value5 m g) (Cert.Kernel5Ideal.Gen.frame (F := Ideal) m g)),
    (θ_run Cert.Reference5Ideal.defs _ _).mono (fun r h c => by
      obtain ⟨a0, a1, a2, a3, a4, a5, a6, a7, a8, a9, a10, a11⟩ := hagree c
      obtain ⟨h0, h1, h2, h3, h4, h5, h6, h7, h8, hs⟩ := h c
      refine ⟨h0.trans ?_, h1.trans ?_, h2.trans ?_, h3.trans ?_, h4.trans ?_, h5.trans ?_, h6.trans ?_, h7.trans ?_, h8.trans ?_, hs⟩
      · refine (Cert.Reference5Ideal.Hand.q_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg2)) _).trans ?_
        rw [a0, a2, a6]
        rfl
      · refine ((Cert.Reference5Ideal.Hand.out1 m' c).trans (Cert.Reference5Ideal.Hand.k_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) _)).trans ?_
        rw [a0, a1, a2, a7]
        rfl
      · refine ((Cert.Reference5Ideal.Hand.out2 m' c).trans (Cert.Reference5Ideal.Hand.b_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) _)).trans ?_
        rw [a0, a1, a2, a8]
        rfl
      · refine ((Cert.Reference5Ideal.Hand.out3 m' c).trans (Cert.Reference5Ideal.Hand.m_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) _)).trans ?_
        rw [a0, a1, a2, a9]
        rfl
      · refine (Cert.Reference5Ideal.Hand.v_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg2)) _).trans ?_
        rw [a0, a2, a10]
        rfl
      · refine (Cert.Reference5Ideal.Hand.z_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg2)) _).trans ?_
        rw [a0, a2, a11]
        rfl
      · refine (Cert.Reference5Ideal.Hand.castO_eq _).trans ?_
        rw [a3]
        rfl
      · refine (Cert.Reference5Ideal.Hand.castU_eq _).trans ?_
        rw [a4]
        rfl
      · refine (Cert.Reference5Ideal.Hand.castD_eq _).trans ?_
        rw [a5]
        rfl) (Cert.Reference5Ideal.Value.run (F := Ideal) m' g')⟩

end Cert.Proof
-- ==== Proof.lean ====
module

public import proofs.«01_k».proof.Defs
public import proofs.«01_k».proof.Proof.ScClaims
public import proofs.«01_k».proof.Proof.FfnClaims
public import proofs.«01_k».proof.Proof.UpClaims
public import proofs.«01_k».proof.Proof.OutClaims
public import proofs.«01_k».proof.Proof.PjClaims

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    frame_kernel, frame_kernelIdeal, frame_reference,
    frame_kernel2, frame_kernel2Ideal, frame_reference2,
    frame_kernel3, frame_kernel3Ideal, frame_reference3,
    frame_kernel4, frame_kernel4Ideal, frame_reference4,
    frame_kernel5, frame_kernel5Ideal, frame_reference5,
    trivial, algebraic, trivial, algebraic2, trivial, algebraic3, trivial, algebraic4, preserves5, algebraic5⟩

end Cert.Proof

end
